-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decaying [hPre_decaying : Cert.Pre_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decaying [hPre_decaying : Cert.Pre_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_decaying [hKernelIdeal : Cert.KernelIdeal.Facts] [hPre_decaying : Cert.Pre_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_decaying [hReferenceIdeal : Cert.ReferenceIdeal.Facts] [hPre_decaying : Cert.Pre_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_decaying [hKernelIdeal : Cert.KernelIdeal.Facts] [hReferenceIdeal : Cert.ReferenceIdeal.Facts] [hPre_decaying : Cert.Pre_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12)) (v1 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)) (v5 : (c : Dev Cert.Kernel4Ideal.nD) → Buf (Elt Ideal) ((c.tc : Thread Cert.Kernel4Ideal.nD Cert.Kernel4Ideal.τ).loc Cert.Kernel4Ideal.main_v5)) (v6 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_v6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v3) = v2 c
          ∧ r.2.mem ((c.tc : Thread Cert.Reference4Ideal.nD Cert.Reference4Ideal.τ).loc Cert.Reference4Ideal.main_v11) = v3 c
          ∧ r.2.mem ((c.tc : Thread Cert.Reference4Ideal.nD Cert.Reference4Ideal.τ).loc Cert.Reference4Ideal.main_v5) = v4 c
          ∧ r.2.mem ((c.tc : Thread Cert.Reference4Ideal.nD Cert.Reference4Ideal.τ).loc Cert.Reference4Ideal.main_v14) = v5 c
          ∧ r.2.mem ((c.tc : Thread Cert.Reference4Ideal.nD Cert.Reference4Ideal.τ).loc Cert.Reference4Ideal.main_v15) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v1)) (v2 : (c : Dev Cert.Kernel8Ideal.nD) → Buf (Elt Ideal) ((c.tc : Thread Cert.Kernel8Ideal.nD Cert.Kernel8Ideal.τ).loc Cert.Kernel8Ideal.main_v2)) (v3 : (c : Dev Cert.Kernel8Ideal.nD) → Buf (Elt Ideal) ((c.tc : Thread Cert.Kernel8Ideal.nD Cert.Kernel8Ideal.τ).loc Cert.Kernel8Ideal.main_v3)) (v4 : (c : Dev Cert.Kernel8Ideal.nD) → Buf (Elt Ideal) ((c.tc : Thread Cert.Kernel8Ideal.nD Cert.Kernel8Ideal.τ).loc Cert.Kernel8Ideal.main_v4)) (v5 : (c : Dev Cert.Kernel8Ideal.nD) → Buf (Elt Ideal) ((c.tc : Thread Cert.Kernel8Ideal.nD Cert.Kernel8Ideal.τ).loc Cert.Kernel8Ideal.main_v5)) (v6 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v1) = v1 c
          ∧ r.2.mem ((c.tc : Thread Cert.Kernel8Ideal.nD Cert.Kernel8Ideal.τ).loc Cert.Kernel8Ideal.main_v2) = v2 c
          ∧ r.2.mem ((c.tc : Thread Cert.Kernel8Ideal.nD Cert.Kernel8Ideal.τ).loc Cert.Kernel8Ideal.main_v3) = v3 c
          ∧ r.2.mem ((c.tc : Thread Cert.Kernel8Ideal.nD Cert.Kernel8Ideal.τ).loc Cert.Kernel8Ideal.main_v4) = v4 c
          ∧ r.2.mem ((c.tc : Thread Cert.Kernel8Ideal.nD Cert.Kernel8Ideal.τ).loc Cert.Kernel8Ideal.main_v5) = v5 c
          ∧ r.2.mem ((c.tc : Thread Cert.Kernel8Ideal.nD Cert.Kernel8Ideal.τ).loc Cert.Kernel8Ideal.main_v6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_v5) = v4 c
          ∧ r.2.mem ((c.tc : Thread Cert.Reference8Ideal.nD Cert.Reference8Ideal.τ).loc Cert.Reference8Ideal.main_v15) = v5 c
          ∧ r.2.mem ((c.tc : Thread Cert.Reference8Ideal.nD Cert.Reference8Ideal.τ).loc Cert.Reference8Ideal.main_v16) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)) (v1 : (c : Dev Cert.Kernel11Ideal.nD) → Buf (Elt Ideal) ((c.tc : Thread Cert.Kernel11Ideal.nD Cert.Kernel11Ideal.τ).loc Cert.Kernel11Ideal.main_v1)) (v2 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_v1) = v1 c
          ∧ r.2.mem ((c.tc : Thread Cert.Kernel11Ideal.nD Cert.Kernel11Ideal.τ).loc Cert.Kernel11Ideal.main_v2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_decaying : Cert.Pre_decaying.Facts),
    quiescent_Kernel (hKernel := hKernel)
    ∧ quiescent_KernelIdeal (hKernelIdeal := hKernelIdeal)
    ∧ quiescent_KernelIdeal_pre_decaying (hKernelIdeal := hKernelIdeal) (hPre_decaying := hPre_decaying)
    ∧ quiescent_ReferenceIdeal (hReferenceIdeal := hReferenceIdeal)
    ∧ quiescent_ReferenceIdeal_pre_decaying (hReferenceIdeal := hReferenceIdeal) (hPre_decaying := hPre_decaying)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_decaying (hKernelIdeal := hKernelIdeal) (hReferenceIdeal := hReferenceIdeal) (hPre_decaying := hPre_decaying)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_decaying.lean ====
abbrev S2304x2048 : Shape := ⟨2, ![2304, 2048]⟩
abbrev S2304x4096 : Shape := ⟨2, ![2304, 4096]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S2304x2048 .f32) (main_arg1 : FVec F S2304x2048 .f32) (main_arg2 : FVec F S2304x4096 .f32) (main_arg3 : FVec F S8 .f32) (main_arg4 : FVec F S2304x4096 .f32) : IVec S8 1 :=
  let main_cst : FVec F S_ .f32 := constant S_ .f32 0x00000000#32
  let main_v0 : FVec F S8 .f32 := broadcastInDim S8 ![] bcast_S_S8 main_cst
  let main_v1 : IVec S8 1 := cmpf .ole main_arg3 main_v0
  main_v1
-- ==== Kernel.lean ====
abbrev S2304x2048 : Shape := ⟨2, ![2304, 2048]⟩
abbrev S2304x4096 : Shape := ⟨2, ![2304, 4096]⟩
abbrev S8 : Shape := ⟨1, ![8]⟩
abbrev S8x1x1 : Shape := ⟨3, ![8, 1, 1]⟩
abbrev S8x2304x64 : Shape := ⟨3, ![8, 2304, 64]⟩
abbrev S8x512 : Shape := ⟨2, ![8, 512]⟩
abbrev S4096 : Shape := ⟨1, ![4096]⟩
abbrev S1x4096 : Shape := ⟨2, ![1, 4096]⟩
abbrev S2x36x4x256x512 : Shape := ⟨5, ![2, 36, 4, 256, 512]⟩
abbrev S64x1024 : Shape := ⟨2, ![64, 1024]⟩
abbrev S64x2048 : Shape := ⟨2, ![64, 2048]⟩
abbrev S4x64x64 : Shape := ⟨3, ![4, 64, 64]⟩
abbrev S1x1x4x256x512 : Shape := ⟨5, ![1, 1, 4, 256, 512]⟩
abbrev S4x256x512 : Shape := ⟨3, ![4, 256, 512]⟩
abbrev S64x64 : Shape := ⟨2, ![64, 64]⟩
abbrev S256x64 : Shape := ⟨2, ![256, 64]⟩
abbrev S64x256 : Shape := ⟨2, ![64, 256]⟩
abbrev S64x512 : Shape := ⟨2, ![64, 512]⟩
abbrev S1x64x64 : Shape := ⟨3, ![1, 64, 64]⟩
abbrev S256x512 : Shape := ⟨2, ![256, 512]⟩
abbrev S1x256x512 : Shape := ⟨3, ![1, 256, 512]⟩
abbrev S512x64 : Shape := ⟨2, ![512, 64]⟩
abbrev S3x256x512 : Shape := ⟨3, ![3, 256, 512]⟩
abbrev S2x256x512 : Shape := ⟨3, ![2, 256, 512]⟩
abbrev S512x256 : Shape := ⟨2, ![512, 256]⟩
abbrev S3x64x64 : Shape := ⟨3, ![3, 64, 64]⟩
abbrev S2x64x64 : Shape := ⟨3, ![2, 64, 64]⟩
abbrev S64x1536 : Shape := ⟨2, ![64, 1536]⟩
abbrev S64x768 : Shape := ⟨2, ![64, 768]⟩

abbrev nBuf : Space → Nat
  | .hbm => 18
  | .vmem => 40
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x4096, .f32⟩
  | .hbm, ⟨3, _⟩ => ⟨S8, .f32⟩
  | .hbm, ⟨4, _⟩ => ⟨S2304x4096, .f32⟩
  | .hbm, ⟨5, _⟩ => ⟨S8x1x1, .f32⟩
  | .hbm, ⟨6, _⟩ => ⟨S8x2304x64, .f32⟩
  | .hbm, ⟨7, _⟩ => ⟨S8x512, .f32⟩
  | .hbm, ⟨8, _⟩ => ⟨S4096, .f32⟩
  | .hbm, ⟨9, _⟩ => ⟨S1x4096, .f32⟩
  | .hbm, ⟨10, _⟩ => ⟨S2304x4096, .f32⟩
  | .hbm, ⟨11, _⟩ => ⟨S2304x4096, .f32⟩
  | .hbm, ⟨12, _⟩ => ⟨S2x36x4x256x512, .f32⟩
  | .hbm, ⟨13, _⟩ => ⟨S2304x2048, .f32⟩
  | .hbm, ⟨14, _⟩ => ⟨S2304x2048, .f32⟩
  | .hbm, ⟨15, _⟩ => ⟨S2304x4096, .f32⟩
  | .hbm, ⟨16, _⟩ => ⟨S8x2304x64, .f32⟩
  | .hbm, ⟨17, _⟩ => ⟨S2304x4096, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S4x64x64, .f32⟩
  | .local _ .vmem, ⟨7, _⟩ => ⟨S4x64x64, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S1x1x4x256x512, .f32⟩
  | .local _ .vmem, ⟨13, _⟩ => ⟨S1x1x4x256x512, .f32⟩
  | .local _ .vmem, ⟨14, _⟩ => ⟨S4x256x512, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x2048, .f32⟩
  | .local _ .vmem, ⟨20, _⟩ => ⟨S64x2048, .f32⟩
  | .local _ .vmem, ⟨21, _⟩ => ⟨S4x64x64, .f32⟩
  | .local _ .vmem, ⟨22, _⟩ => ⟨S4x64x64, .f32⟩
  | .local _ .vmem, ⟨23, _⟩ => ⟨S64x2048, .f32⟩
  | .local _ .vmem, ⟨24, _⟩ => ⟨S64x2048, .f32⟩
  | .local _ .vmem, ⟨25, _⟩ => ⟨S1x1x4x256x512, .f32⟩
  | .local _ .vmem, ⟨26, _⟩ => ⟨S1x1x4x256x512, .f32⟩
  | .local _ .vmem, ⟨27, _⟩ => ⟨S64x2048, .f32⟩
  | .local _ .vmem, ⟨28, _⟩ => ⟨S64x2048, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x2048, .f32⟩
  | .local _ .vmem, ⟨34, _⟩ => ⟨S64x2048, .f32⟩
  | .local _ .vmem, ⟨35, _⟩ => ⟨S4x64x64, .f32⟩
  | .local _ .vmem, ⟨36, _⟩ => ⟨S4x64x64, .f32⟩
  | .local _ .vmem, ⟨37, _⟩ => ⟨S64x2048, .f32⟩
  | .local _ .vmem, ⟨38, _⟩ => ⟨S64x2048, .f32⟩
  | .local _ .vmem, ⟨39, _⟩ => ⟨S4x256x512, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 36], ![false, false]⟩

def cc1_transform_0 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_3 (i : grid1.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

def cc1_transform_4 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_5 (i : grid1.Coords) : Fin 5 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc1_transform_10 (i : grid1.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

def cc1_transform_11 (i : grid1.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x4x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S64x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S4x64x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S64x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== ReferenceIdeal.lean ====
abbrev S2304x2048 : Shape := ⟨2, ![2304, 2048]⟩
abbrev S2304x4096 : Shape := ⟨2, ![2304, 4096]⟩
abbrev S8 : Shape := ⟨1, ![8]⟩
abbrev S8x1 : Shape := ⟨2, ![8, 1]⟩
abbrev S1x2304x8x1 : Shape := ⟨4, ![1, 2304, 8, 1]⟩
abbrev S1x2304x8x256 : Shape := ⟨4, ![1, 2304, 8, 256]⟩
abbrev S1x2304x8x1x512 : Shape := ⟨5, ![1, 2304, 8, 1, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S1x8x1x256x512 : Shape := ⟨5, ![1, 8, 1, 256, 512]⟩
abbrev S1x36x64x8x256 : Shape := ⟨5, ![1, 36, 64, 8, 256]⟩
abbrev S36x1x64x8x256 : Shape := ⟨5, ![36, 1, 64, 8, 256]⟩
abbrev S1x36x64x8x1x512 : Shape := ⟨6, ![1, 36, 64, 8, 1, 512]⟩
abbrev S36x1x64x8x1x512 : Shape := ⟨6, ![36, 1, 64, 8, 1, 512]⟩
abbrev S1x36x64x8x1 : Shape := ⟨5, ![1, 36, 64, 8, 1]⟩
abbrev S36x1x64x8x1 : Shape := ⟨5, ![36, 1, 64, 8, 1]⟩
abbrev S1x8x1x64x64 : Shape := ⟨5, ![1, 8, 1, 64, 64]⟩
abbrev S36x1x8x1x256x512 : Shape := ⟨6, ![36, 1, 8, 1, 256, 512]⟩
abbrev S1x1x64x8x256 : Shape := ⟨5, ![1, 1, 64, 8, 256]⟩
abbrev S1x64x8x256 : Shape := ⟨4, ![1, 64, 8, 256]⟩
abbrev S1x1x64x8x1x512 : Shape := ⟨6, ![1, 1, 64, 8, 1, 512]⟩
abbrev S1x64x8x1x512 : Shape := ⟨5, ![1, 64, 8, 1, 512]⟩
abbrev S1x1x64x8x1 : Shape := ⟨5, ![1, 1, 64, 8, 1]⟩
abbrev S1x64x8x1 : Shape := ⟨4, ![1, 64, 8, 1]⟩
abbrev S1x8x1x64 : Shape := ⟨4, ![1, 8, 1, 64]⟩
abbrev S1x8x1x64x1 : Shape := ⟨5, ![1, 8, 1, 64, 1]⟩
abbrev S1x8x1x1x64 : Shape := ⟨5, ![1, 8, 1, 1, 64]⟩
abbrev S1x8x64x64 : Shape := ⟨4, ![1, 8, 64, 64]⟩
abbrev S1x8x1x512x64 : Shape := ⟨5, ![1, 8, 1, 512, 64]⟩
abbrev S1x64x8x1x1 : Shape := ⟨5, ![1, 64, 8, 1, 1]⟩
abbrev S1x1x8x1 : Shape := ⟨4, ![1, 1, 8, 1]⟩
abbrev S1x8x1 : Shape := ⟨3, ![1, 8, 1]⟩
abbrev S1x8x1x1x1 : Shape := ⟨5, ![1, 8, 1, 1, 1]⟩
abbrev S1x8x1x512x256 : Shape := ⟨5, ![1, 8, 1, 512, 256]⟩
abbrev S1x1x8x1x256x512 : Shape := ⟨6, ![1, 1, 8, 1, 256, 512]⟩
abbrev S1x8x256x64 : Shape := ⟨4, ![1, 8, 256, 64]⟩
abbrev S1x8x64x256 : Shape := ⟨4, ![1, 8, 64, 256]⟩
abbrev S8x64x64 : Shape := ⟨3, ![8, 64, 64]⟩

abbrev nBuf : Space → Nat
  | .hbm => 299
  | .vmem => 0
  | .smem => 0
  | _ => 0

abbrev hbmTy0_0 (i : Nat) : BufTy := match i % 128 with
  | 0 => ⟨S2304x2048, .f32⟩
  | 1 => ⟨S2304x2048, .f32⟩
  | 2 => ⟨S2304x4096, .f32⟩
  | 3 => ⟨S8, .f32⟩
  | 4 => ⟨S2304x4096, .f32⟩
  | 5 => ⟨S8x1, .f32⟩
  | 6 => ⟨S1x2304x8x1, .f32⟩
  | 7 => ⟨S1x2304x8x256, .f32⟩
  | 8 => ⟨S1x2304x8x256, .f32⟩
  | 9 => ⟨S1x2304x8x1x512, .f32⟩
  | 10 => ⟨S64, .i32⟩
  | 11 => ⟨S64x1, .i32⟩
  | 12 => ⟨S1x64, .i32⟩
  | 13 => ⟨S64x64, .i32⟩
  | 14 => ⟨S64x64, .i32⟩
  | 15 => ⟨S64x64, .i1⟩
  | 16 => ⟨S64x1, .i32⟩
  | 17 => ⟨S1x64, .i32⟩
  | 18 => ⟨S64x64, .i32⟩
  | 19 => ⟨S64x64, .i32⟩
  | 20 => ⟨S64x64, .i1⟩
  | 21 => ⟨S_, .f32⟩
  | 22 => ⟨S1x8x1x256x512, .f32⟩
  | 23 => ⟨S1x36x64x8x256, .f32⟩
  | 24 => ⟨S36x1x64x8x256, .f32⟩
  | 25 => ⟨S1x36x64x8x256, .f32⟩
  | 26 => ⟨S36x1x64x8x256, .f32⟩
  | 27 => ⟨S1x36x64x8x1x512, .f32⟩
  | 28 => ⟨S36x1x64x8x1x512, .f32⟩
  | 29 => ⟨S1x36x64x8x1, .f32⟩
  | 30 => ⟨S36x1x64x8x1, .f32⟩
  | 31 => ⟨S_, .f32⟩
  | 32 => ⟨S_, .f32⟩
  | 33 => ⟨S1x8x1x64x64, .i1⟩
  | 34 => ⟨S1x8x1x64x64, .f32⟩
  | 35 => ⟨S_, .f32⟩
  | 36 => ⟨S36x1x64x8x1x512, .f32⟩
  | 37 => ⟨S_, .f32⟩
  | 38 => ⟨S36x1x8x1x256x512, .f32⟩
  | 39 => ⟨S_, .i32⟩
  | 40 => ⟨S36x1x64x8x256, .f32⟩
  | 41 => ⟨S36x1x64x8x256, .f32⟩
  | 42 => ⟨S36x1x64x8x1x512, .f32⟩
  | 43 => ⟨S36x1x64x8x1, .f32⟩
  | 44 => ⟨S1x8x1x64x64, .i1⟩
  | 45 => ⟨S1x8x1x64x64, .f32⟩
  | 46 => ⟨S_, .i32⟩
  | 47 => ⟨S1x8x1x256x512, .f32⟩
  | 48 => ⟨S36x1x64x8x1x512, .f32⟩
  | 49 => ⟨S36x1x8x1x256x512, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1x1x64x8x256, .f32⟩
  | 57 => ⟨S1x64x8x256, .f32⟩
  | 58 => ⟨S_, .i32⟩
  | 59 => ⟨S_, .i32⟩
  | 60 => ⟨S_, .i32⟩
  | 61 => ⟨S_, .i32⟩
  | 62 => ⟨S1x1x64x8x256, .f32⟩
  | 63 => ⟨S1x64x8x256, .f32⟩
  | 64 => ⟨S_, .i32⟩
  | 65 => ⟨S_, .i32⟩
  | 66 => ⟨S_, .i32⟩
  | 67 => ⟨S_, .i32⟩
  | 68 => ⟨S_, .i32⟩
  | 69 => ⟨S1x1x64x8x1x512, .f32⟩
  | 70 => ⟨S1x64x8x1x512, .f32⟩
  | 71 => ⟨S_, .i32⟩
  | 72 => ⟨S_, .i32⟩
  | 73 => ⟨S_, .i32⟩
  | 74 => ⟨S_, .i32⟩
  | 75 => ⟨S1x1x64x8x1, .f32⟩
  | 76 => ⟨S1x64x8x1, .f32⟩
  | 77 => ⟨S_, .f32⟩
  | 78 => ⟨S_, .f32⟩
  | 79 => ⟨S1x64x8x1, .f32⟩
  | 80 => ⟨S1x8x1x64, .f32⟩
  | 81 => ⟨S1x8x1x64x1, .f32⟩
  | 82 => ⟨S1x8x1x1x64, .f32⟩
  | 83 => ⟨S1x8x1x64x64, .f32⟩
  | 84 => ⟨S1x8x1x64x64, .f32⟩
  | 85 => ⟨S1x8x1x64x64, .f32⟩
  | 86 => ⟨S1x8x64x64, .f32⟩
  | 87 => ⟨S1x8x1x64x64, .f32⟩
  | 88 => ⟨S1x8x1x64x64, .f32⟩
  | 89 => ⟨S1x8x1x64x64, .f32⟩
  | 90 => ⟨S1x8x1x64x64, .f32⟩
  | 91 => ⟨S1x8x1x512x64, .f32⟩
  | 92 => ⟨S1x64x8x1x512, .f32⟩
  | 93 => ⟨S1x8x1x512x64, .f32⟩
  | 94 => ⟨S1x64x8x1x512, .f32⟩
  | 95 => ⟨S1x64x8x1, .f32⟩
  | 96 => ⟨S1x64x8x1x1, .f32⟩
  | 97 => ⟨S1x64x8x1x512, .f32⟩
  | 98 => ⟨S1x64x8x1x512, .f32⟩
  | 99 => ⟨S1x64x8x1x512, .f32⟩
  | 100 => ⟨S1x1x8x1, .f32⟩
  | 101 => ⟨S1x64x8x1, .f32⟩
  | 102 => ⟨S1x64x8x1, .f32⟩
  | 103 => ⟨S1x64x8x1, .f32⟩
  | 104 => ⟨S1x1x8x1, .f32⟩
  | 105 => ⟨S1x8x1, .f32⟩
  | 106 => ⟨S1x8x1, .f32⟩
  | 107 => ⟨S1x8x1x1x1, .f32⟩
  | 108 => ⟨S1x8x1x256x512, .f32⟩
  | 109 => ⟨S1x8x1x256x512, .f32⟩
  | 110 => ⟨S1x64x8x1x1, .f32⟩
  | 111 => ⟨S1x64x8x1x512, .f32⟩
  | 112 => ⟨S1x64x8x1x512, .f32⟩
  | 113 => ⟨S1x8x1x512x256, .f32⟩
  | 114 => ⟨S1x8x1x256x512, .f32⟩
  | 115 => ⟨S1x8x1x256x512, .f32⟩
  | 116 => ⟨S1x1x64x8x1x512, .f32⟩
  | 117 => ⟨S_, .i32⟩
  | 118 => ⟨S_, .i32⟩
  | 119 => ⟨S_, .i32⟩
  | 120 => ⟨S_, .i32⟩
  | 121 => ⟨S_, .i32⟩
  | 122 => ⟨S36x1x64x8x1x512, .f32⟩
  | 123 => ⟨S1x1x8x1x256x512, .f32⟩
  | 124 => ⟨S_, .i32⟩
  | 125 => ⟨S_, .i32⟩
  | 126 => ⟨S_, .i32⟩
  | 127 => ⟨S_, .i32⟩
  | _ => ⟨S2304x2048, .f32⟩

abbrev hbmTy0_1 (i : Nat) : BufTy := match i % 128 with
  | 0 => ⟨S_, .i32⟩
  | 1 => ⟨S36x1x8x1x256x512, .f32⟩
  | 2 => ⟨S_, .i32⟩
  | 3 => ⟨S_, .i32⟩
  | 4 => ⟨S1x36x64x8x1x512, .f32⟩
  | 5 => ⟨S1x2304x8x1x512, .f32⟩
  | 6 => ⟨S2304x4096, .f32⟩
  | 7 => ⟨S_, .f32⟩
  | 8 => ⟨S1x8x1x256x512, .f32⟩
  | 9 => ⟨S1x2304x8x1x512, .f32⟩
  | 10 => ⟨S1x36x64x8x1x512, .f32⟩
  | 11 => ⟨S36x1x64x8x1x512, .f32⟩
  | 12 => ⟨S_, .f32⟩
  | 13 => ⟨S1x8x1x256x512, .f32⟩
  | 14 => ⟨S_, .f32⟩
  | 15 => ⟨S36x1x64x8x256, .f32⟩
  | 16 => ⟨S_, .f32⟩
  | 17 => ⟨S36x1x64x8x256, .f32⟩
  | 18 => ⟨S_, .f32⟩
  | 19 => ⟨S36x1x64x8x1x512, .f32⟩
  | 20 => ⟨S_, .i32⟩
  | 21 => ⟨S36x1x64x8x1x512, .f32⟩
  | 22 => ⟨S36x1x8x1x256x512, .f32⟩
  | 23 => ⟨S36x1x64x8x256, .f32⟩
  | 24 => ⟨S36x1x64x8x256, .f32⟩
  | 25 => ⟨S36x1x64x8x1x512, .f32⟩
  | 26 => ⟨S36x1x64x8x1, .f32⟩
  | 27 => ⟨S64x64, .i1⟩
  | 28 => ⟨S_, .i32⟩
  | 29 => ⟨S1x8x1x256x512, .f32⟩
  | 30 => ⟨S36x1x64x8x256, .f32⟩
  | 31 => ⟨S36x1x64x8x256, .f32⟩
  | 32 => ⟨S36x1x64x8x1x512, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x1x64x8x1x512, .f32⟩
  | 45 => ⟨S1x64x8x1x512, .f32⟩
  | 46 => ⟨S_, .i32⟩
  | 47 => ⟨S_, .i32⟩
  | 48 => ⟨S_, .i32⟩
  | 49 => ⟨S_, .i32⟩
  | 50 => ⟨S_, .i32⟩
  | 51 => ⟨S1x1x8x1x256x512, .f32⟩
  | 52 => ⟨S1x8x1x256x512, .f32⟩
  | 53 => ⟨S_, .i32⟩
  | 54 => ⟨S_, .i32⟩
  | 55 => ⟨S_, .i32⟩
  | 56 => ⟨S_, .i32⟩
  | 57 => ⟨S1x1x64x8x256, .f32⟩
  | 58 => ⟨S1x64x8x256, .f32⟩
  | 59 => ⟨S_, .i32⟩
  | 60 => ⟨S_, .i32⟩
  | 61 => ⟨S_, .i32⟩
  | 62 => ⟨S_, .i32⟩
  | 63 => ⟨S1x1x64x8x256, .f32⟩
  | 64 => ⟨S1x64x8x256, .f32⟩
  | 65 => ⟨S_, .i32⟩
  | 66 => ⟨S_, .i32⟩
  | 67 => ⟨S_, .i32⟩
  | 68 => ⟨S_, .i32⟩
  | 69 => ⟨S_, .i32⟩
  | 70 => ⟨S1x1x64x8x1x512, .f32⟩
  | 71 => ⟨S1x64x8x1x512, .f32⟩
  | 72 => ⟨S_, .i32⟩
  | 73 => ⟨S_, .i32⟩
  | 74 => ⟨S_, .i32⟩
  | 75 => ⟨S_, .i32⟩
  | 76 => ⟨S1x1x64x8x1, .f32⟩
  | 77 => ⟨S1x64x8x1, .f32⟩
  | 78 => ⟨S_, .f32⟩
  | 79 => ⟨S_, .f32⟩
  | 80 => ⟨S1x64x8x1, .f32⟩
  | 81 => ⟨S1x8x1x64, .f32⟩
  | 82 => ⟨S1x8x1x64x1, .f32⟩
  | 83 => ⟨S1x8x1x1x64, .f32⟩
  | 84 => ⟨S1x8x1x64x64, .f32⟩
  | 85 => ⟨S1x8x1x64x64, .f32⟩
  | 86 => ⟨S1x8x1x64x64, .f32⟩
  | 87 => ⟨S1x8x64x64, .f32⟩
  | 88 => ⟨S1x8x1x64x64, .f32⟩
  | 89 => ⟨S_, .f32⟩
  | 90 => ⟨S_, .f32⟩
  | 91 => ⟨S1x8x1x64x64, .i1⟩
  | 92 => ⟨S1x8x1x64x64, .f32⟩
  | 93 => ⟨S1x8x1x64x64, .f32⟩
  | 94 => ⟨S1x8x1x64x64, .f32⟩
  | 95 => ⟨S1x8x1x64x64, .f32⟩
  | 96 => ⟨S1x64x8x1, .f32⟩
  | 97 => ⟨S1x64x8x1x1, .f32⟩
  | 98 => ⟨S1x1x8x1, .f32⟩
  | 99 => ⟨S1x64x8x1, .f32⟩
  | 100 => ⟨S1x64x8x1, .f32⟩
  | 101 => ⟨S1x64x8x1, .f32⟩
  | 102 => ⟨S1x1x8x1, .f32⟩
  | 103 => ⟨S1x8x1, .f32⟩
  | 104 => ⟨S1x8x1, .f32⟩
  | 105 => ⟨S1x8x1x1x1, .f32⟩
  | 106 => ⟨S1x64x8x1x1, .f32⟩
  | 107 => ⟨S1x64x8x1x512, .f32⟩
  | 108 => ⟨S1x64x8x1x512, .f32⟩
  | 109 => ⟨S1x8x1x512x256, .f32⟩
  | 110 => ⟨S1x8x256x64, .f32⟩
  | 111 => ⟨S1x64x8x256, .f32⟩
  | 112 => ⟨S1x8x1x512x64, .f32⟩
  | 113 => ⟨S1x64x8x1x512, .f32⟩
  | 114 => ⟨S1x64x8x1x512, .f32⟩
  | 115 => ⟨S1x64x8x1x512, .f32⟩
  | 116 => ⟨S1x8x1x256x512, .f32⟩
  | 117 => ⟨S1x8x1x256x512, .f32⟩
  | 118 => ⟨S1x64x8x1x512, .f32⟩
  | 119 => ⟨S1x64x8x1x512, .f32⟩
  | 120 => ⟨S1x8x1x512x64, .f32⟩
  | 121 => ⟨S1x8x64x256, .f32⟩
  | 122 => ⟨S1x64x8x256, .f32⟩
  | 123 => ⟨S1x8x1x512x256, .f32⟩
  | 124 => ⟨S1x8x1x256x512, .f32⟩
  | 125 => ⟨S1x8x1x256x512, .f32⟩
  | 126 => ⟨S1x8x1x512x64, .f32⟩
  | 127 => ⟨S1x8x1x64x64, .f32⟩
  | _ => ⟨S2304x2048, .f32⟩

abbrev hbmTy0_2 (i : Nat) : BufTy := match i % 128 with
  | 0 => ⟨S1x8x1x512x64, .f32⟩
  | 1 => ⟨S1x64x8x1x512, .f32⟩
  | 2 => ⟨S1x64x8x1x512, .f32⟩
  | 3 => ⟨S1x8x1x64x64, .f32⟩
  | 4 => ⟨S_, .f32⟩
  | 5 => ⟨S8x64x64, .f32⟩
  | 6 => ⟨S1x8x64x64, .f32⟩
  | 7 => ⟨S1x8x64x256, .f32⟩
  | 8 => ⟨S1x64x8x256, .f32⟩
  | 9 => ⟨S1x64x8x256, .f32⟩
  | 10 => ⟨S1x8x64x256, .f32⟩
  | 11 => ⟨S1x64x8x256, .f32⟩
  | 12 => ⟨S1x64x8x256, .f32⟩
  | 13 => ⟨S1x1x64x8x256, .f32⟩
  | 14 => ⟨S_, .i32⟩
  | 15 => ⟨S_, .i32⟩
  | 16 => ⟨S_, .i32⟩
  | 17 => ⟨S_, .i32⟩
  | 18 => ⟨S36x1x64x8x256, .f32⟩
  | 19 => ⟨S1x1x64x8x256, .f32⟩
  | 20 => ⟨S_, .i32⟩
  | 21 => ⟨S_, .i32⟩
  | 22 => ⟨S_, .i32⟩
  | 23 => ⟨S_, .i32⟩
  | 24 => ⟨S36x1x64x8x256, .f32⟩
  | 25 => ⟨S1x1x64x8x1x512, .f32⟩
  | 26 => ⟨S_, .i32⟩
  | 27 => ⟨S_, .i32⟩
  | 28 => ⟨S_, .i32⟩
  | 29 => ⟨S_, .i32⟩
  | 30 => ⟨S_, .i32⟩
  | 31 => ⟨S36x1x64x8x1x512, .f32⟩
  | 32 => ⟨S_, .i32⟩
  | 33 => ⟨S_, .i32⟩
  | 34 => ⟨S1x36x64x8x1x512, .f32⟩
  | 35 => ⟨S1x2304x8x1x512, .f32⟩
  | 36 => ⟨S1x36x64x8x256, .f32⟩
  | 37 => ⟨S1x2304x8x256, .f32⟩
  | 38 => ⟨S1x36x64x8x256, .f32⟩
  | 39 => ⟨S1x2304x8x256, .f32⟩
  | 40 => ⟨S2304x4096, .f32⟩
  | 41 => ⟨S2304x2048, .f32⟩
  | 42 => ⟨S2304x2048, .f32⟩
  | _ => ⟨S2304x2048, .f32⟩

abbrev hbmTy (i : Nat) : BufTy := match i / 128 with
  | 0 => hbmTy0_0 i
  | 1 => hbmTy0_1 i
  | 2 => hbmTy0_2 i
  | _ => ⟨S2304x2048, .f32⟩

abbrev bufTy : (tb : Table) → Fin (tcTables nBuf tb) → BufTy
  | .hbm, ⟨i, _⟩ => hbmTy i
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call1_v0 : Ref sig .tc := ⟨.hbm, 32, rfl⟩
abbrev main_v25_0 : Ref sig .tc := ⟨.hbm, 33, rfl⟩
abbrev main_v25_1 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_c : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_v28_7 : Ref sig .tc := ⟨.hbm, 47, rfl⟩
abbrev main_v28_8 : Ref sig .tc := ⟨.hbm, 48, rfl⟩
abbrev main_v28_9 : Ref sig .tc := ⟨.hbm, 49, rfl⟩
abbrev main_while0c_c_18 : Ref sig .tc := ⟨.hbm, 50, rfl⟩
abbrev main_while0c_v50 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v50 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_c_2 : Ref sig .tc := ⟨.hbm, 61, rfl⟩
abbrev main_while0b_call3_v0 : Ref sig .tc := ⟨.hbm, 62, rfl⟩
abbrev main_while0b_v51 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_c_2 : Ref sig .tc := ⟨.hbm, 67, rfl⟩
abbrev main_while0b_call4_c_3 : Ref sig .tc := ⟨.hbm, 68, rfl⟩
abbrev main_while0b_call4_v0 : Ref sig .tc := ⟨.hbm, 69, rfl⟩
abbrev main_while0b_v52 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_c_1 : Ref sig .tc := ⟨.hbm, 73, rfl⟩
abbrev main_while0b_call5_c_2 : Ref sig .tc := ⟨.hbm, 74, rfl⟩
abbrev main_while0b_call5_v0 : Ref sig .tc := ⟨.hbm, 75, rfl⟩
abbrev main_while0b_v53 : Ref sig .tc := ⟨.hbm, 76, rfl⟩
abbrev main_while0b_call6_call0_cst : Ref sig .tc := ⟨.hbm, 77, rfl⟩
abbrev main_while0b_call6_call0_v0 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_v73 : Ref sig .tc := ⟨.hbm, 98, rfl⟩
abbrev main_while0b_v74 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_call8_v0 : Ref sig .tc := ⟨.hbm, 116, rfl⟩
abbrev main_while0b_call8_c : Ref sig .tc := ⟨.hbm, 117, rfl⟩
abbrev main_while0b_call8_c_0 : Ref sig .tc := ⟨.hbm, 118, rfl⟩
abbrev main_while0b_call8_c_1 : Ref sig .tc := ⟨.hbm, 119, rfl⟩
abbrev main_while0b_call8_c_2 : Ref sig .tc := ⟨.hbm, 120, rfl⟩
abbrev main_while0b_call8_c_3 : Ref sig .tc := ⟨.hbm, 121, rfl⟩
abbrev main_while0b_v91 : Ref sig .tc := ⟨.hbm, 122, rfl⟩
abbrev main_while0b_call9_v0 : Ref sig .tc := ⟨.hbm, 123, rfl⟩
abbrev main_while0b_call9_c : Ref sig .tc := ⟨.hbm, 124, rfl⟩
abbrev main_while0b_call9_c_0 : Ref sig .tc := ⟨.hbm, 125, rfl⟩
abbrev main_while0b_call9_c_1 : Ref sig .tc := ⟨.hbm, 126, rfl⟩
abbrev main_while0b_call9_c_2 : Ref sig .tc := ⟨.hbm, 127, rfl⟩
abbrev main_while0b_call9_c_3 : Ref sig .tc := ⟨.hbm, 128, rfl⟩
abbrev main_while0b_v92 : Ref sig .tc := ⟨.hbm, 129, rfl⟩
abbrev main_while0b_c_18 : Ref sig .tc := ⟨.hbm, 130, rfl⟩
abbrev main_while0b_v93 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_cst_3 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_cst_4 : Ref sig .tc := ⟨.hbm, 140, rfl⟩
abbrev main_v36 : Ref sig .tc := ⟨.hbm, 141, rfl⟩
abbrev main_cst_5 : Ref sig .tc := ⟨.hbm, 142, rfl⟩
abbrev main_v37 : Ref sig .tc := ⟨.hbm, 143, rfl⟩
abbrev main_cst_6 : Ref sig .tc := ⟨.hbm, 144, rfl⟩
abbrev main_v38 : Ref sig .tc := ⟨.hbm, 145, rfl⟩
abbrev main_cst_7 : Ref sig .tc := ⟨.hbm, 146, rfl⟩
abbrev main_v39 : Ref sig .tc := ⟨.hbm, 147, rfl⟩
abbrev main_c_8 : Ref sig .tc := ⟨.hbm, 148, rfl⟩
abbrev main_v40_0 : Ref sig .tc := ⟨.hbm, 149, rfl⟩
abbrev main_v40_1 : Ref sig .tc := ⟨.hbm, 150, rfl⟩
abbrev main_v40_2 : Ref sig .tc := ⟨.hbm, 151, rfl⟩
abbrev main_v40_3 : Ref sig .tc := ⟨.hbm, 152, rfl⟩
abbrev main_v40_4 : Ref sig .tc := ⟨.hbm, 153, rfl⟩
abbrev main_v40_5 : Ref sig .tc := ⟨.hbm, 154, rfl⟩
abbrev main_v40_6 : Ref sig .tc := ⟨.hbm, 155, rfl⟩
abbrev main_v40_7 : Ref sig .tc := ⟨.hbm, 156, rfl⟩
abbrev main_v40_8 : Ref sig .tc := ⟨.hbm, 157, rfl⟩
abbrev main_v40_9 : Ref sig .tc := ⟨.hbm, 158, rfl⟩
abbrev main_v40_10 : Ref sig .tc := ⟨.hbm, 159, rfl⟩
abbrev main_v40_11 : Ref sig .tc := ⟨.hbm, 160, rfl⟩
abbrev main_while1c_c_20 : Ref sig .tc := ⟨.hbm, 161, rfl⟩
abbrev main_while1c_v50 : Ref sig .tc := ⟨.hbm, 162, rfl⟩
abbrev main_while1b_c_20 : Ref sig .tc := ⟨.hbm, 163, rfl⟩
abbrev main_while1b_v50 : Ref sig .tc := ⟨.hbm, 164, rfl⟩
abbrev main_while1b_c_21 : Ref sig .tc := ⟨.hbm, 165, rfl⟩
abbrev main_while1b_v51 : Ref sig .tc := ⟨.hbm, 166, rfl⟩
abbrev main_while1b_call10_c : Ref sig .tc := ⟨.hbm, 167, rfl⟩
abbrev main_while1b_call10_c_0 : Ref sig .tc := ⟨.hbm, 168, rfl⟩
abbrev main_while1b_call10_c_1 : Ref sig .tc := ⟨.hbm, 169, rfl⟩
abbrev main_while1b_call10_c_2 : Ref sig .tc := ⟨.hbm, 170, rfl⟩
abbrev main_while1b_call10_c_3 : Ref sig .tc := ⟨.hbm, 171, rfl⟩
abbrev main_while1b_call10_v0 : Ref sig .tc := ⟨.hbm, 172, rfl⟩
abbrev main_while1b_v52 : Ref sig .tc := ⟨.hbm, 173, rfl⟩
abbrev main_while1b_call11_c : Ref sig .tc := ⟨.hbm, 174, rfl⟩
abbrev main_while1b_call11_c_0 : Ref sig .tc := ⟨.hbm, 175, rfl⟩
abbrev main_while1b_call11_c_1 : Ref sig .tc := ⟨.hbm, 176, rfl⟩
abbrev main_while1b_call11_c_2 : Ref sig .tc := ⟨.hbm, 177, rfl⟩
abbrev main_while1b_call11_c_3 : Ref sig .tc := ⟨.hbm, 178, rfl⟩
abbrev main_while1b_call11_v0 : Ref sig .tc := ⟨.hbm, 179, rfl⟩
abbrev main_while1b_v53 : Ref sig .tc := ⟨.hbm, 180, rfl⟩
abbrev main_while1b_call12_c : Ref sig .tc := ⟨.hbm, 181, rfl⟩
abbrev main_while1b_call12_c_0 : Ref sig .tc := ⟨.hbm, 182, rfl⟩
abbrev main_while1b_call12_c_1 : Ref sig .tc := ⟨.hbm, 183, rfl⟩
abbrev main_while1b_call12_c_2 : Ref sig .tc := ⟨.hbm, 184, rfl⟩
abbrev main_while1b_call12_v0 : Ref sig .tc := ⟨.hbm, 185, rfl⟩
abbrev main_while1b_v54 : Ref sig .tc := ⟨.hbm, 186, rfl⟩
abbrev main_while1b_call13_c : Ref sig .tc := ⟨.hbm, 187, rfl⟩
abbrev main_while1b_call13_c_0 : Ref sig .tc := ⟨.hbm, 188, rfl⟩
abbrev main_while1b_call13_c_1 : Ref sig .tc := ⟨.hbm, 189, rfl⟩
abbrev main_while1b_call13_c_2 : Ref sig .tc := ⟨.hbm, 190, rfl⟩
abbrev main_while1b_call13_v0 : Ref sig .tc := ⟨.hbm, 191, rfl⟩
abbrev main_while1b_v55 : Ref sig .tc := ⟨.hbm, 192, rfl⟩
abbrev main_while1b_call14_c : Ref sig .tc := ⟨.hbm, 193, rfl⟩
abbrev main_while1b_call14_c_0 : Ref sig .tc := ⟨.hbm, 194, rfl⟩
abbrev main_while1b_call14_c_1 : Ref sig .tc := ⟨.hbm, 195, rfl⟩
abbrev main_while1b_call14_c_2 : Ref sig .tc := ⟨.hbm, 196, rfl⟩
abbrev main_while1b_call14_c_3 : Ref sig .tc := ⟨.hbm, 197, rfl⟩
abbrev main_while1b_call14_v0 : Ref sig .tc := ⟨.hbm, 198, rfl⟩
abbrev main_while1b_v56 : Ref sig .tc := ⟨.hbm, 199, rfl⟩
abbrev main_while1b_call15_c : Ref sig .tc := ⟨.hbm, 200, rfl⟩
abbrev main_while1b_call15_c_0 : Ref sig .tc := ⟨.hbm, 201, rfl⟩
abbrev main_while1b_call15_c_1 : Ref sig .tc := ⟨.hbm, 202, rfl⟩
abbrev main_while1b_call15_c_2 : Ref sig .tc := ⟨.hbm, 203, rfl⟩
abbrev main_while1b_call15_v0 : Ref sig .tc := ⟨.hbm, 204, rfl⟩
abbrev main_while1b_v57 : Ref sig .tc := ⟨.hbm, 205, rfl⟩
abbrev main_while1b_call16_call0_cst : Ref sig .tc := ⟨.hbm, 206, rfl⟩
abbrev main_while1b_call16_call0_v0 : Ref sig .tc := ⟨.hbm, 207, rfl⟩
abbrev main_while1b_v58 : Ref sig .tc := ⟨.hbm, 208, rfl⟩
abbrev main_while1b_v59 : Ref sig .tc := ⟨.hbm, 209, rfl⟩
abbrev main_while1b_v60 : Ref sig .tc := ⟨.hbm, 210, rfl⟩
abbrev main_while1b_v61 : Ref sig .tc := ⟨.hbm, 211, rfl⟩
abbrev main_while1b_v62 : Ref sig .tc := ⟨.hbm, 212, rfl⟩
abbrev main_while1b_v63 : Ref sig .tc := ⟨.hbm, 213, rfl⟩
abbrev main_while1b_v64 : Ref sig .tc := ⟨.hbm, 214, rfl⟩
abbrev main_while1b_v65 : Ref sig .tc := ⟨.hbm, 215, rfl⟩
abbrev main_while1b_v66 : Ref sig .tc := ⟨.hbm, 216, rfl⟩
abbrev main_while1b_cst_22 : Ref sig .tc := ⟨.hbm, 217, rfl⟩
abbrev main_while1b_call17_v0 : Ref sig .tc := ⟨.hbm, 218, rfl⟩
abbrev main_while1b_call17_v1 : Ref sig .tc := ⟨.hbm, 219, rfl⟩
abbrev main_while1b_call17_v2 : Ref sig .tc := ⟨.hbm, 220, rfl⟩
abbrev main_while1b_v67 : Ref sig .tc := ⟨.hbm, 221, rfl⟩
abbrev main_while1b_v68 : Ref sig .tc := ⟨.hbm, 222, rfl⟩
abbrev main_while1b_v69 : Ref sig .tc := ⟨.hbm, 223, rfl⟩
abbrev main_while1b_v70 : Ref sig .tc := ⟨.hbm, 224, rfl⟩
abbrev main_while1b_v71 : Ref sig .tc := ⟨.hbm, 225, rfl⟩
abbrev main_while1b_v72 : Ref sig .tc := ⟨.hbm, 226, rfl⟩
abbrev main_while1b_v73 : Ref sig .tc := ⟨.hbm, 227, rfl⟩
abbrev main_while1b_v74 : Ref sig .tc := ⟨.hbm, 228, rfl⟩
abbrev main_while1b_v75 : Ref sig .tc := ⟨.hbm, 229, rfl⟩
abbrev main_while1b_v76 : Ref sig .tc := ⟨.hbm, 230, rfl⟩
abbrev main_while1b_v77 : Ref sig .tc := ⟨.hbm, 231, rfl⟩
abbrev main_while1b_v78 : Ref sig .tc := ⟨.hbm, 232, rfl⟩
abbrev main_while1b_v79 : Ref sig .tc := ⟨.hbm, 233, rfl⟩
abbrev main_while1b_v80 : Ref sig .tc := ⟨.hbm, 234, rfl⟩
abbrev main_while1b_v81 : Ref sig .tc := ⟨.hbm, 235, rfl⟩
abbrev main_while1b_v82 : Ref sig .tc := ⟨.hbm, 236, rfl⟩
abbrev main_while1b_v83 : Ref sig .tc := ⟨.hbm, 237, rfl⟩
abbrev main_while1b_v84 : Ref sig .tc := ⟨.hbm, 238, rfl⟩
abbrev main_while1b_v85 : Ref sig .tc := ⟨.hbm, 239, rfl⟩
abbrev main_while1b_v86 : Ref sig .tc := ⟨.hbm, 240, rfl⟩
abbrev main_while1b_v87 : Ref sig .tc := ⟨.hbm, 241, rfl⟩
abbrev main_while1b_v88 : Ref sig .tc := ⟨.hbm, 242, rfl⟩
abbrev main_while1b_v89 : Ref sig .tc := ⟨.hbm, 243, rfl⟩
abbrev main_while1b_v90 : Ref sig .tc := ⟨.hbm, 244, rfl⟩
abbrev main_while1b_v91 : Ref sig .tc := ⟨.hbm, 245, rfl⟩
abbrev main_while1b_v92 : Ref sig .tc := ⟨.hbm, 246, rfl⟩
abbrev main_while1b_v93 : Ref sig .tc := ⟨.hbm, 247, rfl⟩
abbrev main_while1b_v94 : Ref sig .tc := ⟨.hbm, 248, rfl⟩
abbrev main_while1b_v95 : Ref sig .tc := ⟨.hbm, 249, rfl⟩
abbrev main_while1b_v96 : Ref sig .tc := ⟨.hbm, 250, rfl⟩
abbrev main_while1b_v97 : Ref sig .tc := ⟨.hbm, 251, rfl⟩
abbrev main_while1b_v98 : Ref sig .tc := ⟨.hbm, 252, rfl⟩
abbrev main_while1b_v99 : Ref sig .tc := ⟨.hbm, 253, rfl⟩
abbrev main_while1b_v100 : Ref sig .tc := ⟨.hbm, 254, rfl⟩
abbrev main_while1b_v101 : Ref sig .tc := ⟨.hbm, 255, rfl⟩
abbrev main_while1b_v102 : Ref sig .tc := ⟨.hbm, 256, rfl⟩
abbrev main_while1b_v103 : Ref sig .tc := ⟨.hbm, 257, rfl⟩
abbrev main_while1b_v104 : Ref sig .tc := ⟨.hbm, 258, rfl⟩
abbrev main_while1b_v105 : Ref sig .tc := ⟨.hbm, 259, rfl⟩
abbrev main_while1b_cst_23 : Ref sig .tc := ⟨.hbm, 260, rfl⟩
abbrev main_while1b_v106 : Ref sig .tc := ⟨.hbm, 261, rfl⟩
abbrev main_while1b_v107 : Ref sig .tc := ⟨.hbm, 262, rfl⟩
abbrev main_while1b_v108 : Ref sig .tc := ⟨.hbm, 263, rfl⟩
abbrev main_while1b_v109 : Ref sig .tc := ⟨.hbm, 264, rfl⟩
abbrev main_while1b_v110 : Ref sig .tc := ⟨.hbm, 265, rfl⟩
abbrev main_while1b_v111 : Ref sig .tc := ⟨.hbm, 266, rfl⟩
abbrev main_while1b_v112 : Ref sig .tc := ⟨.hbm, 267, rfl⟩
abbrev main_while1b_v113 : Ref sig .tc := ⟨.hbm, 268, rfl⟩
abbrev main_while1b_call18_v0 : Ref sig .tc := ⟨.hbm, 269, rfl⟩
abbrev main_while1b_call18_c : Ref sig .tc := ⟨.hbm, 270, rfl⟩
abbrev main_while1b_call18_c_0 : Ref sig .tc := ⟨.hbm, 271, rfl⟩
abbrev main_while1b_call18_c_1 : Ref sig .tc := ⟨.hbm, 272, rfl⟩
abbrev main_while1b_call18_c_2 : Ref sig .tc := ⟨.hbm, 273, rfl⟩
abbrev main_while1b_v114 : Ref sig .tc := ⟨.hbm, 274, rfl⟩
abbrev main_while1b_call19_v0 : Ref sig .tc := ⟨.hbm, 275, rfl⟩
abbrev main_while1b_call19_c : Ref sig .tc := ⟨.hbm, 276, rfl⟩
abbrev main_while1b_call19_c_0 : Ref sig .tc := ⟨.hbm, 277, rfl⟩
abbrev main_while1b_call19_c_1 : Ref sig .tc := ⟨.hbm, 278, rfl⟩
abbrev main_while1b_call19_c_2 : Ref sig .tc := ⟨.hbm, 279, rfl⟩
abbrev main_while1b_v115 : Ref sig .tc := ⟨.hbm, 280, rfl⟩
abbrev main_while1b_call20_v0 : Ref sig .tc := ⟨.hbm, 281, rfl⟩
abbrev main_while1b_call20_c : Ref sig .tc := ⟨.hbm, 282, rfl⟩
abbrev main_while1b_call20_c_0 : Ref sig .tc := ⟨.hbm, 283, rfl⟩
abbrev main_while1b_call20_c_1 : Ref sig .tc := ⟨.hbm, 284, rfl⟩
abbrev main_while1b_call20_c_2 : Ref sig .tc := ⟨.hbm, 285, rfl⟩
abbrev main_while1b_call20_c_3 : Ref sig .tc := ⟨.hbm, 286, rfl⟩
abbrev main_while1b_v116 : Ref sig .tc := ⟨.hbm, 287, rfl⟩
abbrev main_while1b_c_24 : Ref sig .tc := ⟨.hbm, 288, rfl⟩
abbrev main_while1b_v117 : Ref sig .tc := ⟨.hbm, 289, rfl⟩
abbrev main_v41 : Ref sig .tc := ⟨.hbm, 290, rfl⟩
abbrev main_v42 : Ref sig .tc := ⟨.hbm, 291, rfl⟩
abbrev main_v43 : Ref sig .tc := ⟨.hbm, 292, rfl⟩
abbrev main_v44 : Ref sig .tc := ⟨.hbm, 293, rfl⟩
abbrev main_v45 : Ref sig .tc := ⟨.hbm, 294, rfl⟩
abbrev main_v46 : Ref sig .tc := ⟨.hbm, 295, rfl⟩
abbrev main_v47 : Ref sig .tc := ⟨.hbm, 296, rfl⟩
abbrev main_v48 : Ref sig .tc := ⟨.hbm, 297, rfl⟩
abbrev main_v49 : Ref sig .tc := ⟨.hbm, 298, rfl⟩

abbrev nD : Nat := 1
abbrev τ : Topo := Topo.v7x

variable {F : FTy → Type} [FloatOps F]

abbrev main_while0_count : Scf.Loop 32 := ⟨0#32, 36#32, 1#32⟩

abbrev main_while1_count : Scf.Loop 32 := ⟨0#32, 36#32, 1#32⟩
-- ==== Kernel2.lean ====
abbrev S2304x2048 : Shape := ⟨2, ![2304, 2048]⟩
abbrev S2048x8192 : Shape := ⟨2, ![2048, 8192]⟩
abbrev S8192x2048 : Shape := ⟨2, ![8192, 2048]⟩
abbrev S2304x8192 : Shape := ⟨2, ![2304, 8192]⟩
abbrev S1152x2048 : Shape := ⟨2, ![1152, 2048]⟩
abbrev S2048x1024 : Shape := ⟨2, ![2048, 1024]⟩
abbrev S1152x1024 : Shape := ⟨2, ![1152, 1024]⟩
abbrev S_ : Shape := ⟨0, ![]⟩
abbrev S1024x2048 : Shape := ⟨2, ![1024, 2048]⟩
abbrev S2304x1024 : Shape := ⟨2, ![2304, 1024]⟩
abbrev S2304x512 : Shape := ⟨2, ![2304, 512]⟩
abbrev S1024x512 : Shape := ⟨2, ![1024, 512]⟩

abbrev nBuf : Space → Nat
  | .hbm => 24
  | .vmem => 24
  | .smem => 0
  | _ => 0

abbrev bufTy : (tb : Table) → Fin (tcTables nBuf tb) → BufTy
  | .hbm, ⟨0, _⟩ => ⟨S2304x2048, .f32⟩
  | .hbm, ⟨1, _⟩ => ⟨S2048x8192, .bf16⟩
  | .hbm, ⟨2, _⟩ => ⟨S8192x2048, .bf16⟩
  | .hbm, ⟨3, _⟩ => ⟨S2304x2048, .f32⟩
  | .hbm, ⟨4, _⟩ => ⟨S2304x8192, .f32⟩
  | .hbm, ⟨5, _⟩ => ⟨S_, .f32⟩
  | .hbm, ⟨6, _⟩ => ⟨S2304x8192, .f32⟩
  | .hbm, ⟨7, _⟩ => ⟨S2304x8192, .f32⟩
  | .hbm, ⟨8, _⟩ => ⟨S_, .f32⟩
  | .hbm, ⟨9, _⟩ => ⟨S2304x8192, .f32⟩
  | .hbm, ⟨10, _⟩ => ⟨S2304x8192, .i1⟩
  | .hbm, ⟨11, _⟩ => ⟨S_, .f32⟩
  | .hbm, ⟨12, _⟩ => ⟨S2304x8192, .f32⟩
  | .hbm, ⟨13, _⟩ => ⟨S2304x8192, .f32⟩
  | .hbm, ⟨14, _⟩ => ⟨S_, .f32⟩
  | .hbm, ⟨15, _⟩ => ⟨S2304x8192, .f32⟩
  | .hbm, ⟨16, _⟩ => ⟨S2304x8192, .f32⟩
  | .hbm, ⟨17, _⟩ => ⟨S2304x8192, .f32⟩
  | .hbm, ⟨18, _⟩ => ⟨S2304x8192, .f32⟩
  | .hbm, ⟨19, _⟩ => ⟨S_, .f32⟩
  | .hbm, ⟨20, _⟩ => ⟨S2304x8192, .f32⟩
  | .hbm, ⟨21, _⟩ => ⟨S2304x8192, .f32⟩
  | .hbm, ⟨22, _⟩ => ⟨S2048x8192, .bf16⟩
  | .hbm, ⟨23, _⟩ => ⟨S8192x2048, .bf16⟩
  | .local _ .vmem, ⟨0, _⟩ => ⟨S1152x2048, .f32⟩
  | .local _ .vmem, ⟨1, _⟩ => ⟨S1152x2048, .f32⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x2048, .f32⟩
  | .local _ .vmem, ⟨7, _⟩ => ⟨S1152x2048, .f32⟩
  | .local _ .vmem, ⟨8, _⟩ => ⟨S1024x2048, .bf16⟩
  | .local _ .vmem, ⟨9, _⟩ => ⟨S1024x2048, .bf16⟩
  | .local _ .vmem, ⟨10, _⟩ => ⟨S1152x1024, .f32⟩
  | .local _ .vmem, ⟨11, _⟩ => ⟨S1152x1024, .f32⟩
  | .local _ .vmem, ⟨12, _⟩ => ⟨S2304x1024, .f32⟩
  | .local _ .vmem, ⟨13, _⟩ => ⟨S2304x1024, .f32⟩
  | .local _ .vmem, ⟨14, _⟩ => ⟨S2304x512, .f32⟩
  | .local _ .vmem, ⟨15, _⟩ => ⟨S2304x512, .f32⟩
  | .local _ .vmem, ⟨16, _⟩ => ⟨S1024x512, .bf16⟩
  | .local _ .vmem, ⟨17, _⟩ => ⟨S1024x512, .bf16⟩
  | .local _ .vmem, ⟨18, _⟩ => ⟨S2304x1024, .f32⟩
  | .local _ .vmem, ⟨19, _⟩ => ⟨S2304x1024, .f32⟩
  | .local _ .vmem, ⟨20, _⟩ => ⟨S2304x512, .f32⟩
  | .local _ .vmem, ⟨21, _⟩ => ⟨S2304x512, .f32⟩
  | .local _ .vmem, ⟨22, _⟩ => ⟨S1024x512, .bf16⟩
  | .local _ .vmem, ⟨23, _⟩ => ⟨S1024x512, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1152x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1152x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2304x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2304x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2304x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2304x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S2304x2048 : Shape := ⟨2, ![2304, 2048]⟩
abbrev S2048x8192 : Shape := ⟨2, ![2048, 8192]⟩
abbrev S8192x2048 : Shape := ⟨2, ![8192, 2048]⟩
abbrev S2304x8192 : Shape := ⟨2, ![2304, 8192]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x8192, .bf16⟩
  | .hbm, ⟨2, _⟩ => ⟨S8192x2048, .bf16⟩
  | .hbm, ⟨3, _⟩ => ⟨S2304x2048, .f32⟩
  | .hbm, ⟨4, _⟩ => ⟨S2048x8192, .f32⟩
  | .hbm, ⟨5, _⟩ => ⟨S8192x2048, .f32⟩
  | .hbm, ⟨6, _⟩ => ⟨S2304x8192, .f32⟩
  | .hbm, ⟨7, _⟩ => ⟨S_, .f32⟩
  | .hbm, ⟨8, _⟩ => ⟨S2304x8192, .f32⟩
  | .hbm, ⟨9, _⟩ => ⟨S2304x8192, .f32⟩
  | .hbm, ⟨10, _⟩ => ⟨S_, .f32⟩
  | .hbm, ⟨11, _⟩ => ⟨S2304x8192, .f32⟩
  | .hbm, ⟨12, _⟩ => ⟨S2304x8192, .i1⟩
  | .hbm, ⟨13, _⟩ => ⟨S_, .f32⟩
  | .hbm, ⟨14, _⟩ => ⟨S2304x8192, .f32⟩
  | .hbm, ⟨15, _⟩ => ⟨S2304x8192, .f32⟩
  | .hbm, ⟨16, _⟩ => ⟨S_, .f32⟩
  | .hbm, ⟨17, _⟩ => ⟨S2304x8192, .f32⟩
  | .hbm, ⟨18, _⟩ => ⟨S2304x8192, .f32⟩
  | .hbm, ⟨19, _⟩ => ⟨S2304x2048, .f32⟩
  | .hbm, ⟨20, _⟩ => ⟨S2048x8192, .f32⟩
  | .hbm, ⟨21, _⟩ => ⟨S8192x2048, .f32⟩
  | .hbm, ⟨22, _⟩ => ⟨S2304x8192, .f32⟩
  | .hbm, ⟨23, _⟩ => ⟨S2304x8192, .f32⟩
  | .hbm, ⟨24, _⟩ => ⟨S_, .f32⟩
  | .hbm, ⟨25, _⟩ => ⟨S2304x8192, .f32⟩
  | .hbm, ⟨26, _⟩ => ⟨S2304x8192, .f32⟩
  | .hbm, ⟨27, _⟩ => ⟨S8192x2048, .f32⟩
  | .hbm, ⟨28, _⟩ => ⟨S2048x8192, .f32⟩
  | .hbm, ⟨29, _⟩ => ⟨S8192x2048, .bf16⟩
  | .hbm, ⟨30, _⟩ => ⟨S2048x8192, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S2304x8192 : Shape := ⟨2, ![2304, 8192]⟩
abbrev S2048x8192 : Shape := ⟨2, ![2048, 8192]⟩
abbrev S2304x2048 : Shape := ⟨2, ![2304, 2048]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S2048x8192, .bf16⟩
  | .hbm, ⟨2, _⟩ => ⟨S2304x2048, .f32⟩
  | .local _ .vmem, ⟨0, _⟩ => ⟨S768x1024, .f32⟩
  | .local _ .vmem, ⟨1, _⟩ => ⟨S768x1024, .f32⟩
  | .local _ .vmem, ⟨2, _⟩ => ⟨S2048x1024, .bf16⟩
  | .local _ .vmem, ⟨3, _⟩ => ⟨S2048x1024, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2304x8192 : Shape := ⟨2, ![2304, 8192]⟩
abbrev S2048x8192 : Shape := ⟨2, ![2048, 8192]⟩
abbrev S_ : Shape := ⟨0, ![]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S2048x8192, .bf16⟩
  | .hbm, ⟨2, _⟩ => ⟨S_, .f32⟩
  | .hbm, ⟨3, _⟩ => ⟨S2304x2048, .f32⟩
  | .hbm, ⟨4, _⟩ => ⟨S2048x8192, .f32⟩
  | .hbm, ⟨5, _⟩ => ⟨S2304x8192, .f32⟩
  | .hbm, ⟨6, _⟩ => ⟨S2304x2048, .f32⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2304x2048 : Shape := ⟨2, ![2304, 2048]⟩
abbrev S2304x4096 : Shape := ⟨2, ![2304, 4096]⟩
abbrev S2048x10240 : Shape := ⟨2, ![2048, 10240]⟩
abbrev S2048x12288 : Shape := ⟨2, ![2048, 12288]⟩
abbrev S4096x2048 : Shape := ⟨2, ![4096, 2048]⟩
abbrev S2304x10240 : Shape := ⟨2, ![2304, 10240]⟩
abbrev S2304x12288 : Shape := ⟨2, ![2304, 12288]⟩
abbrev S1152x2048 : Shape := ⟨2, ![1152, 2048]⟩
abbrev S2048x1024 : Shape := ⟨2, ![2048, 1024]⟩
abbrev S1152x1024 : Shape := ⟨2, ![1152, 1024]⟩
abbrev S2304x1024 : Shape := ⟨2, ![2304, 1024]⟩
abbrev S2304x512 : Shape := ⟨2, ![2304, 512]⟩
abbrev S1024x512 : Shape := ⟨2, ![1024, 512]⟩
abbrev S768x4096 : Shape := ⟨2, ![768, 4096]⟩
abbrev S4096x512 : Shape := ⟨2, ![4096, 512]⟩
abbrev S768x512 : Shape := ⟨2, ![768, 512]⟩
abbrev S1024x2048 : Shape := ⟨2, ![1024, 2048]⟩

abbrev nBuf : Space → Nat
  | .hbm => 15
  | .vmem => 42
  | .smem => 0
  | _ => 0

abbrev bufTy : (tb : Table) → Fin (tcTables nBuf tb) → BufTy
  | .hbm, ⟨0, _⟩ => ⟨S2304x2048, .f32⟩
  | .hbm, ⟨1, _⟩ => ⟨S2304x4096, .f32⟩
  | .hbm, ⟨2, _⟩ => ⟨S2048x10240, .bf16⟩
  | .hbm, ⟨3, _⟩ => ⟨S2048x12288, .bf16⟩
  | .hbm, ⟨4, _⟩ => ⟨S4096x2048, .bf16⟩
  | .hbm, ⟨5, _⟩ => ⟨S2304x10240, .f32⟩
  | .hbm, ⟨6, _⟩ => ⟨S2304x12288, .f32⟩
  | .hbm, ⟨7, _⟩ => ⟨S2304x2048, .f32⟩
  | .hbm, ⟨8, _⟩ => ⟨S2304x10240, .f32⟩
  | .hbm, ⟨9, _⟩ => ⟨S2048x10240, .bf16⟩
  | .hbm, ⟨10, _⟩ => ⟨S2304x12288, .f32⟩
  | .hbm, ⟨11, _⟩ => ⟨S2048x12288, .bf16⟩
  | .hbm, ⟨12, _⟩ => ⟨S2304x2048, .f32⟩
  | .hbm, ⟨13, _⟩ => ⟨S2304x4096, .f32⟩
  | .hbm, ⟨14, _⟩ => ⟨S4096x2048, .bf16⟩
  | .local _ .vmem, ⟨0, _⟩ => ⟨S1152x2048, .f32⟩
  | .local _ .vmem, ⟨1, _⟩ => ⟨S1152x2048, .f32⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S2304x1024, .f32⟩
  | .local _ .vmem, ⟨7, _⟩ => ⟨S2304x1024, .f32⟩
  | .local _ .vmem, ⟨8, _⟩ => ⟨S2304x512, .f32⟩
  | .local _ .vmem, ⟨9, _⟩ => ⟨S2304x512, .f32⟩
  | .local _ .vmem, ⟨10, _⟩ => ⟨S1024x512, .bf16⟩
  | .local _ .vmem, ⟨11, _⟩ => ⟨S1024x512, .bf16⟩
  | .local _ .vmem, ⟨12, _⟩ => ⟨S1152x2048, .f32⟩
  | .local _ .vmem, ⟨13, _⟩ => ⟨S1152x2048, .f32⟩
  | .local _ .vmem, ⟨14, _⟩ => ⟨S2048x1024, .bf16⟩
  | .local _ .vmem, ⟨15, _⟩ => ⟨S2048x1024, .bf16⟩
  | .local _ .vmem, ⟨16, _⟩ => ⟨S1152x1024, .f32⟩
  | .local _ .vmem, ⟨17, _⟩ => ⟨S1152x1024, .f32⟩
  | .local _ .vmem, ⟨18, _⟩ => ⟨S2304x1024, .f32⟩
  | .local _ .vmem, ⟨19, _⟩ => ⟨S2304x1024, .f32⟩
  | .local _ .vmem, ⟨20, _⟩ => ⟨S2304x512, .f32⟩
  | .local _ .vmem, ⟨21, _⟩ => ⟨S2304x512, .f32⟩
  | .local _ .vmem, ⟨22, _⟩ => ⟨S1024x512, .bf16⟩
  | .local _ .vmem, ⟨23, _⟩ => ⟨S1024x512, .bf16⟩
  | .local _ .vmem, ⟨24, _⟩ => ⟨S768x4096, .f32⟩
  | .local _ .vmem, ⟨25, _⟩ => ⟨S768x4096, .f32⟩
  | .local _ .vmem, ⟨26, _⟩ => ⟨S4096x512, .bf16⟩
  | .local _ .vmem, ⟨27, _⟩ => ⟨S4096x512, .bf16⟩
  | .local _ .vmem, ⟨28, _⟩ => ⟨S768x512, .f32⟩
  | .local _ .vmem, ⟨29, _⟩ => ⟨S768x512, .f32⟩
  | .local _ .vmem, ⟨30, _⟩ => ⟨S1152x2048, .f32⟩
  | .local _ .vmem, ⟨31, _⟩ => ⟨S1152x2048, .f32⟩
  | .local _ .vmem, ⟨32, _⟩ => ⟨S1024x2048, .bf16⟩
  | .local _ .vmem, ⟨33, _⟩ => ⟨S1024x2048, .bf16⟩
  | .local _ .vmem, ⟨34, _⟩ => ⟨S1152x1024, .f32⟩
  | .local _ .vmem, ⟨35, _⟩ => ⟨S1152x1024, .f32⟩
  | .local _ .vmem, ⟨36, _⟩ => ⟨S2304x1024, .f32⟩
  | .local _ .vmem, ⟨37, _⟩ => ⟨S2304x1024, .f32⟩
  | .local _ .vmem, ⟨38, _⟩ => ⟨S2304x512, .f32⟩
  | .local _ .vmem, ⟨39, _⟩ => ⟨S2304x512, .f32⟩
  | .local _ .vmem, ⟨40, _⟩ => ⟨S1024x512, .bf16⟩
  | .local _ .vmem, ⟨41, _⟩ => ⟨S1024x512, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 20, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2304x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2304x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 12, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1152x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1152x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 24, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2304x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2304x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![3, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S768x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S768x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1152x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1152x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2304x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2304x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference4Ideal.lean ====
abbrev S2304x2048 : Shape := ⟨2, ![2304, 2048]⟩
abbrev S2304x4096 : Shape := ⟨2, ![2304, 4096]⟩
abbrev S2048x10240 : Shape := ⟨2, ![2048, 10240]⟩
abbrev S2048x12288 : Shape := ⟨2, ![2048, 12288]⟩
abbrev S4096x2048 : Shape := ⟨2, ![4096, 2048]⟩
abbrev S2304x10240 : Shape := ⟨2, ![2304, 10240]⟩
abbrev S2304x12288 : Shape := ⟨2, ![2304, 12288]⟩
abbrev S10240x2048 : Shape := ⟨2, ![10240, 2048]⟩
abbrev S12288x2048 : Shape := ⟨2, ![12288, 2048]⟩
abbrev S2048x4096 : Shape := ⟨2, ![2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x4096, .f32⟩
  | .hbm, ⟨2, _⟩ => ⟨S2048x10240, .bf16⟩
  | .hbm, ⟨3, _⟩ => ⟨S2048x12288, .bf16⟩
  | .hbm, ⟨4, _⟩ => ⟨S4096x2048, .bf16⟩
  | .hbm, ⟨5, _⟩ => ⟨S2304x10240, .f32⟩
  | .hbm, ⟨6, _⟩ => ⟨S2304x12288, .f32⟩
  | .hbm, ⟨7, _⟩ => ⟨S2304x2048, .f32⟩
  | .hbm, ⟨8, _⟩ => ⟨S2048x10240, .f32⟩
  | .hbm, ⟨9, _⟩ => ⟨S2304x10240, .f32⟩
  | .hbm, ⟨10, _⟩ => ⟨S2048x12288, .f32⟩
  | .hbm, ⟨11, _⟩ => ⟨S2304x12288, .f32⟩
  | .hbm, ⟨12, _⟩ => ⟨S4096x2048, .f32⟩
  | .hbm, ⟨13, _⟩ => ⟨S2304x2048, .f32⟩
  | .hbm, ⟨14, _⟩ => ⟨S10240x2048, .f32⟩
  | .hbm, ⟨15, _⟩ => ⟨S2048x10240, .f32⟩
  | .hbm, ⟨16, _⟩ => ⟨S2048x10240, .bf16⟩
  | .hbm, ⟨17, _⟩ => ⟨S12288x2048, .f32⟩
  | .hbm, ⟨18, _⟩ => ⟨S2048x12288, .f32⟩
  | .hbm, ⟨19, _⟩ => ⟨S2048x12288, .bf16⟩
  | .hbm, ⟨20, _⟩ => ⟨S2048x4096, .f32⟩
  | .hbm, ⟨21, _⟩ => ⟨S4096x2048, .f32⟩
  | .hbm, ⟨22, _⟩ => ⟨S2304x4096, .f32⟩
  | .hbm, ⟨23, _⟩ => ⟨S4096x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel5.lean ====
abbrev S2304x10240 : Shape := ⟨2, ![2304, 10240]⟩
abbrev S2048x10240 : Shape := ⟨2, ![2048, 10240]⟩
abbrev S2304x2048 : Shape := ⟨2, ![2304, 2048]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x10240, .f32⟩
  | .hbm, ⟨1, _⟩ => ⟨S2048x10240, .bf16⟩
  | .hbm, ⟨2, _⟩ => ⟨S2304x2048, .f32⟩
  | .local _ .vmem, ⟨0, _⟩ => ⟨S768x1024, .f32⟩
  | .local _ .vmem, ⟨1, _⟩ => ⟨S768x1024, .f32⟩
  | .local _ .vmem, ⟨2, _⟩ => ⟨S2048x1024, .bf16⟩
  | .local _ .vmem, ⟨3, _⟩ => ⟨S2048x1024, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S2304x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 10], ![false, false, false]⟩

def k0_cond2 (i : grid0.Coords) : BitVec 1 :=
  let arg2 : BitVec 32 := BitVec.ofNat 32 (i 2).val
  let c9_i32 : BitVec 32 := 9#32
  let v12 : BitVec 1 := Scalar.cmpi .eq arg2 c9_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2304x10240 : Shape := ⟨2, ![2304, 10240]⟩
abbrev S2048x10240 : Shape := ⟨2, ![2048, 10240]⟩
abbrev S_ : Shape := ⟨0, ![]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x10240, .f32⟩
  | .hbm, ⟨1, _⟩ => ⟨S2048x10240, .bf16⟩
  | .hbm, ⟨2, _⟩ => ⟨S_, .f32⟩
  | .hbm, ⟨3, _⟩ => ⟨S2304x2048, .f32⟩
  | .hbm, ⟨4, _⟩ => ⟨S2048x10240, .f32⟩
  | .hbm, ⟨5, _⟩ => ⟨S2304x10240, .f32⟩
  | .hbm, ⟨6, _⟩ => ⟨S2304x2048, .f32⟩
  | _, _ => ⟨S2304x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2304x12288 : Shape := ⟨2, ![2304, 12288]⟩
abbrev S2048x12288 : Shape := ⟨2, ![2048, 12288]⟩
abbrev S2304x2048 : Shape := ⟨2, ![2304, 2048]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x12288, .f32⟩
  | .hbm, ⟨1, _⟩ => ⟨S2048x12288, .bf16⟩
  | .hbm, ⟨2, _⟩ => ⟨S2304x2048, .f32⟩
  | .local _ .vmem, ⟨0, _⟩ => ⟨S768x1024, .f32⟩
  | .local _ .vmem, ⟨1, _⟩ => ⟨S768x1024, .f32⟩
  | .local _ .vmem, ⟨2, _⟩ => ⟨S2048x1024, .bf16⟩
  | .local _ .vmem, ⟨3, _⟩ => ⟨S2048x1024, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S2304x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 12], ![false, false, false]⟩

def k0_cond2 (i : grid0.Coords) : BitVec 1 :=
  let arg2 : BitVec 32 := BitVec.ofNat 32 (i 2).val
  let c11_i32 : BitVec 32 := 11#32
  let v12 : BitVec 1 := Scalar.cmpi .eq arg2 c11_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x12288 : Shape := ⟨2, ![2304, 12288]⟩
abbrev S2048x12288 : Shape := ⟨2, ![2048, 12288]⟩
abbrev S_ : Shape := ⟨0, ![]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2304x12288, .f32⟩
  | .hbm, ⟨1, _⟩ => ⟨S2048x12288, .bf16⟩
  | .hbm, ⟨2, _⟩ => ⟨S_, .f32⟩
  | .hbm, ⟨3, _⟩ => ⟨S2304x2048, .f32⟩
  | .hbm, ⟨4, _⟩ => ⟨S2048x12288, .f32⟩
  | .hbm, ⟨5, _⟩ => ⟨S2304x12288, .f32⟩
  | .hbm, ⟨6, _⟩ => ⟨S2304x2048, .f32⟩
  | _, _ => ⟨S2304x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2304x8192 : Shape := ⟨2, ![2304, 8192]⟩
abbrev S8192x2048 : Shape := ⟨2, ![8192, 2048]⟩
abbrev S2304x2048 : Shape := ⟨2, ![2304, 2048]⟩
abbrev S768x1024 : Shape := ⟨2, ![768, 1024]⟩
abbrev S1024x2048 : Shape := ⟨2, ![1024, 2048]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .f32⟩
  | .hbm, ⟨1, _⟩ => ⟨S8192x2048, .bf16⟩
  | .hbm, ⟨2, _⟩ => ⟨S2304x2048, .f32⟩
  | .local _ .vmem, ⟨0, _⟩ => ⟨S768x1024, .f32⟩
  | .local _ .vmem, ⟨1, _⟩ => ⟨S768x1024, .f32⟩
  | .local _ .vmem, ⟨2, _⟩ => ⟨S1024x2048, .bf16⟩
  | .local _ .vmem, ⟨3, _⟩ => ⟨S1024x2048, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S2304x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x8192 : Shape := ⟨2, ![2304, 8192]⟩
abbrev S8192x2048 : Shape := ⟨2, ![8192, 2048]⟩
abbrev S2304x2048 : Shape := ⟨2, ![2304, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2304x8192, .f32⟩
  | .hbm, ⟨1, _⟩ => ⟨S8192x2048, .bf16⟩
  | .hbm, ⟨2, _⟩ => ⟨S8192x2048, .f32⟩
  | .hbm, ⟨3, _⟩ => ⟨S2304x2048, .f32⟩
  | _, _ => ⟨S2304x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S2048x2048 : Shape := ⟨2, ![2048, 2048]⟩
abbrev S2048x8192 : Shape := ⟨2, ![2048, 8192]⟩
abbrev S2048x4096 : Shape := ⟨2, ![2048, 4096]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩
abbrev S2048x128 : Shape := ⟨2, ![2048, 128]⟩
abbrev S1024x4096 : Shape := ⟨2, ![1024, 4096]⟩
abbrev S4096x128 : Shape := ⟨2, ![4096, 128]⟩
abbrev S1024x128 : Shape := ⟨2, ![1024, 128]⟩

abbrev nBuf : Space → Nat
  | .hbm => 16
  | .vmem => 41
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x4096, .f32⟩
  | .hbm, ⟨3, _⟩ => ⟨S2048x8192, .bf16⟩
  | .hbm, ⟨4, _⟩ => ⟨S8192x2048, .bf16⟩
  | .hbm, ⟨5, _⟩ => ⟨S4096x2048, .bf16⟩
  | .hbm, ⟨6, _⟩ => ⟨S2048x8192, .f32⟩
  | .hbm, ⟨7, _⟩ => ⟨S2048x2048, .f32⟩
  | .hbm, ⟨8, _⟩ => ⟨S2048x2048, .f32⟩
  | .hbm, ⟨9, _⟩ => ⟨S2048x8192, .f32⟩
  | .hbm, ⟨10, _⟩ => ⟨S2048x8192, .bf16⟩
  | .hbm, ⟨11, _⟩ => ⟨S2048x8192, .f32⟩
  | .hbm, ⟨12, _⟩ => ⟨S8192x2048, .bf16⟩
  | .hbm, ⟨13, _⟩ => ⟨S2048x2048, .f32⟩
  | .hbm, ⟨14, _⟩ => ⟨S2048x4096, .f32⟩
  | .hbm, ⟨15, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x2048, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .vmem, ⟨14, _⟩ => ⟨S1024x2048, .bf16⟩
  | .local _ .vmem, ⟨15, _⟩ => ⟨S1024x1024, .f32⟩
  | .local _ .vmem, ⟨16, _⟩ => ⟨S1024x1024, .f32⟩
  | .local _ .vmem, ⟨17, _⟩ => ⟨S2048x2048, .f32⟩
  | .local _ .vmem, ⟨18, _⟩ => ⟨S2048x2048, .f32⟩
  | .local _ .vmem, ⟨19, _⟩ => ⟨S2048x128, .f32⟩
  | .local _ .vmem, ⟨20, _⟩ => ⟨S2048x128, .f32⟩
  | .local _ .vmem, ⟨21, _⟩ => ⟨S2048x128, .bf16⟩
  | .local _ .vmem, ⟨22, _⟩ => ⟨S2048x128, .bf16⟩
  | .local _ .vmem, ⟨23, _⟩ => ⟨S1024x4096, .f32⟩
  | .local _ .vmem, ⟨24, _⟩ => ⟨S1024x4096, .f32⟩
  | .local _ .vmem, ⟨25, _⟩ => ⟨S4096x128, .bf16⟩
  | .local _ .vmem, ⟨26, _⟩ => ⟨S4096x128, .bf16⟩
  | .local _ .vmem, ⟨27, _⟩ => ⟨S1024x128, .f32⟩
  | .local _ .vmem, ⟨28, _⟩ => ⟨S1024x128, .f32⟩
  | .local _ .vmem, ⟨29, _⟩ => ⟨S1024x2048, .f32⟩
  | .local _ .vmem, ⟨30, _⟩ => ⟨S1024x2048, .f32⟩
  | .local _ .vmem, ⟨31, _⟩ => ⟨S1024x2048, .bf16⟩
  | .local _ .vmem, ⟨32, _⟩ => ⟨S1024x2048, .bf16⟩
  | .local _ .vmem, ⟨33, _⟩ => ⟨S1024x1024, .f32⟩
  | .local _ .vmem, ⟨34, _⟩ => ⟨S1024x1024, .f32⟩
  | .local _ .vmem, ⟨35, _⟩ => ⟨S2048x2048, .f32⟩
  | .local _ .vmem, ⟨36, _⟩ => ⟨S2048x2048, .f32⟩
  | .local _ .vmem, ⟨37, _⟩ => ⟨S2048x128, .f32⟩
  | .local _ .vmem, ⟨38, _⟩ => ⟨S2048x128, .f32⟩
  | .local _ .vmem, ⟨39, _⟩ => ⟨S2048x128, .bf16⟩
  | .local _ .vmem, ⟨40, _⟩ => ⟨S2048x128, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 64, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 16, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 16, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 16, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S2048x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference8Ideal.lean ====
abbrev S2048x2048 : Shape := ⟨2, ![2048, 2048]⟩
abbrev S2048x8192 : Shape := ⟨2, ![2048, 8192]⟩
abbrev S2048x4096 : Shape := ⟨2, ![2048, 4096]⟩
abbrev S8192x2048 : Shape := ⟨2, ![8192, 2048]⟩
abbrev S4096x2048 : Shape := ⟨2, ![4096, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x4096, .f32⟩
  | .hbm, ⟨3, _⟩ => ⟨S2048x8192, .bf16⟩
  | .hbm, ⟨4, _⟩ => ⟨S8192x2048, .bf16⟩
  | .hbm, ⟨5, _⟩ => ⟨S4096x2048, .bf16⟩
  | .hbm, ⟨6, _⟩ => ⟨S2048x8192, .f32⟩
  | .hbm, ⟨7, _⟩ => ⟨S2048x2048, .f32⟩
  | .hbm, ⟨8, _⟩ => ⟨S2048x2048, .f32⟩
  | .hbm, ⟨9, _⟩ => ⟨S2048x8192, .f32⟩
  | .hbm, ⟨10, _⟩ => ⟨S2048x8192, .f32⟩
  | .hbm, ⟨11, _⟩ => ⟨S8192x2048, .f32⟩
  | .hbm, ⟨12, _⟩ => ⟨S2048x2048, .f32⟩
  | .hbm, ⟨13, _⟩ => ⟨S4096x2048, .f32⟩
  | .hbm, ⟨14, _⟩ => ⟨S2048x2048, .f32⟩
  | .hbm, ⟨15, _⟩ => ⟨S8192x2048, .f32⟩
  | .hbm, ⟨16, _⟩ => ⟨S2048x8192, .f32⟩
  | .hbm, ⟨17, _⟩ => ⟨S2048x8192, .bf16⟩
  | .hbm, ⟨18, _⟩ => ⟨S2048x8192, .f32⟩
  | .hbm, ⟨19, _⟩ => ⟨S8192x2048, .f32⟩
  | .hbm, ⟨20, _⟩ => ⟨S2048x8192, .f32⟩
  | .hbm, ⟨21, _⟩ => ⟨S8192x2048, .bf16⟩
  | .hbm, ⟨22, _⟩ => ⟨S2048x4096, .f32⟩
  | .hbm, ⟨23, _⟩ => ⟨S4096x2048, .f32⟩
  | .hbm, ⟨24, _⟩ => ⟨S2048x4096, .f32⟩
  | .hbm, ⟨25, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel9.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S8192x2048, .f32⟩
  | .hbm, ⟨3, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2304x2048 : Shape := ⟨2, ![2304, 2048]⟩
abbrev S2048x2048 : Shape := ⟨2, ![2048, 2048]⟩
abbrev S1152x2048 : Shape := ⟨2, ![1152, 2048]⟩
abbrev S2048x1024 : Shape := ⟨2, ![2048, 1024]⟩
abbrev S1152x1024 : Shape := ⟨2, ![1152, 1024]⟩
abbrev S1024x2048 : Shape := ⟨2, ![1024, 2048]⟩
abbrev S2304x1024 : Shape := ⟨2, ![2304, 1024]⟩
abbrev S2304x512 : Shape := ⟨2, ![2304, 512]⟩
abbrev S1024x512 : Shape := ⟨2, ![1024, 512]⟩

abbrev nBuf : Space → Nat
  | .hbm => 6
  | .vmem => 18
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2304x2048, .f32⟩
  | .hbm, ⟨3, _⟩ => ⟨S2304x2048, .f32⟩
  | .hbm, ⟨4, _⟩ => ⟨S2304x2048, .f32⟩
  | .hbm, ⟨5, _⟩ => ⟨S2048x2048, .bf16⟩
  | .local _ .vmem, ⟨0, _⟩ => ⟨S1152x2048, .f32⟩
  | .local _ .vmem, ⟨1, _⟩ => ⟨S1152x2048, .f32⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x2048, .f32⟩
  | .local _ .vmem, ⟨7, _⟩ => ⟨S1152x2048, .f32⟩
  | .local _ .vmem, ⟨8, _⟩ => ⟨S1024x2048, .bf16⟩
  | .local _ .vmem, ⟨9, _⟩ => ⟨S1024x2048, .bf16⟩
  | .local _ .vmem, ⟨10, _⟩ => ⟨S1152x1024, .f32⟩
  | .local _ .vmem, ⟨11, _⟩ => ⟨S1152x1024, .f32⟩
  | .local _ .vmem, ⟨12, _⟩ => ⟨S2304x1024, .f32⟩
  | .local _ .vmem, ⟨13, _⟩ => ⟨S2304x1024, .f32⟩
  | .local _ .vmem, ⟨14, _⟩ => ⟨S2304x512, .f32⟩
  | .local _ .vmem, ⟨15, _⟩ => ⟨S2304x512, .f32⟩
  | .local _ .vmem, ⟨16, _⟩ => ⟨S1024x512, .bf16⟩
  | .local _ .vmem, ⟨17, _⟩ => ⟨S1024x512, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1152x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1152x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2304x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2304x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference11Ideal.lean ====
abbrev S2304x2048 : Shape := ⟨2, ![2304, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | .hbm, ⟨5, _⟩ => ⟨S2048x2048, .f32⟩
  | .hbm, ⟨6, _⟩ => ⟨S2048x2048, .f32⟩
  | .hbm, ⟨7, _⟩ => ⟨S2304x2048, .f32⟩
  | .hbm, ⟨8, _⟩ => ⟨S2048x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.R0Kit.lean ====
/- Region 0: its input blocks, its branch condition in closed form, its staging memrefs. -/
module

public import proofs.«01_k».proof.Proof.Gen.KernelIdeal.Regions
public import proofs.«01_k».proof.Proof.Gen.KernelIdeal.Points
public import proofs.«01_k».proof.Proof.Gen.KernelIdeal.Skeleton
public import proofs.«01_k».proof.Proof.Gen.KernelIdeal
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
/-- Core `c`'s buffers when the region is entered. -/
abbrev V (c : Dev nD) (b : Ref sig .tc) : Buf (Elt F) ((c : Thread nD τ).loc b) := m c (Proc.devRef .tc b)

/-- What the region's body never touches: the other regions' staging and scratch buffers, and the generator register. -/
def Rst (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 36 = 0 :=
  (fun t => by
    have ht : t.val < 72 := Nat.lt_of_lt_of_eq t.isLt N_0
    have e0 : (grid0.coords t 0).val = t.val / 36 % 2 := Pipeline.Grid.coords_val t 0 (by decide) rfl
    have e1 : (grid0.coords t 1).val = t.val / 1 % 36 := Pipeline.Grid.coords_val t 1 (by decide) rfl
    simp only [cond0_0, e0, e1]
    word_cmp
   : ∀ t : Fin grid0.N, cond0_0 (grid0.coords t) ↔ t.val % 36 = 0)

/-! ## The kernel body on any staging memrefs: a subtype the run finds -/

abbrev VO0_5 : View sig .tc .vmem S64x2048 .f32 := (Memref.whole cc0_stg5_0 : Memref sig .tc .vmem S64x2048 .f32).view
abbrev VO0_6 : View sig .tc .vmem S1x1x4x256x512 .f32 := (Memref.whole cc0_stg6_0 : Memref sig .tc .vmem S1x1x4x256x512 .f32).view
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x4x256x512 .f32 := win0_6.stage (cfg0.slots t 6)
abbrev hs0_6 (t : Fin cfg0.N) : (ms0_6 t).IsWhole := hstage0_6 ((cfg0.slots t 6).cast nbuf0_6)
abbrev scM0_0 : Memref sig .tc .vmem S4x256x512 .f32 := Memref.whole cc0_scratch0
abbrev VS0_0 : View sig .tc .vmem S4x256x512 .f32 := scM0_0.view

/-- The region's entry invariant: the carried scratch at some contents beside the untouched rest. -/
theorem PhiA0_eq (c : Dev nD) :
    (Pipeline.ΦA spec0 c : sProp 𝕄)
      = iprop(iprop((∃ d, owns (c : Thread nD τ) scM0_0 fullShare d)) ∗ Rst c) := by
  unfold Pipeline.ΦA Rst
  rw [Pipeline.scopedRest_split_of_list spec0 c [cc0_scratch0] (by decide) (by decide)]
  simp only [scM0_0, owns_whole]
  exact equiv_iff.mp ⟨BI.sep_assoc, BI.sep_assoc'⟩

end Cert.KernelIdeal.R0

end
-- ==== Proof.R0A.lean ====
/- Region 0: the body's run at the first point of a run (the carried state is reset). -/
module

public import proofs.«01_k».proof.Proof.R0Kit

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
set_option maxHeartbeats 1000000 in
noncomputable def kernelRun0_A (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) :
    Σ' (L5 : List (View.Piece (Elt F) S64x2048 .f32)), Σ' (L6 : List (View.Piece (Elt F) S1x1x4x256x512 .f32)), { LS0 : List (View.Piece (Elt F) S4x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_sd256x1x512_fwd_fore_2304 i arg2 harg2 arg3 harg3 arg4 harg4 arg5 harg5 arg6 harg6 arg7 harg7 arg8 harg8 arg9 harg9) K } := by
  refine ⟨?_, ?_, ?_, fun E K => ?run⟩
  case run =>
    simp only [cc0_sd256x1x512_fwd_fore_2304_eq_skeleton]; unfold cc0_sd256x1x512_fwd_fore_2304_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.R0

end
-- ==== Proof.R0B.lean ====
/- Region 0: the body's run at a later point (over the carried state). -/
module

public import proofs.«01_k».proof.Proof.R0A

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
set_option maxHeartbeats 1000000 in
noncomputable def kernelRun0_B (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) :
    Σ' (L5 : List (View.Piece (Elt F) S64x2048 .f32)), Σ' (L6 : List (View.Piece (Elt F) S1x1x4x256x512 .f32)), { LS0 : List (View.Piece (Elt F) S4x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_sd256x1x512_fwd_fore_2304 i arg2 harg2 arg3 harg3 arg4 harg4 arg5 harg5 arg6 harg6 arg7 harg7 arg8 harg8 arg9 harg9) K } := by
  refine ⟨?_, ?_, ?_, fun E K => ?run⟩
  case run =>
    simp only [cc0_sd256x1x512_fwd_fore_2304_eq_skeleton]; unfold cc0_sd256x1x512_fwd_fore_2304_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.R0

end
-- ==== Proof.R0Outs.lean ====
/- Region 0: what the body leaves in each output and in the carried scratch. -/
module

public import proofs.«01_k».proof.Proof.R0B

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
theorem cover0_A_5 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) (y : S64x2048.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S64x2048.size (by sl_kernel_rfl) y

def out0_A_5 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) : Vec F S64x2048 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

theorem cover0_A_6 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) (y : S1x1x4x256x512.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S1x1x4x256x512.size (by sl_kernel_rfl) y

def out0_A_6 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) : Vec F S1x1x4x256x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

theorem scover0_A_0 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) (y : S4x256x512.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S4x256x512.size (by sl_kernel_rfl) y

def sout0_A_0 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : cond0_0 i)
    (x0 : Vec F S64x1024 .f32) (x1 : Vec F S64x1024 .f32) (x2 : Vec F S64x2048 .f32) (x3 : Vec F S4x64x64 .f32) (x4 : Vec F S64x2048 .f32) : Vec F S4x256x512 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.2.1)

theorem cover0_B_5 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) (y : S64x2048.Idx) :
    ∃ pc ∈ (kernelRun0_B c i arg2 harg2 arg3 harg3 arg4 harg4 arg5 harg5 arg6 harg6 arg7 harg7 arg8 harg8 arg9 harg9 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).1 S64x2048.size (by sl_kernel_rfl) y

def out0_B_5 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) : Vec F S64x2048 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xs0).1)

theorem cover0_B_6 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) (y : S1x1x4x256x512.Idx) :
    ∃ pc ∈ (kernelRun0_B c i arg2 harg2 arg3 harg3 arg4 harg4 arg5 harg5 arg6 harg6 arg7 harg7 arg8 harg8 arg9 harg9 hc0 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).2.1 S1x1x4x256x512.size (by sl_kernel_rfl) y

def out0_B_6 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) : Vec F S1x1x4x256x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 xs0).2.1)

theorem scover0_B_0 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) (y : S4x256x512.Idx) :
    ∃ pc ∈ (kernelRun0_B c i arg2 harg2 arg3 harg3 arg4 harg4 arg5 harg5 arg6 harg6 arg7 harg7 arg8 harg8 arg9 harg9 hc0 x0 x1 x2 x3 x4 xs0).2.2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).2.2.1 S4x256x512.size (by sl_kernel_rfl) y

def sout0_B_0 (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S1x1x4x256x512 .f32) (harg8 : arg8.IsWhole) (arg9 : Memref sig .tc .vmem S4x256x512 .f32) (harg9 : arg9.IsWhole) (hc0 : ¬cond0_0 i)
    (x0 : Vec F S64x1024 .f32) (x1 : Vec F S64x1024 .f32) (x2 : Vec F S64x2048 .f32) (x3 : Vec F S4x64x64 .f32) (x4 : Vec F S64x2048 .f32) (xs0 : Vec F S4x256x512 .f32) : Vec F S4x256x512 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 xs0).2.2.1)

/-! ## What the outputs hold after each point -/

def outsAt0 (c : Dev nD) : (n : ℕ) → n < cfg0.N → Vec F S64x2048 .f32 × Vec F S1x1x4x256x512 .f32 × Vec F S4x256x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 36 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

theorem outsAt0_A (c : Dev nD) (t : Fin cfg0.N) (h0 : t.val % 36 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg0.N) (h0 : ¬t.val % 36 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

end Cert.KernelIdeal.R0

end
-- ==== Proof.R0Dat.lean ====
/- Region 0: the pipeline's proof data and the body obligation. -/
module

public import proofs.«01_k».proof.Proof.R0Outs
public import Idealize.ShloMosaic.Lib.Claim

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ Rst c)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ Rst c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ Rst c) := by
  cases n with
  | zero => exact absurd rfl hz
  | succ n => rfl

/-! ## The pipeline's proof data -/

def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dat m c).A w = V m c (Pipeline.arrRef spec0 w) := by
  dsimp only [dat]

theorem PhiS_castSucc (c : Dev nD) (t : Fin cfg0.N) :
    (dat m c).Φ t.castSucc = PhiS m c t.val (Nat.le_of_lt t.isLt) := by
  dsimp only [dat]; exact Pipeline.Dat.Φ_castSucc (PhiS m c) t

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem after0_5 (c : Dev nD) (t : Fin cfg0.N) : (dat m c).after 5 t = (outsAt0 m c t.val t.isLt).1 := by dsimp only [dat]
theorem after0_6 (c : Dev nD) (t : Fin cfg0.N) : (dat m c).after 6 t = (outsAt0 m c t.val t.isLt).2.1 := by dsimp only [dat]

theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_4 (c : Dev nD) (t : Fin cfg0.N) (d) : (dat m c).before 4 t d = iblk m c 4 t :=
  before0_4_of m (dat m c) (A_eq m c 4) (after0_4 m c) t d

/-! ## The body obligation, at a generic point -/

def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d)))

def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dat m c).owesAt () t.succ = (dat m c).owesAt () t.castSucc from rfl,
    after0_0, after0_1, after0_2, after0_3, after0_4, after0_5, after0_6]
  rw [show (dat m c).Φ t.succ = PhiS m c (t.val + 1) t.isLt from rfl, PhiS_succ]
  have hN : t.val < 72 := lt_of_lt_of_eq t.isLt (show cfg0.N = 72 from N_0)
  by_cases h0 : t.val % 36 = 0
  · by_cases hz : t.val = 0
    · rw [PhiS_castSucc m c t, PhiS_zero m c _ _ hz, PhiA0_eq]
      rw [outsAt0_A m c t h0]
      unfold out0_A_5 out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
    · rw [PhiS_castSucc m c t, PhiS_pos m c _ _ hz]
      rw [outsAt0_A m c t h0]
      unfold out0_A_5 out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
  · by_cases hz : t.val = 0
    · exfalso; have hN : t.val < 72 := lt_of_lt_of_eq t.isLt (show cfg0.N = 72 from N_0); omega
    · rw [PhiS_castSucc m c t, PhiS_pos m c _ _ hz]
      rw [outsAt0_B m c t h0]
      unfold out0_B_5 out0_B_6 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dat m c).Φ t ⊢ Pipeline.ΦA spec0 c := by
  rw [show (dat m c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dat m c).Φ (Fin.last cfg0.N) ⊢ Pipeline.ΦA spec0 c :=
  Phi_out m c _ (by rw [Fin.val_last]; have : cfg0.N = 72 := N_0; omega)

end Cert.KernelIdeal.R0

end
-- ==== Proof.R1Kit.lean ====
/- Region 1: its input blocks, its branch condition in closed form, its staging memrefs. -/
module

public import proofs.«01_k».proof.Proof.Gen.KernelIdeal.Regions
public import proofs.«01_k».proof.Proof.Gen.KernelIdeal.Points
public import proofs.«01_k».proof.Proof.Gen.KernelIdeal.Skeleton
public import proofs.«01_k».proof.Proof.Gen.KernelIdeal
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
/-- Core `c`'s buffers when the region is entered. -/
abbrev V (c : Dev nD) (b : Ref sig .tc) : Buf (Elt F) ((c : Thread nD τ).loc b) := m c (Proc.devRef .tc b)

/-- What the region's body never touches: the other regions' staging and scratch buffers, and the generator register. -/
def Rst (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid1.Coords) : Prop := (Scalar.cmpi .ne (Scalar.extui (Scalar.cmpi .eq (BitVec.ofNat 32 (i 1).val) 0#32)) 0#32) = 1#1
theorem hcond0_0 : ∀ t : Fin cfg1.N, cond0_0 (grid1.coords t) ↔ t.val % 36 = 0 :=
  (fun t => by
    have ht : t.val < 72 := Nat.lt_of_lt_of_eq t.isLt N_1
    have e0 : (grid1.coords t 0).val = t.val / 36 % 2 := Pipeline.Grid.coords_val t 0 (by decide) rfl
    have e1 : (grid1.coords t 1).val = t.val / 1 % 36 := Pipeline.Grid.coords_val t 1 (by decide) rfl
    simp only [cond0_0, e0, e1]
    word_cmp
   : ∀ t : Fin grid1.N, cond0_0 (grid1.coords t) ↔ t.val % 36 = 0)

/-! ## The kernel body on any staging memrefs: a subtype the run finds -/

abbrev VO0_7 : View sig .tc .vmem S64x1024 .f32 := (Memref.whole cc1_stg7_0 : Memref sig .tc .vmem S64x1024 .f32).view
abbrev VO0_8 : View sig .tc .vmem S64x1024 .f32 := (Memref.whole cc1_stg8_0 : Memref sig .tc .vmem S64x1024 .f32).view
abbrev VO0_9 : View sig .tc .vmem S64x2048 .f32 := (Memref.whole cc1_stg9_0 : Memref sig .tc .vmem S64x2048 .f32).view
abbrev VO0_10 : View sig .tc .vmem S4x64x64 .f32 := (Memref.whole cc1_stg10_0 : Memref sig .tc .vmem S4x64x64 .f32).view
abbrev VO0_11 : View sig .tc .vmem S64x2048 .f32 := (Memref.whole cc1_stg11_0 : Memref sig .tc .vmem S64x2048 .f32).view
abbrev ms0_0 (t : Fin cfg1.N) : Memref sig .tc .vmem S64x1024 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S64x1024 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S64x2048 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S4x64x64 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S64x2048 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x1x4x256x512 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S64x2048 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S64x1024 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S64x1024 .f32 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S64x2048 .f32 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S4x64x64 .f32 := win1_10.stage (cfg1.slots t 10)
abbrev hs0_10 (t : Fin cfg1.N) : (ms0_10 t).IsWhole := hstage1_10 ((cfg1.slots t 10).cast nbuf1_10)
abbrev ms0_11 (t : Fin cfg1.N) : Memref sig .tc .vmem S64x2048 .f32 := win1_11.stage (cfg1.slots t 11)
abbrev hs0_11 (t : Fin cfg1.N) : (ms0_11 t).IsWhole := hstage1_11 ((cfg1.slots t 11).cast nbuf1_11)
abbrev scM0_0 : Memref sig .tc .vmem S4x256x512 .f32 := Memref.whole cc1_scratch0
abbrev VS0_0 : View sig .tc .vmem S4x256x512 .f32 := scM0_0.view

/-- The region's entry invariant: the carried scratch at some contents beside the untouched rest. -/
theorem PhiA0_eq (c : Dev nD) :
    (Pipeline.ΦA spec1 c : sProp 𝕄)
      = iprop(iprop((∃ d, owns (c : Thread nD τ) scM0_0 fullShare d)) ∗ Rst c) := by
  unfold Pipeline.ΦA Rst
  rw [Pipeline.scopedRest_split_of_list spec1 c [cc1_scratch0] (by decide) (by decide)]
  simp only [scM0_0, owns_whole]
  exact equiv_iff.mp ⟨BI.sep_assoc, BI.sep_assoc'⟩

end Cert.KernelIdeal.R1

end
-- ==== Proof.R1A.lean ====
/- Region 1: the body's run at the first point of a run (the carried state is reset). -/
module

public import proofs.«01_k».proof.Proof.R1Kit

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
set_option maxHeartbeats 1000000 in
noncomputable def kernelRun0_A (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) :
    Σ' (L7 : List (View.Piece (Elt F) S64x1024 .f32)), Σ' (L8 : List (View.Piece (Elt F) S64x1024 .f32)), Σ' (L9 : List (View.Piece (Elt F) S64x2048 .f32)), Σ' (L10 : List (View.Piece (Elt F) S4x64x64 .f32)), Σ' (L11 : List (View.Piece (Elt F) S64x2048 .f32)), { LS0 : List (View.Piece (Elt F) S4x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc1_sd256x1x512_bwd_fore_2304 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc1_sd256x1x512_bwd_fore_2304_eq_skeleton]; unfold cc1_sd256x1x512_bwd_fore_2304_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact HS0

end Cert.KernelIdeal.R1

end
-- ==== Proof.R1B.lean ====
/- Region 1: the body's run at a later point (over the carried state). -/
module

public import proofs.«01_k».proof.Proof.R1A

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
set_option maxHeartbeats 1000000 in
noncomputable def kernelRun0_B (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) :
    Σ' (L7 : List (View.Piece (Elt F) S64x1024 .f32)), Σ' (L8 : List (View.Piece (Elt F) S64x1024 .f32)), Σ' (L9 : List (View.Piece (Elt F) S64x2048 .f32)), Σ' (L10 : List (View.Piece (Elt F) S4x64x64 .f32)), Σ' (L11 : List (View.Piece (Elt F) S64x2048 .f32)), { LS0 : List (View.Piece (Elt F) S4x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc1_sd256x1x512_bwd_fore_2304 i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc1_sd256x1x512_bwd_fore_2304_eq_skeleton]; unfold cc1_sd256x1x512_bwd_fore_2304_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact HS0

end Cert.KernelIdeal.R1

end
-- ==== Proof.R1Outs.lean ====
/- Region 1: what the body leaves in each output and in the carried scratch. -/
module

public import proofs.«01_k».proof.Proof.R1B

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
theorem cover0_A_7 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (y : S64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1 S64x1024.size (by sl_kernel_rfl) y

def out0_A_7 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S64x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1)

theorem cover0_A_8 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (y : S64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1 S64x1024.size (by sl_kernel_rfl) y

def out0_A_8 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S64x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1)

theorem cover0_A_9 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (y : S64x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1 S64x2048.size (by sl_kernel_rfl) y

def out0_A_9 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S64x2048 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1)

theorem cover0_A_10 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (y : S4x64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1 S4x64x64.size (by sl_kernel_rfl) y

def out0_A_10 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S4x64x64 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.1)

theorem cover0_A_11 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (y : S64x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1 S64x2048.size (by sl_kernel_rfl) y

def out0_A_11 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S64x2048 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.1)

theorem scover0_A_0 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (y : S4x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.2.1 S4x256x512.size (by sl_kernel_rfl) y

def sout0_A_0 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S4x256x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.2.2.2.1)

theorem cover0_B_7 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) (y : S64x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).1 S64x1024.size (by sl_kernel_rfl) y

def out0_B_7 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) : Vec F S64x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).1)

theorem cover0_B_8 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) (y : S64x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.1 S64x1024.size (by sl_kernel_rfl) y

def out0_B_8 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) : Vec F S64x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.1)

theorem cover0_B_9 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) (y : S64x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.1 S64x2048.size (by sl_kernel_rfl) y

def out0_B_9 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) : Vec F S64x2048 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.1)

theorem cover0_B_10 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) (y : S4x64x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.1 S4x64x64.size (by sl_kernel_rfl) y

def out0_B_10 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) : Vec F S4x64x64 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.1)

theorem cover0_B_11 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) (y : S64x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1 S64x2048.size (by sl_kernel_rfl) y

def out0_B_11 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) : Vec F S64x2048 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.1)

theorem scover0_B_0 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) (y : S4x256x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.2.1 S4x256x512.size (by sl_kernel_rfl) y

def sout0_B_0 (c : Dev nD) (i : grid1.Coords) (arg2 : Memref sig .tc .vmem S64x1024 .f32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S4x64x64 .f32) (harg5 : arg5.IsWhole) (arg6 : Memref sig .tc .vmem S64x2048 .f32) (harg6 : arg6.IsWhole) (arg7 : Memref sig .tc .vmem S1x1x4x256x512 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x2048 .f32) (harg11 : arg11.IsWhole) (arg12 : Memref sig .tc .vmem S4x64x64 .f32) (harg12 : arg12.IsWhole) (arg13 : Memref sig .tc .vmem S64x2048 .f32) (harg13 : arg13.IsWhole) (arg14 : Memref sig .tc .vmem S4x256x512 .f32) (harg14 : arg14.IsWhole) (hc0 : ¬cond0_0 i)
    (x0 : Vec F S64x1024 .f32) (x1 : Vec F S64x1024 .f32) (x2 : Vec F S64x2048 .f32) (x3 : Vec F S4x64x64 .f32) (x4 : Vec F S64x2048 .f32) (x5 : Vec F S1x1x4x256x512 .f32) (x6 : Vec F S64x2048 .f32) (xs0 : Vec F S4x256x512 .f32) : Vec F S4x256x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0).2.2.2.2.2.1)

/-! ## What the outputs hold after each point -/

def outsAt0 (c : Dev nD) : (n : ℕ) → n < cfg1.N → Vec F S64x1024 .f32 × Vec F S64x1024 .f32 × Vec F S64x2048 .f32 × Vec F S4x64x64 .f32 × Vec F S64x2048 .f32 × Vec F S4x256x512 .f32
  | 0, hn => (out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_11 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 36 = 0 then
      (out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2)

theorem outsAt0_A (c : Dev nD) (t : Fin cfg1.N) (h0 : t.val % 36 = 0) :
    outsAt0 m c t.val t.isLt = (out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t), out0_A_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt0_B (c : Dev nD) (t : Fin cfg1.N) (h0 : ¬t.val % 36 = 0) :
    outsAt0 m c t.val t.isLt = (out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

end Cert.KernelIdeal.R1

end
-- ==== Proof.R1Dat.lean ====
/- Region 1: the pipeline's proof data and the body obligation. -/
module

public import proofs.«01_k».proof.Proof.R1Outs
public import Idealize.ShloMosaic.Lib.Claim

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : Dev nD → Valuation τ sig (Elt F))
def PhiS (c : Dev nD) : (n : ℕ) → n ≤ cfg1.N → sProp 𝕄
  | 0, _ => Pipeline.ΦA spec1 c
  | n + 1, hn => iprop(iprop(owns (c : Thread nD τ) scM0_0 fullShare ((outsAt0 m c n hn).2.2.2.2.2)) ∗ Rst c)

theorem PhiS_zero (c : Dev nD) (n : ℕ) (h : n ≤ cfg1.N) (hz : n = 0) : PhiS m c n h = Pipeline.ΦA spec1 c := by
  subst hz; rfl

theorem PhiS_succ (c : Dev nD) (n : ℕ) (hn : n < cfg1.N) :
    PhiS m c (n + 1) hn = iprop(iprop(owns (c : Thread nD τ) scM0_0 fullShare ((outsAt0 m c n hn).2.2.2.2.2)) ∗ Rst c) := rfl

theorem PhiS_pos (c : Dev nD) (n : ℕ) (h : n ≤ cfg1.N) (hz : n ≠ 0) :
    PhiS m c n h = iprop(iprop(owns (c : Thread nD τ) scM0_0 fullShare ((outsAt0 m c (n - 1) (by omega)).2.2.2.2.2)) ∗ Rst c) := by
  cases n with
  | zero => exact absurd rfl hz
  | succ n => rfl

/-! ## The pipeline's proof data -/

def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
  Φ t := PhiS m c t.val (Nat.le_of_lt_succ t.isLt)
  q _ := fullShare
  owed _ := 0

theorem A_eq (c : Dev nD) (w : Fin cfg1.W) : (dat m c).A w = V m c (Pipeline.arrRef spec1 w) := by
  dsimp only [dat]

theorem PhiS_castSucc (c : Dev nD) (t : Fin cfg1.N) :
    (dat m c).Φ t.castSucc = PhiS m c t.val (Nat.le_of_lt t.isLt) := by
  dsimp only [dat]; exact Pipeline.Dat.Φ_castSucc (PhiS m c) t

theorem after0_0 (c : Dev nD) (t : Fin cfg1.N) : (dat m c).after 0 t = iblk m c 0 t := by dsimp only [dat]
theorem after0_1 (c : Dev nD) (t : Fin cfg1.N) : (dat m c).after 1 t = iblk m c 1 t := by dsimp only [dat]
theorem after0_2 (c : Dev nD) (t : Fin cfg1.N) : (dat m c).after 2 t = iblk m c 2 t := by dsimp only [dat]
theorem after0_3 (c : Dev nD) (t : Fin cfg1.N) : (dat m c).after 3 t = iblk m c 3 t := by dsimp only [dat]
theorem after0_4 (c : Dev nD) (t : Fin cfg1.N) : (dat m c).after 4 t = iblk m c 4 t := by dsimp only [dat]
theorem after0_5 (c : Dev nD) (t : Fin cfg1.N) : (dat m c).after 5 t = iblk m c 5 t := by dsimp only [dat]
theorem after0_6 (c : Dev nD) (t : Fin cfg1.N) : (dat m c).after 6 t = iblk m c 6 t := by dsimp only [dat]
theorem after0_7 (c : Dev nD) (t : Fin cfg1.N) : (dat m c).after 7 t = (outsAt0 m c t.val t.isLt).1 := by dsimp only [dat]
theorem after0_8 (c : Dev nD) (t : Fin cfg1.N) : (dat m c).after 8 t = (outsAt0 m c t.val t.isLt).2.1 := by dsimp only [dat]
theorem after0_9 (c : Dev nD) (t : Fin cfg1.N) : (dat m c).after 9 t = (outsAt0 m c t.val t.isLt).2.2.1 := by dsimp only [dat]
theorem after0_10 (c : Dev nD) (t : Fin cfg1.N) : (dat m c).after 10 t = (outsAt0 m c t.val t.isLt).2.2.2.1 := by dsimp only [dat]
theorem after0_11 (c : Dev nD) (t : Fin cfg1.N) : (dat m c).after 11 t = (outsAt0 m c t.val t.isLt).2.2.2.2.1 := by dsimp only [dat]

theorem before0_0 (c : Dev nD) (t : Fin cfg1.N) (d) : (dat m c).before 0 t d = iblk m c 0 t :=
  before0_0_of m (dat m c) (A_eq m c 0) (after0_0 m c) t d
theorem before0_1 (c : Dev nD) (t : Fin cfg1.N) (d) : (dat m c).before 1 t d = iblk m c 1 t :=
  before0_1_of m (dat m c) (A_eq m c 1) (after0_1 m c) t d
theorem before0_2 (c : Dev nD) (t : Fin cfg1.N) (d) : (dat m c).before 2 t d = iblk m c 2 t :=
  before0_2_of m (dat m c) (A_eq m c 2) (after0_2 m c) t d
theorem before0_3 (c : Dev nD) (t : Fin cfg1.N) (d) : (dat m c).before 3 t d = iblk m c 3 t :=
  before0_3_of m (dat m c) (A_eq m c 3) (after0_3 m c) t d
theorem before0_4 (c : Dev nD) (t : Fin cfg1.N) (d) : (dat m c).before 4 t d = iblk m c 4 t :=
  before0_4_of m (dat m c) (A_eq m c 4) (after0_4 m c) t d
theorem before0_5 (c : Dev nD) (t : Fin cfg1.N) (d) : (dat m c).before 5 t d = iblk m c 5 t :=
  before0_5_of m (dat m c) (A_eq m c 5) (after0_5 m c) t d
theorem before0_6 (c : Dev nD) (t : Fin cfg1.N) (d) : (dat m c).before 6 t d = iblk m c 6 t :=
  before0_6_of m (dat m c) (A_eq m c 6) (after0_6 m c) t d

/-! ## The body obligation, at a generic point -/

def bodyPre (c : Dev nD) (t : Fin cfg1.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d))
    ∗ (∃ d, owns (c : Thread nD τ) (ms0_10 t) fullShare ((dat m c).before 10 t d))
    ∗ (∃ d, owns (c : Thread nD τ) (ms0_11 t) fullShare ((dat m c).before 11 t d)))

def bodyPost (c : Dev nD) (t : Fin cfg1.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t)
    ∗ owns (c : Thread nD τ) (ms0_10 t) fullShare ((dat m c).after 10 t)
    ∗ owns (c : Thread nD τ) (ms0_11 t) fullShare ((dat m c).after 11 t))

set_option maxHeartbeats 9600000 in
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4, before0_5, before0_6]
  rw [show (dat m c).owesAt () t.succ = (dat m c).owesAt () t.castSucc from rfl,
    after0_0, after0_1, after0_2, after0_3, after0_4, after0_5, after0_6, after0_7, after0_8, after0_9, after0_10, after0_11]
  rw [show (dat m c).Φ t.succ = PhiS m c (t.val + 1) t.isLt from rfl, PhiS_succ]
  have hN : t.val < 72 := lt_of_lt_of_eq t.isLt (show cfg1.N = 72 from N_1)
  by_cases h0 : t.val % 36 = 0
  · by_cases hz : t.val = 0
    · rw [PhiS_castSucc m c t, PhiS_zero m c _ _ hz, PhiA0_eq]
      rw [outsAt0_A m c t h0]
      unfold out0_A_7 out0_A_8 out0_A_9 out0_A_10 out0_A_11 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid1.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, ⟨%e7, H7⟩, ⟨%e8, H8⟩, ⟨%e9, H9⟩, ⟨%e10, H10⟩, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_7 out0_A_8 out0_A_9 out0_A_10 out0_A_11 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid1.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexists _; iexact HS0
      iintro ⟨H0, H1, H2, H3, H4, H5, H6, ⟨%e7, H7⟩, ⟨%e8, H8⟩, ⟨%e9, H9⟩, ⟨%e10, H10⟩, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _)
  · by_cases hz : t.val = 0
    · exfalso; have hN : t.val < 72 := lt_of_lt_of_eq t.isLt (show cfg1.N = 72 from N_1); omega
    · rw [PhiS_castSucc m c t, PhiS_pos m c _ _ hz]
      rw [outsAt0_B m c t h0]
      unfold out0_B_7 out0_B_8 out0_B_9 out0_B_10 out0_B_11 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid1.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, ⟨%e7, H7⟩, ⟨%e8, H8⟩, ⟨%e9, H9⟩, ⟨%e10, H10⟩, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

theorem hin (c : Dev nD) : Pipeline.ΦA spec1 c ⊢ (dat m c).Φ 0 := by
  rw [show (dat m c).Φ 0 = PhiS m c 0 (Nat.zero_le _) from rfl, PhiS_zero m c 0 _ rfl]
  try exact Idealize.SL.BI.Entails.refl _

theorem Phi_out (c : Dev nD) (t : Fin (cfg1.N + 1)) (ht : t.val ≠ 0) : (dat m c).Φ t ⊢ Pipeline.ΦA spec1 c := by
  rw [show (dat m c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dat m c).Φ (Fin.last cfg1.N) ⊢ Pipeline.ΦA spec1 c :=
  Phi_out m c _ (by rw [Fin.val_last]; have : cfg1.N = 72 := N_1; omega)

end Cert.KernelIdeal.R1

end
-- ==== Proof.KRun.lean ====
/- The kernel's run: the host stretch, the forward region and the backward region as three segments. -/
module

public import proofs.«01_k».proof.Proof.R0Dat
public import proofs.«01_k».proof.Proof.R1Dat
public import Idealize.ShloMosaic.Lib.Pipeline.RegionArraysS

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion ucRefs)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every unscoped buffer after the host stretch, -/
abbrev W1 (c : Dev nD) : Valuation τ sig (Elt F) := V1 m c
/-- after the forward region, -/
def W2 (c : Dev nD) : Valuation τ sig (Elt F) := afterRegion (R0.dat (W1 m) c) (W1 m c)
/-- and after the backward one. -/
def W3 (c : Dev nD) : Valuation τ sig (Elt F) := afterRegion (R1.dat (W2 m) c) (W2 m c)

/-- The two regions' proof data. -/
def pdats : (p : Fin 2) → (c : Dev nD) → Dat τ (Elt F) Unit ℕ (UR sig nD τ) ℕ (cfgs p) c
  | ⟨0, _⟩ => R0.dat (W1 m)
  | ⟨1, _⟩ => R1.dat (W2 m)

/-- One level, assigned at every semaphore of a TensorCore. -/
def L : GSem nD τ sig → Finset Unit := fun g => if g.1.2 = .tc then {()} else ∅
abbrev lv : GSem nD τ sig → Unit → ℕ := fun _ _ => 0

theorem L_off (g : GSem nD τ sig) (h : g.1.2 ≠ .tc) : L g = ∅ := if_neg h

/-- Nothing is owed, so the staging waits sit at the cut and nothing above it. -/
theorem cut (p : Fin 2) : Pipeline.LevelCut (pcfgs (F := F)) adm () L lv p (fun _ => 0) (fun _ => 0) where
  hι _ _ _ := by unfold L; rw [if_pos rfl]; exact Finset.mem_singleton_self _
  hιb _ _ _ := le_refl _
  hD _ _ _ h := absurd h (lt_irrefl _)

/-- The core's generator register at something. -/
abbrev Reg (c : Dev nD) : sProp 𝕄 := iprop(∃ r, prngReg c r)
/-- What rides beside the buffers between the segments. -/
abbrev Rd (c : Dev nD) : sProp 𝕄 := iprop((∃ W, owes (c : Thread nD τ) (0 : CellTallies nD τ sig Unit) W) ∗ Reg c ∗ emp)

set_option backward.isDefEq.respectTransparency.types false in
/-- The forward region. -/
def reg0 : RegionSeg (pcfgs (F := F)) adm (pdats m) () defs₀ Variants.none L lv 0 :=
  RegionSeg.ofHeldIn (pcfgs (F := F)) adm (pdats m) () defs₀ Variants.none L lv 0 (fun _ => 0) (ucRefs τ sig) Reg Reg
    launch0.toP rfl (fun c => (R0.body_obligation (W1 m) c).loose) (fun _ _ => rfl) (fun _ => rfl)
    (fun c => (R0.dat (W1 m) c).share_full fun _ => rfl)
    (fun c => R0.hin (W1 m) c) (fun c => R0.hout (W1 m) c) (fun _ => 0) (cut 0) (fun _ => iprop(emp)) (W1 m)
    (fun c w => R0.A_eq (W1 m) c w)

set_option backward.isDefEq.respectTransparency.types false in
/-- The backward region. -/
def reg1 : RegionSeg (pcfgs (F := F)) adm (pdats m) () defs₀ Variants.none L lv 1 :=
  RegionSeg.ofHeldIn (pcfgs (F := F)) adm (pdats m) () defs₀ Variants.none L lv 1 (fun _ => 0) (ucRefs τ sig) Reg Reg
    launch1.toP rfl (fun c => (R1.body_obligation (W2 m) c).loose) (fun _ _ => rfl) (fun _ => rfl)
    (fun c => (R1.dat (W2 m) c).share_full fun _ => rfl)
    (fun c => R1.hin (W2 m) c) (fun c => R1.hout (W2 m) c) (fun _ => 0) (cut 1) (fun _ => iprop(emp)) (W2 m)
    (fun c w => R1.A_eq (W2 m) c w)

theorem sub0 : Pipeline.arrRefs (τ := τ) (pcfgs (F := F) 0).spec ⊆ ucRefs τ sig := Pipeline.arrRefs_sub_ucRefs spec0 (by decide)
theorem sub1 : Pipeline.arrRefs (τ := τ) (pcfgs (F := F) 1).spec ⊆ ucRefs τ sig := Pipeline.arrRefs_sub_ucRefs spec1 (by decide)

set_option backward.isDefEq.respectTransparency.types false in
theorem reg0_pre (c : Dev nD) : iprop(StableHlo.held (c : Thread nD τ) (ucRefs τ sig) (W1 m c) ∗ Rd c) ⊢ (reg0 m).pre c := by
  unfold reg0
  exact RegionSeg.ofHeldIn_pre (pcs := pcfgs (F := F)) (a := adm) (pdats := pdats m) (p := 0) (S := ucRefs τ sig) (D := fun _ => 0) (X := Reg) (Y := Reg) (R := fun _ => iprop(emp)) (W := W1 m) (sub0 (F := F)) c
set_option backward.isDefEq.respectTransparency.types false in
theorem reg0_post (c : Dev nD) : (reg0 m).post c ⊢ iprop(StableHlo.held (c : Thread nD τ) (ucRefs τ sig) (W2 m c) ∗ Rd c) := by
  unfold reg0
  rw [show W2 m c = afterRegion (pdats m 0 c) (W1 m c) from rfl]
  exact RegionSeg.ofHeldIn_post (pcs := pcfgs (F := F)) (a := adm) (pdats := pdats m) (p := 0) (S := ucRefs τ sig) (D := fun _ => 0) (X := Reg) (Y := Reg) (R := fun _ => iprop(emp)) (W := W1 m) (sub0 (F := F)) c
set_option backward.isDefEq.respectTransparency.types false in
theorem reg1_pre (c : Dev nD) : iprop(StableHlo.held (c : Thread nD τ) (ucRefs τ sig) (W2 m c) ∗ Rd c) ⊢ (reg1 m).pre c := by
  unfold reg1
  exact RegionSeg.ofHeldIn_pre (pcs := pcfgs (F := F)) (a := adm) (pdats := pdats m) (p := 1) (S := ucRefs τ sig) (D := fun _ => 0) (X := Reg) (Y := Reg) (R := fun _ => iprop(emp)) (W := W2 m) (sub1 (F := F)) c
set_option backward.isDefEq.respectTransparency.types false in
theorem reg1_post (c : Dev nD) : (reg1 m).post c ⊢ iprop(StableHlo.held (c : Thread nD τ) (ucRefs τ sig) (W3 m c) ∗ Rd c) := by
  unfold reg1
  rw [show W3 m c = afterRegion (pdats m 1 c) (W2 m c) from rfl]
  exact RegionSeg.ofHeldIn_post (pcs := pcfgs (F := F)) (a := adm) (pdats := pdats m) (p := 1) (S := ucRefs τ sig) (D := fun _ => 0) (X := Reg) (Y := Reg) (R := fun _ => iprop(emp)) (W := W2 m) (sub1 (F := F)) c

/-- The program as its three segments. -/
abbrev segs : List (Seg (pcfgs (F := F)) adm (pdats m) () defs₀ Variants.none L lv) :=
  [.host (seg0 m Variants.none L lv (fun _ => Rd)), .region (reg0 m), .region (reg1 m)]

set_option backward.isDefEq.respectTransparency.types false in
/-- From any memory with zero counters every weakly fair execution ends, every unscoped buffer then holding what the three
    segments compute and every counter at zero. -/
theorem run_main : θ_run defs (onTc (τ := τ) (main (F := F))) ⟨m, fun _ => 0, ρ⟩ (fun r =>
    (∀ c : Dev nD, ∀ b ∈ ucRefs τ sig, r.2.mem ((c : Thread nD τ).1, b) = W3 m c b) ∧ r.2.sem = fun _ => 0) :=
  Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := L_off) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Rd c))
    (Tₙ := fun c => StableHlo.held (c : Thread nD τ) (ucRefs τ sig) (W3 m c))
    (hch := fun c => ⟨.rfl, reg0_pre m c, (reg0_post m c).trans (reg1_pre m c), (reg1_post m c).trans (by
        iintro ⟨Hh, HO, -, -⟩
        isplitl [Hh]; · iexact Hh
        iexact HO)⟩)
    (hinit := by
      refine Pipeline.initEach L lv fun c => ?_
      rw [show unscopedBufs c (fun b => m ((c : Thread nD τ).loc b)) = StableHlo.held (c : Thread nD τ) (ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ ucRefs τ sig, s.mem ((c : Thread nD τ).1, b) = W3 m c b)
    (hfin := fun c s' => by
      unfold StableHlo.held
      iintro ⟨Hh, HSI⟩
      ihave Hr := (pointsTo_read_all (ucRefs τ sig) (fun b => ((c : Thread nD τ).1, b)) (W3 m c) s') $$ [Hh HSI]
      · isplitl [Hh] <;> iassumption
      imodintro; iexact Hr)
    (hQ := fun _ h hz => ⟨h, funext fun g => hz g (.inr (regions_no_unscoped g.2))⟩)

/-- A buffer that no region writes and no host operation writes ends as launched. -/
theorem W3_arg (c : Dev nD) (r : Ref sig .tc) (h0 : r ∉ hostOps0_W)
    (h1 : ∀ w, Pipeline.arrRef spec0 w = r → (cfg0.win w).isOut = false)
    (h2 : ∀ w, Pipeline.arrRef spec1 w = r → (cfg1.win w).isOut = false) :
    W3 m c (Proc.devRef .tc r) = m ((c : Thread nD τ).loc r) :=
  (Pipeline.afterRegion_keeps (R1.dat (W2 m) c) (W2 m c) launch1.win.arr_inj (R1.A_eq (W2 m) c) r h2).trans <|
    (Pipeline.afterRegion_keeps (R0.dat (W1 m) c) (W1 m c) launch0.win.arr_inj (R0.A_eq (W1 m) c) r h1).trans <|
      (V1_of m c r h0).trans rfl

/-- An unscoped reference is in the set the run reads. -/
theorem mem_uc (r : Ref sig .tc) (h : ¬ r.isScoped) : (Proc.devRef .tc r : DevRef τ sig) ∈ ucRefs τ sig :=
  Finset.mem_filter.mpr ⟨StableHlo.devRef_mem_tcRefs r, h⟩

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (W3_arg m c main_arg0 (by decide) (by decide) (by decide)),
     (h.1 c _ (mem_uc main_arg1 (by decide))).trans (W3_arg m c main_arg1 (by decide) (by decide) (by decide)),
     (h.1 c _ (mem_uc main_arg2 (by decide))).trans (W3_arg m c main_arg2 (by decide) (by decide) (by decide)),
     (h.1 c _ (mem_uc main_arg3 (by decide))).trans (W3_arg m c main_arg3 (by decide) (by decide) (by decide)),
     (h.1 c _ (mem_uc main_arg4 (by decide))).trans (W3_arg m c main_arg4 (by decide) (by decide) (by decide))⟩, h.2⟩)
    (run_main m ρ)

end Cert.KernelIdeal.Run

end
-- ==== Proof.Same.lean ====
/- The two kernels' texts are one text, so that what one does over any float values the other does. -/
module

public import proofs.«01_k».proof.Defs
public import proofs.«01_k».proof.Proof.Gen.Kernel
public import proofs.«01_k».proof.Proof.KRun

@[expose] public section

set_option maxRecDepth 100000

noncomputable section

namespace Cert.Same

open Idealize.ShloMosaic Idealize.SL.Sem Cert.Kernel

attribute [local instance] Cert.Kernel.Gen.facts Cert.KernelIdeal.Gen.facts

variable {F : FTy → Type} [FloatOps F]

set_option backward.isDefEq.respectTransparency.types false
set_option maxHeartbeats 1000000

theorem defs₀_eq : Cert.Kernel.defs₀ (F := F) = Cert.KernelIdeal.defs₀ (F := F) := by
  unfold Cert.Kernel.defs₀ Cert.KernelIdeal.defs₀
  refine congrArg Defs.onTc (funext fun i => funext fun x => ?_)
  match i, x with
  | 0, (t, s) => dsimp only; rfl
  | 1, (t, s) => dsimp only; rfl

theorem defs_eq : Cert.Kernel.defs (F := F) = Cert.KernelIdeal.defs (F := F) := by
  unfold Cert.Kernel.defs Cert.KernelIdeal.defs
  exact congrArg (Pipeline.defs _) defs₀_eq

theorem main_eq : Cert.Kernel.main (F := F) = Cert.KernelIdeal.main (F := F) := by rfl

theorem run_eq : θ_run (Cert.Kernel.defs (F := F)) (onTc (τ := Cert.Kernel.τ) Cert.Kernel.main)
    = θ_run (Cert.KernelIdeal.defs (F := F)) (onTc (τ := Cert.KernelIdeal.τ) Cert.KernelIdeal.main) :=
  congr (congrArg θ_run defs_eq) (congrArg (onTc (τ := Cert.KernelIdeal.τ)) main_eq)

theorem frame (m : (ℓ : Loc nD τ sig) → Buf (Elt F) ℓ) (ρ : Dev nD → PrngReg) :
    θ_run (Cert.Kernel.defs (F := F)) (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [run_eq]
  exact (θ_run (Cert.KernelIdeal.defs (F := F)) _ _).mono (fun _ h => h) (Cert.KernelIdeal.Run.frame (F := F) m ρ)

end Cert.Same

end
-- ==== Proof.RA.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-- The contents of a buffer of f32, i32, i1 elements of a given shape. -/
abbrev Cf (F : FTy → Type) (s : Shape) := (⟨s, .f32⟩ : BufTy).Contents (Elt F)
abbrev Ci (F : FTy → Type) (s : Shape) := (⟨s, .i32⟩ : BufTy).Contents (Elt F)
abbrev Cb (F : FTy → Type) (s : Shape) := (⟨s, .i1⟩ : BufTy).Contents (Elt F)
local notation "Tf" s => TRef sig (BufTy.mk s EltTy.f32)
local notation "Ti" s => TRef sig (BufTy.mk s EltTy.i32)
local notation "Tb" s => TRef sig (BufTy.mk s EltTy.i1)
local notation "Ops" => List (HloOp τ sig (Elt F))

abbrev hA0 : Ops :=
  [ unary main_arg3 main_v0 (broadcastInDim S8x1 ![0] bcast_S8_S8x1_0 : Cf F S8 → Cf F S8x1),
    unary main_v0 main_v1 (broadcastInDim S1x2304x8x1 ![2, 3] bcast_S8x1_S1x2304x8x1_2_3 : Cf F S8x1 → Cf F S1x2304x8x1),
    reshape main_arg0 main_v2 rfl shapeCasts_S2304x2048_S1x2304x8x256,
    reshape main_arg1 main_v3 rfl shapeCasts_S2304x2048_S1x2304x8x256,
    reshape main_arg2 main_v4 rfl shapeCasts_S2304x4096_S1x2304x8x1x512,
    nullary main_v5 (iotaInDim S64 32 0),
    unary main_v5 main_v6 (broadcastInDim S64x1 ![0] bcast_S64_S64x1_0 : Ci F S64 → Ci F S64x1),
    unary main_v5 main_v7 (broadcastInDim S1x64 ![1] bcast_S64_S1x64_1 : Ci F S64 → Ci F S1x64),
    unary main_v6 main_v8 (broadcastInDim S64x64 ![0, 1] bcast_S64x1_S64x64_0_1 : Ci F S64x1 → Ci F S64x64),
    unary main_v7 main_v9 (broadcastInDim S64x64 ![0, 1] bcast_S1x64_S64x64_0_1 : Ci F S1x64 → Ci F S64x64),
    binary main_v8 main_v9 main_v10 (cmpi .sge : Ci F S64x64 → Ci F S64x64 → Cb F S64x64),
    unary main_v5 main_v11 (broadcastInDim S64x1 ![0] bcast_S64_S64x1_0 : Ci F S64 → Ci F S64x1),
    unary main_v5 main_v12 (broadcastInDim S1x64 ![1] bcast_S64_S1x64_1 : Ci F S64 → Ci F S1x64),
    unary main_v11 main_v13 (broadcastInDim S64x64 ![0, 1] bcast_S64x1_S64x64_0_1 : Ci F S64x1 → Ci F S64x64),
    unary main_v12 main_v14 (broadcastInDim S64x64 ![0, 1] bcast_S1x64_S64x64_0_1 : Ci F S1x64 → Ci F S64x64),
    binary main_v13 main_v14 main_v15 (cmpi .sgt : Ci F S64x64 → Ci F S64x64 → Cb F S64x64),
    nullary main_cst (constant S_ .f32 0x00000000#32),
    unary main_cst main_v16 (broadcastInDim S1x8x1x256x512 ![] bcast_S_S1x8x1x256x512 : Cf F S_ → Cf F S1x8x1x256x512),
    reshape main_v2 main_v17 rfl shapeCasts_S1x2304x8x256_S1x36x64x8x256,
    unary main_v17 main_v18 ((transpose S36x1x64x8x256 [1, 0, 2, 3, 4] · transposes_S1x36x64x8x256_S36x1x64x8x256_1_0_2_3_4) : Cf F S1x36x64x8x256 → Cf F S36x1x64x8x256),
    reshape main_v3 main_v19 rfl shapeCasts_S1x2304x8x256_S1x36x64x8x256,
    unary main_v19 main_v20 ((transpose S36x1x64x8x256 [1, 0, 2, 3, 4] · transposes_S1x36x64x8x256_S36x1x64x8x256_1_0_2_3_4) : Cf F S1x36x64x8x256 → Cf F S36x1x64x8x256),
    reshape main_v4 main_v21 rfl shapeCasts_S1x2304x8x1x512_S1x36x64x8x1x512,
    unary main_v21 main_v22 ((transpose S36x1x64x8x1x512 [1, 0, 2, 3, 4, 5] · transposes_S1x36x64x8x1x512_S36x1x64x8x1x512_1_0_2_3_4_5) : Cf F S1x36x64x8x1x512 → Cf F S36x1x64x8x1x512),
    reshape main_v1 main_v23 rfl shapeCasts_S1x2304x8x1_S1x36x64x8x1,
    unary main_v23 main_v24 ((transpose S36x1x64x8x1 [1, 0, 2, 3, 4] · transposes_S1x36x64x8x1_S36x1x64x8x1_1_0_2_3_4) : Cf F S1x36x64x8x1 → Cf F S36x1x64x8x1) ]
theorem hA0_sub : (hA0 : Ops).Forall fun op => op.bufs ⊆ tcRefs τ sig :=
  ⟨unary_bufs_sub .., unary_bufs_sub .., reshape_bufs_sub .., reshape_bufs_sub .., reshape_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., reshape_bufs_sub .., unary_bufs_sub .., reshape_bufs_sub .., unary_bufs_sub .., reshape_bufs_sub .., unary_bufs_sub .., reshape_bufs_sub .., unary_bufs_sub ..⟩
theorem hA0_fresh : (hA0 : Ops).Forall fun op => op.fresh = ∅ := forall_fresh_of_map rfl
abbrev hA0_W : List (Ref sig .tc) := [main_v0, main_v1, main_v2, main_v3, main_v4, main_v5, main_v6, main_v7, main_v8, main_v9, main_v10, main_v11, main_v12, main_v13, main_v14, main_v15, main_cst, main_v16, main_v17, main_v18, main_v19, main_v20, main_v21, main_v22, main_v23, main_v24]
theorem hA0_writes : (hA0 : Ops).Forall fun op => op.writes ⊆ (hA0_W.map (Proc.devRef (τ := τ) .tc)).toFinset :=
  forall_writes_sub_of_map rfl

abbrev hA1 : Ops :=
  [ nullary main_cst_0 (constant S_ .f32 0xFF800000#32) ]
theorem hA1_sub : (hA1 : Ops).Forall fun op => op.bufs ⊆ tcRefs τ sig :=
  nullary_bufs_sub ..
theorem hA1_fresh : (hA1 : Ops).Forall fun op => op.fresh = ∅ := forall_fresh_of_map rfl
abbrev hA1_W : List (Ref sig .tc) := [main_cst_0]
theorem hA1_writes : (hA1 : Ops).Forall fun op => op.writes ⊆ (hA1_W.map (Proc.devRef (τ := τ) .tc)).toFinset :=
  forall_writes_sub_of_map rfl

abbrev hA2 : Ops :=
  [ TRef.unary (.of main_cst_0 : Tf S_) (.of main_call1_v0 : Tf S_) id,
    TRef.unary (.of main_v10 : Tb S64x64) (.of main_v25_0 : Tb S1x8x1x64x64) (broadcastInDim S1x8x1x64x64 ![3, 4] bcast_S64x64_S1x8x1x64x64_3_4),
    TRef.unary (.of main_call1_v0 : Tf S_) (.of main_v25_1 : Tf S1x8x1x64x64) (broadcastInDim S1x8x1x64x64 ![] bcast_S_S1x8x1x64x64) ]
theorem hA2_sub : (hA2 : Ops).Forall fun op => op.bufs ⊆ tcRefs τ sig :=
  ⟨unary_bufs_sub .., unary_bufs_sub .., unary_bufs_sub ..⟩
theorem hA2_fresh : (hA2 : Ops).Forall fun op => op.fresh = ∅ := forall_fresh_of_map rfl
abbrev hA2_W : List (Ref sig .tc) := [main_call1_v0, main_v25_0, main_v25_1]
theorem hA2_writes : (hA2 : Ops).Forall fun op => op.writes ⊆ (hA2_W.map (Proc.devRef (τ := τ) .tc)).toFinset :=
  forall_writes_sub_of_map rfl

abbrev hA3 : Ops :=
  [ nullary main_cst_1 (constant S_ .f32 0x00000000#32),
    unary main_cst_1 main_v26 (broadcastInDim S36x1x64x8x1x512 ![] bcast_S_S36x1x64x8x1x512 : Cf F S_ → Cf F S36x1x64x8x1x512),
    nullary main_cst_2 (constant S_ .f32 0x00000000#32),
    unary main_cst_2 main_v27 (broadcastInDim S36x1x8x1x256x512 ![] bcast_S_S36x1x8x1x256x512 : Cf F S_ → Cf F S36x1x8x1x256x512),
    nullary main_c (constantI S_ 32 0#32),
    unary main_v18 main_v28_0 id,
    unary main_v20 main_v28_1 id,
    unary main_v22 main_v28_2 id,
    unary main_v24 main_v28_3 id,
    unary main_v25_0 main_v28_4 id,
    unary main_v25_1 main_v28_5 id,
    unary main_c main_v28_6 id,
    unary main_v16 main_v28_7 id,
    unary main_v26 main_v28_8 id,
    unary main_v27 main_v28_9 id ]
theorem hA3_sub : (hA3 : Ops).Forall fun op => op.bufs ⊆ tcRefs τ sig :=
  ⟨nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem hA3_fresh : (hA3 : Ops).Forall fun op => op.fresh = ∅ := forall_fresh_of_map rfl
abbrev hA3_W : List (Ref sig .tc) := [main_cst_1, main_v26, main_cst_2, main_v27, main_c, main_v28_0, main_v28_1, main_v28_2, main_v28_3, main_v28_4, main_v28_5, main_v28_6, main_v28_7, main_v28_8, main_v28_9]
theorem hA3_writes : (hA3 : Ops).Forall fun op => op.writes ⊆ (hA3_W.map (Proc.devRef (τ := τ) .tc)).toFinset :=
  forall_writes_sub_of_map rfl

abbrev hB0 : Ops :=
  [ unary main_v28_8 main_v29 ((transpose S1x36x64x8x1x512 [1, 0, 2, 3, 4, 5] · transposes_S36x1x64x8x1x512_S1x36x64x8x1x512_1_0_2_3_4_5) : Cf F S36x1x64x8x1x512 → Cf F S1x36x64x8x1x512),
    reshape main_v29 main_v30 rfl shapeCasts_S1x36x64x8x1x512_S1x2304x8x1x512,
    reshape main_v30 main_v31 rfl shapeCasts_S1x2304x8x1x512_S2304x4096,
    nullary main_cst_3 (constant S_ .f32 0x00000000#32),
    unary main_cst_3 main_v32 (broadcastInDim S1x8x1x256x512 ![] bcast_S_S1x8x1x256x512 : Cf F S_ → Cf F S1x8x1x256x512),
    reshape main_arg4 main_v33 rfl shapeCasts_S2304x4096_S1x2304x8x1x512,
    reshape main_v33 main_v34 rfl shapeCasts_S1x2304x8x1x512_S1x36x64x8x1x512,
    unary main_v34 main_v35 ((transpose S36x1x64x8x1x512 [1, 0, 2, 3, 4, 5] · transposes_S1x36x64x8x1x512_S36x1x64x8x1x512_1_0_2_3_4_5) : Cf F S1x36x64x8x1x512 → Cf F S36x1x64x8x1x512),
    nullary main_cst_4 (constant S_ .f32 0x00000000#32),
    unary main_cst_4 main_v36 (broadcastInDim S1x8x1x256x512 ![] bcast_S_S1x8x1x256x512 : Cf F S_ → Cf F S1x8x1x256x512),
    nullary main_cst_5 (constant S_ .f32 0x00000000#32),
    unary main_cst_5 main_v37 (broadcastInDim S36x1x64x8x256 ![] bcast_S_S36x1x64x8x256 : Cf F S_ → Cf F S36x1x64x8x256),
    nullary main_cst_6 (constant S_ .f32 0x00000000#32),
    unary main_cst_6 main_v38 (broadcastInDim S36x1x64x8x256 ![] bcast_S_S36x1x64x8x256 : Cf F S_ → Cf F S36x1x64x8x256),
    nullary main_cst_7 (constant S_ .f32 0x00000000#32) ]
theorem hB0_sub : (hB0 : Ops).Forall fun op => op.bufs ⊆ tcRefs τ sig :=
  ⟨unary_bufs_sub .., reshape_bufs_sub .., reshape_bufs_sub .., nullary_bufs_sub .., unary_bufs_sub .., reshape_bufs_sub .., reshape_bufs_sub .., unary_bufs_sub .., nullary_bufs_sub .., unary_bufs_sub .., nullary_bufs_sub .., unary_bufs_sub .., nullary_bufs_sub .., unary_bufs_sub .., nullary_bufs_sub ..⟩
theorem hB0_fresh : (hB0 : Ops).Forall fun op => op.fresh = ∅ := forall_fresh_of_map rfl
abbrev hB0_W : List (Ref sig .tc) := [main_v29, main_v30, main_v31, main_cst_3, main_v32, main_v33, main_v34, main_v35, main_cst_4, main_v36, main_cst_5, main_v37, main_cst_6, main_v38, main_cst_7]
theorem hB0_writes : (hB0 : Ops).Forall fun op => op.writes ⊆ (hB0_W.map (Proc.devRef (τ := τ) .tc)).toFinset :=
  forall_writes_sub_of_map rfl

abbrev hB1 : Ops :=
  [ unary main_cst_7 main_v39 (broadcastInDim S36x1x64x8x1x512 ![] bcast_S_S36x1x64x8x1x512 : Cf F S_ → Cf F S36x1x64x8x1x512),
    nullary main_c_8 (constantI S_ 32 0#32),
    unary main_v35 main_v40_0 id,
    unary main_v28_9 main_v40_1 id,
    unary main_v18 main_v40_2 id,
    unary main_v20 main_v40_3 id,
    unary main_v22 main_v40_4 id,
    unary main_v24 main_v40_5 id,
    unary main_v10 main_v40_6 id,
    unary main_c_8 main_v40_7 id,
    unary main_v36 main_v40_8 id,
    unary main_v37 main_v40_9 id,
    unary main_v38 main_v40_10 id,
    unary main_v39 main_v40_11 id ]
theorem hB1_sub : (hB1 : Ops).Forall fun op => op.bufs ⊆ tcRefs τ sig :=
  ⟨unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem hB1_fresh : (hB1 : Ops).Forall fun op => op.fresh = ∅ := forall_fresh_of_map rfl
abbrev hB1_W : List (Ref sig .tc) := [main_v39, main_c_8, main_v40_0, main_v40_1, main_v40_2, main_v40_3, main_v40_4, main_v40_5, main_v40_6, main_v40_7, main_v40_8, main_v40_9, main_v40_10, main_v40_11]
theorem hB1_writes : (hB1 : Ops).Forall fun op => op.writes ⊆ (hB1_W.map (Proc.devRef (τ := τ) .tc)).toFinset :=
  forall_writes_sub_of_map rfl

abbrev hC : Ops :=
  [ unary main_v40_11 main_v41 ((transpose S1x36x64x8x1x512 [1, 0, 2, 3, 4, 5] · transposes_S36x1x64x8x1x512_S1x36x64x8x1x512_1_0_2_3_4_5) : Cf F S36x1x64x8x1x512 → Cf F S1x36x64x8x1x512),
    reshape main_v41 main_v42 rfl shapeCasts_S1x36x64x8x1x512_S1x2304x8x1x512,
    unary main_v40_10 main_v43 ((transpose S1x36x64x8x256 [1, 0, 2, 3, 4] · transposes_S36x1x64x8x256_S1x36x64x8x256_1_0_2_3_4) : Cf F S36x1x64x8x256 → Cf F S1x36x64x8x256),
    reshape main_v43 main_v44 rfl shapeCasts_S1x36x64x8x256_S1x2304x8x256,
    unary main_v40_9 main_v45 ((transpose S1x36x64x8x256 [1, 0, 2, 3, 4] · transposes_S36x1x64x8x256_S1x36x64x8x256_1_0_2_3_4) : Cf F S36x1x64x8x256 → Cf F S1x36x64x8x256),
    reshape main_v45 main_v46 rfl shapeCasts_S1x36x64x8x256_S1x2304x8x256,
    reshape main_v42 main_v47 rfl shapeCasts_S1x2304x8x1x512_S2304x4096,
    reshape main_v44 main_v48 rfl shapeCasts_S1x2304x8x256_S2304x2048,
    reshape main_v46 main_v49 rfl shapeCasts_S1x2304x8x256_S2304x2048 ]
theorem hC_sub : (hC : Ops).Forall fun op => op.bufs ⊆ tcRefs τ sig :=
  ⟨unary_bufs_sub .., reshape_bufs_sub .., unary_bufs_sub .., reshape_bufs_sub .., unary_bufs_sub .., reshape_bufs_sub .., reshape_bufs_sub .., reshape_bufs_sub .., reshape_bufs_sub ..⟩
theorem hC_fresh : (hC : Ops).Forall fun op => op.fresh = ∅ := forall_fresh_of_map rfl
abbrev hC_W : List (Ref sig .tc) := [main_v41, main_v42, main_v43, main_v44, main_v45, main_v46, main_v47, main_v48, main_v49]
theorem hC_writes : (hC : Ops).Forall fun op => op.writes ⊆ (hC_W.map (Proc.devRef (τ := τ) .tc)).toFinset :=
  forall_writes_sub_of_map rfl

abbrev f0 : Ops :=
  [ TRef.nullary (.of main_while0b_call2_c : Ti S_) (constantI S_ 32 0#32),
    TRef.nullary (.of main_while0b_call2_c_0 : Ti S_) (constantI S_ 32 0#32),
    TRef.nullary (.of main_while0b_call2_c_1 : Ti S_) (constantI S_ 32 0#32),
    TRef.nullary (.of main_while0b_call2_c_2 : Ti S_) (constantI S_ 32 0#32),
    TRef.unaryIndexed (.of main_v28_0 : Tf S36x1x64x8x256) ![(.of main_v28_6 : Ti S_), (.of main_while0b_call2_c : Ti S_), (.of main_while0b_call2_c_0 : Ti S_), (.of main_while0b_call2_c_1 : Ti S_), (.of main_while0b_call2_c_2 : Ti S_)] (.of main_while0b_call2_v0 : Tf S1x1x64x8x256) (fun x i => Host.dynamicSlice S1x1x64x8x256 x (fun k => (i k (Shape.Idx.first h_S_)).toInt) sliceFits_S36x1x64x8x256_S1x1x64x8x256),
    TRef.reshape (.of main_while0b_call2_v0 : Tf S1x1x64x8x256) (.of main_while0b_v50 : Tf S1x64x8x256) rfl shapeCasts_S1x1x64x8x256_S1x64x8x256 ]
theorem f0_sub : (f0 : Ops).Forall fun op => op.bufs ⊆ tcRefs τ sig :=
  ⟨nullary_bufs_sub .., nullary_bufs_sub .., nullary_bufs_sub .., nullary_bufs_sub .., unaryIndexed_bufs_sub .., reshape_bufs_sub ..⟩
theorem f0_fresh : (f0 : Ops).Forall fun op => op.fresh = ∅ := forall_fresh_of_map rfl
abbrev f0_W : List (Ref sig .tc) := [main_while0b_call2_c, main_while0b_call2_c_0, main_while0b_call2_c_1, main_while0b_call2_c_2, main_while0b_call2_v0, main_while0b_v50]
theorem f0_writes : (f0 : Ops).Forall fun op => op.writes ⊆ (f0_W.map (Proc.devRef (τ := τ) .tc)).toFinset :=
  forall_writes_sub_of_map rfl

abbrev f1 : Ops :=
  [ TRef.nullary (.of main_while0b_call3_c : Ti S_) (constantI S_ 32 0#32),
    TRef.nullary (.of main_while0b_call3_c_0 : Ti S_) (constantI S_ 32 0#32),
    TRef.nullary (.of main_while0b_call3_c_1 : Ti S_) (constantI S_ 32 0#32),
    TRef.nullary (.of main_while0b_call3_c_2 : Ti S_) (constantI S_ 32 0#32),
    TRef.unaryIndexed (.of main_v28_1 : Tf S36x1x64x8x256) ![(.of main_v28_6 : Ti S_), (.of main_while0b_call3_c : Ti S_), (.of main_while0b_call3_c_0 : Ti S_), (.of main_while0b_call3_c_1 : Ti S_), (.of main_while0b_call3_c_2 : Ti S_)] (.of main_while0b_call3_v0 : Tf S1x1x64x8x256) (fun x i => Host.dynamicSlice S1x1x64x8x256 x (fun k => (i k (Shape.Idx.first h_S_)).toInt) sliceFits_S36x1x64x8x256_S1x1x64x8x256),
    TRef.reshape (.of main_while0b_call3_v0 : Tf S1x1x64x8x256) (.of main_while0b_v51 : Tf S1x64x8x256) rfl shapeCasts_S1x1x64x8x256_S1x64x8x256 ]
theorem f1_sub : (f1 : Ops).Forall fun op => op.bufs ⊆ tcRefs τ sig :=
  ⟨nullary_bufs_sub .., nullary_bufs_sub .., nullary_bufs_sub .., nullary_bufs_sub .., unaryIndexed_bufs_sub .., reshape_bufs_sub ..⟩
theorem f1_fresh : (f1 : Ops).Forall fun op => op.fresh = ∅ := forall_fresh_of_map rfl
abbrev f1_W : List (Ref sig .tc) := [main_while0b_call3_c, main_while0b_call3_c_0, main_while0b_call3_c_1, main_while0b_call3_c_2, main_while0b_call3_v0, main_while0b_v51]
theorem f1_writes : (f1 : Ops).Forall fun op => op.writes ⊆ (f1_W.map (Proc.devRef (τ := τ) .tc)).toFinset :=
  forall_writes_sub_of_map rfl

abbrev f2 : Ops :=
  [ TRef.nullary (.of main_while0b_call4_c : Ti S_) (constantI S_ 32 0#32),
    TRef.nullary (.of main_while0b_call4_c_0 : Ti S_) (constantI S_ 32 0#32),
    TRef.nullary (.of main_while0b_call4_c_1 : Ti S_) (constantI S_ 32 0#32),
    TRef.nullary (.of main_while0b_call4_c_2 : Ti S_) (constantI S_ 32 0#32),
    TRef.nullary (.of main_while0b_call4_c_3 : Ti S_) (constantI S_ 32 0#32),
    TRef.unaryIndexed (.of main_v28_2 : Tf S36x1x64x8x1x512) ![(.of main_v28_6 : Ti S_), (.of main_while0b_call4_c : Ti S_), (.of main_while0b_call4_c_0 : Ti S_), (.of main_while0b_call4_c_1 : Ti S_), (.of main_while0b_call4_c_2 : Ti S_), (.of main_while0b_call4_c_3 : Ti S_)] (.of main_while0b_call4_v0 : Tf S1x1x64x8x1x512) (fun x i => Host.dynamicSlice S1x1x64x8x1x512 x (fun k => (i k (Shape.Idx.first h_S_)).toInt) sliceFits_S36x1x64x8x1x512_S1x1x64x8x1x512),
    TRef.reshape (.of main_while0b_call4_v0 : Tf S1x1x64x8x1x512) (.of main_while0b_v52 : Tf S1x64x8x1x512) rfl shapeCasts_S1x1x64x8x1x512_S1x64x8x1x512 ]
theorem f2_sub : (f2 : Ops).Forall fun op => op.bufs ⊆ tcRefs τ sig :=
  ⟨nullary_bufs_sub .., nullary_bufs_sub .., nullary_bufs_sub .., nullary_bufs_sub .., nullary_bufs_sub .., unaryIndexed_bufs_sub .., reshape_bufs_sub ..⟩
theorem f2_fresh : (f2 : Ops).Forall fun op => op.fresh = ∅ := forall_fresh_of_map rfl
abbrev f2_W : List (Ref sig .tc) := [main_while0b_call4_c, main_while0b_call4_c_0, main_while0b_call4_c_1, main_while0b_call4_c_2, main_while0b_call4_c_3, main_while0b_call4_v0, main_while0b_v52]
theorem f2_writes : (f2 : Ops).Forall fun op => op.writes ⊆ (f2_W.map (Proc.devRef (τ := τ) .tc)).toFinset :=
  forall_writes_sub_of_map rfl

abbrev f3 : Ops :=
  [ TRef.nullary (.of main_while0b_call5_c : Ti S_) (constantI S_ 32 0#32),
    TRef.nullary (.of main_while0b_call5_c_0 : Ti S_) (constantI S_ 32 0#32),
    TRef.nullary (.of main_while0b_call5_c_1 : Ti S_) (constantI S_ 32 0#32),
    TRef.nullary (.of main_while0b_call5_c_2 : Ti S_) (constantI S_ 32 0#32),
    TRef.unaryIndexed (.of main_v28_3 : Tf S36x1x64x8x1) ![(.of main_v28_6 : Ti S_), (.of main_while0b_call5_c : Ti S_), (.of main_while0b_call5_c_0 : Ti S_), (.of main_while0b_call5_c_1 : Ti S_), (.of main_while0b_call5_c_2 : Ti S_)] (.of main_while0b_call5_v0 : Tf S1x1x64x8x1) (fun x i => Host.dynamicSlice S1x1x64x8x1 x (fun k => (i k (Shape.Idx.first h_S_)).toInt) sliceFits_S36x1x64x8x1_S1x1x64x8x1),
    TRef.reshape (.of main_while0b_call5_v0 : Tf S1x1x64x8x1) (.of main_while0b_v53 : Tf S1x64x8x1) rfl shapeCasts_S1x1x64x8x1_S1x64x8x1 ]
theorem f3_sub : (f3 : Ops).Forall fun op => op.bufs ⊆ tcRefs τ sig :=
  ⟨nullary_bufs_sub .., nullary_bufs_sub .., nullary_bufs_sub .., nullary_bufs_sub .., unaryIndexed_bufs_sub .., reshape_bufs_sub ..⟩
theorem f3_fresh : (f3 : Ops).Forall fun op => op.fresh = ∅ := forall_fresh_of_map rfl
abbrev f3_W : List (Ref sig .tc) := [main_while0b_call5_c, main_while0b_call5_c_0, main_while0b_call5_c_1, main_while0b_call5_c_2, main_while0b_call5_v0, main_while0b_v53]
theorem f3_writes : (f3 : Ops).Forall fun op => op.writes ⊆ (f3_W.map (Proc.devRef (τ := τ) .tc)).toFinset :=
  forall_writes_sub_of_map rfl

abbrev f4 : Ops :=
  [ TRef.nullary (.of main_while0b_call6_call0_cst : Tf S_) (constant S_ .f32 0x00000000#32),
    TRef.unary (.of main_while0b_call6_call0_cst : Tf S_) (.of main_while0b_call6_call0_v0 : Tf S_) (broadcastInDim S_ ![] bcast_S_S_),
    TRef.binary (.of main_while0b_v53 : Tf S1x64x8x1) (.of main_while0b_call6_call0_v0 : Tf S_) (.of main_while0b_v54 : Tf S1x64x8x1) (fun x v => Host.reduceWindowAdd ![1, 64, 1, 1] ![1, 1, 1, 1] ![0, 63, 0, 0] ![0, 0, 0, 0] x v reduceWindows_S1x64x8x1_S1x64x8x1_w1s1p0_0_w64s1p63_0_w1s1p0_0_w1s1p0_0 h_S_) ]
theorem f4_sub : (f4 : Ops).Forall fun op => op.bufs ⊆ tcRefs τ sig :=
  ⟨nullary_bufs_sub .., unary_bufs_sub .., binary_bufs_sub ..⟩
theorem f4_fresh : (f4 : Ops).Forall fun op => op.fresh = ∅ := forall_fresh_of_map rfl
abbrev f4_W : List (Ref sig .tc) := [main_while0b_call6_call0_cst, main_while0b_call6_call0_v0, main_while0b_v54]
theorem f4_writes : (f4 : Ops).Forall fun op => op.writes ⊆ (f4_W.map (Proc.devRef (τ := τ) .tc)).toFinset :=
  forall_writes_sub_of_map rfl

abbrev f5 : Ops :=
  [ unary main_while0b_v54 main_while0b_v55 ((transpose S1x8x1x64 [0, 2, 3, 1] · transposes_S1x64x8x1_S1x8x1x64_0_2_3_1) : Cf F S1x64x8x1 → Cf F S1x8x1x64),
    unary main_while0b_v55 main_while0b_v56 (broadcastInDim S1x8x1x64x1 ![0, 1, 2, 3] bcast_S1x8x1x64_S1x8x1x64x1_0_1_2_3 : Cf F S1x8x1x64 → Cf F S1x8x1x64x1),
    unary main_while0b_v55 main_while0b_v57 (broadcastInDim S1x8x1x1x64 ![0, 1, 2, 4] bcast_S1x8x1x64_S1x8x1x1x64_0_1_2_4 : Cf F S1x8x1x64 → Cf F S1x8x1x1x64),
    unary main_while0b_v56 main_while0b_v58 (broadcastInDim S1x8x1x64x64 ![0, 1, 2, 3, 4] bcast_S1x8x1x64x1_S1x8x1x64x64_0_1_2_3_4 : Cf F S1x8x1x64x1 → Cf F S1x8x1x64x64),
    unary main_while0b_v57 main_while0b_v59 (broadcastInDim S1x8x1x64x64 ![0, 1, 2, 3, 4] bcast_S1x8x1x1x64_S1x8x1x64x64_0_1_2_3_4 : Cf F S1x8x1x1x64 → Cf F S1x8x1x64x64),
    binary main_while0b_v58 main_while0b_v59 main_while0b_v60 (subf : Cf F S1x8x1x64x64 → Cf F S1x8x1x64x64 → Cf F S1x8x1x64x64),
    binary main_while0b_v50 main_while0b_v51 main_while0b_v61 ((fun l r => Host.dotGeneral dot_S1x64x8x256_S1x64x8x256_S1x8x64x64_3_3_1_1_02_02 none l r) : Cf F S1x64x8x256 → Cf F S1x64x8x256 → Cf F S1x8x64x64),
    unary main_while0b_v61 main_while0b_v62 (broadcastInDim S1x8x1x64x64 ![0, 1, 3, 4] bcast_S1x8x64x64_S1x8x1x64x64_0_1_3_4 : Cf F S1x8x64x64 → Cf F S1x8x1x64x64) ]
theorem f5_sub : (f5 : Ops).Forall fun op => op.bufs ⊆ tcRefs τ sig :=
  ⟨unary_bufs_sub .., unary_bufs_sub .., unary_bufs_sub .., unary_bufs_sub .., unary_bufs_sub .., binary_bufs_sub .., binary_bufs_sub .., unary_bufs_sub ..⟩
theorem f5_fresh : (f5 : Ops).Forall fun op => op.fresh = ∅ := forall_fresh_of_map rfl
abbrev f5_W : List (Ref sig .tc) := [main_while0b_v55, main_while0b_v56, main_while0b_v57, main_while0b_v58, main_while0b_v59, main_while0b_v60, main_while0b_v61, main_while0b_v62]
theorem f5_writes : (f5 : Ops).Forall fun op => op.writes ⊆ (f5_W.map (Proc.devRef (τ := τ) .tc)).toFinset :=
  forall_writes_sub_of_map rfl

abbrev f6 : Ops :=
  [ TRef.ternary (.of main_v28_4 : Tb S1x8x1x64x64) (.of main_while0b_v60 : Tf S1x8x1x64x64) (.of main_v28_5 : Tf S1x8x1x64x64) (.of main_while0b_v63 : Tf S1x8x1x64x64) select ]
theorem f6_sub : (f6 : Ops).Forall fun op => op.bufs ⊆ tcRefs τ sig :=
  ternary_bufs_sub ..
theorem f6_fresh : (f6 : Ops).Forall fun op => op.fresh = ∅ := forall_fresh_of_map rfl
abbrev f6_W : List (Ref sig .tc) := [main_while0b_v63]
theorem f6_writes : (f6 : Ops).Forall fun op => op.writes ⊆ (f6_W.map (Proc.devRef (τ := τ) .tc)).toFinset :=
  forall_writes_sub_of_map rfl

abbrev f7 : Ops :=
  [ unary main_while0b_v63 main_while0b_v64 (Host.exp : Cf F S1x8x1x64x64 → Cf F S1x8x1x64x64),
    binary main_while0b_v62 main_while0b_v64 main_while0b_v65 (mulf : Cf F S1x8x1x64x64 → Cf F S1x8x1x64x64 → Cf F S1x8x1x64x64),
    binary main_while0b_v52 main_while0b_v65 main_while0b_v66 ((fun l r => Host.dotGeneral dot_S1x64x8x1x512_S1x8x1x64x64_S1x8x1x512x64_1_4_4_3_023_012 none l r) : Cf F S1x64x8x1x512 → Cf F S1x8x1x64x64 → Cf F S1x8x1x512x64),
    unary main_while0b_v66 main_while0b_v67 ((transpose S1x64x8x1x512 [0, 4, 1, 2, 3] · transposes_S1x8x1x512x64_S1x64x8x1x512_0_4_1_2_3) : Cf F S1x8x1x512x64 → Cf F S1x64x8x1x512),
    binary main_v28_7 main_while0b_v50 main_while0b_v68 ((fun l r => Host.dotGeneral dot_S1x8x1x256x512_S1x64x8x256_S1x8x1x512x64_3_3_24_1_01_02 none l r) : Cf F S1x8x1x256x512 → Cf F S1x64x8x256 → Cf F S1x8x1x512x64),
    unary main_while0b_v68 main_while0b_v69 ((transpose S1x64x8x1x512 [0, 4, 1, 2, 3] · transposes_S1x8x1x512x64_S1x64x8x1x512_0_4_1_2_3) : Cf F S1x8x1x512x64 → Cf F S1x64x8x1x512),
    unary main_while0b_v54 main_while0b_v70 (Host.exp : Cf F S1x64x8x1 → Cf F S1x64x8x1),
    unary main_while0b_v70 main_while0b_v71 (broadcastInDim S1x64x8x1x1 ![0, 1, 2, 3] bcast_S1x64x8x1_S1x64x8x1x1_0_1_2_3 : Cf F S1x64x8x1 → Cf F S1x64x8x1x1),
    unary main_while0b_v71 main_while0b_v72 (broadcastInDim S1x64x8x1x512 ![0, 1, 2, 3, 4] bcast_S1x64x8x1x1_S1x64x8x1x512_0_1_2_3_4 : Cf F S1x64x8x1x1 → Cf F S1x64x8x1x512),
    binary main_while0b_v69 main_while0b_v72 main_while0b_v73 (mulf : Cf F S1x64x8x1x512 → Cf F S1x64x8x1x512 → Cf F S1x64x8x1x512),
    binary main_while0b_v67 main_while0b_v73 main_while0b_v74 (addf : Cf F S1x64x8x1x512 → Cf F S1x64x8x1x512 → Cf F S1x64x8x1x512),
    unary main_while0b_v54 main_while0b_v75 ((extractStridedSlice S1x1x8x1 ![0, 63, 0, 0] · slices_S1x64x8x1_S1x1x8x1_0_63_0_0) : Cf F S1x64x8x1 → Cf F S1x1x8x1),
    unary main_while0b_v75 main_while0b_v76 (broadcastInDim S1x64x8x1 ![0, 1, 2, 3] bcast_S1x1x8x1_S1x64x8x1_0_1_2_3 : Cf F S1x1x8x1 → Cf F S1x64x8x1),
    binary main_while0b_v76 main_while0b_v54 main_while0b_v77 (subf : Cf F S1x64x8x1 → Cf F S1x64x8x1 → Cf F S1x64x8x1),
    unary main_while0b_v77 main_while0b_v78 (Host.exp : Cf F S1x64x8x1 → Cf F S1x64x8x1),
    unary main_while0b_v54 main_while0b_v79 ((extractStridedSlice S1x1x8x1 ![0, 63, 0, 0] · slices_S1x64x8x1_S1x1x8x1_0_63_0_0) : Cf F S1x64x8x1 → Cf F S1x1x8x1),
    reshape main_while0b_v79 main_while0b_v80 rfl shapeCasts_S1x1x8x1_S1x8x1,
    unary main_while0b_v80 main_while0b_v81 (Host.exp : Cf F S1x8x1 → Cf F S1x8x1),
    unary main_while0b_v81 main_while0b_v82 (broadcastInDim S1x8x1x1x1 ![0, 1, 2] bcast_S1x8x1_S1x8x1x1x1_0_1_2 : Cf F S1x8x1 → Cf F S1x8x1x1x1),
    unary main_while0b_v82 main_while0b_v83 (broadcastInDim S1x8x1x256x512 ![0, 1, 2, 3, 4] bcast_S1x8x1x1x1_S1x8x1x256x512_0_1_2_3_4 : Cf F S1x8x1x1x1 → Cf F S1x8x1x256x512),
    binary main_while0b_v83 main_v28_7 main_while0b_v84 (mulf : Cf F S1x8x1x256x512 → Cf F S1x8x1x256x512 → Cf F S1x8x1x256x512),
    unary main_while0b_v78 main_while0b_v85 (broadcastInDim S1x64x8x1x1 ![0, 1, 2, 3] bcast_S1x64x8x1_S1x64x8x1x1_0_1_2_3 : Cf F S1x64x8x1 → Cf F S1x64x8x1x1),
    unary main_while0b_v85 main_while0b_v86 (broadcastInDim S1x64x8x1x512 ![0, 1, 2, 3, 4] bcast_S1x64x8x1x1_S1x64x8x1x512_0_1_2_3_4 : Cf F S1x64x8x1x1 → Cf F S1x64x8x1x512),
    binary main_while0b_v86 main_while0b_v52 main_while0b_v87 (mulf : Cf F S1x64x8x1x512 → Cf F S1x64x8x1x512 → Cf F S1x64x8x1x512),
    binary main_while0b_v87 main_while0b_v51 main_while0b_v88 ((fun l r => Host.dotGeneral dot_S1x64x8x1x512_S1x64x8x256_S1x8x1x512x256_1_1_34_3_02_02 none l r) : Cf F S1x64x8x1x512 → Cf F S1x64x8x256 → Cf F S1x8x1x512x256),
    unary main_while0b_v88 main_while0b_v89 ((transpose S1x8x1x256x512 [0, 1, 2, 4, 3] · transposes_S1x8x1x512x256_S1x8x1x256x512_0_1_2_4_3) : Cf F S1x8x1x512x256 → Cf F S1x8x1x256x512),
    binary main_while0b_v84 main_while0b_v89 main_while0b_v90 (addf : Cf F S1x8x1x256x512 → Cf F S1x8x1x256x512 → Cf F S1x8x1x256x512) ]
theorem f7_sub : (f7 : Ops).Forall fun op => op.bufs ⊆ tcRefs τ sig :=
  ⟨unary_bufs_sub .., binary_bufs_sub .., binary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., unary_bufs_sub .., binary_bufs_sub .., unary_bufs_sub .., unary_bufs_sub .., binary_bufs_sub .., binary_bufs_sub .., unary_bufs_sub .., binary_bufs_sub ..⟩
theorem f7_fresh : (f7 : Ops).Forall fun op => op.fresh = ∅ := forall_fresh_of_map rfl
abbrev f7_W : List (Ref sig .tc) := [main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_v90]
theorem f7_writes : (f7 : Ops).Forall fun op => op.writes ⊆ (f7_W.map (Proc.devRef (τ := τ) .tc)).toFinset :=
  forall_writes_sub_of_map rfl

abbrev f8 : Ops :=
  [ TRef.unary (.of main_while0b_v74 : Tf S1x64x8x1x512) (.of main_while0b_call8_v0 : Tf S1x1x64x8x1x512) (broadcastInDim S1x1x64x8x1x512 ![1, 2, 3, 4, 5] bcast_S1x64x8x1x512_S1x1x64x8x1x512_1_2_3_4_5),
    TRef.nullary (.of main_while0b_call8_c : Ti S_) (constantI S_ 32 0#32),
    TRef.nullary (.of main_while0b_call8_c_0 : Ti S_) (constantI S_ 32 0#32),
    TRef.nullary (.of main_while0b_call8_c_1 : Ti S_) (constantI S_ 32 0#32),
    TRef.nullary (.of main_while0b_call8_c_2 : Ti S_) (constantI S_ 32 0#32),
    TRef.nullary (.of main_while0b_call8_c_3 : Ti S_) (constantI S_ 32 0#32),
    TRef.binaryIndexed (.of main_v28_8 : Tf S36x1x64x8x1x512) (.of main_while0b_call8_v0 : Tf S1x1x64x8x1x512) ![(.of main_v28_6 : Ti S_), (.of main_while0b_call8_c : Ti S_), (.of main_while0b_call8_c_0 : Ti S_), (.of main_while0b_call8_c_1 : Ti S_), (.of main_while0b_call8_c_2 : Ti S_), (.of main_while0b_call8_c_3 : Ti S_)] (.of main_while0b_v91 : Tf S36x1x64x8x1x512) (fun x u i => Host.dynamicUpdateSlice x u (fun k => (i k (Shape.Idx.first h_S_)).toInt) updateFits_S36x1x64x8x1x512_S1x1x64x8x1x512) ]
theorem f8_sub : (f8 : Ops).Forall fun op => op.bufs ⊆ tcRefs τ sig :=
  ⟨unary_bufs_sub .., nullary_bufs_sub .., nullary_bufs_sub .., nullary_bufs_sub .., nullary_bufs_sub .., nullary_bufs_sub .., binaryIndexed_bufs_sub ..⟩
theorem f8_fresh : (f8 : Ops).Forall fun op => op.fresh = ∅ := forall_fresh_of_map rfl
abbrev f8_W : List (Ref sig .tc) := [main_while0b_call8_v0, main_while0b_call8_c, main_while0b_call8_c_0, main_while0b_call8_c_1, main_while0b_call8_c_2, main_while0b_call8_c_3, main_while0b_v91]
theorem f8_writes : (f8 : Ops).Forall fun op => op.writes ⊆ (f8_W.map (Proc.devRef (τ := τ) .tc)).toFinset :=
  forall_writes_sub_of_map rfl

abbrev f9 : Ops :=
  [ TRef.unary (.of main_v28_7 : Tf S1x8x1x256x512) (.of main_while0b_call9_v0 : Tf S1x1x8x1x256x512) (broadcastInDim S1x1x8x1x256x512 ![1, 2, 3, 4, 5] bcast_S1x8x1x256x512_S1x1x8x1x256x512_1_2_3_4_5),
    TRef.nullary (.of main_while0b_call9_c : Ti S_) (constantI S_ 32 0#32),
    TRef.nullary (.of main_while0b_call9_c_0 : Ti S_) (constantI S_ 32 0#32),
    TRef.nullary (.of main_while0b_call9_c_1 : Ti S_) (constantI S_ 32 0#32),
    TRef.nullary (.of main_while0b_call9_c_2 : Ti S_) (constantI S_ 32 0#32),
    TRef.nullary (.of main_while0b_call9_c_3 : Ti S_) (constantI S_ 32 0#32),
    TRef.binaryIndexed (.of main_v28_9 : Tf S36x1x8x1x256x512) (.of main_while0b_call9_v0 : Tf S1x1x8x1x256x512) ![(.of main_v28_6 : Ti S_), (.of main_while0b_call9_c : Ti S_), (.of main_while0b_call9_c_0 : Ti S_), (.of main_while0b_call9_c_1 : Ti S_), (.of main_while0b_call9_c_2 : Ti S_), (.of main_while0b_call9_c_3 : Ti S_)] (.of main_while0b_v92 : Tf S36x1x8x1x256x512) (fun x u i => Host.dynamicUpdateSlice x u (fun k => (i k (Shape.Idx.first h_S_)).toInt) updateFits_S36x1x8x1x256x512_S1x1x8x1x256x512) ]
theorem f9_sub : (f9 : Ops).Forall fun op => op.bufs ⊆ tcRefs τ sig :=
  ⟨unary_bufs_sub .., nullary_bufs_sub .., nullary_bufs_sub .., nullary_bufs_sub .., nullary_bufs_sub .., nullary_bufs_sub .., binaryIndexed_bufs_sub ..⟩
theorem f9_fresh : (f9 : Ops).Forall fun op => op.fresh = ∅ := forall_fresh_of_map rfl
abbrev f9_W : List (Ref sig .tc) := [main_while0b_call9_v0, main_while0b_call9_c, main_while0b_call9_c_0, main_while0b_call9_c_1, main_while0b_call9_c_2, main_while0b_call9_c_3, main_while0b_v92]
theorem f9_writes : (f9 : Ops).Forall fun op => op.writes ⊆ (f9_W.map (Proc.devRef (τ := τ) .tc)).toFinset :=
  forall_writes_sub_of_map rfl

abbrev f10 : Ops :=
  [ nullary main_while0b_c_18 (constantI S_ 32 1#32),
    binary main_v28_6 main_while0b_c_18 main_while0b_v93 (addi : Ci F S_ → Ci F S_ → Ci F S_),
    unary main_while0b_v93 main_v28_6 id,
    unary main_while0b_v90 main_v28_7 id,
    unary main_while0b_v91 main_v28_8 id,
    unary main_while0b_v92 main_v28_9 id ]
theorem f10_sub : (f10 : Ops).Forall fun op => op.bufs ⊆ tcRefs τ sig :=
  ⟨nullary_bufs_sub .., binary_bufs_sub .., unary_bufs_sub .., unary_bufs_sub .., unary_bufs_sub .., unary_bufs_sub ..⟩
theorem f10_fresh : (f10 : Ops).Forall fun op => op.fresh = ∅ := forall_fresh_of_map rfl
abbrev f10_W : List (Ref sig .tc) := [main_while0b_c_18, main_while0b_v93, main_v28_6, main_v28_7, main_v28_8, main_v28_9]
theorem f10_writes : (f10 : Ops).Forall fun op => op.writes ⊆ (f10_W.map (Proc.devRef (τ := τ) .tc)).toFinset :=
  forall_writes_sub_of_map rfl

end Cert.ReferenceIdeal.Run

end
-- ==== Proof.RB.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RA

@[expose] public section

set_option maxRecDepth 16384

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

local notation "Tf" s => TRef sig (BufTy.mk s EltTy.f32)
local notation "Ti" s => TRef sig (BufTy.mk s EltTy.i32)
local notation "Tb" s => TRef sig (BufTy.mk s EltTy.i1)
local notation "Ops" => List (HloOp τ sig (Elt F))

abbrev g0 : Ops :=
  [ nullary main_while1b_c_20 (constantI S_ 32 36#32),
    binary main_while1b_c_20 main_v40_7 main_while1b_v50 (subi : Ci F S_ → Ci F S_ → Ci F S_),
    nullary main_while1b_c_21 (constantI S_ 32 1#32),
    binary main_while1b_v50 main_while1b_c_21 main_while1b_v51 (subi : Ci F S_ → Ci F S_ → Ci F S_) ]
theorem g0_sub : (g0 : Ops).Forall fun op => op.bufs ⊆ tcRefs τ sig :=
  ⟨nullary_bufs_sub .., binary_bufs_sub .., nullary_bufs_sub .., binary_bufs_sub ..⟩
theorem g0_fresh : (g0 : Ops).Forall fun op => op.fresh = ∅ := forall_fresh_of_map rfl
abbrev g0_W : List (Ref sig .tc) := [main_while1b_c_20, main_while1b_v50, main_while1b_c_21, main_while1b_v51]
theorem g0_writes : (g0 : Ops).Forall fun op => op.writes ⊆ (g0_W.map (Proc.devRef (τ := τ) .tc)).toFinset :=
  forall_writes_sub_of_map rfl

abbrev g1 : Ops :=
  [ TRef.nullary (.of main_while1b_call10_c : Ti S_) (constantI S_ 32 0#32),
    TRef.nullary (.of main_while1b_call10_c_0 : Ti S_) (constantI S_ 32 0#32),
    TRef.nullary (.of main_while1b_call10_c_1 : Ti S_) (constantI S_ 32 0#32),
    TRef.nullary (.of main_while1b_call10_c_2 : Ti S_) (constantI S_ 32 0#32),
    TRef.nullary (.of main_while1b_call10_c_3 : Ti S_) (constantI S_ 32 0#32),
    TRef.unaryIndexed (.of main_v40_0 : Tf S36x1x64x8x1x512) ![(.of main_while1b_v51 : Ti S_), (.of main_while1b_call10_c : Ti S_), (.of main_while1b_call10_c_0 : Ti S_), (.of main_while1b_call10_c_1 : Ti S_), (.of main_while1b_call10_c_2 : Ti S_), (.of main_while1b_call10_c_3 : Ti S_)] (.of main_while1b_call10_v0 : Tf S1x1x64x8x1x512) (fun x i => Host.dynamicSlice S1x1x64x8x1x512 x (fun k => (i k (Shape.Idx.first h_S_)).toInt) sliceFits_S36x1x64x8x1x512_S1x1x64x8x1x512),
    TRef.reshape (.of main_while1b_call10_v0 : Tf S1x1x64x8x1x512) (.of main_while1b_v52 : Tf S1x64x8x1x512) rfl shapeCasts_S1x1x64x8x1x512_S1x64x8x1x512 ]
theorem g1_sub : (g1 : Ops).Forall fun op => op.bufs ⊆ tcRefs τ sig :=
  ⟨nullary_bufs_sub .., nullary_bufs_sub .., nullary_bufs_sub .., nullary_bufs_sub .., nullary_bufs_sub .., unaryIndexed_bufs_sub .., reshape_bufs_sub ..⟩
theorem g1_fresh : (g1 : Ops).Forall fun op => op.fresh = ∅ := forall_fresh_of_map rfl
abbrev g1_W : List (Ref sig .tc) := [main_while1b_call10_c, main_while1b_call10_c_0, main_while1b_call10_c_1, main_while1b_call10_c_2, main_while1b_call10_c_3, main_while1b_call10_v0, main_while1b_v52]
theorem g1_writes : (g1 : Ops).Forall fun op => op.writes ⊆ (g1_W.map (Proc.devRef (τ := τ) .tc)).toFinset :=
  forall_writes_sub_of_map rfl

abbrev g2 : Ops :=
  [ TRef.nullary (.of main_while1b_call11_c : Ti S_) (constantI S_ 32 0#32),
    TRef.nullary (.of main_while1b_call11_c_0 : Ti S_) (constantI S_ 32 0#32),
    TRef.nullary (.of main_while1b_call11_c_1 : Ti S_) (constantI S_ 32 0#32),
    TRef.nullary (.of main_while1b_call11_c_2 : Ti S_) (constantI S_ 32 0#32),
    TRef.nullary (.of main_while1b_call11_c_3 : Ti S_) (constantI S_ 32 0#32),
    TRef.unaryIndexed (.of main_v40_1 : Tf S36x1x8x1x256x512) ![(.of main_while1b_v51 : Ti S_), (.of main_while1b_call11_c : Ti S_), (.of main_while1b_call11_c_0 : Ti S_), (.of main_while1b_call11_c_1 : Ti S_), (.of main_while1b_call11_c_2 : Ti S_), (.of main_while1b_call11_c_3 : Ti S_)] (.of main_while1b_call11_v0 : Tf S1x1x8x1x256x512) (fun x i => Host.dynamicSlice S1x1x8x1x256x512 x (fun k => (i k (Shape.Idx.first h_S_)).toInt) sliceFits_S36x1x8x1x256x512_S1x1x8x1x256x512),
    TRef.reshape (.of main_while1b_call11_v0 : Tf S1x1x8x1x256x512) (.of main_while1b_v53 : Tf S1x8x1x256x512) rfl shapeCasts_S1x1x8x1x256x512_S1x8x1x256x512 ]
theorem g2_sub : (g2 : Ops).Forall fun op => op.bufs ⊆ tcRefs τ sig :=
  ⟨nullary_bufs_sub .., nullary_bufs_sub .., nullary_bufs_sub .., nullary_bufs_sub .., nullary_bufs_sub .., unaryIndexed_bufs_sub .., reshape_bufs_sub ..⟩
theorem g2_fresh : (g2 : Ops).Forall fun op => op.fresh = ∅ := forall_fresh_of_map rfl
abbrev g2_W : List (Ref sig .tc) := [main_while1b_call11_c, main_while1b_call11_c_0, main_while1b_call11_c_1, main_while1b_call11_c_2, main_while1b_call11_c_3, main_while1b_call11_v0, main_while1b_v53]
theorem g2_writes : (g2 : Ops).Forall fun op => op.writes ⊆ (g2_W.map (Proc.devRef (τ := τ) .tc)).toFinset :=
  forall_writes_sub_of_map rfl

abbrev g3 : Ops :=
  [ TRef.nullary (.of main_while1b_call12_c : Ti S_) (constantI S_ 32 0#32),
    TRef.nullary (.of main_while1b_call12_c_0 : Ti S_) (constantI S_ 32 0#32),
    TRef.nullary (.of main_while1b_call12_c_1 : Ti S_) (constantI S_ 32 0#32),
    TRef.nullary (.of main_while1b_call12_c_2 : Ti S_) (constantI S_ 32 0#32),
    TRef.unaryIndexed (.of main_v40_2 : Tf S36x1x64x8x256) ![(.of main_while1b_v51 : Ti S_), (.of main_while1b_call12_c : Ti S_), (.of main_while1b_call12_c_0 : Ti S_), (.of main_while1b_call12_c_1 : Ti S_), (.of main_while1b_call12_c_2 : Ti S_)] (.of main_while1b_call12_v0 : Tf S1x1x64x8x256) (fun x i => Host.dynamicSlice S1x1x64x8x256 x (fun k => (i k (Shape.Idx.first h_S_)).toInt) sliceFits_S36x1x64x8x256_S1x1x64x8x256),
    TRef.reshape (.of main_while1b_call12_v0 : Tf S1x1x64x8x256) (.of main_while1b_v54 : Tf S1x64x8x256) rfl shapeCasts_S1x1x64x8x256_S1x64x8x256 ]
theorem g3_sub : (g3 : Ops).Forall fun op => op.bufs ⊆ tcRefs τ sig :=
  ⟨nullary_bufs_sub .., nullary_bufs_sub .., nullary_bufs_sub .., nullary_bufs_sub .., unaryIndexed_bufs_sub .., reshape_bufs_sub ..⟩
theorem g3_fresh : (g3 : Ops).Forall fun op => op.fresh = ∅ := forall_fresh_of_map rfl
abbrev g3_W : List (Ref sig .tc) := [main_while1b_call12_c, main_while1b_call12_c_0, main_while1b_call12_c_1, main_while1b_call12_c_2, main_while1b_call12_v0, main_while1b_v54]
theorem g3_writes : (g3 : Ops).Forall fun op => op.writes ⊆ (g3_W.map (Proc.devRef (τ := τ) .tc)).toFinset :=
  forall_writes_sub_of_map rfl

abbrev g4 : Ops :=
  [ TRef.nullary (.of main_while1b_call13_c : Ti S_) (constantI S_ 32 0#32),
    TRef.nullary (.of main_while1b_call13_c_0 : Ti S_) (constantI S_ 32 0#32),
    TRef.nullary (.of main_while1b_call13_c_1 : Ti S_) (constantI S_ 32 0#32),
    TRef.nullary (.of main_while1b_call13_c_2 : Ti S_) (constantI S_ 32 0#32),
    TRef.unaryIndexed (.of main_v40_3 : Tf S36x1x64x8x256) ![(.of main_while1b_v51 : Ti S_), (.of main_while1b_call13_c : Ti S_), (.of main_while1b_call13_c_0 : Ti S_), (.of main_while1b_call13_c_1 : Ti S_), (.of main_while1b_call13_c_2 : Ti S_)] (.of main_while1b_call13_v0 : Tf S1x1x64x8x256) (fun x i => Host.dynamicSlice S1x1x64x8x256 x (fun k => (i k (Shape.Idx.first h_S_)).toInt) sliceFits_S36x1x64x8x256_S1x1x64x8x256),
    TRef.reshape (.of main_while1b_call13_v0 : Tf S1x1x64x8x256) (.of main_while1b_v55 : Tf S1x64x8x256) rfl shapeCasts_S1x1x64x8x256_S1x64x8x256 ]
theorem g4_sub : (g4 : Ops).Forall fun op => op.bufs ⊆ tcRefs τ sig :=
  ⟨nullary_bufs_sub .., nullary_bufs_sub .., nullary_bufs_sub .., nullary_bufs_sub .., unaryIndexed_bufs_sub .., reshape_bufs_sub ..⟩
theorem g4_fresh : (g4 : Ops).Forall fun op => op.fresh = ∅ := forall_fresh_of_map rfl
abbrev g4_W : List (Ref sig .tc) := [main_while1b_call13_c, main_while1b_call13_c_0, main_while1b_call13_c_1, main_while1b_call13_c_2, main_while1b_call13_v0, main_while1b_v55]
theorem g4_writes : (g4 : Ops).Forall fun op => op.writes ⊆ (g4_W.map (Proc.devRef (τ := τ) .tc)).toFinset :=
  forall_writes_sub_of_map rfl

abbrev g5 : Ops :=
  [ TRef.nullary (.of main_while1b_call14_c : Ti S_) (constantI S_ 32 0#32),
    TRef.nullary (.of main_while1b_call14_c_0 : Ti S_) (constantI S_ 32 0#32),
    TRef.nullary (.of main_while1b_call14_c_1 : Ti S_) (constantI S_ 32 0#32),
    TRef.nullary (.of main_while1b_call14_c_2 : Ti S_) (constantI S_ 32 0#32),
    TRef.nullary (.of main_while1b_call14_c_3 : Ti S_) (constantI S_ 32 0#32),
    TRef.unaryIndexed (.of main_v40_4 : Tf S36x1x64x8x1x512) ![(.of main_while1b_v51 : Ti S_), (.of main_while1b_call14_c : Ti S_), (.of main_while1b_call14_c_0 : Ti S_), (.of main_while1b_call14_c_1 : Ti S_), (.of main_while1b_call14_c_2 : Ti S_), (.of main_while1b_call14_c_3 : Ti S_)] (.of main_while1b_call14_v0 : Tf S1x1x64x8x1x512) (fun x i => Host.dynamicSlice S1x1x64x8x1x512 x (fun k => (i k (Shape.Idx.first h_S_)).toInt) sliceFits_S36x1x64x8x1x512_S1x1x64x8x1x512),
    TRef.reshape (.of main_while1b_call14_v0 : Tf S1x1x64x8x1x512) (.of main_while1b_v56 : Tf S1x64x8x1x512) rfl shapeCasts_S1x1x64x8x1x512_S1x64x8x1x512 ]
theorem g5_sub : (g5 : Ops).Forall fun op => op.bufs ⊆ tcRefs τ sig :=
  ⟨nullary_bufs_sub .., nullary_bufs_sub .., nullary_bufs_sub .., nullary_bufs_sub .., nullary_bufs_sub .., unaryIndexed_bufs_sub .., reshape_bufs_sub ..⟩
theorem g5_fresh : (g5 : Ops).Forall fun op => op.fresh = ∅ := forall_fresh_of_map rfl
abbrev g5_W : List (Ref sig .tc) := [main_while1b_call14_c, main_while1b_call14_c_0, main_while1b_call14_c_1, main_while1b_call14_c_2, main_while1b_call14_c_3, main_while1b_call14_v0, main_while1b_v56]
theorem g5_writes : (g5 : Ops).Forall fun op => op.writes ⊆ (g5_W.map (Proc.devRef (τ := τ) .tc)).toFinset :=
  forall_writes_sub_of_map rfl

abbrev g6 : Ops :=
  [ TRef.nullary (.of main_while1b_call15_c : Ti S_) (constantI S_ 32 0#32),
    TRef.nullary (.of main_while1b_call15_c_0 : Ti S_) (constantI S_ 32 0#32),
    TRef.nullary (.of main_while1b_call15_c_1 : Ti S_) (constantI S_ 32 0#32),
    TRef.nullary (.of main_while1b_call15_c_2 : Ti S_) (constantI S_ 32 0#32),
    TRef.unaryIndexed (.of main_v40_5 : Tf S36x1x64x8x1) ![(.of main_while1b_v51 : Ti S_), (.of main_while1b_call15_c : Ti S_), (.of main_while1b_call15_c_0 : Ti S_), (.of main_while1b_call15_c_1 : Ti S_), (.of main_while1b_call15_c_2 : Ti S_)] (.of main_while1b_call15_v0 : Tf S1x1x64x8x1) (fun x i => Host.dynamicSlice S1x1x64x8x1 x (fun k => (i k (Shape.Idx.first h_S_)).toInt) sliceFits_S36x1x64x8x1_S1x1x64x8x1),
    TRef.reshape (.of main_while1b_call15_v0 : Tf S1x1x64x8x1) (.of main_while1b_v57 : Tf S1x64x8x1) rfl shapeCasts_S1x1x64x8x1_S1x64x8x1 ]
theorem g6_sub : (g6 : Ops).Forall fun op => op.bufs ⊆ tcRefs τ sig :=
  ⟨nullary_bufs_sub .., nullary_bufs_sub .., nullary_bufs_sub .., nullary_bufs_sub .., unaryIndexed_bufs_sub .., reshape_bufs_sub ..⟩
theorem g6_fresh : (g6 : Ops).Forall fun op => op.fresh = ∅ := forall_fresh_of_map rfl
abbrev g6_W : List (Ref sig .tc) := [main_while1b_call15_c, main_while1b_call15_c_0, main_while1b_call15_c_1, main_while1b_call15_c_2, main_while1b_call15_v0, main_while1b_v57]
theorem g6_writes : (g6 : Ops).Forall fun op => op.writes ⊆ (g6_W.map (Proc.devRef (τ := τ) .tc)).toFinset :=
  forall_writes_sub_of_map rfl

abbrev g7 : Ops :=
  [ TRef.nullary (.of main_while1b_call16_call0_cst : Tf S_) (constant S_ .f32 0x00000000#32),
    TRef.unary (.of main_while1b_call16_call0_cst : Tf S_) (.of main_while1b_call16_call0_v0 : Tf S_) (broadcastInDim S_ ![] bcast_S_S_),
    TRef.binary (.of main_while1b_v57 : Tf S1x64x8x1) (.of main_while1b_call16_call0_v0 : Tf S_) (.of main_while1b_v58 : Tf S1x64x8x1) (fun x v => Host.reduceWindowAdd ![1, 64, 1, 1] ![1, 1, 1, 1] ![0, 63, 0, 0] ![0, 0, 0, 0] x v reduceWindows_S1x64x8x1_S1x64x8x1_w1s1p0_0_w64s1p63_0_w1s1p0_0_w1s1p0_0 h_S_) ]
theorem g7_sub : (g7 : Ops).Forall fun op => op.bufs ⊆ tcRefs τ sig :=
  ⟨nullary_bufs_sub .., unary_bufs_sub .., binary_bufs_sub ..⟩
theorem g7_fresh : (g7 : Ops).Forall fun op => op.fresh = ∅ := forall_fresh_of_map rfl
abbrev g7_W : List (Ref sig .tc) := [main_while1b_call16_call0_cst, main_while1b_call16_call0_v0, main_while1b_v58]
theorem g7_writes : (g7 : Ops).Forall fun op => op.writes ⊆ (g7_W.map (Proc.devRef (τ := τ) .tc)).toFinset :=
  forall_writes_sub_of_map rfl

abbrev g8 : Ops :=
  [ unary main_while1b_v58 main_while1b_v59 ((transpose S1x8x1x64 [0, 2, 3, 1] · transposes_S1x64x8x1_S1x8x1x64_0_2_3_1) : Cf F S1x64x8x1 → Cf F S1x8x1x64),
    unary main_while1b_v59 main_while1b_v60 (broadcastInDim S1x8x1x64x1 ![0, 1, 2, 3] bcast_S1x8x1x64_S1x8x1x64x1_0_1_2_3 : Cf F S1x8x1x64 → Cf F S1x8x1x64x1),
    unary main_while1b_v59 main_while1b_v61 (broadcastInDim S1x8x1x1x64 ![0, 1, 2, 4] bcast_S1x8x1x64_S1x8x1x1x64_0_1_2_4 : Cf F S1x8x1x64 → Cf F S1x8x1x1x64),
    unary main_while1b_v60 main_while1b_v62 (broadcastInDim S1x8x1x64x64 ![0, 1, 2, 3, 4] bcast_S1x8x1x64x1_S1x8x1x64x64_0_1_2_3_4 : Cf F S1x8x1x64x1 → Cf F S1x8x1x64x64),
    unary main_while1b_v61 main_while1b_v63 (broadcastInDim S1x8x1x64x64 ![0, 1, 2, 3, 4] bcast_S1x8x1x1x64_S1x8x1x64x64_0_1_2_3_4 : Cf F S1x8x1x1x64 → Cf F S1x8x1x64x64),
    binary main_while1b_v62 main_while1b_v63 main_while1b_v64 (subf : Cf F S1x8x1x64x64 → Cf F S1x8x1x64x64 → Cf F S1x8x1x64x64),
    binary main_while1b_v54 main_while1b_v55 main_while1b_v65 ((fun l r => Host.dotGeneral dot_S1x64x8x256_S1x64x8x256_S1x8x64x64_3_3_1_1_02_02 none l r) : Cf F S1x64x8x256 → Cf F S1x64x8x256 → Cf F S1x8x64x64),
    unary main_while1b_v65 main_while1b_v66 (broadcastInDim S1x8x1x64x64 ![0, 1, 3, 4] bcast_S1x8x64x64_S1x8x1x64x64_0_1_3_4 : Cf F S1x8x64x64 → Cf F S1x8x1x64x64),
    nullary main_while1b_cst_22 (constant S_ .f32 0xFF800000#32) ]
theorem g8_sub : (g8 : Ops).Forall fun op => op.bufs ⊆ tcRefs τ sig :=
  ⟨unary_bufs_sub .., unary_bufs_sub .., unary_bufs_sub .., unary_bufs_sub .., unary_bufs_sub .., binary_bufs_sub .., binary_bufs_sub .., unary_bufs_sub .., nullary_bufs_sub ..⟩
theorem g8_fresh : (g8 : Ops).Forall fun op => op.fresh = ∅ := forall_fresh_of_map rfl
abbrev g8_W : List (Ref sig .tc) := [main_while1b_v59, main_while1b_v60, main_while1b_v61, main_while1b_v62, main_while1b_v63, main_while1b_v64, main_while1b_v65, main_while1b_v66, main_while1b_cst_22]
theorem g8_writes : (g8 : Ops).Forall fun op => op.writes ⊆ (g8_W.map (Proc.devRef (τ := τ) .tc)).toFinset :=
  forall_writes_sub_of_map rfl

abbrev g9 : Ops :=
  [ TRef.unary (.of main_while1b_cst_22 : Tf S_) (.of main_while1b_call17_v0 : Tf S_) id,
    TRef.unary (.of main_v40_6 : Tb S64x64) (.of main_while1b_call17_v1 : Tb S1x8x1x64x64) (broadcastInDim S1x8x1x64x64 ![3, 4] bcast_S64x64_S1x8x1x64x64_3_4),
    TRef.unary (.of main_while1b_call17_v0 : Tf S_) (.of main_while1b_call17_v2 : Tf S1x8x1x64x64) (broadcastInDim S1x8x1x64x64 ![] bcast_S_S1x8x1x64x64),
    TRef.ternary (.of main_while1b_call17_v1 : Tb S1x8x1x64x64) (.of main_while1b_v64 : Tf S1x8x1x64x64) (.of main_while1b_call17_v2 : Tf S1x8x1x64x64) (.of main_while1b_v67 : Tf S1x8x1x64x64) select ]
theorem g9_sub : (g9 : Ops).Forall fun op => op.bufs ⊆ tcRefs τ sig :=
  ⟨unary_bufs_sub .., unary_bufs_sub .., unary_bufs_sub .., ternary_bufs_sub ..⟩
theorem g9_fresh : (g9 : Ops).Forall fun op => op.fresh = ∅ := forall_fresh_of_map rfl
abbrev g9_W : List (Ref sig .tc) := [main_while1b_call17_v0, main_while1b_call17_v1, main_while1b_call17_v2, main_while1b_v67]
theorem g9_writes : (g9 : Ops).Forall fun op => op.writes ⊆ (g9_W.map (Proc.devRef (τ := τ) .tc)).toFinset :=
  forall_writes_sub_of_map rfl

abbrev g10 : Ops :=
  ( unary main_while1b_v67 main_while1b_v68 (Host.exp : Cf F S1x8x1x64x64 → Cf F S1x8x1x64x64)
  :: binary main_while1b_v66 main_while1b_v68 main_while1b_v69 (mulf : Cf F S1x8x1x64x64 → Cf F S1x8x1x64x64 → Cf F S1x8x1x64x64)
  :: unary main_while1b_v58 main_while1b_v70 (Host.exp : Cf F S1x64x8x1 → Cf F S1x64x8x1)
  :: unary main_while1b_v70 main_while1b_v71 (broadcastInDim S1x64x8x1x1 ![0, 1, 2, 3] bcast_S1x64x8x1_S1x64x8x1x1_0_1_2_3 : Cf F S1x64x8x1 → Cf F S1x64x8x1x1)
  :: unary main_while1b_v58 main_while1b_v72 ((extractStridedSlice S1x1x8x1 ![0, 63, 0, 0] · slices_S1x64x8x1_S1x1x8x1_0_63_0_0) : Cf F S1x64x8x1 → Cf F S1x1x8x1)
  :: unary main_while1b_v72 main_while1b_v73 (broadcastInDim S1x64x8x1 ![0, 1, 2, 3] bcast_S1x1x8x1_S1x64x8x1_0_1_2_3 : Cf F S1x1x8x1 → Cf F S1x64x8x1)
  :: binary main_while1b_v73 main_while1b_v58 main_while1b_v74 (subf : Cf F S1x64x8x1 → Cf F S1x64x8x1 → Cf F S1x64x8x1)
  :: unary main_while1b_v74 main_while1b_v75 (Host.exp : Cf F S1x64x8x1 → Cf F S1x64x8x1)
  :: unary main_while1b_v58 main_while1b_v76 ((extractStridedSlice S1x1x8x1 ![0, 63, 0, 0] · slices_S1x64x8x1_S1x1x8x1_0_63_0_0) : Cf F S1x64x8x1 → Cf F S1x1x8x1)
  :: reshape main_while1b_v76 main_while1b_v77 rfl shapeCasts_S1x1x8x1_S1x8x1
  :: unary main_while1b_v77 main_while1b_v78 (Host.exp : Cf F S1x8x1 → Cf F S1x8x1)
  :: unary main_while1b_v78 main_while1b_v79 (broadcastInDim S1x8x1x1x1 ![0, 1, 2] bcast_S1x8x1_S1x8x1x1x1_0_1_2 : Cf F S1x8x1 → Cf F S1x8x1x1x1)
  :: unary main_while1b_v75 main_while1b_v80 (broadcastInDim S1x64x8x1x1 ![0, 1, 2, 3] bcast_S1x64x8x1_S1x64x8x1x1_0_1_2_3 : Cf F S1x64x8x1 → Cf F S1x64x8x1x1)
  :: unary main_while1b_v80 main_while1b_v81 (broadcastInDim S1x64x8x1x512 ![0, 1, 2, 3, 4] bcast_S1x64x8x1x1_S1x64x8x1x512_0_1_2_3_4 : Cf F S1x64x8x1x1 → Cf F S1x64x8x1x512)
  :: binary main_while1b_v81 main_while1b_v56 main_while1b_v82 (mulf : Cf F S1x64x8x1x512 → Cf F S1x64x8x1x512 → Cf F S1x64x8x1x512)
  :: unary main_v40_8 main_while1b_v83 ((transpose S1x8x1x512x256 [0, 1, 2, 4, 3] · transposes_S1x8x1x256x512_S1x8x1x512x256_0_1_2_4_3) : Cf F S1x8x1x256x512 → Cf F S1x8x1x512x256)
  :: binary main_while1b_v83 main_while1b_v82 main_while1b_v84 ((fun l r => Host.dotGeneral dot_S1x8x1x512x256_S1x64x8x1x512_S1x8x256x64_23_34_4_1_01_02 none l r) : Cf F S1x8x1x512x256 → Cf F S1x64x8x1x512 → Cf F S1x8x256x64)
  :: unary main_while1b_v84 main_while1b_v85 ((transpose S1x64x8x256 [0, 3, 1, 2] · transposes_S1x8x256x64_S1x64x8x256_0_3_1_2) : Cf F S1x8x256x64 → Cf F S1x64x8x256)
  :: binary main_while1b_v83 main_while1b_v55 main_while1b_v86 ((fun l r => Host.dotGeneral dot_S1x8x1x512x256_S1x64x8x256_S1x8x1x512x64_4_3_23_1_01_02 none l r) : Cf F S1x8x1x512x256 → Cf F S1x64x8x256 → Cf F S1x8x1x512x64)
  :: unary main_while1b_v86 main_while1b_v87 ((transpose S1x64x8x1x512 [0, 4, 1, 2, 3] · transposes_S1x8x1x512x64_S1x64x8x1x512_0_4_1_2_3) : Cf F S1x8x1x512x64 → Cf F S1x64x8x1x512)
  :: unary main_while1b_v80 main_while1b_v88 (broadcastInDim S1x64x8x1x512 ![0, 1, 2, 3, 4] bcast_S1x64x8x1x1_S1x64x8x1x512_0_1_2_3_4 : Cf F S1x64x8x1x1 → Cf F S1x64x8x1x512)
  :: binary main_while1b_v88 main_while1b_v87 main_while1b_v89 (mulf : Cf F S1x64x8x1x512 → Cf F S1x64x8x1x512 → Cf F S1x64x8x1x512)
  :: unary main_while1b_v79 main_while1b_v90 (broadcastInDim S1x8x1x256x512 ![0, 1, 2, 3, 4] bcast_S1x8x1x1x1_S1x8x1x256x512_0_1_2_3_4 : Cf F S1x8x1x1x1 → Cf F S1x8x1x256x512)
  :: binary main_while1b_v90 main_v40_8 main_while1b_v91 (mulf : Cf F S1x8x1x256x512 → Cf F S1x8x1x256x512 → Cf F S1x8x1x256x512)
  :: unary main_while1b_v71 main_while1b_v92 (broadcastInDim S1x64x8x1x512 ![0, 1, 2, 3, 4] bcast_S1x64x8x1x1_S1x64x8x1x512_0_1_2_3_4 : Cf F S1x64x8x1x1 → Cf F S1x64x8x1x512)
  :: binary main_while1b_v52 main_while1b_v92 main_while1b_v93 (mulf : Cf F S1x64x8x1x512 → Cf F S1x64x8x1x512 → Cf F S1x64x8x1x512)
  :: unary main_while1b_v93 main_while1b_v94 ((transpose S1x8x1x512x64 [0, 2, 3, 4, 1] · transposes_S1x64x8x1x512_S1x8x1x512x64_0_2_3_4_1) : Cf F S1x64x8x1x512 → Cf F S1x8x1x512x64)
  :: binary main_while1b_v94 main_while1b_v53 main_while1b_v95 ((fun l r => Host.dotGeneral dot_S1x8x1x512x64_S1x8x1x256x512_S1x8x64x256_23_24_4_3_01_01 none l r) : Cf F S1x8x1x512x64 → Cf F S1x8x1x256x512 → Cf F S1x8x64x256)
  :: unary main_while1b_v95 main_while1b_v96 ((transpose S1x64x8x256 [0, 2, 1, 3] · transposes_S1x8x64x256_S1x64x8x256_0_2_1_3) : Cf F S1x8x64x256 → Cf F S1x64x8x256)
  :: binary main_while1b_v94 main_while1b_v54 main_while1b_v97 ((fun l r => Host.dotGeneral dot_S1x8x1x512x64_S1x64x8x256_S1x8x1x512x256_4_1_23_3_01_02 none l r) : Cf F S1x8x1x512x64 → Cf F S1x64x8x256 → Cf F S1x8x1x512x256)
  :: unary main_while1b_v97 main_while1b_v98 ((transpose S1x8x1x256x512 [0, 1, 2, 4, 3] · transposes_S1x8x1x512x256_S1x8x1x256x512_0_1_2_4_3) : Cf F S1x8x1x512x256 → Cf F S1x8x1x256x512)
  :: binary main_while1b_v91 main_while1b_v98 main_while1b_v99 (addf : Cf F S1x8x1x256x512 → Cf F S1x8x1x256x512 → Cf F S1x8x1x256x512)
  :: unary main_while1b_v52 main_while1b_v100 ((transpose S1x8x1x512x64 [0, 2, 3, 4, 1] · transposes_S1x64x8x1x512_S1x8x1x512x64_0_2_3_4_1) : Cf F S1x64x8x1x512 → Cf F S1x8x1x512x64)
  :: binary main_while1b_v100 main_while1b_v56 main_while1b_v101 ((fun l r => Host.dotGeneral dot_S1x8x1x512x64_S1x64x8x1x512_S1x8x1x64x64_3_4_4_1_012_023 none l r) : Cf F S1x8x1x512x64 → Cf F S1x64x8x1x512 → Cf F S1x8x1x64x64)
  :: binary main_while1b_v100 main_while1b_v69 main_while1b_v102 ((fun l r => Host.dotGeneral dot_S1x8x1x512x64_S1x8x1x64x64_S1x8x1x512x64_4_3_3_4_012_012 none l r) : Cf F S1x8x1x512x64 → Cf F S1x8x1x64x64 → Cf F S1x8x1x512x64)
  :: unary main_while1b_v102 main_while1b_v103 ((transpose S1x64x8x1x512 [0, 4, 1, 2, 3] · transposes_S1x8x1x512x64_S1x64x8x1x512_0_4_1_2_3) : Cf F S1x8x1x512x64 → Cf F S1x64x8x1x512)
  :: binary main_while1b_v89 main_while1b_v103 main_while1b_v104 (addf : Cf F S1x64x8x1x512 → Cf F S1x64x8x1x512 → Cf F S1x64x8x1x512)
  :: binary main_while1b_v101 main_while1b_v68 main_while1b_v105 (mulf : Cf F S1x8x1x64x64 → Cf F S1x8x1x64x64 → Cf F S1x8x1x64x64)
  :: nullary main_while1b_cst_23 (constant S_ .f32 0x00000000#32)
  :: binary main_while1b_v105 main_while1b_cst_23 main_while1b_v106 ((fun x v => Host.reduceAdd x v reducesTo_S1x8x1x64x64_S8x64x64_d0_2 h_S_) : Cf F S1x8x1x64x64 → Cf F S_ → Cf F S8x64x64)
  :: unary main_while1b_v106 main_while1b_v107 (broadcastInDim S1x8x64x64 ![1, 2, 3] bcast_S8x64x64_S1x8x64x64_1_2_3 : Cf F S8x64x64 → Cf F S1x8x64x64)
  :: binary main_while1b_v107 main_while1b_v54 main_while1b_v108 ((fun l r => Host.dotGeneral dot_S1x8x64x64_S1x64x8x256_S1x8x64x256_2_1_3_3_01_02 none l r) : Cf F S1x8x64x64 → Cf F S1x64x8x256 → Cf F S1x8x64x256)
  :: unary main_while1b_v108 main_while1b_v109 ((transpose S1x64x8x256 [0, 2, 1, 3] · transposes_S1x8x64x256_S1x64x8x256_0_2_1_3) : Cf F S1x8x64x256 → Cf F S1x64x8x256)
  :: binary main_while1b_v85 main_while1b_v109 main_while1b_v110 (addf : Cf F S1x64x8x256 → Cf F S1x64x8x256 → Cf F S1x64x8x256)
  :: binary main_while1b_v107 main_while1b_v55 main_while1b_v111 ((fun l r => Host.dotGeneral dot_S1x8x64x64_S1x64x8x256_S1x8x64x256_3_1_2_3_01_02 none l r) : Cf F S1x8x64x64 → Cf F S1x64x8x256 → Cf F S1x8x64x256)
  :: unary main_while1b_v111 main_while1b_v112 ((transpose S1x64x8x256 [0, 2, 1, 3] · transposes_S1x8x64x256_S1x64x8x256_0_2_1_3) : Cf F S1x8x64x256 → Cf F S1x64x8x256)
  :: binary main_while1b_v96 main_while1b_v112 main_while1b_v113 (addf : Cf F S1x64x8x256 → Cf F S1x64x8x256 → Cf F S1x64x8x256)
  :: [] )
theorem g10_sub : (g10 : Ops).Forall fun op => op.bufs ⊆ tcRefs τ sig :=
  ⟨unary_bufs_sub .., binary_bufs_sub .., unary_bufs_sub .., unary_bufs_sub .., unary_bufs_sub .., unary_bufs_sub .., binary_bufs_sub .., unary_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., binary_bufs_sub .., unary_bufs_sub .., binary_bufs_sub .., unary_bufs_sub .., binary_bufs_sub .., binary_bufs_sub .., unary_bufs_sub .., binary_bufs_sub ..⟩
theorem g10_fresh : (g10 : Ops).Forall fun op => op.fresh = ∅ := forall_fresh_of_map rfl
abbrev g10_W : List (Ref sig .tc) := [main_while1b_v68, main_while1b_v69, main_while1b_v70, main_while1b_v71, main_while1b_v72, main_while1b_v73, main_while1b_v74, main_while1b_v75, main_while1b_v76, main_while1b_v77, main_while1b_v78, main_while1b_v79, main_while1b_v80, main_while1b_v81, main_while1b_v82, main_while1b_v83, main_while1b_v84, main_while1b_v85, main_while1b_v86, main_while1b_v87, main_while1b_v88, main_while1b_v89, main_while1b_v90, main_while1b_v91, main_while1b_v92, main_while1b_v93, main_while1b_v94, main_while1b_v95, main_while1b_v96, main_while1b_v97, main_while1b_v98, main_while1b_v99, main_while1b_v100, main_while1b_v101, main_while1b_v102, main_while1b_v103, main_while1b_v104, main_while1b_v105, main_while1b_cst_23, main_while1b_v106, main_while1b_v107, main_while1b_v108, main_while1b_v109, main_while1b_v110, main_while1b_v111, main_while1b_v112, main_while1b_v113]
theorem g10_writes : (g10 : Ops).Forall fun op => op.writes ⊆ (g10_W.map (Proc.devRef (τ := τ) .tc)).toFinset :=
  forall_writes_sub_of_map rfl

abbrev g11 : Ops :=
  [ TRef.unary (.of main_while1b_v113 : Tf S1x64x8x256) (.of main_while1b_call18_v0 : Tf S1x1x64x8x256) (broadcastInDim S1x1x64x8x256 ![1, 2, 3, 4] bcast_S1x64x8x256_S1x1x64x8x256_1_2_3_4),
    TRef.nullary (.of main_while1b_call18_c : Ti S_) (constantI S_ 32 0#32),
    TRef.nullary (.of main_while1b_call18_c_0 : Ti S_) (constantI S_ 32 0#32),
    TRef.nullary (.of main_while1b_call18_c_1 : Ti S_) (constantI S_ 32 0#32),
    TRef.nullary (.of main_while1b_call18_c_2 : Ti S_) (constantI S_ 32 0#32),
    TRef.binaryIndexed (.of main_v40_9 : Tf S36x1x64x8x256) (.of main_while1b_call18_v0 : Tf S1x1x64x8x256) ![(.of main_while1b_v51 : Ti S_), (.of main_while1b_call18_c : Ti S_), (.of main_while1b_call18_c_0 : Ti S_), (.of main_while1b_call18_c_1 : Ti S_), (.of main_while1b_call18_c_2 : Ti S_)] (.of main_while1b_v114 : Tf S36x1x64x8x256) (fun x u i => Host.dynamicUpdateSlice x u (fun k => (i k (Shape.Idx.first h_S_)).toInt) updateFits_S36x1x64x8x256_S1x1x64x8x256) ]
theorem g11_sub : (g11 : Ops).Forall fun op => op.bufs ⊆ tcRefs τ sig :=
  ⟨unary_bufs_sub .., nullary_bufs_sub .., nullary_bufs_sub .., nullary_bufs_sub .., nullary_bufs_sub .., binaryIndexed_bufs_sub ..⟩
theorem g11_fresh : (g11 : Ops).Forall fun op => op.fresh = ∅ := forall_fresh_of_map rfl
abbrev g11_W : List (Ref sig .tc) := [main_while1b_call18_v0, main_while1b_call18_c, main_while1b_call18_c_0, main_while1b_call18_c_1, main_while1b_call18_c_2, main_while1b_v114]
theorem g11_writes : (g11 : Ops).Forall fun op => op.writes ⊆ (g11_W.map (Proc.devRef (τ := τ) .tc)).toFinset :=
  forall_writes_sub_of_map rfl

abbrev g12 : Ops :=
  [ TRef.unary (.of main_while1b_v110 : Tf S1x64x8x256) (.of main_while1b_call19_v0 : Tf S1x1x64x8x256) (broadcastInDim S1x1x64x8x256 ![1, 2, 3, 4] bcast_S1x64x8x256_S1x1x64x8x256_1_2_3_4),
    TRef.nullary (.of main_while1b_call19_c : Ti S_) (constantI S_ 32 0#32),
    TRef.nullary (.of main_while1b_call19_c_0 : Ti S_) (constantI S_ 32 0#32),
    TRef.nullary (.of main_while1b_call19_c_1 : Ti S_) (constantI S_ 32 0#32),
    TRef.nullary (.of main_while1b_call19_c_2 : Ti S_) (constantI S_ 32 0#32),
    TRef.binaryIndexed (.of main_v40_10 : Tf S36x1x64x8x256) (.of main_while1b_call19_v0 : Tf S1x1x64x8x256) ![(.of main_while1b_v51 : Ti S_), (.of main_while1b_call19_c : Ti S_), (.of main_while1b_call19_c_0 : Ti S_), (.of main_while1b_call19_c_1 : Ti S_), (.of main_while1b_call19_c_2 : Ti S_)] (.of main_while1b_v115 : Tf S36x1x64x8x256) (fun x u i => Host.dynamicUpdateSlice x u (fun k => (i k (Shape.Idx.first h_S_)).toInt) updateFits_S36x1x64x8x256_S1x1x64x8x256) ]
theorem g12_sub : (g12 : Ops).Forall fun op => op.bufs ⊆ tcRefs τ sig :=
  ⟨unary_bufs_sub .., nullary_bufs_sub .., nullary_bufs_sub .., nullary_bufs_sub .., nullary_bufs_sub .., binaryIndexed_bufs_sub ..⟩
theorem g12_fresh : (g12 : Ops).Forall fun op => op.fresh = ∅ := forall_fresh_of_map rfl
abbrev g12_W : List (Ref sig .tc) := [main_while1b_call19_v0, main_while1b_call19_c, main_while1b_call19_c_0, main_while1b_call19_c_1, main_while1b_call19_c_2, main_while1b_v115]
theorem g12_writes : (g12 : Ops).Forall fun op => op.writes ⊆ (g12_W.map (Proc.devRef (τ := τ) .tc)).toFinset :=
  forall_writes_sub_of_map rfl

abbrev g13 : Ops :=
  [ TRef.unary (.of main_while1b_v104 : Tf S1x64x8x1x512) (.of main_while1b_call20_v0 : Tf S1x1x64x8x1x512) (broadcastInDim S1x1x64x8x1x512 ![1, 2, 3, 4, 5] bcast_S1x64x8x1x512_S1x1x64x8x1x512_1_2_3_4_5),
    TRef.nullary (.of main_while1b_call20_c : Ti S_) (constantI S_ 32 0#32),
    TRef.nullary (.of main_while1b_call20_c_0 : Ti S_) (constantI S_ 32 0#32),
    TRef.nullary (.of main_while1b_call20_c_1 : Ti S_) (constantI S_ 32 0#32),
    TRef.nullary (.of main_while1b_call20_c_2 : Ti S_) (constantI S_ 32 0#32),
    TRef.nullary (.of main_while1b_call20_c_3 : Ti S_) (constantI S_ 32 0#32),
    TRef.binaryIndexed (.of main_v40_11 : Tf S36x1x64x8x1x512) (.of main_while1b_call20_v0 : Tf S1x1x64x8x1x512) ![(.of main_while1b_v51 : Ti S_), (.of main_while1b_call20_c : Ti S_), (.of main_while1b_call20_c_0 : Ti S_), (.of main_while1b_call20_c_1 : Ti S_), (.of main_while1b_call20_c_2 : Ti S_), (.of main_while1b_call20_c_3 : Ti S_)] (.of main_while1b_v116 : Tf S36x1x64x8x1x512) (fun x u i => Host.dynamicUpdateSlice x u (fun k => (i k (Shape.Idx.first h_S_)).toInt) updateFits_S36x1x64x8x1x512_S1x1x64x8x1x512) ]
theorem g13_sub : (g13 : Ops).Forall fun op => op.bufs ⊆ tcRefs τ sig :=
  ⟨unary_bufs_sub .., nullary_bufs_sub .., nullary_bufs_sub .., nullary_bufs_sub .., nullary_bufs_sub .., nullary_bufs_sub .., binaryIndexed_bufs_sub ..⟩
theorem g13_fresh : (g13 : Ops).Forall fun op => op.fresh = ∅ := forall_fresh_of_map rfl
abbrev g13_W : List (Ref sig .tc) := [main_while1b_call20_v0, main_while1b_call20_c, main_while1b_call20_c_0, main_while1b_call20_c_1, main_while1b_call20_c_2, main_while1b_call20_c_3, main_while1b_v116]
theorem g13_writes : (g13 : Ops).Forall fun op => op.writes ⊆ (g13_W.map (Proc.devRef (τ := τ) .tc)).toFinset :=
  forall_writes_sub_of_map rfl

abbrev g14 : Ops :=
  [ nullary main_while1b_c_24 (constantI S_ 32 1#32),
    binary main_v40_7 main_while1b_c_24 main_while1b_v117 (addi : Ci F S_ → Ci F S_ → Ci F S_),
    unary main_while1b_v117 main_v40_7 id,
    unary main_while1b_v99 main_v40_8 id,
    unary main_while1b_v114 main_v40_9 id,
    unary main_while1b_v115 main_v40_10 id,
    unary main_while1b_v116 main_v40_11 id ]
theorem g14_sub : (g14 : Ops).Forall fun op => op.bufs ⊆ tcRefs τ sig :=
  ⟨nullary_bufs_sub .., binary_bufs_sub .., unary_bufs_sub .., unary_bufs_sub .., unary_bufs_sub .., unary_bufs_sub .., unary_bufs_sub ..⟩
theorem g14_fresh : (g14 : Ops).Forall fun op => op.fresh = ∅ := forall_fresh_of_map rfl
abbrev g14_W : List (Ref sig .tc) := [main_while1b_c_24, main_while1b_v117, main_v40_7, main_v40_8, main_v40_9, main_v40_10, main_v40_11]
theorem g14_writes : (g14 : Ops).Forall fun op => op.writes ⊆ (g14_W.map (Proc.devRef (τ := τ) .tc)).toFinset :=
  forall_writes_sub_of_map rfl

end Cert.ReferenceIdeal.Run

end
-- ==== Proof.RChain.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RB

@[expose] public section

set_option maxRecDepth 16384

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs unscopedBufs_held sub_ucRefs)
open Cert.ReferenceIdeal Cert.ReferenceIdeal.Gen

variable {F : FTy → Type} [FloatOps F]

local notation "Ops" => List (HloOp τ sig (Elt F))
/-- Programs of the reference. -/
abbrev Pr (F : FTy → Type) [FloatOps F] := Prog (TpuEff nD τ sig (Elt F) (HostLoop.Sig (Pipeline.Sig Λ₀ (Fin 0) fun p => (pcfgs (F := F) p).Adm) 2) .tc) PUnit

/-! ## The program and the loops' bodies as chains of stretches -/

theorem part0_eq (c : Dev nD) : main_part0 (F := F) c = (Pipeline.chainK
  [ seq hA0,
    seq hA1,
    seq hA2,
    seq hA3,
    HostLoop.enter 0 ]
  (seq hB0) : Pr F) := by
  rewrite [chainK_seq_cons, chainK_seq_cons, Pipeline.chainK_cons, chainK_seq_cons, Pipeline.chainK_cons]
  chain_rfl

theorem part1_eq (c : Dev nD) : main_part1 (F := F) c = (Pipeline.chain
  [ seq hB1,
    HostLoop.enter 1,
    seq hC ] : Pr F) := by
  rewrite [chain_seq_cons, Pipeline.chain_cons, chain_seq_cons]
  chain_rfl

theorem body0_eq : main_while0_body (F := F) = (Pipeline.chain
  [ seq f0,
    seq f1,
    seq f2,
    seq f3,
    seq f4,
    seq f5,
    seq f6,
    seq f7,
    seq f8,
    seq f9,
    seq f10 ] : Pr F) := by
  rewrite [Pipeline.chain_cons, Pipeline.chain_cons, Pipeline.chain_cons, Pipeline.chain_cons, Pipeline.chain_cons, chain_seq_cons, Pipeline.chain_cons, chain_seq_cons, Pipeline.chain_cons, Pipeline.chain_cons, chain_seq_cons]
  chain_rfl

theorem body1_eq : main_while1_body (F := F) = (Pipeline.chain
  [ seq g0,
    seq g1,
    seq g2,
    seq g3,
    seq g4,
    seq g5,
    seq g6,
    seq g7,
    seq g8,
    seq g9,
    seq g10,
    seq g11,
    seq g12,
    seq g13,
    seq g14 ] : Pr F) := by
  rewrite [chain_seq_cons, Pipeline.chain_cons, Pipeline.chain_cons, Pipeline.chain_cons, Pipeline.chain_cons, Pipeline.chain_cons, Pipeline.chain_cons, Pipeline.chain_cons, chain_seq_cons, Pipeline.chain_cons, chain_seq_cons, Pipeline.chain_cons, Pipeline.chain_cons, Pipeline.chain_cons, chain_seq_cons]
  chain_rfl

theorem main_eq (c : Dev nD) : main (F := F) c = (Pipeline.chain
  [ seq hA0,
    seq hA1,
    seq hA2,
    seq hA3,
    HostLoop.enter 0,
    seq hB0,
    seq hB1,
    HostLoop.enter 1,
    seq hC ] : Pr F) := by
  show (main_part0 (F := F) c >>= fun _ => main_part1 (F := F) c) = _
  rewrite [part1_eq, part0_eq, Pipeline.chainK_bind_chain]
  chain_rfl

/-! ## The five groups of stretches -/

abbrev preL : List Ops := [hA0, hA1, hA2, hA3]
theorem preL_plain : Plain (preL (F := F)) :=
  .cons hA0_sub (hf := List.forall_iff_forall_mem.mp hA0_fresh) <| .cons hA1_sub (hf := List.forall_iff_forall_mem.mp hA1_fresh) <| .cons hA2_sub (hf := List.forall_iff_forall_mem.mp hA2_fresh) <| .cons hA3_sub (hf := List.forall_iff_forall_mem.mp hA3_fresh) <| .nil

abbrev body0L : List Ops := [f0, f1, f2, f3, f4, f5, f6, f7, f8, f9, f10]
theorem body0L_plain : Plain (body0L (F := F)) :=
  .cons f0_sub (hf := List.forall_iff_forall_mem.mp f0_fresh) <| .cons f1_sub (hf := List.forall_iff_forall_mem.mp f1_fresh) <| .cons f2_sub (hf := List.forall_iff_forall_mem.mp f2_fresh) <| .cons f3_sub (hf := List.forall_iff_forall_mem.mp f3_fresh) <| .cons f4_sub (hf := List.forall_iff_forall_mem.mp f4_fresh) <| .cons f5_sub (hf := List.forall_iff_forall_mem.mp f5_fresh) <| .cons f6_sub (hf := List.forall_iff_forall_mem.mp f6_fresh) <| .cons f7_sub (hf := List.forall_iff_forall_mem.mp f7_fresh) <| .cons f8_sub (hf := List.forall_iff_forall_mem.mp f8_fresh) <| .cons f9_sub (hf := List.forall_iff_forall_mem.mp f9_fresh) <| .cons f10_sub (hf := List.forall_iff_forall_mem.mp f10_fresh) <| .nil

abbrev midL : List Ops := [hB0, hB1]
theorem midL_plain : Plain (midL (F := F)) :=
  .cons hB0_sub (hf := List.forall_iff_forall_mem.mp hB0_fresh) <| .cons hB1_sub (hf := List.forall_iff_forall_mem.mp hB1_fresh) <| .nil

abbrev body1L : List Ops := [g0, g1, g2, g3, g4, g5, g6, g7, g8, g9, g10, g11, g12, g13, g14]
theorem body1L_plain : Plain (body1L (F := F)) :=
  .cons g0_sub (hf := List.forall_iff_forall_mem.mp g0_fresh) <| .cons g1_sub (hf := List.forall_iff_forall_mem.mp g1_fresh) <| .cons g2_sub (hf := List.forall_iff_forall_mem.mp g2_fresh) <| .cons g3_sub (hf := List.forall_iff_forall_mem.mp g3_fresh) <| .cons g4_sub (hf := List.forall_iff_forall_mem.mp g4_fresh) <| .cons g5_sub (hf := List.forall_iff_forall_mem.mp g5_fresh) <| .cons g6_sub (hf := List.forall_iff_forall_mem.mp g6_fresh) <| .cons g7_sub (hf := List.forall_iff_forall_mem.mp g7_fresh) <| .cons g8_sub (hf := List.forall_iff_forall_mem.mp g8_fresh) <| .cons g9_sub (hf := List.forall_iff_forall_mem.mp g9_fresh) <| .cons g10_sub (hf := List.forall_iff_forall_mem.mp g10_fresh) <| .cons g11_sub (hf := List.forall_iff_forall_mem.mp g11_fresh) <| .cons g12_sub (hf := List.forall_iff_forall_mem.mp g12_fresh) <| .cons g13_sub (hf := List.forall_iff_forall_mem.mp g13_fresh) <| .cons g14_sub (hf := List.forall_iff_forall_mem.mp g14_fresh) <| .nil

abbrev postL : List Ops := [hC]
theorem postL_plain : Plain (postL (F := F)) :=
  .cons hC_sub (hf := List.forall_iff_forall_mem.mp hC_fresh) <| .nil

end Cert.ReferenceIdeal.Run

end
-- ==== Proof.RCtr.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RChain

@[expose] public section

set_option maxRecDepth 16384

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs unscopedBufs_held sub_ucRefs)
open Cert.ReferenceIdeal Cert.ReferenceIdeal.Gen

variable {F : FTy → Type} [FloatOps F]

local notation "Ops" => List (HloOp τ sig (Elt F))

variable (m : (ℓ : Loc nD τ sig) → Buf (Elt F) ℓ) (ρ : Dev nD → PrngReg)
/-! ## The contents at each place of the program -/

/-- The condition's two operations: the bound, and the counter compared with it. -/
abbrev cond0 : Ops := [nullary main_while0c_c_18 (constantI S_ 32 36#32), binary main_v28_6 main_while0c_c_18 main_while0c_v50 (cmpi .slt)]
abbrev cond1 : Ops := [nullary main_while1c_c_20 (constantI S_ 32 36#32), binary main_v40_7 main_while1c_c_20 main_while1c_v50 (cmpi .slt)]
abbrev cond0_W : List (Ref sig .tc) := [main_while0c_c_18, main_while0c_v50]
abbrev cond1_W : List (Ref sig .tc) := [main_while1c_c_20, main_while1c_v50]
theorem cond0_writes : (cond0 : Ops).Forall fun op => op.writes ⊆ (cond0_W.map (Proc.devRef (τ := τ) .tc)).toFinset := forall_writes_sub_of_map rfl
theorem cond1_writes : (cond1 : Ops).Forall fun op => op.writes ⊆ (cond1_W.map (Proc.devRef (τ := τ) .tc)).toFinset := forall_writes_sub_of_map rfl

/-- At the first loop's entry. -/
abbrev E0 (c : Dev nD) : Valuation τ sig (Elt F) := afterL preL (launchContents m c)
/-- Before the `k`-th condition of the first loop. -/
abbrev T0 (k : ℕ) (c : Dev nD) : Valuation τ sig (Elt F) := atTrip cond0 body0L (E0 m) k c
/-- After the first loop. -/
abbrev X0 (c : Dev nD) : Valuation τ sig (Elt F) := after cond0 (T0 m 36 c)
/-- At the second loop's entry. -/
abbrev E1 (c : Dev nD) : Valuation τ sig (Elt F) := afterL midL (X0 m c)
/-- Before the `k`-th condition of the second loop. -/
abbrev T1 (k : ℕ) (c : Dev nD) : Valuation τ sig (Elt F) := atTrip cond1 body1L (E1 m) k c
/-- After the second loop. -/
abbrev X1 (c : Dev nD) : Valuation τ sig (Elt F) := after cond1 (T1 m 36 c)
/-- At the end. -/
abbrev Fin1 (c : Dev nD) : Valuation τ sig (Elt F) := afterL postL (X1 m c)

/-! ## The counters -/

/-- The body leaves the counter one step on. -/
theorem step0 (V : Valuation τ sig (Elt F)) :
    afterL body0L V (Proc.devRef .tc main_v28_6) = addi (V (Proc.devRef .tc main_v28_6)) (constantI S_ 32 1#32) := by
  simp only [afterL_cons, afterL_nil]
  rw [show ∀ X : Valuation τ sig (Elt F), after f10 X (Proc.devRef .tc main_v28_6) = addi (X (Proc.devRef .tc main_v28_6)) (constantI S_ 32 1#32) from
    fun X => by after_results; rfl]
  rw [after_of_writes_sub f9 _ f9_writes (by decide +kernel)]
  rw [after_of_writes_sub f8 _ f8_writes (by decide +kernel)]
  rw [after_of_writes_sub f7 _ f7_writes (by decide +kernel)]
  rw [after_of_writes_sub f6 _ f6_writes (by decide +kernel)]
  rw [after_of_writes_sub f5 _ f5_writes (by decide +kernel)]
  rw [after_of_writes_sub f4 _ f4_writes (by decide +kernel)]
  rw [after_of_writes_sub f3 _ f3_writes (by decide +kernel)]
  rw [after_of_writes_sub f2 _ f2_writes (by decide +kernel)]
  rw [after_of_writes_sub f1 _ f1_writes (by decide +kernel)]
  rw [after_of_writes_sub f0 _ f0_writes (by decide +kernel)]

theorem entry0 (c : Dev nD) : E0 m c (Proc.devRef .tc main_v28_6) = fun _ => (0#32 : BitVec 32) := by
  simp only [E0, afterL_cons, afterL_nil]
  generalize launchContents m c = V
  generalize after hA2 (after hA1 (after hA0 V)) = V'
  after_results
  rfl

/-- Before the `k`-th condition the counter is `k`. -/
theorem ctr0 (c : Dev nD) : ∀ k, T0 m k c (Proc.devRef .tc main_v28_6) = fun _ => Scf.iv 0#32 1#32 k
  | 0 => by rw [show T0 m 0 c = E0 m c from rfl, entry0, Scf.iv_zero]
  | k + 1 => by
    rw [show T0 m (k + 1) c = afterL body0L (after cond0 (T0 m k c)) from rfl, step0]
    rw [after_of_writes_sub cond0 _ cond0_writes (by decide +kernel), ctr0 c k, Scf.iv_succ]
    rfl

/-- The body leaves the counter one step on. -/
theorem step1 (V : Valuation τ sig (Elt F)) :
    afterL body1L V (Proc.devRef .tc main_v40_7) = addi (V (Proc.devRef .tc main_v40_7)) (constantI S_ 32 1#32) := by
  simp only [afterL_cons, afterL_nil]
  rw [show ∀ X : Valuation τ sig (Elt F), after g14 X (Proc.devRef .tc main_v40_7) = addi (X (Proc.devRef .tc main_v40_7)) (constantI S_ 32 1#32) from
    fun X => by after_results; rfl]
  rw [after_of_writes_sub g13 _ g13_writes (by decide +kernel)]
  rw [after_of_writes_sub g12 _ g12_writes (by decide +kernel)]
  rw [after_of_writes_sub g11 _ g11_writes (by decide +kernel)]
  rw [after_of_writes_sub g10 _ g10_writes (by decide +kernel)]
  rw [after_of_writes_sub g9 _ g9_writes (by decide +kernel)]
  rw [after_of_writes_sub g8 _ g8_writes (by decide +kernel)]
  rw [after_of_writes_sub g7 _ g7_writes (by decide +kernel)]
  rw [after_of_writes_sub g6 _ g6_writes (by decide +kernel)]
  rw [after_of_writes_sub g5 _ g5_writes (by decide +kernel)]
  rw [after_of_writes_sub g4 _ g4_writes (by decide +kernel)]
  rw [after_of_writes_sub g3 _ g3_writes (by decide +kernel)]
  rw [after_of_writes_sub g2 _ g2_writes (by decide +kernel)]
  rw [after_of_writes_sub g1 _ g1_writes (by decide +kernel)]
  rw [after_of_writes_sub g0 _ g0_writes (by decide +kernel)]

theorem entry1 (c : Dev nD) : E1 m c (Proc.devRef .tc main_v40_7) = fun _ => (0#32 : BitVec 32) := by
  simp only [E1, afterL_cons, afterL_nil]
  generalize X0 m c = V
  generalize after hB0 V = V'
  after_results
  rfl

/-- Before the `k`-th condition the counter is `k`. -/
theorem ctr1 (c : Dev nD) : ∀ k, T1 m k c (Proc.devRef .tc main_v40_7) = fun _ => Scf.iv 0#32 1#32 k
  | 0 => by rw [show T1 m 0 c = E1 m c from rfl, entry1, Scf.iv_zero]
  | k + 1 => by
    rw [show T1 m (k + 1) c = afterL body1L (after cond1 (T1 m k c)) from rfl, step1]
    rw [after_of_writes_sub cond1 _ cond1_writes (by decide +kernel), ctr1 c k, Scf.iv_succ]
    rfl

end Cert.ReferenceIdeal.Run

end
-- ==== Proof.RRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RCtr

@[expose] public section

set_option maxRecDepth 16384

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs unscopedBufs_held sub_ucRefs)
open Cert.ReferenceIdeal Cert.ReferenceIdeal.Gen

variable {F : FTy → Type} [FloatOps F]

local notation "Ops" => List (HloOp τ sig (Elt F))

variable (m : (ℓ : Loc nD τ sig) → Buf (Elt F) ℓ) (ρ : Dev nD → PrngReg)
/-! ## The run -/

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cell_inj : Function.Injective (Pipeline.cellOf (nD := nD) (τ := τ) (Pipeline.pin (pcfgs (F := F)) adm)) := fun k => k.1.elim0

/-- Carried beside the buffers: nothing is owed. -/
abbrev Rw (c : Dev nD) : sProp 𝕄 := iprop(∃ W, owes (c : Thread nD τ) (0 : CellTallies nD τ sig Unit) W)

/-- What is framed beside a condition comes through it. -/
theorem frame_cond {cond : Prog (TpuEff nD τ sig (Elt F) (HostLoop.Sig (Pipeline.Sig Λ₀ (Fin 0) fun p => (pcfgs (F := F) p).Adm) 2) .tc) (Elt F .i1)}
    {co : Ops} {bo : List Ops} {W : Dev nD → Valuation τ sig (Elt F)} {n : ℕ}
    (h : CondSpec (pcfgs (F := F)) defs₀ loops cond co bo W n) :
    LoopCond (pcfgs (F := F)) defs₀ Variants.none loops Rw cond co bo W n := fun k hk c bd => by
  have key := (sep_mono_left (Q := Rw (F := F) c) (h k hk c bd)).trans (wp_frame_r _ _ _)
  refine BIBase.Entails.trans ?_ (key.trans (wp_mono _ _ _ fun v => ?_))
  · iintro ⟨H1, H2, H3⟩
    isplitl [H1 H2]
    · isplitl [H1] <;> iassumption
    · iexact H3
  · iintro ⟨⟨%hv, H1, H2⟩, H3⟩
    isplitr
    · ipureintro; exact hv
    isplitl [H1]
    · iexact H1
    isplitl [H2] <;> iassumption

set_option backward.isDefEq.respectTransparency.types false in
/-- The condition of loop 0: true exactly for the trips before the 36th. -/
theorem spec0 : CondSpec (pcfgs (F := F)) defs₀ loops (main_while0_cond (F := F)) cond0 body0L (E0 m) 36 := by
  intro k hk c bd
  have hc := ctr0 m c k
  unfold main_while0_cond
  rw [wp_bind]
  iintro ⟨H1, H2⟩
  iapply (wp_hlo_within (Variants.lift Variants.none) (c : Thread nD τ) bd Set.univ (sub_ucRefs _ (nullary_bufs_sub ..))) $$ [H1 H2]
  · isplitl [H1] <;> iassumption
  iintro ⟨H1, H2⟩
  rw [wp_ret]; imodintro
  iapply (wp_hlo_within (Variants.lift Variants.none) (c : Thread nD τ) bd Set.univ (sub_ucRefs _ (binary_bufs_sub ..))) $$ [H1 H2]
  · isplitl [H1] <;> iassumption
  iintro ⟨H1, H2⟩
  rw [HostLoop.elt_apply, wp_ret]; imodintro
  isplitr
  · ipureintro
    show Iff (IntOp.cmpi .slt (HloOp.result _ (T0 m k c) main_v28_6 HostLoop.idx0)
        (HloOp.result _ (T0 m k c) main_while0c_c_18 HostLoop.idx0) = 1#1) (k < 36)
    rw [nullary_result_ne _ _ _ _ (by decide), nullary_result, hc]
    exact Scf.cmpi_slt_iv_ub_iff (lb := 0#32) (ub := 36#32) (st := 1#32) (by decide) (show k ≤ Scf.trips 0#32 36#32 1#32 from hk)
  isplitl [H1]
  · iexact H1
  rw [after_cons, after_cons, after_nil]; iexact H2

set_option backward.isDefEq.respectTransparency.types false in
/-- The condition of loop 1: true exactly for the trips before the 36th. -/
theorem spec1 : CondSpec (pcfgs (F := F)) defs₀ loops (main_while1_cond (F := F)) cond1 body1L (E1 m) 36 := by
  intro k hk c bd
  have hc := ctr1 m c k
  unfold main_while1_cond
  rw [wp_bind]
  iintro ⟨H1, H2⟩
  iapply (wp_hlo_within (Variants.lift Variants.none) (c : Thread nD τ) bd Set.univ (sub_ucRefs _ (nullary_bufs_sub ..))) $$ [H1 H2]
  · isplitl [H1] <;> iassumption
  iintro ⟨H1, H2⟩
  rw [wp_ret]; imodintro
  iapply (wp_hlo_within (Variants.lift Variants.none) (c : Thread nD τ) bd Set.univ (sub_ucRefs _ (binary_bufs_sub ..))) $$ [H1 H2]
  · isplitl [H1] <;> iassumption
  iintro ⟨H1, H2⟩
  rw [HostLoop.elt_apply, wp_ret]; imodintro
  isplitr
  · ipureintro
    show Iff (IntOp.cmpi .slt (HloOp.result _ (T1 m k c) main_v40_7 HostLoop.idx0)
        (HloOp.result _ (T1 m k c) main_while1c_c_20 HostLoop.idx0) = 1#1) (k < 36)
    rw [nullary_result_ne _ _ _ _ (by decide), nullary_result, hc]
    exact Scf.cmpi_slt_iv_ub_iff (lb := 0#32) (ub := 36#32) (st := 1#32) (by decide) (show k ≤ Scf.trips 0#32 36#32 1#32 from hk)
  isplitl [H1]
  · iexact H1
  rw [after_cons, after_cons, after_nil]; iexact H2

/-- The program's segments: stretches, the first loop, stretches, the second loop, the last stretch. -/
def segsR : List (CSeg (pcfgs (F := F)) adm defs₀ Variants.none L lv loops tk) :=
  segsOf _ _ _ _ _ _ _ _ Rw preL preL_plain (launchContents m)
    ++ loopSeg _ _ _ _ _ _ _ _ 0 main_while0_cond main_while0_body rfl cond0 body0L body0L_plain (by rw [body0_eq]; rfl) 36 (E0 m) Rw (frame_cond (spec0 m))
      :: (segsOf _ _ _ _ _ _ _ _ Rw midL midL_plain (X0 m)
        ++ loopSeg _ _ _ _ _ _ _ _ 1 main_while1_cond main_while1_body rfl cond1 body1L body1L_plain (by rw [body1_eq]; rfl) 36 (E1 m) Rw (frame_cond (spec1 m))
          :: segsOf _ _ _ _ _ _ _ _ Rw postL postL_plain (X1 m))

theorem segsR_prog : (segsR m).map CSeg.prog = (preL.map fun ops => (seq ops : Pr F)) ++ HostLoop.enter 0 ::
    ((midL.map fun ops => (seq ops : Pr F)) ++ HostLoop.enter 1 :: postL.map fun ops => (seq ops : Pr F)) := by
  unfold segsR
  rw [List.map_append, List.map_cons, List.map_append, List.map_cons, segsOf_prog, segsOf_prog, segsOf_prog]
  rfl

theorem segsR_chains : CSeg.Chains (fun c => iprop(held (c : Thread nD τ) (ucRefs τ sig) (launchContents m c) ∗ Rw c)) (segsR m)
    (fun c => iprop(held (c : Thread nD τ) (ucRefs τ sig) (Fin1 m c) ∗ Rw c)) := by
  unfold segsR
  exact CSeg.Chains.append (segsOf_chains _ _ _ _ _ _ _ _ Rw preL preL_plain _) ⟨fun _ => .rfl,
    CSeg.Chains.append (segsOf_chains _ _ _ _ _ _ _ _ Rw midL midL_plain _) ⟨fun _ => .rfl, segsOf_chains _ _ _ _ _ _ _ _ Rw postL postL_plain _⟩⟩

theorem chains_at (c : Dev nD) :
    ∀ (l : List (CSeg (pcfgs (F := F)) adm defs₀ Variants.none L lv loops tk)) {A B : Dev nD → sProp 𝕄}, CSeg.Chains A l B → CSeg.ChainsAt c A l B
  | [], _, _, h => h c
  | _ :: l, _, _, h => ⟨h.1 c, chains_at c l h.2⟩

theorem no_sem : ∀ sm : SemLoc sig, sm.isScoped .tc = true := by decide

/-- From any memory with zero counters every weakly fair execution ends, every unscoped buffer then at the fold and every
    counter at zero. -/
theorem run_main : θ_run defs (onTc (τ := τ) (main (F := F))) ⟨m, fun _ => 0, ρ⟩ (fun r =>
    (∀ c : Dev nD, ∀ b ∈ ucRefs τ sig, r.2.mem ((c : Thread nD τ).1, b) = Fin1 m c b) ∧ r.2.sem = fun _ => 0) :=
  Pipeline.θ_run_regions_loop_kit_dev_sems (Ix := Unit) (Name := ℕ) (U := Option PUnit) (Lvl := ℕ) (J := Fin 0) (P := Fin 0) (Val := Elt F)
    pcfgs adm cell_inj defs₀ Variants.none L lv loops tk m ρ main (fun _ => segsR m)
    (fun c Q => by
      rw [main_eq c]
      show wp _ _ _ (Pipeline.chain ((segsR m).map CSeg.prog)) Q ⊢ _
      rw [segsR_prog]
      exact .rfl)
    (fun _ => CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Fin1 m c)))
    (hch := fun c => chains_at c _ (segsR_chains m))
    (hinit := by
      refine Pipeline.initEach L lv fun c => ?_
      rw [show unscopedBufs c (fun b => m ((c : Thread nD τ).loc b)) = held (c : Thread nD τ) (ucRefs τ sig) (launchContents m c) from unscopedBufs_held c (launchContents m c)]
      iintro ⟨⟨H1, -, H2, -, -, -⟩, -⟩
      imodintro
      isplitl [H1]
      · iexact H1
      iexists ∅; iexact H2)
    (QY := fun c s => ∀ b ∈ ucRefs τ sig, s.mem ((c : Thread nD τ).1, b) = Fin1 m c b)
    (hfin := fun c s' => by
      unfold held
      iintro ⟨H1, H2⟩
      ihave Hr := (pointsTo_read_all (ucRefs τ sig) (fun b => ((c : Thread nD τ).1, b)) (Fin1 m c) s') $$ [H1 H2]
      · isplitl [H1] <;> iassumption
      imodintro; iexact Hr)
    (hQ := fun _ h hz => ⟨h, funext fun g => hz g (.inr (no_sem g.2))⟩)

/-! ## A buffer that nothing writes -/

/-- Every reference the program writes. -/
def written : List (Ref sig .tc) := hA0_W ++ hA1_W ++ hA2_W ++ hA3_W ++ cond0_W ++ (f0_W ++ f1_W ++ f2_W ++ f3_W ++ f4_W ++ f5_W ++ f6_W ++ f7_W ++ f8_W ++ f9_W ++ f10_W) ++ hB0_W ++ hB1_W ++ cond1_W ++ (g0_W ++ g1_W ++ g2_W ++ g3_W ++ g4_W ++ g5_W ++ g6_W ++ g7_W ++ g8_W ++ g9_W ++ g10_W ++ g11_W ++ g12_W ++ g13_W ++ g14_W) ++ hC_W

theorem keepL {r : Ref sig .tc} : ∀ (l : List Ops) (V : Valuation τ sig (Elt F)),
    (∀ ops ∈ l, ∀ V : Valuation τ sig (Elt F), after ops V (Proc.devRef .tc r) = V (Proc.devRef .tc r)) →
    afterL l V (Proc.devRef .tc r) = V (Proc.devRef .tc r)
  | [], _, _ => rfl
  | ops :: l, V, h => (keepL l _ fun o ho => h o (List.mem_cons_of_mem _ ho)).trans (h ops List.mem_cons_self V)

theorem keepT {r : Ref sig .tc} {co : Ops} {l : List Ops} {W : Dev nD → Valuation τ sig (Elt F)} (c : Dev nD)
    (h0 : ∀ V : Valuation τ sig (Elt F), after co V (Proc.devRef .tc r) = V (Proc.devRef .tc r))
    (h1 : ∀ V : Valuation τ sig (Elt F), afterL l V (Proc.devRef .tc r) = V (Proc.devRef .tc r)) :
    ∀ k, atTrip co l W k c (Proc.devRef .tc r) = W c (Proc.devRef .tc r)
  | 0 => rfl
  | k + 1 => by rw [atTrip_succ, h1, h0, keepT c h0 h1 k]

theorem keep_body0 {r : Ref sig .tc} (h : r ∉ f0_W ++ f1_W ++ f2_W ++ f3_W ++ f4_W ++ f5_W ++ f6_W ++ f7_W ++ f8_W ++ f9_W ++ f10_W) (V : Valuation τ sig (Elt F)) :
    afterL body0L V (Proc.devRef .tc r) = V (Proc.devRef .tc r) := by
  simp only [List.mem_append, not_or] at h
  refine keepL _ _ fun ops ho V => ?_
  simp only [List.mem_cons, List.not_mem_nil, or_false] at ho
  rcases ho with rfl | rfl | rfl | rfl | rfl | rfl | rfl | rfl | rfl | rfl | rfl
  · exact after_of_writes_sub f0 V f0_writes h.1.1.1.1.1.1.1.1.1.1
  · exact after_of_writes_sub f1 V f1_writes h.1.1.1.1.1.1.1.1.1.2
  · exact after_of_writes_sub f2 V f2_writes h.1.1.1.1.1.1.1.1.2
  · exact after_of_writes_sub f3 V f3_writes h.1.1.1.1.1.1.1.2
  · exact after_of_writes_sub f4 V f4_writes h.1.1.1.1.1.1.2
  · exact after_of_writes_sub f5 V f5_writes h.1.1.1.1.1.2
  · exact after_of_writes_sub f6 V f6_writes h.1.1.1.1.2
  · exact after_of_writes_sub f7 V f7_writes h.1.1.1.2
  · exact after_of_writes_sub f8 V f8_writes h.1.1.2
  · exact after_of_writes_sub f9 V f9_writes h.1.2
  · exact after_of_writes_sub f10 V f10_writes h.2

theorem keep_body1 {r : Ref sig .tc} (h : r ∉ g0_W ++ g1_W ++ g2_W ++ g3_W ++ g4_W ++ g5_W ++ g6_W ++ g7_W ++ g8_W ++ g9_W ++ g10_W ++ g11_W ++ g12_W ++ g13_W ++ g14_W) (V : Valuation τ sig (Elt F)) :
    afterL body1L V (Proc.devRef .tc r) = V (Proc.devRef .tc r) := by
  simp only [List.mem_append, not_or] at h
  refine keepL _ _ fun ops ho V => ?_
  simp only [List.mem_cons, List.not_mem_nil, or_false] at ho
  rcases ho with rfl | rfl | rfl | rfl | rfl | rfl | rfl | rfl | rfl | rfl | rfl | rfl | rfl | rfl | rfl
  · exact after_of_writes_sub g0 V g0_writes h.1.1.1.1.1.1.1.1.1.1.1.1.1.1
  · exact after_of_writes_sub g1 V g1_writes h.1.1.1.1.1.1.1.1.1.1.1.1.1.2
  · exact after_of_writes_sub g2 V g2_writes h.1.1.1.1.1.1.1.1.1.1.1.1.2
  · exact after_of_writes_sub g3 V g3_writes h.1.1.1.1.1.1.1.1.1.1.1.2
  · exact after_of_writes_sub g4 V g4_writes h.1.1.1.1.1.1.1.1.1.1.2
  · exact after_of_writes_sub g5 V g5_writes h.1.1.1.1.1.1.1.1.1.2
  · exact after_of_writes_sub g6 V g6_writes h.1.1.1.1.1.1.1.1.2
  · exact after_of_writes_sub g7 V g7_writes h.1.1.1.1.1.1.1.2
  · exact after_of_writes_sub g8 V g8_writes h.1.1.1.1.1.1.2
  · exact after_of_writes_sub g9 V g9_writes h.1.1.1.1.1.2
  · exact after_of_writes_sub g10 V g10_writes h.1.1.1.1.2
  · exact after_of_writes_sub g11 V g11_writes h.1.1.1.2
  · exact after_of_writes_sub g12 V g12_writes h.1.1.2
  · exact after_of_writes_sub g13 V g13_writes h.1.2
  · exact after_of_writes_sub g14 V g14_writes h.2

/-- An argument ends as launched. -/
theorem arg_keep (c : Dev nD) (r : Ref sig .tc) (h : r ∉ written) : Fin1 m c (Proc.devRef .tc r) = m ((c : Thread nD τ).loc r) := by
  unfold written at h
  rw [List.mem_append, List.mem_append, List.mem_append, List.mem_append, List.mem_append, List.mem_append, List.mem_append, List.mem_append, List.mem_append, List.mem_append] at h
  simp only [not_or] at h
  obtain ⟨⟨⟨⟨⟨⟨⟨⟨⟨⟨h0, h1⟩, h2⟩, h3⟩, h4⟩, h5⟩, h6⟩, h7⟩, h8⟩, h9⟩, h10⟩ := h
  have k0 : ∀ V : Valuation τ sig (Elt F), after cond0 V (Proc.devRef .tc r) = V (Proc.devRef .tc r) := fun V => after_of_writes_sub cond0 V cond0_writes h4
  have k1 : ∀ V : Valuation τ sig (Elt F), after cond1 V (Proc.devRef .tc r) = V (Proc.devRef .tc r) := fun V => after_of_writes_sub cond1 V cond1_writes h8
  show after hC _ _ = _
  rw [after_of_writes_sub hC _ hC_writes h10]
  show after cond1 (atTrip cond1 body1L (E1 m) 36 c) _ = _
  rw [k1, keepT c k1 (keep_body1 h9)]
  show after hB1 (after hB0 _) _ = _
  rw [after_of_writes_sub hB1 _ hB1_writes h7, after_of_writes_sub hB0 _ hB0_writes h6]
  show after cond0 (atTrip cond0 body0L (E0 m) 36 c) _ = _
  rw [k0, keepT c k0 (keep_body0 h5)]
  show after hA3 (after hA2 (after hA1 (after hA0 _))) _ = _
  rw [after_of_writes_sub hA3 _ hA3_writes h3, after_of_writes_sub hA2 _ hA2_writes h2, after_of_writes_sub hA1 _ hA1_writes h1, after_of_writes_sub hA0 _ hA0_writes h0]

theorem mem_uc (r : Ref sig .tc) (h : ¬ r.isScoped) : (Proc.devRef .tc r : DevRef τ sig) ∈ ucRefs τ sig :=
  Finset.mem_filter.mpr ⟨devRef_mem_tcRefs r, h⟩

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (arg_keep m c main_arg0 (by decide +kernel)),
     (h.1 c _ (mem_uc main_arg1 (by decide))).trans (arg_keep m c main_arg1 (by decide +kernel)),
     (h.1 c _ (mem_uc main_arg2 (by decide))).trans (arg_keep m c main_arg2 (by decide +kernel)),
     (h.1 c _ (mem_uc main_arg3 (by decide))).trans (arg_keep m c main_arg3 (by decide +kernel)),
     (h.1 c _ (mem_uc main_arg4 (by decide))).trans (arg_keep m c main_arg4 (by decide +kernel))⟩, h.2⟩)
    (run_main m ρ)

end Cert.ReferenceIdeal.Run

end
-- ==== Proof.V0.lean ====
/- The chunk of the linear attention with decay in plain formulas over the extended reals, for one head: the
   cumulative log decay, the state step of the forward pass, and the four formulas of the backward pass; with
   the two facts that the split of a sum into three selections, and the bound of a difference by zero, change
   nothing where every log decay is at most zero. -/
module

public import Idealize.ShloMosaic.Lib.Pointwise

@[expose] public section

set_option maxRecDepth 16384

noncomputable section

namespace Cert.Chunk

open Idealize.ShloMosaic

/-- The log decay summed up to and with the token `t`. -/
def cum (x : Fin 64 → EReal) (t : Fin 64) : EReal := ∑ s, if s ≤ t then x s else 0

/-- The decay between the tokens `s` and `t`, nothing where `s` is later than `t`. -/
def dec (x : Fin 64 → EReal) (t s : Fin 64) : EReal := if s ≤ t then Ideal.exp (cum x t - cum x s) else 0

/-- The decay from the token `s` to the end of the chunk. -/
def toEnd (x : Fin 64 → EReal) (s : Fin 64) : EReal := Ideal.exp (cum x 63 - cum x s)

/-- The state after the chunk. -/
def stepS (x : Fin 64 → EReal) (k : Fin 64 → Fin 256 → EReal) (v : Fin 64 → Fin 512 → EReal)
    (S : Fin 256 → Fin 512 → EReal) (i : Fin 256) (j : Fin 512) : EReal :=
  Ideal.exp (cum x 63) * S i j + ∑ s, k s i * (v s j * toEnd x s)

/-- The gradient of the state before the chunk. -/
def stepD (x : Fin 64 → EReal) (q : Fin 64 → Fin 256 → EReal) (dy : Fin 64 → Fin 512 → EReal)
    (dS : Fin 256 → Fin 512 → EReal) (i : Fin 256) (j : Fin 512) : EReal :=
  Ideal.exp (cum x 63) * dS i j + ∑ t, (Ideal.exp (cum x t) * dy t j) * q t i

/-- The gradient of the queries. -/
def gq (x : Fin 64 → EReal) (k : Fin 64 → Fin 256 → EReal) (v dy : Fin 64 → Fin 512 → EReal)
    (S : Fin 256 → Fin 512 → EReal) (t : Fin 64) (i : Fin 256) : EReal :=
  (∑ j, (Ideal.exp (cum x t) * dy t j) * S i j) + ∑ s, ((∑ j, dy t j * v s j) * dec x t s) * k s i

/-- The gradient of the keys. -/
def gk (x : Fin 64 → EReal) (q : Fin 64 → Fin 256 → EReal) (v dy : Fin 64 → Fin 512 → EReal)
    (dS : Fin 256 → Fin 512 → EReal) (s : Fin 64) (i : Fin 256) : EReal :=
  (∑ j, dS i j * (v s j * toEnd x s)) + ∑ t, ((∑ j, dy t j * v s j) * dec x t s) * q t i

/-- The gradient of the values. -/
def gv (x : Fin 64 → EReal) (q k : Fin 64 → Fin 256 → EReal) (dy : Fin 64 → Fin 512 → EReal)
    (dS : Fin 256 → Fin 512 → EReal) (s : Fin 64) (j : Fin 512) : EReal :=
  (∑ i, dS i j * k s i) * toEnd x s + ∑ t, dy t j * ((∑ i, q t i * k s i) * dec x t s)

/-! ### Sums of numbers at most zero -/

theorem sum_bot {ι : Type} [Fintype ι] [DecidableEq ι] (f : ι → EReal) (i : ι) (h : f i = ⊥) : ∑ x, f x = ⊥ := by
  rw [← Finset.add_sum_erase _ _ (Finset.mem_univ i), h, EReal.bot_add]

theorem sum_one (y : EReal) : ∑ _x : Fin 1, y = y := by simp

theorem sum_nonpos {ι : Type} [Fintype ι] (f : ι → EReal) (h : ∀ x, f x ≤ 0) : ∑ x, f x ≤ 0 :=
  Finset.sum_nonpos fun x _ => h x

/-- A number at most zero is the least one or a real one. -/
theorem nonpos_cases (y : EReal) (h : y ≤ 0) : y = ⊥ ∨ y - y = 0 := by
  induction y with
  | bot => exact Or.inl rfl
  | coe r => exact Or.inr (by rw [← EReal.coe_sub]; simp)
  | top => exact absurd h (by simp)

/-- What is left of the three selections once the rests vanish: where every selected number is real the rests
    are zero, and where one is the least number the first sum is it already. -/
theorem sel3 {ι : Type} [Fintype ι] [DecidableEq ι] (y : ι → EReal) (hy : ∀ x, y x ≤ 0) :
    ∑ x, y x + ∑ x, (y x - y x) + ∑ x, (y x - y x - (y x - y x)) = ∑ x, y x := by
  by_cases h : ∃ x, y x = ⊥
  · obtain ⟨x, hx⟩ := h
    rw [sum_bot y x hx, EReal.bot_add, EReal.bot_add]
  · have h0 : ∀ x, y x - y x = 0 := fun x => (nonpos_cases (y x) (hy x)).resolve_left fun e => h ⟨x, e⟩
    simp [h0]

theorem sel3_mask {ι : Type} [Fintype ι] [DecidableEq ι] (p : ι → Prop) [DecidablePred p] (y : ι → EReal) (hy : ∀ x, y x ≤ 0) :
    ∑ x, (if p x then (1 : EReal) else 0) * y x + ∑ x, (if p x then (1 : EReal) else 0) * (y x - y x)
      + ∑ x, (if p x then (1 : EReal) else 0) * (y x - y x - (y x - y x)) = ∑ x, if p x then y x else 0 := by
  by_cases h : ∃ x, p x ∧ y x = ⊥
  · obtain ⟨x, hp, hx⟩ := h
    have e : ∀ z, (if p z then (1 : EReal) else 0) * y z = if p z then y z else 0 := fun z => by split <;> simp
    simp only [e]
    rw [sum_bot (fun z => if p z then y z else 0) x (by simp [hp, hx]), EReal.bot_add, EReal.bot_add]
  · have h0 : ∀ x, p x → y x - y x = 0 := fun x hp => (nonpos_cases (y x) (hy x)).resolve_left fun e => h ⟨x, hp, e⟩
    have e0 : ∀ z, (if p z then (1 : EReal) else 0) * y z = if p z then y z else 0 := fun z => by split <;> simp
    have e1 : ∀ z, (if p z then (1 : EReal) else 0) * (y z - y z) = 0 := fun z => by
      split
      · rename_i hp; simp [h0 z hp]
      · simp
    have e2 : ∀ z, (if p z then (1 : EReal) else 0) * (y z - y z - (y z - y z)) = 0 := fun z => by
      split
      · rename_i hp; simp [h0 z hp]
      · simp
    simp only [e0, e1, e2, Finset.sum_const_zero, add_zero]

variable (x : Fin 64 → EReal) (hx : ∀ s, x s ≤ 0)

include hx in
/-- The sum by the lower triangle, as the kernel takes it. -/
theorem sel_cum (t : Fin 64) :
    ∑ s, (if s ≤ t then (1 : EReal) else 0) * x s + ∑ s, (if s ≤ t then (1 : EReal) else 0) * (x s - x s)
      + ∑ s, (if s ≤ t then (1 : EReal) else 0) * (x s - x s - (x s - x s)) = cum x t :=
  sel3_mask (fun s => s ≤ t) x hx

include hx in
/-- The sum along the other axis, as the kernel takes it. -/
theorem sel_row (t : Fin 64) :
    ∑ s, x s * (if s ≤ t then (1 : EReal) else 0)
      + ∑ s, (x s * (if s ≤ t then (1 : EReal) else 0) - x s * (if s ≤ t then (1 : EReal) else 0))
      + ∑ s, (x s * (if s ≤ t then (1 : EReal) else 0) - x s * (if s ≤ t then (1 : EReal) else 0)
          - (x s * (if s ≤ t then (1 : EReal) else 0) - x s * (if s ≤ t then (1 : EReal) else 0))) = cum x t := by
  have e : ∀ s, x s * (if s ≤ t then (1 : EReal) else 0) = if s ≤ t then x s else 0 := fun s => by split <;> simp
  simp only [e]
  exact sel3 (fun s => if s ≤ t then x s else 0) fun s => by split; exacts [hx s, le_refl _]

theorem cum_last : cum x 63 = ∑ s, x s :=
  Finset.sum_congr rfl fun s _ => if_pos (Fin.le_last s)

include hx in
/-- The sum of the whole chunk, as the kernel takes it. -/
theorem sel_tot : ∑ s, x s + ∑ s, (x s - x s) + ∑ s, (x s - x s - (x s - x s)) = cum x 63 := by
  rw [sel3 x hx, cum_last]

include hx in
theorem cum_le (t s : Fin 64) (h : s ≤ t) : cum x t ≤ cum x s := by
  refine Finset.sum_le_sum fun r _ => ?_
  by_cases h1 : r ≤ s
  · simp [h1, h1.trans h]
  · simp only [h1, if_false]; split; exacts [hx r, le_refl _]

include hx in
theorem cum_sub_nonpos (t s : Fin 64) (h : s ≤ t) : cum x t - cum x s ≤ 0 := by
  have h1 := cum_le x hx t s h
  have h2 : cum x s ≤ 0 := sum_nonpos _ fun r => by split; exacts [hx r, le_refl _]
  have h3 : cum x t ≤ 0 := h1.trans h2
  generalize cum x t = a at *
  generalize cum x s = b at *
  induction b with
  | bot => rw [le_bot_iff.mp h1]; simp
  | coe r => exact EReal.sub_nonpos.mpr h1
  | top => exact absurd h2 (by simp)

include hx in
theorem dec_eq (t s : Fin 64) : (if s ≤ t then Ideal.exp (min (cum x t - cum x s) 0) else 0) = dec x t s := by
  unfold dec
  split
  · rename_i h; rw [min_eq_left (cum_sub_nonpos x hx t s h)]
  · rfl

/-! ### The words of the masks -/

theorem w_ge (a b : Fin 64) : BitVec.setWidth 32 (IntOp.cmpi .sge (BitVec.ofNat 32 a.val) (BitVec.ofNat 32 b.val))
    = if b ≤ a then 1#32 else 0#32 := by
  revert a b; decide +kernel

theorem w_le (a b : Fin 64) : BitVec.setWidth 32 (IntOp.cmpi .sle (BitVec.ofNat 32 a.val) (IntOp.andi (BitVec.ofNat 32 b.val) 63#32))
    = if a ≤ b then 1#32 else 0#32 := by
  revert a b; decide +kernel

theorem w_sel (a b : Fin 64) : IntOp.cmpi .sge (BitVec.ofNat 32 a.val) (IntOp.andi (BitVec.ofNat 32 b.val) 63#32)
    = if b ≤ a then 1#1 else 0#1 := by
  revert a b; decide +kernel

theorem f_one : (FloatOps.sitofp (F := Ideal) .f32 1#32 : EReal) = 1 := by
  show ((((1#32 : BitVec 32).toInt : ℝ)) : EReal) = 1
  norm_num

theorem f_zero : (FloatOps.sitofp (F := Ideal) .f32 0#32 : EReal) = 0 := by
  show ((((0#32 : BitVec 32).toInt : ℝ)) : EReal) = 0
  norm_num

theorem f_ge (a b : Fin 64) : (FloatOps.sitofp (F := Ideal) .f32
    (BitVec.setWidth 32 (IntOp.cmpi .sge (BitVec.ofNat 32 a.val) (BitVec.ofNat 32 b.val))) : EReal) = if b ≤ a then 1 else 0 := by
  rw [w_ge]; split; exacts [f_one, f_zero]

theorem f_le (a b : Fin 64) : (FloatOps.sitofp (F := Ideal) .f32
    (BitVec.setWidth 32 (IntOp.cmpi .sle (BitVec.ofNat 32 a.val) (IntOp.andi (BitVec.ofNat 32 b.val) 63#32))) : EReal)
      = if a ≤ b then 1 else 0 := by
  rw [w_le]; split; exacts [f_one, f_zero]

theorem s_ge (a b : Fin 64) (X Y : EReal) :
    Scalar.select (IntOp.cmpi .sge (BitVec.ofNat 32 a.val) (IntOp.andi (BitVec.ofNat 32 b.val) 63#32)) X Y = if b ≤ a then X else Y := by
  rw [w_sel]; split <;> rfl

end Cert.Chunk

end
-- ==== Proof.V1.lean ====
/- Region 1: what a step stores, as the words of the body over the blocks read. -/
module

public import proofs.«01_k».proof.Proof.R1Outs
public import proofs.«01_k».proof.Proof.V0
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.R1

open Idealize.ShloMosaic Idealize.ShloMosaic.TcCoe Idealize.ShloMosaic.Tactic
open Cert.KernelIdeal.Gen

variable {F : FTy → Type} [FloatOps F]
variable (m : Dev nD → Valuation τ sig (Elt F))

def dqP (x1 : Vec F S64x1024 .f32) (x2 : Vec F S64x2048 .f32) (x3 : Vec F S4x64x64 .f32) (x4 : Vec F S64x2048 .f32) (x5 : Vec F S1x1x4x256x512 .f32) (x6 : Vec F S64x2048 .f32) : Vec F S64x1024 .f32 :=
  k1_pay255 (k1_pay214 (k1_pay19 x1) (k1_pay67 (k1_pay58 (iota Kind.tc S64x64 32 [0] iota_S64x64_d0_w32) k1_pay9)
    (k1_pay60 (k1_pay37 (k1_pay3 x3) k1_pay6) (k1_pay42 (k1_pay3 x3) k1_pay7 k1_pay10))) (k1_pay163 (k1_pay107
    (k1_pay85 k1_pay6 (k1_pay27 (k1_pay4 x4)))) (k1_pay108 (k1_pay5 x5)) (k1_pay132 x6)) (k1_pay166 (k1_pay79
    (k1_pay23 x2)) (k1_pay132 x6))) (k1_pay219 (k1_pay18 x1) (k1_pay57 (iota Kind.tc S64x64 32 [0] iota_S64x64_d0_w32)
    k1_pay9 (k1_pay36 k1_pay6 (k1_pay33 (k1_pay3 x3)) (k1_pay34 (k1_pay3 x3)) (k1_pay35 (k1_pay3 x3) k1_pay6))
    (k1_pay41 k1_pay7 k1_pay10 (k1_pay40 (k1_pay3 x3)))) (k1_pay168 (k1_pay104 (k1_pay84 k1_pay6 (k1_pay82 (k1_pay26
    (k1_pay4 x4))) (k1_pay83 (k1_pay26 (k1_pay4 x4))))) (k1_pay105 (k1_pay5 x5)) (k1_pay131 x6)) (k1_pay172 (k1_pay78
    (k1_pay22 x2)) (k1_pay131 x6))) (k1_pay224 (k1_pay17 x1) (k1_pay52 (k1_pay48 (iota Kind.tc S64x64 32 [0]
    iota_S64x64_d0_w32) k1_pay9) (k1_pay49 (k1_pay29 (k1_pay3 x3) k1_pay6) (k1_pay39 (k1_pay3 x3) k1_pay7 k1_pay10)))
    (k1_pay174 (k1_pay101 (k1_pay81 k1_pay6 (k1_pay25 (k1_pay4 x4)))) (k1_pay102 (k1_pay5 x5)) (k1_pay130 x6))
    (k1_pay177 (k1_pay77 (k1_pay21 x2)) (k1_pay130 x6))) (k1_pay229 (k1_pay16 (k1_pay15 x1)) (k1_pay47 (iota Kind.tc
    S64x64 32 [0] iota_S64x64_d0_w32) k1_pay9 (k1_pay28 (k1_pay3 x3) k1_pay6) (k1_pay38 (k1_pay3 x3) k1_pay7
    k1_pay10)) (k1_pay179 (k1_pay98 (k1_pay80 k1_pay6 (k1_pay24 (k1_pay4 x4)))) (k1_pay99 (k1_pay5 x5)) (k1_pay129
    x6)) (k1_pay183 (k1_pay76 (k1_pay20 x2)) (k1_pay129 x6)))

theorem dqP_A (c : Dev nD) (t : Fin cfg1.N) (h0 : t.val % 36 = 0) :
    (outsAt0 m c t.val t.isLt).1 = dqP (iblk m c 1 t) (iblk m c 2 t) (iblk m c 3 t) (iblk m c 4 t) (iblk m c 5 t) (iblk m c 6 t) := by
  rw [outsAt0_A m c t h0]
  frame_out
  try simp only [read_unread_whole]
  try rfl

theorem dqP_B (c : Dev nD) (t : Fin cfg1.N) (h0 : ¬t.val % 36 = 0) :
    (outsAt0 m c t.val t.isLt).1 = dqP (iblk m c 1 t) (iblk m c 2 t) (iblk m c 3 t) (iblk m c 4 t) (iblk m c 5 t) (iblk m c 6 t) := by
  rw [outsAt0_B m c t h0]
  frame_out
  try simp only [read_unread_whole]
  try rfl

def dkP (x0 : Vec F S64x1024 .f32) (x2 : Vec F S64x2048 .f32) (x3 : Vec F S4x64x64 .f32) (x4 : Vec F S64x2048 .f32) (x6 : Vec F S64x2048 .f32) (X : Vec F S4x256x512 .f32) : Vec F S64x1024 .f32 :=
  k1_pay254 (k1_pay218 (k1_pay13 x0) (k1_pay57 (iota Kind.tc S64x64 32 [0] iota_S64x64_d0_w32) k1_pay9 (k1_pay36
    k1_pay6 (k1_pay33 (k1_pay3 x3)) (k1_pay34 (k1_pay3 x3)) (k1_pay35 (k1_pay3 x3) k1_pay6)) (k1_pay41 k1_pay7
    k1_pay10 (k1_pay40 (k1_pay3 x3)))) (k1_pay141 (k1_pay122 (k1_pay22 x2) (k1_pay84 k1_pay6 (k1_pay82 (k1_pay26
    (k1_pay4 x4))) (k1_pay83 (k1_pay26 (k1_pay4 x4)))) (k1_pay90 k1_pay7 (k1_pay88 (k1_pay26 (k1_pay4 x4))) (k1_pay89
    (k1_pay26 (k1_pay4 x4))))) (k1_pay126 X)) (k1_pay172 (k1_pay78 (k1_pay22 x2)) (k1_pay131 x6))) (k1_pay223
    (k1_pay12 x0) (k1_pay52 (k1_pay48 (iota Kind.tc S64x64 32 [0] iota_S64x64_d0_w32) k1_pay9) (k1_pay49 (k1_pay29
    (k1_pay3 x3) k1_pay6) (k1_pay39 (k1_pay3 x3) k1_pay7 k1_pay10))) (k1_pay147 (k1_pay118 (k1_pay21 x2) (k1_pay81
    k1_pay6 (k1_pay25 (k1_pay4 x4))) (k1_pay87 k1_pay7 (k1_pay25 (k1_pay4 x4)))) (k1_pay127 X)) (k1_pay177 (k1_pay77
    (k1_pay21 x2)) (k1_pay130 x6))) (k1_pay228 (k1_pay11 x0) (k1_pay47 (iota Kind.tc S64x64 32 [0] iota_S64x64_d0_w32)
    k1_pay9 (k1_pay28 (k1_pay3 x3) k1_pay6) (k1_pay38 (k1_pay3 x3) k1_pay7 k1_pay10)) (k1_pay156 (k1_pay155 (k1_pay113
    (k1_pay20 x2) (k1_pay80 k1_pay6 (k1_pay24 (k1_pay4 x4))) (k1_pay86 k1_pay7 (k1_pay24 (k1_pay4 x4)))) (k1_pay128
    X))) (k1_pay183 (k1_pay76 (k1_pay20 x2)) (k1_pay129 x6))) (k1_pay253 (k1_pay213 (k1_pay14 x0) (k1_pay67 (k1_pay58
    (iota Kind.tc S64x64 32 [0] iota_S64x64_d0_w32) k1_pay9) (k1_pay60 (k1_pay37 (k1_pay3 x3) k1_pay6) (k1_pay42
    (k1_pay3 x3) k1_pay7 k1_pay10))) (k1_pay133 (k1_pay23 x2) (k1_pay85 k1_pay6 (k1_pay27 (k1_pay4 x4))) (k1_pay91
    k1_pay7 (k1_pay27 (k1_pay4 x4))) X) (k1_pay166 (k1_pay79 (k1_pay23 x2)) (k1_pay132 x6)))) (FloatOps.ofBits FTy.f32
    0#32)

theorem dkP_A (c : Dev nD) (t : Fin cfg1.N) (h0 : t.val % 36 = 0) :
    (outsAt0 m c t.val t.isLt).2.1 = dkP (iblk m c 0 t) (iblk m c 2 t) (iblk m c 3 t) (iblk m c 4 t) (iblk m c 6 t) k1_pay2 := by
  rw [outsAt0_A m c t h0]
  frame_out
  try simp only [read_unread_whole]
  try rfl

theorem dkP_B (c : Dev nD) (t : Fin cfg1.N) (h0 : ¬t.val % 36 = 0) :
    (outsAt0 m c t.val t.isLt).2.1 = dkP (iblk m c 0 t) (iblk m c 2 t) (iblk m c 3 t) (iblk m c 4 t) (iblk m c 6 t) (outsAt0 m c (t.val - 1) (Nat.lt_of_le_of_lt (Nat.sub_le _ _) t.isLt)).2.2.2.2.2 := by
  rw [outsAt0_B m c t h0]
  frame_out
  try simp only [read_unread_whole]
  try rfl

def dvP (x0 : Vec F S64x1024 .f32) (x1 : Vec F S64x1024 .f32) (x3 : Vec F S4x64x64 .f32) (x4 : Vec F S64x2048 .f32) (x6 : Vec F S64x2048 .f32) (X : Vec F S4x256x512 .f32) : Vec F S64x2048 .f32 :=
  k1_pay252 (k1_pay207 (k1_pay135 (k1_pay19 x1) (k1_pay85 k1_pay6 (k1_pay27 (k1_pay4 x4))) (k1_pay91 k1_pay7 (k1_pay27
    (k1_pay4 x4))) X) (k1_pay165 (k1_pay75 (k1_pay14 x0) (k1_pay19 x1) (k1_pay58 (iota Kind.tc S64x64 32 [0]
    iota_S64x64_d0_w32) k1_pay9) (k1_pay60 (k1_pay37 (k1_pay3 x3) k1_pay6) (k1_pay42 (k1_pay3 x3) k1_pay7 k1_pay10)))
    (k1_pay132 x6))) (k1_pay208 (k1_pay143 (k1_pay18 x1) (k1_pay121 (k1_pay84 k1_pay6 (k1_pay82 (k1_pay26 (k1_pay4
    x4))) (k1_pay83 (k1_pay26 (k1_pay4 x4)))) (k1_pay90 k1_pay7 (k1_pay88 (k1_pay26 (k1_pay4 x4))) (k1_pay89 (k1_pay26
    (k1_pay4 x4))))) (k1_pay126 X)) (k1_pay171 (k1_pay73 (k1_pay13 x0) (k1_pay18 x1) (k1_pay57 (iota Kind.tc S64x64 32
    [0] iota_S64x64_d0_w32) k1_pay9 (k1_pay36 k1_pay6 (k1_pay33 (k1_pay3 x3)) (k1_pay34 (k1_pay3 x3)) (k1_pay35
    (k1_pay3 x3) k1_pay6)) (k1_pay41 k1_pay7 k1_pay10 (k1_pay40 (k1_pay3 x3))))) (k1_pay131 x6))) (k1_pay209
    (k1_pay149 (k1_pay17 x1) (k1_pay117 (k1_pay81 k1_pay6 (k1_pay25 (k1_pay4 x4))) (k1_pay87 k1_pay7 (k1_pay25
    (k1_pay4 x4)))) (k1_pay127 X)) (k1_pay176 (k1_pay71 (k1_pay12 x0) (k1_pay17 x1) (k1_pay52 (k1_pay48 (iota Kind.tc
    S64x64 32 [0] iota_S64x64_d0_w32) k1_pay9) (k1_pay49 (k1_pay29 (k1_pay3 x3) k1_pay6) (k1_pay39 (k1_pay3 x3)
    k1_pay7 k1_pay10)))) (k1_pay130 x6))) (k1_pay210 (k1_pay158 (k1_pay112 (k1_pay80 k1_pay6 (k1_pay24 (k1_pay4 x4)))
    (k1_pay86 k1_pay7 (k1_pay24 (k1_pay4 x4)))) (k1_pay154 (k1_pay16 (k1_pay15 x1)) (k1_pay128 X))) (k1_pay182
    (k1_pay69 (k1_pay11 x0) (k1_pay16 (k1_pay15 x1)) (k1_pay47 (iota Kind.tc S64x64 32 [0] iota_S64x64_d0_w32) k1_pay9
    (k1_pay28 (k1_pay3 x3) k1_pay6) (k1_pay38 (k1_pay3 x3) k1_pay7 k1_pay10))) (k1_pay129 x6)))

theorem dvP_A (c : Dev nD) (t : Fin cfg1.N) (h0 : t.val % 36 = 0) :
    (outsAt0 m c t.val t.isLt).2.2.1 = dvP (iblk m c 0 t) (iblk m c 1 t) (iblk m c 3 t) (iblk m c 4 t) (iblk m c 6 t) k1_pay2 := by
  rw [outsAt0_A m c t h0]
  frame_out
  try simp only [read_unread_whole]
  try rfl

theorem dvP_B (c : Dev nD) (t : Fin cfg1.N) (h0 : ¬t.val % 36 = 0) :
    (outsAt0 m c t.val t.isLt).2.2.1 = dvP (iblk m c 0 t) (iblk m c 1 t) (iblk m c 3 t) (iblk m c 4 t) (iblk m c 6 t) (outsAt0 m c (t.val - 1) (Nat.lt_of_le_of_lt (Nat.sub_le _ _) t.isLt)).2.2.2.2.2 := by
  rw [outsAt0_B m c t h0]
  frame_out
  try simp only [read_unread_whole]
  try rfl

def dsP (x0 : Vec F S64x1024 .f32) (x4 : Vec F S64x2048 .f32) (x6 : Vec F S64x2048 .f32) (X : Vec F S4x256x512 .f32) : Vec F S4x256x512 .f32 :=
  k1_pay1 (k1_pay180 (k1_pay11 x0) (k1_pay12 x0) (k1_pay98 (k1_pay80 k1_pay6 (k1_pay24 (k1_pay4 x4)))) (k1_pay101
    (k1_pay81 k1_pay6 (k1_pay25 (k1_pay4 x4)))) (k1_pay129 x6) (k1_pay130 x6) (k1_pay169 (k1_pay13 x0) (k1_pay14 x0)
    (k1_pay104 (k1_pay84 k1_pay6 (k1_pay82 (k1_pay26 (k1_pay4 x4))) (k1_pay83 (k1_pay26 (k1_pay4 x4))))) (k1_pay107
    (k1_pay85 k1_pay6 (k1_pay27 (k1_pay4 x4)))) (k1_pay110 (k1_pay92 k1_pay8 (k1_pay24 (k1_pay4 x4)))) (k1_pay128 X)
    (k1_pay131 x6) (k1_pay132 x6) (k1_pay152 (k1_pay114 (k1_pay93 k1_pay8 (k1_pay25 (k1_pay4 x4)))) (k1_pay119
    (k1_pay96 k1_pay8 (k1_pay94 (k1_pay26 (k1_pay4 x4))) (k1_pay95 (k1_pay26 (k1_pay4 x4))))) (k1_pay126 X) (k1_pay127
    X) (k1_pay139 (k1_pay97 k1_pay8 (k1_pay27 (k1_pay4 x4))) X))))

theorem dsP_A (c : Dev nD) (t : Fin cfg1.N) (h0 : t.val % 36 = 0) :
    (outsAt0 m c t.val t.isLt).2.2.2.2.2 = dsP (iblk m c 0 t) (iblk m c 4 t) (iblk m c 6 t) k1_pay2 := by
  rw [outsAt0_A m c t h0]
  frame_out
  try simp only [read_unread_whole]
  try rfl

theorem dsP_B (c : Dev nD) (t : Fin cfg1.N) (h0 : ¬t.val % 36 = 0) :
    (outsAt0 m c t.val t.isLt).2.2.2.2.2 = dsP (iblk m c 0 t) (iblk m c 4 t) (iblk m c 6 t) (outsAt0 m c (t.val - 1) (Nat.lt_of_le_of_lt (Nat.sub_le _ _) t.isLt)).2.2.2.2.2 := by
  rw [outsAt0_B m c t h0]
  frame_out
  try simp only [read_unread_whole]
  try rfl

end Cert.KernelIdeal.R1

end
-- ==== Proof.V2.lean ====
/- Region 1: the cumulative decays of one head, read off the words of the body. -/
module

public import proofs.«01_k».proof.Proof.V1

@[expose] public section

set_option maxRecDepth 16384
set_option maxHeartbeats 1000000

noncomputable section

namespace Cert.KernelIdeal.R1

open Idealize.ShloMosaic Idealize.ShloMosaic.TcCoe Idealize.ShloMosaic.Tactic
open Cert.KernelIdeal.Gen Cert.Chunk

theorem tC0 (la : Fin 64 → EReal) (hx : ∀ s, la s ≤ 0) (x4 : Vec Ideal S64x2048 .f32) (h4 : ∀ (s : Fin 64) (j : Fin 512), x4 (ix2 s ⟨j.val, by omega⟩) = la s)
    (a : Fin 64) (b : Fin 512) :
    (k1_pay80 k1_pay6 (k1_pay24 (k1_pay4 x4))) (ix2 a b) = cum la a := by
  unfold_payloads
  pointwise [h4, f_ge, f_le, s_ge, sel_cum la hx, sel_row la hx, sel_tot la hx, dec_eq la hx]

theorem tC1 (la : Fin 64 → EReal) (hx : ∀ s, la s ≤ 0) (x4 : Vec Ideal S64x2048 .f32) (h4 : ∀ (s : Fin 64) (j : Fin 512), x4 (ix2 s ⟨512 + j.val, by omega⟩) = la s)
    (a : Fin 64) (b : Fin 512) :
    (k1_pay81 k1_pay6 (k1_pay25 (k1_pay4 x4))) (ix2 a b) = cum la a := by
  unfold_payloads
  pointwise [h4, f_ge, f_le, s_ge, sel_cum la hx, sel_row la hx, sel_tot la hx, dec_eq la hx]

theorem tC2 (la : Fin 64 → EReal) (hx : ∀ s, la s ≤ 0) (x4 : Vec Ideal S64x2048 .f32) (h4 : ∀ (s : Fin 64) (j : Fin 512), x4 (ix2 s ⟨1024 + j.val, by omega⟩) = la s)
    (a : Fin 64) (b : Fin 512) :
    (k1_pay84 k1_pay6 (k1_pay82 (k1_pay26 (k1_pay4 x4))) (k1_pay83 (k1_pay26 (k1_pay4 x4)))) (ix2 a b) = cum la a := by
  unfold_payloads
  pointwise [h4, f_ge, f_le, s_ge, sel_cum la hx, sel_row la hx, sel_tot la hx, dec_eq la hx]

theorem tC3 (la : Fin 64 → EReal) (hx : ∀ s, la s ≤ 0) (x4 : Vec Ideal S64x2048 .f32) (h4 : ∀ (s : Fin 64) (j : Fin 512), x4 (ix2 s ⟨1536 + j.val, by omega⟩) = la s)
    (a : Fin 64) (b : Fin 512) :
    (k1_pay85 k1_pay6 (k1_pay27 (k1_pay4 x4))) (ix2 a b) = cum la a := by
  unfold_payloads
  pointwise [h4, f_ge, f_le, s_ge, sel_cum la hx, sel_row la hx, sel_tot la hx, dec_eq la hx]

theorem tD0 (la : Fin 64 → EReal) (hx : ∀ s, la s ≤ 0) (x3 : Vec Ideal S4x64x64 .f32) (h3 : ∀ (s j : Fin 64), x3 (ix3 0 s j) = la s)
    (a : Fin 64) (b : Fin 64) :
    (k1_pay47 (iota Kind.tc S64x64 32 [0] iota_S64x64_d0_w32) k1_pay9 (k1_pay28 (k1_pay3 x3) k1_pay6) (k1_pay38 (k1_pay3 x3) k1_pay7 k1_pay10)) (ix2 a b) = dec la a b := by
  unfold_payloads
  pointwise [h3, f_ge, f_le, s_ge, sel_cum la hx, sel_row la hx, sel_tot la hx, dec_eq la hx]

theorem tD1 (la : Fin 64 → EReal) (hx : ∀ s, la s ≤ 0) (x3 : Vec Ideal S4x64x64 .f32) (h3 : ∀ (s j : Fin 64), x3 (ix3 1 s j) = la s)
    (a : Fin 64) (b : Fin 64) :
    (k1_pay52 (k1_pay48 (iota Kind.tc S64x64 32 [0] iota_S64x64_d0_w32) k1_pay9) (k1_pay49 (k1_pay29 (k1_pay3 x3) k1_pay6) (k1_pay39 (k1_pay3 x3) k1_pay7 k1_pay10))) (ix2 a b) = dec la a b := by
  unfold_payloads
  pointwise [h3, f_ge, f_le, s_ge, sel_cum la hx, sel_row la hx, sel_tot la hx, dec_eq la hx]

theorem tD2 (la : Fin 64 → EReal) (hx : ∀ s, la s ≤ 0) (x3 : Vec Ideal S4x64x64 .f32) (h3 : ∀ (s j : Fin 64), x3 (ix3 2 s j) = la s)
    (a : Fin 64) (b : Fin 64) :
    (k1_pay57 (iota Kind.tc S64x64 32 [0] iota_S64x64_d0_w32) k1_pay9 (k1_pay36 k1_pay6 (k1_pay33 (k1_pay3 x3)) (k1_pay34 (k1_pay3 x3)) (k1_pay35 (k1_pay3 x3) k1_pay6)) (k1_pay41 k1_pay7 k1_pay10 (k1_pay40 (k1_pay3 x3)))) (ix2 a b) = dec la a b := by
  unfold_payloads
  pointwise [h3, f_ge, f_le, s_ge, sel_cum la hx, sel_row la hx, sel_tot la hx, dec_eq la hx]

theorem tD3 (la : Fin 64 → EReal) (hx : ∀ s, la s ≤ 0) (x3 : Vec Ideal S4x64x64 .f32) (h3 : ∀ (s j : Fin 64), x3 (ix3 3 s j) = la s)
    (a : Fin 64) (b : Fin 64) :
    (k1_pay67 (k1_pay58 (iota Kind.tc S64x64 32 [0] iota_S64x64_d0_w32) k1_pay9) (k1_pay60 (k1_pay37 (k1_pay3 x3) k1_pay6) (k1_pay42 (k1_pay3 x3) k1_pay7 k1_pay10))) (ix2 a b) = dec la a b := by
  unfold_payloads
  pointwise [h3, f_ge, f_le, s_ge, sel_cum la hx, sel_row la hx, sel_tot la hx, dec_eq la hx]

theorem tN0 (la : Fin 64 → EReal) (hx : ∀ s, la s ≤ 0) (x4 : Vec Ideal S64x2048 .f32) (h4 : ∀ (s : Fin 64) (j : Fin 512), x4 (ix2 s ⟨j.val, by omega⟩) = la s)
    (a : Fin 256) (b : Fin 512) :
    (k1_pay92 k1_pay8 (k1_pay24 (k1_pay4 x4))) (ix2 a b) = cum la 63 := by
  unfold_payloads
  pointwise [h4, f_ge, f_le, s_ge, sel_cum la hx, sel_row la hx, sel_tot la hx, dec_eq la hx]

theorem tN1 (la : Fin 64 → EReal) (hx : ∀ s, la s ≤ 0) (x4 : Vec Ideal S64x2048 .f32) (h4 : ∀ (s : Fin 64) (j : Fin 512), x4 (ix2 s ⟨512 + j.val, by omega⟩) = la s)
    (a : Fin 256) (b : Fin 512) :
    (k1_pay93 k1_pay8 (k1_pay25 (k1_pay4 x4))) (ix2 a b) = cum la 63 := by
  unfold_payloads
  pointwise [h4, f_ge, f_le, s_ge, sel_cum la hx, sel_row la hx, sel_tot la hx, dec_eq la hx]

theorem tN2 (la : Fin 64 → EReal) (hx : ∀ s, la s ≤ 0) (x4 : Vec Ideal S64x2048 .f32) (h4 : ∀ (s : Fin 64) (j : Fin 512), x4 (ix2 s ⟨1024 + j.val, by omega⟩) = la s)
    (a : Fin 256) (b : Fin 512) :
    (k1_pay96 k1_pay8 (k1_pay94 (k1_pay26 (k1_pay4 x4))) (k1_pay95 (k1_pay26 (k1_pay4 x4)))) (ix2 a b) = cum la 63 := by
  unfold_payloads
  pointwise [h4, f_ge, f_le, s_ge, sel_cum la hx, sel_row la hx, sel_tot la hx, dec_eq la hx]

theorem tN3 (la : Fin 64 → EReal) (hx : ∀ s, la s ≤ 0) (x4 : Vec Ideal S64x2048 .f32) (h4 : ∀ (s : Fin 64) (j : Fin 512), x4 (ix2 s ⟨1536 + j.val, by omega⟩) = la s)
    (a : Fin 256) (b : Fin 512) :
    (k1_pay97 k1_pay8 (k1_pay27 (k1_pay4 x4))) (ix2 a b) = cum la 63 := by
  unfold_payloads
  pointwise [h4, f_ge, f_le, s_ge, sel_cum la hx, sel_row la hx, sel_tot la hx, dec_eq la hx]

theorem tT0 (la : Fin 64 → EReal) (hx : ∀ s, la s ≤ 0) (x4 : Vec Ideal S64x2048 .f32) (h4 : ∀ (s : Fin 64) (j : Fin 512), x4 (ix2 s ⟨j.val, by omega⟩) = la s)
    (a : Fin 64) (b : Fin 512) :
    (k1_pay86 k1_pay7 (k1_pay24 (k1_pay4 x4))) (ix2 a b) = cum la 63 := by
  unfold_payloads
  pointwise [h4, f_ge, f_le, s_ge, sel_cum la hx, sel_row la hx, sel_tot la hx, dec_eq la hx]

theorem tT1 (la : Fin 64 → EReal) (hx : ∀ s, la s ≤ 0) (x4 : Vec Ideal S64x2048 .f32) (h4 : ∀ (s : Fin 64) (j : Fin 512), x4 (ix2 s ⟨512 + j.val, by omega⟩) = la s)
    (a : Fin 64) (b : Fin 512) :
    (k1_pay87 k1_pay7 (k1_pay25 (k1_pay4 x4))) (ix2 a b) = cum la 63 := by
  unfold_payloads
  pointwise [h4, f_ge, f_le, s_ge, sel_cum la hx, sel_row la hx, sel_tot la hx, dec_eq la hx]

theorem tT2 (la : Fin 64 → EReal) (hx : ∀ s, la s ≤ 0) (x4 : Vec Ideal S64x2048 .f32) (h4 : ∀ (s : Fin 64) (j : Fin 512), x4 (ix2 s ⟨1024 + j.val, by omega⟩) = la s)
    (a : Fin 64) (b : Fin 512) :
    (k1_pay90 k1_pay7 (k1_pay88 (k1_pay26 (k1_pay4 x4))) (k1_pay89 (k1_pay26 (k1_pay4 x4)))) (ix2 a b) = cum la 63 := by
  unfold_payloads
  pointwise [h4, f_ge, f_le, s_ge, sel_cum la hx, sel_row la hx, sel_tot la hx, dec_eq la hx]

theorem tT3 (la : Fin 64 → EReal) (hx : ∀ s, la s ≤ 0) (x4 : Vec Ideal S64x2048 .f32) (h4 : ∀ (s : Fin 64) (j : Fin 512), x4 (ix2 s ⟨1536 + j.val, by omega⟩) = la s)
    (a : Fin 64) (b : Fin 512) :
    (k1_pay91 k1_pay7 (k1_pay27 (k1_pay4 x4))) (ix2 a b) = cum la 63 := by
  unfold_payloads
  pointwise [h4, f_ge, f_le, s_ge, sel_cum la hx, sel_row la hx, sel_tot la hx, dec_eq la hx]

end Cert.KernelIdeal.R1

end
-- ==== Proof.V3.lean ====
/- Region 1: the four gradients of one head, read off the words of the body. -/
module

public import proofs.«01_k».proof.Proof.V2

@[expose] public section

set_option maxRecDepth 16384
set_option maxHeartbeats 1000000

noncomputable section

namespace Cert.KernelIdeal.R1

open Idealize.ShloMosaic Idealize.ShloMosaic.TcCoe Idealize.ShloMosaic.Tactic
open Cert.KernelIdeal.Gen Cert.Chunk

theorem dqh0 (la : Fin 64 → EReal) (x1 : Vec Ideal S64x1024 .f32) (x2 : Vec Ideal S64x2048 .f32) (x5 : Vec Ideal S1x1x4x256x512 .f32) (x6 : Vec Ideal S64x2048 .f32)
    (C0 : Vec Ideal S64x512 .f32) (D0 : Vec Ideal S64x64 .f32)
    (hC0 : ∀ (a : Fin 64) (b : Fin 512), C0 (ix2 a b) = cum la a) (hD0 : ∀ a b : Fin 64, D0 (ix2 a b) = dec la a b)
    (t : Fin 64) (i : Fin 256) :
    (k1_pay229 (k1_pay16 (k1_pay15 x1)) D0 (k1_pay179 (k1_pay98 C0) (k1_pay99 (k1_pay5 x5)) (k1_pay129 x6)) (k1_pay183 (k1_pay76 (k1_pay20 x2)) (k1_pay129 x6))) (ix2 t i)
      = gq la (fun s i => x1 (ix2 s ⟨i.val, by omega⟩)) (fun s j => x2 (ix2 s ⟨j.val, by omega⟩)) (fun s j => x6 (ix2 s ⟨j.val, by omega⟩)) (fun i j => x5 (ix5 0 0 0 i j)) t i := by
  unfold_payloads
  pointwise [hC0, hD0]
  simp only [gq, gk, gv, toEnd, sum_one]
  try ac_rfl

theorem dqh1 (la : Fin 64 → EReal) (x1 : Vec Ideal S64x1024 .f32) (x2 : Vec Ideal S64x2048 .f32) (x5 : Vec Ideal S1x1x4x256x512 .f32) (x6 : Vec Ideal S64x2048 .f32)
    (C1 : Vec Ideal S64x512 .f32) (D1 : Vec Ideal S64x64 .f32)
    (hC1 : ∀ (a : Fin 64) (b : Fin 512), C1 (ix2 a b) = cum la a) (hD1 : ∀ a b : Fin 64, D1 (ix2 a b) = dec la a b)
    (t : Fin 64) (i : Fin 256) :
    (k1_pay224 (k1_pay17 x1) D1 (k1_pay174 (k1_pay101 C1) (k1_pay102 (k1_pay5 x5)) (k1_pay130 x6)) (k1_pay177 (k1_pay77 (k1_pay21 x2)) (k1_pay130 x6))) (ix2 t i)
      = gq la (fun s i => x1 (ix2 s ⟨256 + i.val, by omega⟩)) (fun s j => x2 (ix2 s ⟨512 + j.val, by omega⟩)) (fun s j => x6 (ix2 s ⟨512 + j.val, by omega⟩)) (fun i j => x5 (ix5 0 0 1 i j)) t i := by
  unfold_payloads
  pointwise [hC1, hD1]
  simp only [gq, gk, gv, toEnd, sum_one]
  try ac_rfl

theorem dqh2 (la : Fin 64 → EReal) (x1 : Vec Ideal S64x1024 .f32) (x2 : Vec Ideal S64x2048 .f32) (x5 : Vec Ideal S1x1x4x256x512 .f32) (x6 : Vec Ideal S64x2048 .f32)
    (C2 : Vec Ideal S64x512 .f32) (D2 : Vec Ideal S64x64 .f32)
    (hC2 : ∀ (a : Fin 64) (b : Fin 512), C2 (ix2 a b) = cum la a) (hD2 : ∀ a b : Fin 64, D2 (ix2 a b) = dec la a b)
    (t : Fin 64) (i : Fin 256) :
    (k1_pay219 (k1_pay18 x1) D2 (k1_pay168 (k1_pay104 C2) (k1_pay105 (k1_pay5 x5)) (k1_pay131 x6)) (k1_pay172 (k1_pay78 (k1_pay22 x2)) (k1_pay131 x6))) (ix2 t i)
      = gq la (fun s i => x1 (ix2 s ⟨512 + i.val, by omega⟩)) (fun s j => x2 (ix2 s ⟨1024 + j.val, by omega⟩)) (fun s j => x6 (ix2 s ⟨1024 + j.val, by omega⟩)) (fun i j => x5 (ix5 0 0 2 i j)) t i := by
  unfold_payloads
  pointwise [hC2, hD2]
  simp only [gq, gk, gv, toEnd, sum_one]
  try ac_rfl

theorem dqh3 (la : Fin 64 → EReal) (x1 : Vec Ideal S64x1024 .f32) (x2 : Vec Ideal S64x2048 .f32) (x5 : Vec Ideal S1x1x4x256x512 .f32) (x6 : Vec Ideal S64x2048 .f32)
    (C3 : Vec Ideal S64x512 .f32) (D3 : Vec Ideal S64x64 .f32)
    (hC3 : ∀ (a : Fin 64) (b : Fin 512), C3 (ix2 a b) = cum la a) (hD3 : ∀ a b : Fin 64, D3 (ix2 a b) = dec la a b)
    (t : Fin 64) (i : Fin 256) :
    (k1_pay214 (k1_pay19 x1) D3 (k1_pay163 (k1_pay107 C3) (k1_pay108 (k1_pay5 x5)) (k1_pay132 x6)) (k1_pay166 (k1_pay79 (k1_pay23 x2)) (k1_pay132 x6))) (ix2 t i)
      = gq la (fun s i => x1 (ix2 s ⟨768 + i.val, by omega⟩)) (fun s j => x2 (ix2 s ⟨1536 + j.val, by omega⟩)) (fun s j => x6 (ix2 s ⟨1536 + j.val, by omega⟩)) (fun i j => x5 (ix5 0 0 3 i j)) t i := by
  unfold_payloads
  pointwise [hC3, hD3]
  simp only [gq, gk, gv, toEnd, sum_one]
  try ac_rfl

theorem dkh0 (la : Fin 64 → EReal) (x0 : Vec Ideal S64x1024 .f32) (x2 : Vec Ideal S64x2048 .f32) (x6 : Vec Ideal S64x2048 .f32) (X : Vec Ideal S4x256x512 .f32)
    (C0 : Vec Ideal S64x512 .f32) (D0 : Vec Ideal S64x64 .f32) (T0 : Vec Ideal S64x512 .f32)
    (hC0 : ∀ (a : Fin 64) (b : Fin 512), C0 (ix2 a b) = cum la a) (hD0 : ∀ a b : Fin 64, D0 (ix2 a b) = dec la a b) (hT0 : ∀ (a : Fin 64) (b : Fin 512), T0 (ix2 a b) = cum la 63)
    (t : Fin 64) (i : Fin 256) :
    (k1_pay228 (k1_pay11 x0) D0 (k1_pay156 (k1_pay155 (k1_pay113 (k1_pay20 x2) C0 T0) (k1_pay128 X))) (k1_pay183 (k1_pay76 (k1_pay20 x2)) (k1_pay129 x6))) (ix2 t i)
      = gk la (fun s i => x0 (ix2 s ⟨i.val, by omega⟩)) (fun s j => x2 (ix2 s ⟨j.val, by omega⟩)) (fun s j => x6 (ix2 s ⟨j.val, by omega⟩)) (fun i j => X (ix3 0 i j)) t i := by
  unfold_payloads
  pointwise [hC0, hD0, hT0]
  simp only [gq, gk, gv, toEnd, sum_one]
  try ac_rfl

theorem dkh1 (la : Fin 64 → EReal) (x0 : Vec Ideal S64x1024 .f32) (x2 : Vec Ideal S64x2048 .f32) (x6 : Vec Ideal S64x2048 .f32) (X : Vec Ideal S4x256x512 .f32)
    (C1 : Vec Ideal S64x512 .f32) (D1 : Vec Ideal S64x64 .f32) (T1 : Vec Ideal S64x512 .f32)
    (hC1 : ∀ (a : Fin 64) (b : Fin 512), C1 (ix2 a b) = cum la a) (hD1 : ∀ a b : Fin 64, D1 (ix2 a b) = dec la a b) (hT1 : ∀ (a : Fin 64) (b : Fin 512), T1 (ix2 a b) = cum la 63)
    (t : Fin 64) (i : Fin 256) :
    (k1_pay223 (k1_pay12 x0) D1 (k1_pay147 (k1_pay118 (k1_pay21 x2) C1 T1) (k1_pay127 X)) (k1_pay177 (k1_pay77 (k1_pay21 x2)) (k1_pay130 x6))) (ix2 t i)
      = gk la (fun s i => x0 (ix2 s ⟨256 + i.val, by omega⟩)) (fun s j => x2 (ix2 s ⟨512 + j.val, by omega⟩)) (fun s j => x6 (ix2 s ⟨512 + j.val, by omega⟩)) (fun i j => X (ix3 1 i j)) t i := by
  unfold_payloads
  pointwise [hC1, hD1, hT1]
  simp only [gq, gk, gv, toEnd, sum_one]
  try ac_rfl

theorem dkh2 (la : Fin 64 → EReal) (x0 : Vec Ideal S64x1024 .f32) (x2 : Vec Ideal S64x2048 .f32) (x6 : Vec Ideal S64x2048 .f32) (X : Vec Ideal S4x256x512 .f32)
    (C2 : Vec Ideal S64x512 .f32) (D2 : Vec Ideal S64x64 .f32) (T2 : Vec Ideal S64x512 .f32)
    (hC2 : ∀ (a : Fin 64) (b : Fin 512), C2 (ix2 a b) = cum la a) (hD2 : ∀ a b : Fin 64, D2 (ix2 a b) = dec la a b) (hT2 : ∀ (a : Fin 64) (b : Fin 512), T2 (ix2 a b) = cum la 63)
    (t : Fin 64) (i : Fin 256) :
    (k1_pay218 (k1_pay13 x0) D2 (k1_pay141 (k1_pay122 (k1_pay22 x2) C2 T2) (k1_pay126 X)) (k1_pay172 (k1_pay78 (k1_pay22 x2)) (k1_pay131 x6))) (ix2 t i)
      = gk la (fun s i => x0 (ix2 s ⟨512 + i.val, by omega⟩)) (fun s j => x2 (ix2 s ⟨1024 + j.val, by omega⟩)) (fun s j => x6 (ix2 s ⟨1024 + j.val, by omega⟩)) (fun i j => X (ix3 2 i j)) t i := by
  unfold_payloads
  pointwise [hC2, hD2, hT2]
  simp only [gq, gk, gv, toEnd, sum_one]
  try ac_rfl

theorem dkh3 (la : Fin 64 → EReal) (x0 : Vec Ideal S64x1024 .f32) (x2 : Vec Ideal S64x2048 .f32) (x6 : Vec Ideal S64x2048 .f32) (X : Vec Ideal S4x256x512 .f32)
    (C3 : Vec Ideal S64x512 .f32) (D3 : Vec Ideal S64x64 .f32) (T3 : Vec Ideal S64x512 .f32)
    (hC3 : ∀ (a : Fin 64) (b : Fin 512), C3 (ix2 a b) = cum la a) (hD3 : ∀ a b : Fin 64, D3 (ix2 a b) = dec la a b) (hT3 : ∀ (a : Fin 64) (b : Fin 512), T3 (ix2 a b) = cum la 63)
    (t : Fin 64) (i : Fin 256) :
    (k1_pay213 (k1_pay14 x0) D3 (k1_pay133 (k1_pay23 x2) C3 T3 X) (k1_pay166 (k1_pay79 (k1_pay23 x2)) (k1_pay132 x6))) (ix2 t i)
      = gk la (fun s i => x0 (ix2 s ⟨768 + i.val, by omega⟩)) (fun s j => x2 (ix2 s ⟨1536 + j.val, by omega⟩)) (fun s j => x6 (ix2 s ⟨1536 + j.val, by omega⟩)) (fun i j => X (ix3 3 i j)) t i := by
  unfold_payloads
  pointwise [hC3, hD3, hT3]
  simp only [gq, gk, gv, toEnd, sum_one]
  try ac_rfl

theorem dvh0 (la : Fin 64 → EReal) (x0 : Vec Ideal S64x1024 .f32) (x1 : Vec Ideal S64x1024 .f32) (x6 : Vec Ideal S64x2048 .f32) (X : Vec Ideal S4x256x512 .f32)
    (C0 : Vec Ideal S64x512 .f32) (D0 : Vec Ideal S64x64 .f32) (T0 : Vec Ideal S64x512 .f32)
    (hC0 : ∀ (a : Fin 64) (b : Fin 512), C0 (ix2 a b) = cum la a) (hD0 : ∀ a b : Fin 64, D0 (ix2 a b) = dec la a b) (hT0 : ∀ (a : Fin 64) (b : Fin 512), T0 (ix2 a b) = cum la 63)
    (t : Fin 64) (i : Fin 512) :
    (k1_pay210 (k1_pay158 (k1_pay112 C0 T0) (k1_pay154 (k1_pay16 (k1_pay15 x1)) (k1_pay128 X))) (k1_pay182 (k1_pay69 (k1_pay11 x0) (k1_pay16 (k1_pay15 x1)) D0) (k1_pay129 x6))) (ix2 t i)
      = gv la (fun s i => x0 (ix2 s ⟨i.val, by omega⟩)) (fun s i => x1 (ix2 s ⟨i.val, by omega⟩)) (fun s j => x6 (ix2 s ⟨j.val, by omega⟩)) (fun i j => X (ix3 0 i j)) t i := by
  unfold_payloads
  pointwise [hC0, hD0, hT0]
  simp only [gq, gk, gv, toEnd, sum_one]
  try ac_rfl

theorem dvh1 (la : Fin 64 → EReal) (x0 : Vec Ideal S64x1024 .f32) (x1 : Vec Ideal S64x1024 .f32) (x6 : Vec Ideal S64x2048 .f32) (X : Vec Ideal S4x256x512 .f32)
    (C1 : Vec Ideal S64x512 .f32) (D1 : Vec Ideal S64x64 .f32) (T1 : Vec Ideal S64x512 .f32)
    (hC1 : ∀ (a : Fin 64) (b : Fin 512), C1 (ix2 a b) = cum la a) (hD1 : ∀ a b : Fin 64, D1 (ix2 a b) = dec la a b) (hT1 : ∀ (a : Fin 64) (b : Fin 512), T1 (ix2 a b) = cum la 63)
    (t : Fin 64) (i : Fin 512) :
    (k1_pay209 (k1_pay149 (k1_pay17 x1) (k1_pay117 C1 T1) (k1_pay127 X)) (k1_pay176 (k1_pay71 (k1_pay12 x0) (k1_pay17 x1) D1) (k1_pay130 x6))) (ix2 t i)
      = gv la (fun s i => x0 (ix2 s ⟨256 + i.val, by omega⟩)) (fun s i => x1 (ix2 s ⟨256 + i.val, by omega⟩)) (fun s j => x6 (ix2 s ⟨512 + j.val, by omega⟩)) (fun i j => X (ix3 1 i j)) t i := by
  unfold_payloads
  pointwise [hC1, hD1, hT1]
  simp only [gq, gk, gv, toEnd, sum_one]
  try ac_rfl

theorem dvh2 (la : Fin 64 → EReal) (x0 : Vec Ideal S64x1024 .f32) (x1 : Vec Ideal S64x1024 .f32) (x6 : Vec Ideal S64x2048 .f32) (X : Vec Ideal S4x256x512 .f32)
    (C2 : Vec Ideal S64x512 .f32) (D2 : Vec Ideal S64x64 .f32) (T2 : Vec Ideal S64x512 .f32)
    (hC2 : ∀ (a : Fin 64) (b : Fin 512), C2 (ix2 a b) = cum la a) (hD2 : ∀ a b : Fin 64, D2 (ix2 a b) = dec la a b) (hT2 : ∀ (a : Fin 64) (b : Fin 512), T2 (ix2 a b) = cum la 63)
    (t : Fin 64) (i : Fin 512) :
    (k1_pay208 (k1_pay143 (k1_pay18 x1) (k1_pay121 C2 T2) (k1_pay126 X)) (k1_pay171 (k1_pay73 (k1_pay13 x0) (k1_pay18 x1) D2) (k1_pay131 x6))) (ix2 t i)
      = gv la (fun s i => x0 (ix2 s ⟨512 + i.val, by omega⟩)) (fun s i => x1 (ix2 s ⟨512 + i.val, by omega⟩)) (fun s j => x6 (ix2 s ⟨1024 + j.val, by omega⟩)) (fun i j => X (ix3 2 i j)) t i := by
  unfold_payloads
  pointwise [hC2, hD2, hT2]
  simp only [gq, gk, gv, toEnd, sum_one]
  try ac_rfl

theorem dvh3 (la : Fin 64 → EReal) (x0 : Vec Ideal S64x1024 .f32) (x1 : Vec Ideal S64x1024 .f32) (x6 : Vec Ideal S64x2048 .f32) (X : Vec Ideal S4x256x512 .f32)
    (C3 : Vec Ideal S64x512 .f32) (T3 : Vec Ideal S64x512 .f32)
    (hC3 : ∀ (a : Fin 64) (b : Fin 512), C3 (ix2 a b) = cum la a) (hT3 : ∀ (a : Fin 64) (b : Fin 512), T3 (ix2 a b) = cum la 63)
    (x3 : Vec Ideal S4x64x64 .f32) (h3 : ∀ (s j : Fin 64), x3 (ix3 3 s j) = la s) (hx : ∀ s, la s ≤ 0)
    (t : Fin 64) (i : Fin 512) :
    (k1_pay207 (k1_pay135 (k1_pay19 x1) C3 T3 X) (k1_pay165 (k1_pay75 (k1_pay14 x0) (k1_pay19 x1) (k1_pay58 (iota Kind.tc S64x64 32 [0] iota_S64x64_d0_w32) k1_pay9) (k1_pay60 (k1_pay37 (k1_pay3 x3) k1_pay6) (k1_pay42 (k1_pay3 x3) k1_pay7 k1_pay10))) (k1_pay132 x6))) (ix2 t i)
      = gv la (fun s i => x0 (ix2 s ⟨768 + i.val, by omega⟩)) (fun s i => x1 (ix2 s ⟨768 + i.val, by omega⟩)) (fun s j => x6 (ix2 s ⟨1536 + j.val, by omega⟩)) (fun i j => X (ix3 3 i j)) t i := by
  unfold_payloads
  pointwise [hC3, hT3, h3, f_ge, f_le, s_ge, sel_cum la hx, sel_row la hx, dec_eq la hx]
  simp only [gq, gk, gv, toEnd, sum_one]
  try ac_rfl

end Cert.KernelIdeal.R1

end
-- ==== Proof.V4.lean ====
/- Region 1: the gradient of the state, read off the words of the body. -/
module

public import proofs.«01_k».proof.Proof.V2

@[expose] public section

set_option maxRecDepth 16384
set_option maxHeartbeats 1000000

noncomputable section

namespace Cert.KernelIdeal.R1

open Idealize.ShloMosaic Idealize.ShloMosaic.TcCoe Idealize.ShloMosaic.Tactic
open Cert.KernelIdeal.Gen Cert.Chunk

theorem dsh0 (la : Fin 64 → EReal) (x0 : Vec Ideal S64x1024 .f32) (x6 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32)
    (hC0 : ∀ (a : Fin 64) (b : Fin 512), C0 (ix2 a b) = cum la a) (hN0 : ∀ (a : Fin 256) (b : Fin 512), N0 (ix2 a b) = cum la 63)
    (i : Fin 256) (j : Fin 512) :
    (k1_pay1 (k1_pay180 (k1_pay11 x0) (k1_pay12 x0) (k1_pay98 C0) (k1_pay101 C1) (k1_pay129 x6) (k1_pay130 x6)
      (k1_pay169 (k1_pay13 x0) (k1_pay14 x0) (k1_pay104 C2) (k1_pay107 C3) (k1_pay110 N0) (k1_pay128 X) (k1_pay131 x6)
      (k1_pay132 x6) (k1_pay152 (k1_pay114 N1) (k1_pay119 N2) (k1_pay126 X) (k1_pay127 X) (k1_pay139 N3 X))))) (ix3 0 i j)
      = stepD la (fun s i => x0 (ix2 s ⟨i.val, by omega⟩)) (fun s j => x6 (ix2 s ⟨j.val, by omega⟩)) (fun i j => X (ix3 0 i j)) i j := by
  unfold_payloads
  pointwise [hC0, hN0]
  simp only [stepD, sum_one]
  try ac_rfl

theorem dsh1 (la : Fin 64 → EReal) (x0 : Vec Ideal S64x1024 .f32) (x6 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32)
    (hC1 : ∀ (a : Fin 64) (b : Fin 512), C1 (ix2 a b) = cum la a) (hN1 : ∀ (a : Fin 256) (b : Fin 512), N1 (ix2 a b) = cum la 63)
    (i : Fin 256) (j : Fin 512) :
    (k1_pay1 (k1_pay180 (k1_pay11 x0) (k1_pay12 x0) (k1_pay98 C0) (k1_pay101 C1) (k1_pay129 x6) (k1_pay130 x6)
      (k1_pay169 (k1_pay13 x0) (k1_pay14 x0) (k1_pay104 C2) (k1_pay107 C3) (k1_pay110 N0) (k1_pay128 X) (k1_pay131 x6)
      (k1_pay132 x6) (k1_pay152 (k1_pay114 N1) (k1_pay119 N2) (k1_pay126 X) (k1_pay127 X) (k1_pay139 N3 X))))) (ix3 1 i j)
      = stepD la (fun s i => x0 (ix2 s ⟨256 + i.val, by omega⟩)) (fun s j => x6 (ix2 s ⟨512 + j.val, by omega⟩)) (fun i j => X (ix3 1 i j)) i j := by
  unfold_payloads
  pointwise [hC1, hN1]
  simp only [stepD, sum_one]
  try ac_rfl

theorem dsh2 (la : Fin 64 → EReal) (x0 : Vec Ideal S64x1024 .f32) (x6 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32)
    (hC2 : ∀ (a : Fin 64) (b : Fin 512), C2 (ix2 a b) = cum la a) (hN2 : ∀ (a : Fin 256) (b : Fin 512), N2 (ix2 a b) = cum la 63)
    (i : Fin 256) (j : Fin 512) :
    (k1_pay1 (k1_pay180 (k1_pay11 x0) (k1_pay12 x0) (k1_pay98 C0) (k1_pay101 C1) (k1_pay129 x6) (k1_pay130 x6)
      (k1_pay169 (k1_pay13 x0) (k1_pay14 x0) (k1_pay104 C2) (k1_pay107 C3) (k1_pay110 N0) (k1_pay128 X) (k1_pay131 x6)
      (k1_pay132 x6) (k1_pay152 (k1_pay114 N1) (k1_pay119 N2) (k1_pay126 X) (k1_pay127 X) (k1_pay139 N3 X))))) (ix3 2 i j)
      = stepD la (fun s i => x0 (ix2 s ⟨512 + i.val, by omega⟩)) (fun s j => x6 (ix2 s ⟨1024 + j.val, by omega⟩)) (fun i j => X (ix3 2 i j)) i j := by
  unfold_payloads
  pointwise [hC2, hN2]
  simp only [stepD, sum_one]
  try ac_rfl

theorem dsh3 (la : Fin 64 → EReal) (x0 : Vec Ideal S64x1024 .f32) (x6 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32)
    (hC3 : ∀ (a : Fin 64) (b : Fin 512), C3 (ix2 a b) = cum la a) (hN3 : ∀ (a : Fin 256) (b : Fin 512), N3 (ix2 a b) = cum la 63)
    (i : Fin 256) (j : Fin 512) :
    (k1_pay1 (k1_pay180 (k1_pay11 x0) (k1_pay12 x0) (k1_pay98 C0) (k1_pay101 C1) (k1_pay129 x6) (k1_pay130 x6)
      (k1_pay169 (k1_pay13 x0) (k1_pay14 x0) (k1_pay104 C2) (k1_pay107 C3) (k1_pay110 N0) (k1_pay128 X) (k1_pay131 x6)
      (k1_pay132 x6) (k1_pay152 (k1_pay114 N1) (k1_pay119 N2) (k1_pay126 X) (k1_pay127 X) (k1_pay139 N3 X))))) (ix3 3 i j)
      = stepD la (fun s i => x0 (ix2 s ⟨768 + i.val, by omega⟩)) (fun s j => x6 (ix2 s ⟨1536 + j.val, by omega⟩)) (fun i j => X (ix3 3 i j)) i j := by
  unfold_payloads
  pointwise [hC3, hN3]
  simp only [stepD, sum_one]
  try ac_rfl

end Cert.KernelIdeal.R1

end
-- ==== Proof.V5.lean ====
/- Region 1: the four blocks a step stores, head by head, in the plain formulas. -/
module

public import proofs.«01_k».proof.Proof.V3
public import proofs.«01_k».proof.Proof.V4

@[expose] public section

set_option maxRecDepth 16384
set_option maxHeartbeats 1000000

noncomputable section

namespace Cert.KernelIdeal.R1

open Idealize.ShloMosaic Idealize.ShloMosaic.TcCoe Idealize.ShloMosaic.Tactic
open Cert.KernelIdeal.Gen Cert.Chunk

/-- The place of a head's lane in the block. -/
def o256 (h : Fin 4) (i : Fin 256) : Fin 1024 :=
  match h with
  | 0 => ⟨i.val, by omega⟩
  | 1 => ⟨256 + i.val, by omega⟩
  | 2 => ⟨512 + i.val, by omega⟩
  | 3 => ⟨768 + i.val, by omega⟩

theorem o256_val (h : Fin 4) (i : Fin 256) : (o256 h i).val = 256 * h.val + i.val := by
  match h with
  | 0 => simp [o256]
  | 1 => simp [o256]
  | 2 => simp [o256]
  | 3 => simp [o256]

/-- The place of a head's lane in the block. -/
def o512 (h : Fin 4) (i : Fin 512) : Fin 2048 :=
  match h with
  | 0 => ⟨i.val, by omega⟩
  | 1 => ⟨512 + i.val, by omega⟩
  | 2 => ⟨1024 + i.val, by omega⟩
  | 3 => ⟨1536 + i.val, by omega⟩

theorem o512_val (h : Fin 4) (i : Fin 512) : (o512 h i).val = 512 * h.val + i.val := by
  match h with
  | 0 => simp [o512]
  | 1 => simp [o512]
  | 2 => simp [o512]
  | 3 => simp [o512]

theorem adq0 (A B C D) (t : Fin 64) (i : Fin 256) : (k1_pay255 (F := Ideal) A B C D) (ix2 t ⟨i.val, by omega⟩) = D (ix2 t i) := by
  unfold_payloads
  pointwise []
  have c0 : i.val < 256 := by omega
  have c1 : i.val < 512 := by omega
  have c2 : i.val < 768 := by omega
  simp [c0, c1, c2]

theorem adq1 (A B C D) (t : Fin 64) (i : Fin 256) : (k1_pay255 (F := Ideal) A B C D) (ix2 t ⟨256 + i.val, by omega⟩) = C (ix2 t i) := by
  unfold_payloads
  pointwise []
  have c0 : ¬ 256 + i.val < 256 := by omega
  have c1 : 256 + i.val < 512 := by omega
  have c2 : 256 + i.val < 768 := by omega
  simp [c0, c1, c2]

theorem adq2 (A B C D) (t : Fin 64) (i : Fin 256) : (k1_pay255 (F := Ideal) A B C D) (ix2 t ⟨512 + i.val, by omega⟩) = B (ix2 t i) := by
  unfold_payloads
  pointwise []
  have c0 : ¬ 512 + i.val < 256 := by omega
  have c1 : ¬ 512 + i.val < 512 := by omega
  have c2 : 512 + i.val < 768 := by omega
  simp [c0, c1, c2]

theorem adq3 (A B C D) (t : Fin 64) (i : Fin 256) : (k1_pay255 (F := Ideal) A B C D) (ix2 t ⟨768 + i.val, by omega⟩) = A (ix2 t i) := by
  unfold_payloads
  pointwise []
  have c0 : ¬ 768 + i.val < 256 := by omega
  have c1 : ¬ 768 + i.val < 512 := by omega
  have c2 : ¬ 768 + i.val < 768 := by omega
  simp [c0, c1, c2]

theorem adv0 (A B C D) (t : Fin 64) (i : Fin 512) : (k1_pay252 (F := Ideal) A B C D) (ix2 t ⟨i.val, by omega⟩) = D (ix2 t i) := by
  unfold_payloads
  pointwise []
  have c0 : i.val < 512 := by omega
  have c1 : i.val < 1024 := by omega
  have c2 : i.val < 1536 := by omega
  simp [c0, c1, c2]

theorem adv1 (A B C D) (t : Fin 64) (i : Fin 512) : (k1_pay252 (F := Ideal) A B C D) (ix2 t ⟨512 + i.val, by omega⟩) = C (ix2 t i) := by
  unfold_payloads
  pointwise []
  have c0 : ¬ 512 + i.val < 512 := by omega
  have c1 : 512 + i.val < 1024 := by omega
  have c2 : 512 + i.val < 1536 := by omega
  simp [c0, c1, c2]

theorem adv2 (A B C D) (t : Fin 64) (i : Fin 512) : (k1_pay252 (F := Ideal) A B C D) (ix2 t ⟨1024 + i.val, by omega⟩) = B (ix2 t i) := by
  unfold_payloads
  pointwise []
  have c0 : ¬ 1024 + i.val < 512 := by omega
  have c1 : ¬ 1024 + i.val < 1024 := by omega
  have c2 : 1024 + i.val < 1536 := by omega
  simp [c0, c1, c2]

theorem adv3 (A B C D) (t : Fin 64) (i : Fin 512) : (k1_pay252 (F := Ideal) A B C D) (ix2 t ⟨1536 + i.val, by omega⟩) = A (ix2 t i) := by
  unfold_payloads
  pointwise []
  have c0 : ¬ 1536 + i.val < 512 := by omega
  have c1 : ¬ 1536 + i.val < 1024 := by omega
  have c2 : ¬ 1536 + i.val < 1536 := by omega
  simp [c0, c1, c2]

theorem adk0 (A B C D) (t : Fin 64) (i : Fin 256) : (k1_pay254 (F := Ideal) A B C (k1_pay253 D) (FloatOps.ofBits FTy.f32 0#32)) (ix2 t ⟨i.val, by omega⟩) = C (ix2 t i) := by
  unfold_payloads
  pointwise []
  have c0 : i.val < 256 := by omega
  have c1 : i.val < 512 := by omega
  have c2 : i.val < 768 := by omega
  simp [c0, c1, c2]

theorem adk1 (A B C D) (t : Fin 64) (i : Fin 256) : (k1_pay254 (F := Ideal) A B C (k1_pay253 D) (FloatOps.ofBits FTy.f32 0#32)) (ix2 t ⟨256 + i.val, by omega⟩) = B (ix2 t i) := by
  unfold_payloads
  pointwise []
  have c0 : ¬ 256 + i.val < 256 := by omega
  have c1 : 256 + i.val < 512 := by omega
  have c2 : 256 + i.val < 768 := by omega
  simp [c0, c1, c2]

theorem adk2 (A B C D) (t : Fin 64) (i : Fin 256) : (k1_pay254 (F := Ideal) A B C (k1_pay253 D) (FloatOps.ofBits FTy.f32 0#32)) (ix2 t ⟨512 + i.val, by omega⟩) = A (ix2 t i) := by
  unfold_payloads
  pointwise []
  have c0 : ¬ 512 + i.val < 256 := by omega
  have c1 : ¬ 512 + i.val < 512 := by omega
  have c2 : 512 + i.val < 768 := by omega
  simp [c0, c1, c2]

theorem adk3 (A B C D) (t : Fin 64) (i : Fin 256) : (k1_pay254 (F := Ideal) A B C (k1_pay253 D) (FloatOps.ofBits FTy.f32 0#32)) (ix2 t ⟨768 + i.val, by omega⟩) = D (ix2 t i) := by
  unfold_payloads
  pointwise []
  have c0 : ¬ 768 + i.val < 256 := by omega
  have c1 : ¬ 768 + i.val < 512 := by omega
  have c2 : ¬ 768 + i.val < 768 := by omega
  simp [c0, c1, c2]

variable (la : Fin 4 → Fin 64 → EReal) (hx : ∀ h s, la h s ≤ 0)
  (x3 : Vec Ideal S4x64x64 .f32) (h3 : ∀ (h : Fin 4) (s j : Fin 64), x3 (ix3 h s j) = la h s)
  (x4 : Vec Ideal S64x2048 .f32) (h4 : ∀ (h : Fin 4) (s : Fin 64) (j : Fin 512), x4 (ix2 s (o512 h j)) = la h s)

include hx h4 h3 in
theorem dq_blk (x1 : Vec Ideal S64x1024 .f32) (x2 : Vec Ideal S64x2048 .f32) (x5 : Vec Ideal S1x1x4x256x512 .f32) (x6 : Vec Ideal S64x2048 .f32) (h : Fin 4) (t : Fin 64) (i : Fin 256) :
    dqP x1 x2 x3 x4 x5 x6 (ix2 t (o256 h i)) = gq (la h) (fun s i => x1 (ix2 s (o256 h i))) (fun s j => x2 (ix2 s (o512 h j))) (fun s j => x6 (ix2 s (o512 h j))) (fun i j => x5 (ix5 0 0 h i j)) t i := by
  match h with
  | 0 => exact (adq0 _ _ _ _ t i).trans (dqh0 (la 0) x1 x2 x5 x6 _ _ (tC0 (la 0) (hx 0) x4 (h4 0)) (tD0 (la 0) (hx 0) x3 (h3 0)) t i)
  | 1 => exact (adq1 _ _ _ _ t i).trans (dqh1 (la 1) x1 x2 x5 x6 _ _ (tC1 (la 1) (hx 1) x4 (h4 1)) (tD1 (la 1) (hx 1) x3 (h3 1)) t i)
  | 2 => exact (adq2 _ _ _ _ t i).trans (dqh2 (la 2) x1 x2 x5 x6 _ _ (tC2 (la 2) (hx 2) x4 (h4 2)) (tD2 (la 2) (hx 2) x3 (h3 2)) t i)
  | 3 => exact (adq3 _ _ _ _ t i).trans (dqh3 (la 3) x1 x2 x5 x6 _ _ (tC3 (la 3) (hx 3) x4 (h4 3)) (tD3 (la 3) (hx 3) x3 (h3 3)) t i)

include hx h4 h3 in
theorem dk_blk (x0 : Vec Ideal S64x1024 .f32) (x2 : Vec Ideal S64x2048 .f32) (x6 : Vec Ideal S64x2048 .f32) (X : Vec Ideal S4x256x512 .f32) (h : Fin 4) (t : Fin 64) (i : Fin 256) :
    dkP x0 x2 x3 x4 x6 X (ix2 t (o256 h i)) = gk (la h) (fun s i => x0 (ix2 s (o256 h i))) (fun s j => x2 (ix2 s (o512 h j))) (fun s j => x6 (ix2 s (o512 h j))) (fun i j => X (ix3 h i j)) t i := by
  match h with
  | 0 => exact (adk0 _ _ _ _ t i).trans (dkh0 (la 0) x0 x2 x6 X _ _ _ (tC0 (la 0) (hx 0) x4 (h4 0)) (tD0 (la 0) (hx 0) x3 (h3 0)) (tT0 (la 0) (hx 0) x4 (h4 0)) t i)
  | 1 => exact (adk1 _ _ _ _ t i).trans (dkh1 (la 1) x0 x2 x6 X _ _ _ (tC1 (la 1) (hx 1) x4 (h4 1)) (tD1 (la 1) (hx 1) x3 (h3 1)) (tT1 (la 1) (hx 1) x4 (h4 1)) t i)
  | 2 => exact (adk2 _ _ _ _ t i).trans (dkh2 (la 2) x0 x2 x6 X _ _ _ (tC2 (la 2) (hx 2) x4 (h4 2)) (tD2 (la 2) (hx 2) x3 (h3 2)) (tT2 (la 2) (hx 2) x4 (h4 2)) t i)
  | 3 => exact (adk3 _ _ _ _ t i).trans (dkh3 (la 3) x0 x2 x6 X _ _ _ (tC3 (la 3) (hx 3) x4 (h4 3)) (tD3 (la 3) (hx 3) x3 (h3 3)) (tT3 (la 3) (hx 3) x4 (h4 3)) t i)

include hx h4 h3 in
theorem dv_blk (x0 : Vec Ideal S64x1024 .f32) (x1 : Vec Ideal S64x1024 .f32) (x6 : Vec Ideal S64x2048 .f32) (X : Vec Ideal S4x256x512 .f32) (h : Fin 4) (t : Fin 64) (i : Fin 512) :
    dvP x0 x1 x3 x4 x6 X (ix2 t (o512 h i)) = gv (la h) (fun s i => x0 (ix2 s (o256 h i))) (fun s i => x1 (ix2 s (o256 h i))) (fun s j => x6 (ix2 s (o512 h j))) (fun i j => X (ix3 h i j)) t i := by
  match h with
  | 0 => exact (adv0 _ _ _ _ t i).trans (dvh0 (la 0) x0 x1 x6 X _ _ _ (tC0 (la 0) (hx 0) x4 (h4 0)) (tD0 (la 0) (hx 0) x3 (h3 0)) (tT0 (la 0) (hx 0) x4 (h4 0)) t i)
  | 1 => exact (adv1 _ _ _ _ t i).trans (dvh1 (la 1) x0 x1 x6 X _ _ _ (tC1 (la 1) (hx 1) x4 (h4 1)) (tD1 (la 1) (hx 1) x3 (h3 1)) (tT1 (la 1) (hx 1) x4 (h4 1)) t i)
  | 2 => exact (adv2 _ _ _ _ t i).trans (dvh2 (la 2) x0 x1 x6 X _ _ _ (tC2 (la 2) (hx 2) x4 (h4 2)) (tD2 (la 2) (hx 2) x3 (h3 2)) (tT2 (la 2) (hx 2) x4 (h4 2)) t i)
  | 3 => exact (adv3 _ _ _ _ t i).trans (dvh3 (la 3) x0 x1 x6 X _ _ (tC3 (la 3) (hx 3) x4 (h4 3)) (tT3 (la 3) (hx 3) x4 (h4 3)) x3 (h3 3) (hx 3) t i)

include hx h4 in
theorem ds_blk (x0 : Vec Ideal S64x1024 .f32) (x6 : Vec Ideal S64x2048 .f32) (X : Vec Ideal S4x256x512 .f32) (h : Fin 4) (t : Fin 256) (i : Fin 512) :
    dsP x0 x4 x6 X (ix3 h t i) = stepD (la h) (fun s i => x0 (ix2 s (o256 h i))) (fun s j => x6 (ix2 s (o512 h j))) (fun i j => X (ix3 h i j)) t i := by
  match h with
  | 0 => exact dsh0 (la 0) x0 x6 X _ _ _ _ _ _ _ _ (tC0 (la 0) (hx 0) x4 (h4 0)) (tN0 (la 0) (hx 0) x4 (h4 0)) t i
  | 1 => exact dsh1 (la 1) x0 x6 X _ _ _ _ _ _ _ _ (tC1 (la 1) (hx 1) x4 (h4 1)) (tN1 (la 1) (hx 1) x4 (h4 1)) t i
  | 2 => exact dsh2 (la 2) x0 x6 X _ _ _ _ _ _ _ _ (tC2 (la 2) (hx 2) x4 (h4 2)) (tN2 (la 2) (hx 2) x4 (h4 2)) t i
  | 3 => exact dsh3 (la 3) x0 x6 X _ _ _ _ _ _ _ _ (tC3 (la 3) (hx 3) x4 (h4 3)) (tN3 (la 3) (hx 3) x4 (h4 3)) t i

end Cert.KernelIdeal.R1

end
-- ==== Proof.V6.lean ====
/- The linear attention with decay over a whole sequence in plain formulas: the states before the chunks, the
   gradients of the states after the chunks, and the gradients of the queries, keys and values. -/
module

public import proofs.«01_k».proof.Proof.V0

@[expose] public section

set_option maxRecDepth 16384

noncomputable section

namespace Cert.Chunk

open Idealize.ShloMosaic

/-- An array of queries or keys: tokens by lanes, 256 lanes a head. -/
abbrev QArr : Type := (⟨2, ![2304, 2048]⟩ : Shape).Idx → EReal
/-- An array of values: tokens by lanes, 512 lanes a head. -/
abbrev VArr : Type := (⟨2, ![2304, 4096]⟩ : Shape).Idx → EReal
/-- The log decay of each head. -/
abbrev LArr : Type := (⟨1, ![8]⟩ : Shape).Idx → EReal

/-- The chunk `n` of head `H` of the queries or keys. -/
def qc (A : QArr) (H n : ℕ) (s : Fin 64) (i : Fin 256) : EReal :=
  A (ix2 ⟨(64 * n + s.val) % 2304, Nat.mod_lt _ (by decide)⟩ ⟨(256 * H + i.val) % 2048, Nat.mod_lt _ (by decide)⟩)

/-- The chunk `n` of head `H` of the values. -/
def vc (A : VArr) (H n : ℕ) (s : Fin 64) (j : Fin 512) : EReal :=
  A (ix2 ⟨(64 * n + s.val) % 2304, Nat.mod_lt _ (by decide)⟩ ⟨(512 * H + j.val) % 4096, Nat.mod_lt _ (by decide)⟩)

/-- The log decay of head `H` at the tokens of a chunk. -/
def xc (L : LArr) (H : ℕ) (_ : Fin 64) : EReal := L (ix1 ⟨H % 8, Nat.mod_lt _ (by decide)⟩)

/-- The state of head `H` before chunk `n`. -/
def St (k : QArr) (v : VArr) (L : LArr) (H : ℕ) : ℕ → Fin 256 → Fin 512 → EReal
  | 0 => fun _ _ => 0
  | n + 1 => stepS (xc L H) (qc k H n) (vc v H n) (St k v L H n)

/-- The gradient of the state of head `H` after chunk `35 - r`. -/
def Dt (q : QArr) (dy : VArr) (L : LArr) (H : ℕ) : ℕ → Fin 256 → Fin 512 → EReal
  | 0 => fun _ _ => 0
  | r + 1 => stepD (xc L H) (qc q H (35 - r)) (vc dy H (35 - r)) (Dt q dy L H r)

def aq (k : QArr) (v dy : VArr) (L : LArr) (H n : ℕ) : Fin 64 → Fin 256 → EReal :=
  gq (xc L H) (qc k H n) (vc v H n) (vc dy H n) (St k v L H n)
def ak (q : QArr) (v dy : VArr) (L : LArr) (H n : ℕ) : Fin 64 → Fin 256 → EReal :=
  gk (xc L H) (qc q H n) (vc v H n) (vc dy H n) (Dt q dy L H (35 - n))
def av (q k : QArr) (dy : VArr) (L : LArr) (H n : ℕ) : Fin 64 → Fin 512 → EReal :=
  gv (xc L H) (qc q H n) (qc k H n) (vc dy H n) (Dt q dy L H (35 - n))

/-- The array whose chunk `n` of head `H` is `f H n`. -/
def ofQ (f : ℕ → ℕ → Fin 64 → Fin 256 → EReal) : QArr := fun j =>
  f ((j 1).val / 256) ((j 0).val / 64) ⟨(j 0).val % 64, Nat.mod_lt _ (by decide)⟩ ⟨(j 1).val % 256, Nat.mod_lt _ (by decide)⟩
/-- The array whose chunk `n` of head `H` is `f H n`. -/
def ofV (f : ℕ → ℕ → Fin 64 → Fin 512 → EReal) : VArr := fun j =>
  f ((j 1).val / 512) ((j 0).val / 64) ⟨(j 0).val % 64, Nat.mod_lt _ (by decide)⟩ ⟨(j 1).val % 512, Nat.mod_lt _ (by decide)⟩

theorem ofQ_at (f : ℕ → ℕ → Fin 64 → Fin 256 → EReal) (H n : ℕ) (s : Fin 64) (i : Fin 256) (j : (⟨2, ![2304, 2048]⟩ : Shape).Idx)
    (h0 : (j 0).val = 64 * n + s.val) (h1 : (j 1).val = 256 * H + i.val) : ofQ f j = f H n s i := by
  unfold ofQ
  have e0 : (j 0).val / 64 = n := by rw [h0]; omega
  have e1 : (j 1).val / 256 = H := by rw [h1]; omega
  have e2 : (⟨(j 0).val % 64, Nat.mod_lt _ (by decide)⟩ : Fin 64) = s := Fin.ext (by dsimp only; rw [h0]; omega)
  have e3 : (⟨(j 1).val % 256, Nat.mod_lt _ (by decide)⟩ : Fin 256) = i := Fin.ext (by dsimp only; rw [h1]; omega)
  rw [e0, e1, e2, e3]

theorem ofV_at (f : ℕ → ℕ → Fin 64 → Fin 512 → EReal) (H n : ℕ) (s : Fin 64) (i : Fin 512) (j : (⟨2, ![2304, 4096]⟩ : Shape).Idx)
    (h0 : (j 0).val = 64 * n + s.val) (h1 : (j 1).val = 512 * H + i.val) : ofV f j = f H n s i := by
  unfold ofV
  have e0 : (j 0).val / 64 = n := by rw [h0]; omega
  have e1 : (j 1).val / 512 = H := by rw [h1]; omega
  have e2 : (⟨(j 0).val % 64, Nat.mod_lt _ (by decide)⟩ : Fin 64) = s := Fin.ext (by dsimp only; rw [h0]; omega)
  have e3 : (⟨(j 1).val % 512, Nat.mod_lt _ (by decide)⟩ : Fin 512) = i := Fin.ext (by dsimp only; rw [h1]; omega)
  rw [e0, e1, e2, e3]

end Cert.Chunk

end
-- ==== Proof.V7.lean ====
/- Region 1: the blocks of the grid in the arrays, and the gradients it writes. -/
module

public import proofs.«01_k».proof.Proof.V5
public import proofs.«01_k».proof.Proof.V6
public import proofs.«01_k».proof.Proof.R1Dat

@[expose] public section

set_option maxRecDepth 16384
set_option maxHeartbeats 1000000

noncomputable section

namespace Cert.KernelIdeal.R1

open Idealize.ShloMosaic Idealize.ShloMosaic.TcCoe Idealize.ShloMosaic.Tactic
open Cert.KernelIdeal.Gen Cert.Chunk

variable (m : Dev nD → Valuation τ sig (Elt Ideal)) (c : Dev nD)

theorem idx0 : ∀ t : Fin cfg1.N, (cfg1.win 0).index t = ![35 - t.val % 36, t.val / 36] := by decide +kernel
theorem idx1 : ∀ t : Fin cfg1.N, (cfg1.win 1).index t = ![35 - t.val % 36, t.val / 36] := by decide +kernel
theorem idx2 : ∀ t : Fin cfg1.N, (cfg1.win 2).index t = ![35 - t.val % 36, t.val / 36] := by decide +kernel
theorem idx3 : ∀ t : Fin cfg1.N, (cfg1.win 3).index t = ![t.val / 36, 35 - t.val % 36, 0] := by decide +kernel
theorem idx4 : ∀ t : Fin cfg1.N, (cfg1.win 4).index t = ![35 - t.val % 36, t.val / 36] := by decide +kernel
theorem idx5 : ∀ t : Fin cfg1.N, (cfg1.win 5).index t = ![t.val / 36, 35 - t.val % 36, 0, 0, 0] := by decide +kernel
theorem idx6 : ∀ t : Fin cfg1.N, (cfg1.win 6).index t = ![35 - t.val % 36, t.val / 36] := by decide +kernel
theorem idx7 : ∀ t : Fin cfg1.N, (cfg1.win 7).index t = ![35 - t.val % 36, t.val / 36] := by decide +kernel
theorem idx8 : ∀ t : Fin cfg1.N, (cfg1.win 8).index t = ![35 - t.val % 36, t.val / 36] := by decide +kernel
theorem idx9 : ∀ t : Fin cfg1.N, (cfg1.win 9).index t = ![35 - t.val % 36, t.val / 36] := by decide +kernel

theorem lt72 (t : Fin cfg1.N) : t.val < 72 := Nat.lt_of_lt_of_eq t.isLt N_1

theorem blk0 (t : Fin cfg1.N) (h : Fin 4) (s : Fin 64) (i : Fin 256) :
    iblk m c 0 t (ix2 s (o256 h i)) = qc (V m c main_arg0) (4 * (t.val / 36) + h.val) (35 - t.val % 36) s i := by
  have ht := lt72 t
  have hv := o256_val h i
  unfold qc
  blk_ext [iblk, V, idx0 t, hv]

theorem blk1 (t : Fin cfg1.N) (h : Fin 4) (s : Fin 64) (i : Fin 256) :
    iblk m c 1 t (ix2 s (o256 h i)) = qc (V m c main_arg1) (4 * (t.val / 36) + h.val) (35 - t.val % 36) s i := by
  have ht := lt72 t
  have hv := o256_val h i
  unfold qc
  blk_ext [iblk, V, idx1 t, hv]

theorem blk2 (t : Fin cfg1.N) (h : Fin 4) (s : Fin 64) (j : Fin 512) :
    iblk m c 2 t (ix2 s (o512 h j)) = vc (V m c main_arg2) (4 * (t.val / 36) + h.val) (35 - t.val % 36) s j := by
  have ht := lt72 t
  have hv := o512_val h j
  unfold vc
  blk_ext [iblk, V, idx2 t, hv]

theorem blk6 (t : Fin cfg1.N) (h : Fin 4) (s : Fin 64) (j : Fin 512) :
    iblk m c 6 t (ix2 s (o512 h j)) = vc (V m c main_arg4) (4 * (t.val / 36) + h.val) (35 - t.val % 36) s j := by
  have ht := lt72 t
  have hv := o512_val h j
  unfold vc
  blk_ext [iblk, V, idx6 t, hv]

section
variable (L : LArr) (hL : ∀ j, L j ≤ 0)
  (h5 : ∀ (r : Fin 2304) (a : Fin 4096), V m c main_v5 (ix2 r a) = xc L (a.val / 512) 0)
  (h1 : ∀ (h : Fin 8) (r : Fin 2304) (a : Fin 64), V m c main_v1 (ix3 h r a) = xc L h.val 0)
  (h6 : ∀ y : S2x36x4x256x512.Idx, V m c main_v6_1 y = St (V m c main_arg1) (V m c main_arg2) L (4 * (y 0).val + (y 2).val) (y 1).val (y 3) (y 4))

include h5 in
theorem blk4 (t : Fin cfg1.N) (h : Fin 4) (s : Fin 64) (j : Fin 512) :
    iblk m c 4 t (ix2 s (o512 h j)) = xc L (4 * (t.val / 36) + h.val) s := by
  have ht := lt72 t
  have hv := o512_val h j
  have e : iblk m c 4 t (ix2 s (o512 h j)) = V m c main_v5 (ix2 ⟨64 * (35 - t.val % 36) + s.val, by omega⟩ ⟨512 * (4 * (t.val / 36) + h.val) + j.val, by omega⟩) := by
    blk_ext [iblk, V, idx4 t, hv]
  rw [e, h5]
  unfold xc
  congr 2
  exact Fin.ext (by dsimp only; omega)

include h1 in
theorem blk3 (t : Fin cfg1.N) (h : Fin 4) (s j : Fin 64) :
    iblk m c 3 t (ix3 h s j) = xc L (4 * (t.val / 36) + h.val) s := by
  have ht := lt72 t
  have e : iblk m c 3 t (ix3 h s j) = V m c main_v1 (ix3 ⟨4 * (t.val / 36) + h.val, by omega⟩ ⟨64 * (35 - t.val % 36) + s.val, by omega⟩ j) := by
    blk_ext [iblk, V, idx3 t]
  rw [e, h1]
  unfold xc
  congr 2

include h6 in
theorem blk5 (t : Fin cfg1.N) (h : Fin 4) (i : Fin 256) (j : Fin 512) :
    iblk m c 5 t (ix5 0 0 h i j) = St (V m c main_arg1) (V m c main_arg2) L (4 * (t.val / 36) + h.val) (35 - t.val % 36) i j := by
  have ht := lt72 t
  have e : iblk m c 5 t (ix5 0 0 h i j) = V m c main_v6_1 (ix5 ⟨t.val / 36, by omega⟩ ⟨35 - t.val % 36, by omega⟩ h i j) := by
    blk_ext [iblk, V, idx5 t]
  rw [e, h6]
  rfl

theorem zero2 (h : Fin 4) (i : Fin 256) (j : Fin 512) : (k1_pay2 (F := Ideal)) (ix3 h i j) = 0 := by
  unfold_payloads
  pointwise []

include hL h5 in
/-- What a step keeps is the gradient of the state before its chunk. -/
theorem kept (n : ℕ) : ∀ (hn : n < cfg1.N) (h : Fin 4) (i : Fin 256) (j : Fin 512), (outsAt0 m c n hn).2.2.2.2.2 (ix3 h i j)
    = Dt (V m c main_arg0) (V m c main_arg4) L (4 * (n / 36) + h.val) (n % 36 + 1) i j := by
  induction n with
  | zero =>
    intro hn h i j
    rw [dsP_A m c ⟨0, hn⟩ rfl, ds_blk (fun h => xc L (4 * (0 / 36) + h.val)) (fun _ _ => hL _) _ (blk4 m c L h5 ⟨0, hn⟩)]
    simp only [blk0, blk6, zero2]
    rfl
  | succ n ih =>
    intro hn h i j
    by_cases h0 : (n + 1) % 36 = 0
    · rw [dsP_A m c ⟨n + 1, hn⟩ h0, ds_blk (fun h => xc L (4 * ((n + 1) / 36) + h.val)) (fun _ _ => hL _) _ (blk4 m c L h5 ⟨n + 1, hn⟩)]
      simp only [blk0, blk6, zero2, h0]
      rfl
    · rw [dsP_B m c ⟨n + 1, hn⟩ h0, ds_blk (fun h => xc L (4 * ((n + 1) / 36) + h.val)) (fun _ _ => hL _) _ (blk4 m c L h5 ⟨n + 1, hn⟩)]
      have e1 : (n + 1) / 36 = n / 36 := by omega
      have e2 : (n + 1) % 36 = n % 36 + 1 := by omega
      have e3 := ih (Nat.lt_of_succ_lt hn)
      simp only [blk0, blk6, Nat.add_sub_cancel, e3, e1, e2]
      rfl

include hL h5 in
/-- What a step finds is the gradient of the state after its chunk. -/
theorem found (t : Fin cfg1.N) (h0 : ¬t.val % 36 = 0) (h : Fin 4) (i : Fin 256) (j : Fin 512) :
    (outsAt0 m c (t.val - 1) (Nat.lt_of_le_of_lt (Nat.sub_le _ _) t.isLt)).2.2.2.2.2 (ix3 h i j)
    = Dt (V m c main_arg0) (V m c main_arg4) L (4 * (t.val / 36) + h.val) (t.val % 36) i j := by
  rw [kept m c L hL h5 (t.val - 1)]
  have e1 : (t.val - 1) / 36 = t.val / 36 := by omega
  have e2 : (t.val - 1) % 36 + 1 = t.val % 36 := by omega
  rw [e1, e2]

include hL h5 in
/-- What a step starts from, at either kind of step. -/
theorem start (t : Fin cfg1.N) : ∃ X : Vec Ideal S4x256x512 .f32,
    (∀ (h : Fin 4) (i : Fin 256) (j : Fin 512), X (ix3 h i j) = Dt (V m c main_arg0) (V m c main_arg4) L (4 * (t.val / 36) + h.val) (t.val % 36) i j)
    ∧ (outsAt0 m c t.val t.isLt).2.1 = dkP (iblk m c 0 t) (iblk m c 2 t) (iblk m c 3 t) (iblk m c 4 t) (iblk m c 6 t) X
    ∧ (outsAt0 m c t.val t.isLt).2.2.1 = dvP (iblk m c 0 t) (iblk m c 1 t) (iblk m c 3 t) (iblk m c 4 t) (iblk m c 6 t) X := by
  by_cases h0 : t.val % 36 = 0
  · refine ⟨(k1_pay2 : FVec Ideal S4x256x512 .f32), ?_, ?_, ?_⟩
    · intro h i j
      rw [zero2, h0]
      rfl
    · rw [dkP_A m c t h0]
    · rw [dvP_A m c t h0]
  · refine ⟨(outsAt0 m c (t.val - 1) (Nat.lt_of_le_of_lt (Nat.sub_le _ _) t.isLt)).2.2.2.2.2, ?_, ?_, ?_⟩
    · exact found m c L hL h5 t h0
    · rw [dkP_B m c t h0]
    · rw [dvP_B m c t h0]

theorem back (t : Fin cfg1.N) : 35 - (35 - t.val % 36) = t.val % 36 := by omega

include hL h5 h1 h6 in
theorem dqAt (t : Fin cfg1.N) (h : Fin 4) (s : Fin 64) (i : Fin 256) : (outsAt0 m c t.val t.isLt).1 (ix2 s (o256 h i))
    = aq (V m c main_arg1) (V m c main_arg2) (V m c main_arg4) L (4 * (t.val / 36) + h.val) (35 - t.val % 36) s i := by
  have e : (outsAt0 m c t.val t.isLt).1 = dqP (iblk m c 1 t) (iblk m c 2 t) (iblk m c 3 t) (iblk m c 4 t) (iblk m c 5 t) (iblk m c 6 t) := by
    by_cases h0 : t.val % 36 = 0
    · exact dqP_A m c t h0
    · exact dqP_B m c t h0
  rw [e, dq_blk (fun h => xc L (4 * (t.val / 36) + h.val)) (fun _ _ => hL _) _ (blk3 m c L h1 t) _ (blk4 m c L h5 t)]
  simp only [blk1, blk2, blk6, blk5 m c L h6]
  rfl

include hL h5 h1 in
theorem dkAt (t : Fin cfg1.N) (h : Fin 4) (s : Fin 64) (i : Fin 256) : (outsAt0 m c t.val t.isLt).2.1 (ix2 s (o256 h i))
    = ak (V m c main_arg0) (V m c main_arg2) (V m c main_arg4) L (4 * (t.val / 36) + h.val) (35 - t.val % 36) s i := by
  obtain ⟨X, hX, e, -⟩ := start m c L hL h5 t
  rw [e, dk_blk (fun h => xc L (4 * (t.val / 36) + h.val)) (fun _ _ => hL _) _ (blk3 m c L h1 t) _ (blk4 m c L h5 t)]
  simp only [blk0, blk2, blk6, hX]
  unfold ak
  rw [back]

include hL h5 h1 in
theorem dvAt (t : Fin cfg1.N) (h : Fin 4) (s : Fin 64) (j : Fin 512) : (outsAt0 m c t.val t.isLt).2.2.1 (ix2 s (o512 h j))
    = av (V m c main_arg0) (V m c main_arg1) (V m c main_arg4) L (4 * (t.val / 36) + h.val) (35 - t.val % 36) s j := by
  obtain ⟨X, hX, -, e⟩ := start m c L hL h5 t
  rw [e, dv_blk (fun h => xc L (4 * (t.val / 36) + h.val)) (fun _ _ => hL _) _ (blk3 m c L h1 t) _ (blk4 m c L h5 t)]
  simp only [blk0, blk1, blk6, hX]
  unfold av
  rw [back]

theorem split256 (b : Fin 1024) : ∃ (h : Fin 4) (i : Fin 256), b = o256 h i :=
  ⟨⟨b.val / 256, by omega⟩, ⟨b.val % 256, by omega⟩, Fin.ext (by rw [o256_val]; dsimp only; omega)⟩
theorem split512 (b : Fin 2048) : ∃ (h : Fin 4) (i : Fin 512), b = o512 h i :=
  ⟨⟨b.val / 512, by omega⟩, ⟨b.val % 512, by omega⟩, Fin.ext (by rw [o512_val]; dsimp only; omega)⟩

include hL h5 h1 h6 in
/-- The array of the gradients `dq`. -/
theorem dqArr : (dat m c).arrAt 7 cfg1.N = ofQ (aq (V m c main_arg1) (V m c main_arg2) (V m c main_arg4) L) := by
  refine (dat m c).arrAt_eq_of_covers 7 _ (by decide +kernel) fun t hf y => ?_
  have i0 : win1_7.index t = ![35 - t.val % 36, t.val / 36] := idx7 t
  have e0 : ((win1_7.blk t).view.emb y 0).val = 64 * (35 - t.val % 36) + (y 0).val := by blk_simp [i0]; omega
  have e1 : ((win1_7.blk t).view.emb y 1).val = 1024 * (t.val / 36) + (y 1).val := by blk_simp [i0]; omega
  obtain ⟨h, i, hb⟩ := split256 (y 1)
  have ey : y = ix2 (y 0) (o256 h i) := by rw [← hb]; funext a; match a with | 0 => rfl | 1 => rfl
  blk_simp
  rw [after0_7]
  refine Eq.trans ?_ (ofQ_at _ (4 * (t.val / 36) + h.val) (35 - t.val % 36) (y 0) i _ e0 (by rw [e1, hb, o256_val]; omega)).symm
  rw [← dqAt m c L hL h5 h1 h6 t h (y 0) i]
  exact congrArg _ ey

include hL h5 h1 in
/-- The array of the gradients `dk`. -/
theorem dkArr : (dat m c).arrAt 8 cfg1.N = ofQ (ak (V m c main_arg0) (V m c main_arg2) (V m c main_arg4) L) := by
  refine (dat m c).arrAt_eq_of_covers 8 _ (by decide +kernel) fun t hf y => ?_
  have i0 : win1_8.index t = ![35 - t.val % 36, t.val / 36] := idx8 t
  have e0 : ((win1_8.blk t).view.emb y 0).val = 64 * (35 - t.val % 36) + (y 0).val := by blk_simp [i0]; omega
  have e1 : ((win1_8.blk t).view.emb y 1).val = 1024 * (t.val / 36) + (y 1).val := by blk_simp [i0]; omega
  obtain ⟨h, i, hb⟩ := split256 (y 1)
  have ey : y = ix2 (y 0) (o256 h i) := by rw [← hb]; funext a; match a with | 0 => rfl | 1 => rfl
  blk_simp
  rw [after0_8]
  refine Eq.trans ?_ (ofQ_at _ (4 * (t.val / 36) + h.val) (35 - t.val % 36) (y 0) i _ e0 (by rw [e1, hb, o256_val]; omega)).symm
  rw [← dkAt m c L hL h5 h1 t h (y 0) i]
  exact congrArg _ ey

include hL h5 h1 in
/-- The array of the gradients `dv`. -/
theorem dvArr : (dat m c).arrAt 9 cfg1.N = ofV (av (V m c main_arg0) (V m c main_arg1) (V m c main_arg4) L) := by
  refine (dat m c).arrAt_eq_of_covers 9 _ (by decide +kernel) fun t hf y => ?_
  have i0 : win1_9.index t = ![35 - t.val % 36, t.val / 36] := idx9 t
  have e0 : ((win1_9.blk t).view.emb y 0).val = 64 * (35 - t.val % 36) + (y 0).val := by blk_simp [i0]; omega
  have e1 : ((win1_9.blk t).view.emb y 1).val = 2048 * (t.val / 36) + (y 1).val := by blk_simp [i0]; omega
  obtain ⟨h, i, hb⟩ := split512 (y 1)
  have ey : y = ix2 (y 0) (o512 h i) := by rw [← hb]; funext a; match a with | 0 => rfl | 1 => rfl
  blk_simp
  rw [after0_9]
  refine Eq.trans ?_ (ofV_at _ (4 * (t.val / 36) + h.val) (35 - t.val % 36) (y 0) i _ e0 (by rw [e1, hb, o512_val]; omega)).symm
  rw [← dvAt m c L hL h5 h1 t h (y 0) i]
  exact congrArg _ ey

end

end Cert.KernelIdeal.R1

end
-- ==== Proof.W1.lean ====
/- Region 0: what a step stores, as the words of the body over the blocks read. -/
module

public import proofs.«01_k».proof.Proof.R0Outs
public import proofs.«01_k».proof.Proof.V0
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.R0

open Idealize.ShloMosaic Idealize.ShloMosaic.TcCoe Idealize.ShloMosaic.Tactic
open Cert.KernelIdeal.Gen

variable {F : FTy → Type} [FloatOps F]
variable (m : Dev nD → Valuation τ sig (Elt F))

def spP  (X : Vec F S4x256x512 .f32) : Vec F S1x1x4x256x512 .f32 :=
  k0_pay4 X

theorem spP_A (c : Dev nD) (t : Fin cfg0.N) (h0 : t.val % 36 = 0) :
    (outsAt0 m c t.val t.isLt).2.1 = spP  k0_pay3 := by
  rw [outsAt0_A m c t h0]
  frame_out
  try simp only [read_unread_whole]
  try rfl

theorem spP_B (c : Dev nD) (t : Fin cfg0.N) (h0 : ¬t.val % 36 = 0) :
    (outsAt0 m c t.val t.isLt).2.1 = spP  (outsAt0 m c (t.val - 1) (Nat.lt_of_le_of_lt (Nat.sub_le _ _) t.isLt)).2.2 := by
  rw [outsAt0_B m c t h0]
  frame_out
  try simp only [read_unread_whole]
  try rfl

def stP (x1 : Vec F S64x1024 .f32) (x2 : Vec F S64x2048 .f32) (x4 : Vec F S64x2048 .f32) (X : Vec F S4x256x512 .f32) : Vec F S4x256x512 .f32 :=
  k0_pay2 (k0_pay86 X (k0_pay17 x1) (k0_pay21 x2) (k0_pay56 k0_pay7 (k0_pay25 (k0_pay6 x4))) (k0_pay64 k0_pay8
    (k0_pay25 (k0_pay6 x4))) (k0_pay72 k0_pay9 (k0_pay25 (k0_pay6 x4)))) (k0_pay87 X (k0_pay18 x1) (k0_pay22 x2)
    (k0_pay61 k0_pay7 (k0_pay57 (k0_pay26 (k0_pay6 x4))) (k0_pay59 (k0_pay26 (k0_pay6 x4))) (k0_pay60 (k0_pay26
    (k0_pay6 x4))) (constant S64x512 FTy.f32 0#32)) (k0_pay69 k0_pay8 (k0_pay65 (k0_pay26 (k0_pay6 x4))) (k0_pay67
    (k0_pay26 (k0_pay6 x4))) (k0_pay68 (k0_pay26 (k0_pay6 x4))) (constant S64x512 FTy.f32 0#32)) (k0_pay77 k0_pay9
    (k0_pay73 (k0_pay26 (k0_pay6 x4))) (k0_pay75 (k0_pay26 (k0_pay6 x4))) (k0_pay76 (k0_pay26 (k0_pay6 x4))) (constant
    S256x512 FTy.f32 0#32))) (k0_pay88 X (k0_pay19 x1) (k0_pay23 x2) (k0_pay62 k0_pay7 (k0_pay27 (k0_pay6 x4)))
    (k0_pay70 k0_pay8 (k0_pay27 (k0_pay6 x4))) (k0_pay78 k0_pay9 (k0_pay27 (k0_pay6 x4)))) (k0_pay89 X (k0_pay79
    k0_pay9 (k0_pay28 (k0_pay6 x4)))) (k0_pay90 (k0_pay20 x1) (k0_pay24 x2) (k0_pay63 k0_pay7 (k0_pay28 (k0_pay6 x4)))
    (k0_pay71 k0_pay8 (k0_pay28 (k0_pay6 x4))))

theorem stP_A (c : Dev nD) (t : Fin cfg0.N) (h0 : t.val % 36 = 0) :
    (outsAt0 m c t.val t.isLt).2.2 = stP (iblk m c 1 t) (iblk m c 2 t) (iblk m c 4 t) k0_pay3 := by
  rw [outsAt0_A m c t h0]
  frame_out
  try simp only [read_unread_whole]
  try rfl

theorem stP_B (c : Dev nD) (t : Fin cfg0.N) (h0 : ¬t.val % 36 = 0) :
    (outsAt0 m c t.val t.isLt).2.2 = stP (iblk m c 1 t) (iblk m c 2 t) (iblk m c 4 t) (outsAt0 m c (t.val - 1) (Nat.lt_of_le_of_lt (Nat.sub_le _ _) t.isLt)).2.2 := by
  rw [outsAt0_B m c t h0]
  frame_out
  try simp only [read_unread_whole]
  try rfl

end Cert.KernelIdeal.R0

end
-- ==== Proof.W2.lean ====
/- Region 0: the state after a step, head by head, in the plain formulas. -/
module

public import proofs.«01_k».proof.Proof.W1
public import proofs.«01_k».proof.Proof.V5

@[expose] public section

set_option maxRecDepth 16384
set_option maxHeartbeats 1000000

noncomputable section

namespace Cert.KernelIdeal.R0

open Idealize.ShloMosaic Idealize.ShloMosaic.TcCoe Idealize.ShloMosaic.Tactic
open Cert.KernelIdeal.Gen Cert.Chunk
open Cert.KernelIdeal.R1 (o256 o512)

theorem tC0 (la : Fin 64 → EReal) (hx : ∀ s, la s ≤ 0) (x4 : Vec Ideal S64x2048 .f32) (h4 : ∀ (s : Fin 64) (j : Fin 512), x4 (ix2 s ⟨j.val, by omega⟩) = la s)
    (a : Fin 64) (b : Fin 512) :
    (k0_pay56 k0_pay7 (k0_pay25 (k0_pay6 x4))) (ix2 a b) = cum la a := by
  unfold_payloads
  pointwise [h4, f_ge, f_le, s_ge, sel_cum la hx, sel_row la hx, sel_tot la hx]

theorem tC1 (la : Fin 64 → EReal) (hx : ∀ s, la s ≤ 0) (x4 : Vec Ideal S64x2048 .f32) (h4 : ∀ (s : Fin 64) (j : Fin 512), x4 (ix2 s ⟨512 + j.val, by omega⟩) = la s)
    (a : Fin 64) (b : Fin 512) :
    (k0_pay61 k0_pay7 (k0_pay57 (k0_pay26 (k0_pay6 x4))) (k0_pay59 (k0_pay26 (k0_pay6 x4))) (k0_pay60 (k0_pay26 (k0_pay6 x4))) (constant S64x512 FTy.f32 0#32)) (ix2 a b) = cum la a := by
  unfold_payloads
  pointwise [h4, f_ge, f_le, s_ge, sel_cum la hx, sel_row la hx, sel_tot la hx]

theorem tC2 (la : Fin 64 → EReal) (hx : ∀ s, la s ≤ 0) (x4 : Vec Ideal S64x2048 .f32) (h4 : ∀ (s : Fin 64) (j : Fin 512), x4 (ix2 s ⟨1024 + j.val, by omega⟩) = la s)
    (a : Fin 64) (b : Fin 512) :
    (k0_pay62 k0_pay7 (k0_pay27 (k0_pay6 x4))) (ix2 a b) = cum la a := by
  unfold_payloads
  pointwise [h4, f_ge, f_le, s_ge, sel_cum la hx, sel_row la hx, sel_tot la hx]

theorem tC3 (la : Fin 64 → EReal) (hx : ∀ s, la s ≤ 0) (x4 : Vec Ideal S64x2048 .f32) (h4 : ∀ (s : Fin 64) (j : Fin 512), x4 (ix2 s ⟨1536 + j.val, by omega⟩) = la s)
    (a : Fin 64) (b : Fin 512) :
    (k0_pay63 k0_pay7 (k0_pay28 (k0_pay6 x4))) (ix2 a b) = cum la a := by
  unfold_payloads
  pointwise [h4, f_ge, f_le, s_ge, sel_cum la hx, sel_row la hx, sel_tot la hx]

theorem tT0 (la : Fin 64 → EReal) (hx : ∀ s, la s ≤ 0) (x4 : Vec Ideal S64x2048 .f32) (h4 : ∀ (s : Fin 64) (j : Fin 512), x4 (ix2 s ⟨j.val, by omega⟩) = la s)
    (a : Fin 64) (b : Fin 512) :
    (k0_pay64 k0_pay8 (k0_pay25 (k0_pay6 x4))) (ix2 a b) = cum la 63 := by
  unfold_payloads
  pointwise [h4, f_ge, f_le, s_ge, sel_cum la hx, sel_row la hx, sel_tot la hx]

theorem tT1 (la : Fin 64 → EReal) (hx : ∀ s, la s ≤ 0) (x4 : Vec Ideal S64x2048 .f32) (h4 : ∀ (s : Fin 64) (j : Fin 512), x4 (ix2 s ⟨512 + j.val, by omega⟩) = la s)
    (a : Fin 64) (b : Fin 512) :
    (k0_pay69 k0_pay8 (k0_pay65 (k0_pay26 (k0_pay6 x4))) (k0_pay67 (k0_pay26 (k0_pay6 x4))) (k0_pay68 (k0_pay26 (k0_pay6 x4))) (constant S64x512 FTy.f32 0#32)) (ix2 a b) = cum la 63 := by
  unfold_payloads
  pointwise [h4, f_ge, f_le, s_ge, sel_cum la hx, sel_row la hx, sel_tot la hx]

theorem tT2 (la : Fin 64 → EReal) (hx : ∀ s, la s ≤ 0) (x4 : Vec Ideal S64x2048 .f32) (h4 : ∀ (s : Fin 64) (j : Fin 512), x4 (ix2 s ⟨1024 + j.val, by omega⟩) = la s)
    (a : Fin 64) (b : Fin 512) :
    (k0_pay70 k0_pay8 (k0_pay27 (k0_pay6 x4))) (ix2 a b) = cum la 63 := by
  unfold_payloads
  pointwise [h4, f_ge, f_le, s_ge, sel_cum la hx, sel_row la hx, sel_tot la hx]

theorem tT3 (la : Fin 64 → EReal) (hx : ∀ s, la s ≤ 0) (x4 : Vec Ideal S64x2048 .f32) (h4 : ∀ (s : Fin 64) (j : Fin 512), x4 (ix2 s ⟨1536 + j.val, by omega⟩) = la s)
    (a : Fin 64) (b : Fin 512) :
    (k0_pay71 k0_pay8 (k0_pay28 (k0_pay6 x4))) (ix2 a b) = cum la 63 := by
  unfold_payloads
  pointwise [h4, f_ge, f_le, s_ge, sel_cum la hx, sel_row la hx, sel_tot la hx]

theorem tN0 (la : Fin 64 → EReal) (hx : ∀ s, la s ≤ 0) (x4 : Vec Ideal S64x2048 .f32) (h4 : ∀ (s : Fin 64) (j : Fin 512), x4 (ix2 s ⟨j.val, by omega⟩) = la s)
    (a : Fin 256) (b : Fin 512) :
    (k0_pay72 k0_pay9 (k0_pay25 (k0_pay6 x4))) (ix2 a b) = cum la 63 := by
  unfold_payloads
  pointwise [h4, f_ge, f_le, s_ge, sel_cum la hx, sel_row la hx, sel_tot la hx]

theorem tN1 (la : Fin 64 → EReal) (hx : ∀ s, la s ≤ 0) (x4 : Vec Ideal S64x2048 .f32) (h4 : ∀ (s : Fin 64) (j : Fin 512), x4 (ix2 s ⟨512 + j.val, by omega⟩) = la s)
    (a : Fin 256) (b : Fin 512) :
    (k0_pay77 k0_pay9 (k0_pay73 (k0_pay26 (k0_pay6 x4))) (k0_pay75 (k0_pay26 (k0_pay6 x4))) (k0_pay76 (k0_pay26 (k0_pay6 x4))) (constant S256x512 FTy.f32 0#32)) (ix2 a b) = cum la 63 := by
  unfold_payloads
  pointwise [h4, f_ge, f_le, s_ge, sel_cum la hx, sel_row la hx, sel_tot la hx]

theorem tN2 (la : Fin 64 → EReal) (hx : ∀ s, la s ≤ 0) (x4 : Vec Ideal S64x2048 .f32) (h4 : ∀ (s : Fin 64) (j : Fin 512), x4 (ix2 s ⟨1024 + j.val, by omega⟩) = la s)
    (a : Fin 256) (b : Fin 512) :
    (k0_pay78 k0_pay9 (k0_pay27 (k0_pay6 x4))) (ix2 a b) = cum la 63 := by
  unfold_payloads
  pointwise [h4, f_ge, f_le, s_ge, sel_cum la hx, sel_row la hx, sel_tot la hx]

theorem tN3 (la : Fin 64 → EReal) (hx : ∀ s, la s ≤ 0) (x4 : Vec Ideal S64x2048 .f32) (h4 : ∀ (s : Fin 64) (j : Fin 512), x4 (ix2 s ⟨1536 + j.val, by omega⟩) = la s)
    (a : Fin 256) (b : Fin 512) :
    (k0_pay79 k0_pay9 (k0_pay28 (k0_pay6 x4))) (ix2 a b) = cum la 63 := by
  unfold_payloads
  pointwise [h4, f_ge, f_le, s_ge, sel_cum la hx, sel_row la hx, sel_tot la hx]

theorem sth0 (la : Fin 64 → EReal) (x1 : Vec Ideal S64x1024 .f32) (x2 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32) (T0 : Vec Ideal S64x512 .f32) (T1 : Vec Ideal S64x512 .f32) (T2 : Vec Ideal S64x512 .f32) (T3 : Vec Ideal S64x512 .f32)
    (hC0 : ∀ (a : Fin 64) (b : Fin 512), C0 (ix2 a b) = cum la a) (hN0 : ∀ (a : Fin 256) (b : Fin 512), N0 (ix2 a b) = cum la 63) (hT0 : ∀ (a : Fin 64) (b : Fin 512), T0 (ix2 a b) = cum la 63)
    (i : Fin 256) (j : Fin 512) :
    (k0_pay2 (k0_pay86 X (k0_pay17 x1) (k0_pay21 x2) C0 T0 N0) (k0_pay87 X (k0_pay18 x1) (k0_pay22 x2) C1 T1 N1)
      (k0_pay88 X (k0_pay19 x1) (k0_pay23 x2) C2 T2 N2) (k0_pay89 X N3) (k0_pay90 (k0_pay20 x1) (k0_pay24 x2) C3 T3)) (ix3 0 i j)
      = stepS la (fun s i => x1 (ix2 s ⟨i.val, by omega⟩)) (fun s j => x2 (ix2 s ⟨j.val, by omega⟩)) (fun i j => X (ix3 0 i j)) i j := by
  unfold_payloads
  pointwise [hC0, hN0, hT0]
  simp only [stepS, toEnd, sum_one]
  try ac_rfl

theorem sth1 (la : Fin 64 → EReal) (x1 : Vec Ideal S64x1024 .f32) (x2 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32) (T0 : Vec Ideal S64x512 .f32) (T1 : Vec Ideal S64x512 .f32) (T2 : Vec Ideal S64x512 .f32) (T3 : Vec Ideal S64x512 .f32)
    (hC1 : ∀ (a : Fin 64) (b : Fin 512), C1 (ix2 a b) = cum la a) (hN1 : ∀ (a : Fin 256) (b : Fin 512), N1 (ix2 a b) = cum la 63) (hT1 : ∀ (a : Fin 64) (b : Fin 512), T1 (ix2 a b) = cum la 63)
    (i : Fin 256) (j : Fin 512) :
    (k0_pay2 (k0_pay86 X (k0_pay17 x1) (k0_pay21 x2) C0 T0 N0) (k0_pay87 X (k0_pay18 x1) (k0_pay22 x2) C1 T1 N1)
      (k0_pay88 X (k0_pay19 x1) (k0_pay23 x2) C2 T2 N2) (k0_pay89 X N3) (k0_pay90 (k0_pay20 x1) (k0_pay24 x2) C3 T3)) (ix3 1 i j)
      = stepS la (fun s i => x1 (ix2 s ⟨256 + i.val, by omega⟩)) (fun s j => x2 (ix2 s ⟨512 + j.val, by omega⟩)) (fun i j => X (ix3 1 i j)) i j := by
  unfold_payloads
  pointwise [hC1, hN1, hT1]
  simp only [stepS, toEnd, sum_one]
  try ac_rfl

theorem sth2 (la : Fin 64 → EReal) (x1 : Vec Ideal S64x1024 .f32) (x2 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32) (T0 : Vec Ideal S64x512 .f32) (T1 : Vec Ideal S64x512 .f32) (T2 : Vec Ideal S64x512 .f32) (T3 : Vec Ideal S64x512 .f32)
    (hC2 : ∀ (a : Fin 64) (b : Fin 512), C2 (ix2 a b) = cum la a) (hN2 : ∀ (a : Fin 256) (b : Fin 512), N2 (ix2 a b) = cum la 63) (hT2 : ∀ (a : Fin 64) (b : Fin 512), T2 (ix2 a b) = cum la 63)
    (i : Fin 256) (j : Fin 512) :
    (k0_pay2 (k0_pay86 X (k0_pay17 x1) (k0_pay21 x2) C0 T0 N0) (k0_pay87 X (k0_pay18 x1) (k0_pay22 x2) C1 T1 N1)
      (k0_pay88 X (k0_pay19 x1) (k0_pay23 x2) C2 T2 N2) (k0_pay89 X N3) (k0_pay90 (k0_pay20 x1) (k0_pay24 x2) C3 T3)) (ix3 2 i j)
      = stepS la (fun s i => x1 (ix2 s ⟨512 + i.val, by omega⟩)) (fun s j => x2 (ix2 s ⟨1024 + j.val, by omega⟩)) (fun i j => X (ix3 2 i j)) i j := by
  unfold_payloads
  pointwise [hC2, hN2, hT2]
  simp only [stepS, toEnd, sum_one]
  try ac_rfl

theorem sth3 (la : Fin 64 → EReal) (x1 : Vec Ideal S64x1024 .f32) (x2 : Vec Ideal S64x2048 .f32) (X : Vec Ideal S4x256x512 .f32)
    (C0 : Vec Ideal S64x512 .f32) (C1 : Vec Ideal S64x512 .f32) (C2 : Vec Ideal S64x512 .f32) (C3 : Vec Ideal S64x512 .f32) (N0 : Vec Ideal S256x512 .f32) (N1 : Vec Ideal S256x512 .f32) (N2 : Vec Ideal S256x512 .f32) (N3 : Vec Ideal S256x512 .f32) (T0 : Vec Ideal S64x512 .f32) (T1 : Vec Ideal S64x512 .f32) (T2 : Vec Ideal S64x512 .f32) (T3 : Vec Ideal S64x512 .f32)
    (hC3 : ∀ (a : Fin 64) (b : Fin 512), C3 (ix2 a b) = cum la a) (hN3 : ∀ (a : Fin 256) (b : Fin 512), N3 (ix2 a b) = cum la 63) (hT3 : ∀ (a : Fin 64) (b : Fin 512), T3 (ix2 a b) = cum la 63)
    (i : Fin 256) (j : Fin 512) :
    (k0_pay2 (k0_pay86 X (k0_pay17 x1) (k0_pay21 x2) C0 T0 N0) (k0_pay87 X (k0_pay18 x1) (k0_pay22 x2) C1 T1 N1)
      (k0_pay88 X (k0_pay19 x1) (k0_pay23 x2) C2 T2 N2) (k0_pay89 X N3) (k0_pay90 (k0_pay20 x1) (k0_pay24 x2) C3 T3)) (ix3 3 i j)
      = stepS la (fun s i => x1 (ix2 s ⟨768 + i.val, by omega⟩)) (fun s j => x2 (ix2 s ⟨1536 + j.val, by omega⟩)) (fun i j => X (ix3 3 i j)) i j := by
  unfold_payloads
  pointwise [hC3, hN3, hT3]
  simp only [stepS, toEnd, sum_one]
  try ac_rfl

theorem sp_blk (X : Vec Ideal S4x256x512 .f32) (h : Fin 4) (i : Fin 256) (j : Fin 512) : spP X (ix5 0 0 h i j) = X (ix3 h i j) := by
  unfold spP
  unfold_payloads
  pointwise []

theorem st_blk (la : Fin 4 → Fin 64 → EReal) (hx : ∀ h s, la h s ≤ 0)
    (x4 : Vec Ideal S64x2048 .f32) (h4 : ∀ (h : Fin 4) (s : Fin 64) (j : Fin 512), x4 (ix2 s (o512 h j)) = la h s)
    (x1 : Vec Ideal S64x1024 .f32) (x2 : Vec Ideal S64x2048 .f32) (X : Vec Ideal S4x256x512 .f32) (h : Fin 4) (i : Fin 256) (j : Fin 512) :
    stP x1 x2 x4 X (ix3 h i j)
      = stepS (la h) (fun s i => x1 (ix2 s (o256 h i))) (fun s j => x2 (ix2 s (o512 h j))) (fun i j => X (ix3 h i j)) i j := by
  match h with
  | 0 => exact sth0 (la 0) x1 x2 X _ _ _ _ _ _ _ _ _ _ _ _ (tC0 (la 0) (hx 0) x4 (h4 0)) (tN0 (la 0) (hx 0) x4 (h4 0)) (tT0 (la 0) (hx 0) x4 (h4 0)) i j
  | 1 => exact sth1 (la 1) x1 x2 X _ _ _ _ _ _ _ _ _ _ _ _ (tC1 (la 1) (hx 1) x4 (h4 1)) (tN1 (la 1) (hx 1) x4 (h4 1)) (tT1 (la 1) (hx 1) x4 (h4 1)) i j
  | 2 => exact sth2 (la 2) x1 x2 X _ _ _ _ _ _ _ _ _ _ _ _ (tC2 (la 2) (hx 2) x4 (h4 2)) (tN2 (la 2) (hx 2) x4 (h4 2)) (tT2 (la 2) (hx 2) x4 (h4 2)) i j
  | 3 => exact sth3 (la 3) x1 x2 X _ _ _ _ _ _ _ _ _ _ _ _ (tC3 (la 3) (hx 3) x4 (h4 3)) (tN3 (la 3) (hx 3) x4 (h4 3)) (tT3 (la 3) (hx 3) x4 (h4 3)) i j

end Cert.KernelIdeal.R0

end
-- ==== Proof.W3.lean ====
/- Region 0: the blocks of the grid in the arrays, and the states it saves. -/
module

public import proofs.«01_k».proof.Proof.W2
public import proofs.«01_k».proof.Proof.V6
public import proofs.«01_k».proof.Proof.R0Dat

@[expose] public section

set_option maxRecDepth 16384
set_option maxHeartbeats 1000000

noncomputable section

namespace Cert.KernelIdeal.R0

open Idealize.ShloMosaic Idealize.ShloMosaic.TcCoe Idealize.ShloMosaic.Tactic
open Cert.KernelIdeal.Gen Cert.Chunk
open Cert.KernelIdeal.R1 (o256 o512 o256_val o512_val)

variable (m : Dev nD → Valuation τ sig (Elt Ideal)) (c : Dev nD)

theorem idx1 : ∀ t : Fin cfg0.N, (cfg0.win 1).index t = ![t.val % 36, t.val / 36] := by decide +kernel
theorem idx2 : ∀ t : Fin cfg0.N, (cfg0.win 2).index t = ![t.val % 36, t.val / 36] := by decide +kernel
theorem idx4 : ∀ t : Fin cfg0.N, (cfg0.win 4).index t = ![t.val % 36, t.val / 36] := by decide +kernel
theorem idx6 : ∀ t : Fin cfg0.N, (cfg0.win 6).index t = ![t.val / 36, t.val % 36, 0, 0, 0] := by decide +kernel

theorem lt72 (t : Fin cfg0.N) : t.val < 72 := Nat.lt_of_lt_of_eq t.isLt N_0

theorem blk1 (t : Fin cfg0.N) (h : Fin 4) (s : Fin 64) (i : Fin 256) :
    iblk m c 1 t (ix2 s (o256 h i)) = qc (V m c main_arg1) (4 * (t.val / 36) + h.val) (t.val % 36) s i := by
  have ht := lt72 t
  have hv := o256_val h i
  unfold qc
  blk_ext [iblk, V, idx1 t, hv]

theorem blk2 (t : Fin cfg0.N) (h : Fin 4) (s : Fin 64) (j : Fin 512) :
    iblk m c 2 t (ix2 s (o512 h j)) = vc (V m c main_arg2) (4 * (t.val / 36) + h.val) (t.val % 36) s j := by
  have ht := lt72 t
  have hv := o512_val h j
  unfold vc
  blk_ext [iblk, V, idx2 t, hv]

section
variable (L : LArr) (hL : ∀ j, L j ≤ 0)
  (h5 : ∀ (r : Fin 2304) (a : Fin 4096), V m c main_v5 (ix2 r a) = xc L (a.val / 512) 0)

include h5 in
theorem blk4 (t : Fin cfg0.N) (h : Fin 4) (s : Fin 64) (j : Fin 512) :
    iblk m c 4 t (ix2 s (o512 h j)) = xc L (4 * (t.val / 36) + h.val) s := by
  have ht := lt72 t
  have hv := o512_val h j
  have e : iblk m c 4 t (ix2 s (o512 h j)) = V m c main_v5 (ix2 ⟨64 * (t.val % 36) + s.val, by omega⟩ ⟨512 * (4 * (t.val / 36) + h.val) + j.val, by omega⟩) := by
    blk_ext [iblk, V, idx4 t, hv]
  rw [e, h5]
  unfold xc
  congr 2
  exact Fin.ext (by dsimp only; omega)

theorem zero3 (h : Fin 4) (i : Fin 256) (j : Fin 512) : (k0_pay3 (F := Ideal)) (ix3 h i j) = 0 := by
  unfold_payloads
  pointwise []

include hL h5 in
/-- The state kept after a step is the state of its heads before the next chunk. -/
theorem kept (n : ℕ) : ∀ (hn : n < cfg0.N) (h : Fin 4) (i : Fin 256) (j : Fin 512), (outsAt0 m c n hn).2.2 (ix3 h i j)
    = St (V m c main_arg1) (V m c main_arg2) L (4 * (n / 36) + h.val) (n % 36 + 1) i j := by
  induction n with
  | zero =>
    intro hn h i j
    rw [stP_A m c ⟨0, hn⟩ rfl, st_blk (fun h => xc L (4 * (0 / 36) + h.val)) (fun _ _ => hL _) _ (blk4 m c L h5 ⟨0, hn⟩)]
    simp only [blk1, blk2, zero3]
    rfl
  | succ n ih =>
    intro hn h i j
    by_cases h0 : (n + 1) % 36 = 0
    · rw [stP_A m c ⟨n + 1, hn⟩ h0, st_blk (fun h => xc L (4 * ((n + 1) / 36) + h.val)) (fun _ _ => hL _) _ (blk4 m c L h5 ⟨n + 1, hn⟩)]
      simp only [blk1, blk2, zero3, h0]
      rfl
    · rw [stP_B m c ⟨n + 1, hn⟩ h0, st_blk (fun h => xc L (4 * ((n + 1) / 36) + h.val)) (fun _ _ => hL _) _ (blk4 m c L h5 ⟨n + 1, hn⟩)]
      have e1 : (n + 1) / 36 = n / 36 := by omega
      have e2 : (n + 1) % 36 = n % 36 + 1 := by omega
      have e3 := ih (Nat.lt_of_succ_lt hn)
      simp only [blk1, blk2, Nat.add_sub_cancel, e3, e1, e2]
      rfl

include hL h5 in
/-- The block a step saves is the state of its heads before the chunk. -/
theorem saved (t : Fin cfg0.N) (h : Fin 4) (i : Fin 256) (j : Fin 512) : (outsAt0 m c t.val t.isLt).2.1 (ix5 0 0 h i j)
    = St (V m c main_arg1) (V m c main_arg2) L (4 * (t.val / 36) + h.val) (t.val % 36) i j := by
  by_cases h0 : t.val % 36 = 0
  · rw [spP_A m c t h0, sp_blk, zero3, h0]
    rfl
  · rw [spP_B m c t h0, sp_blk, kept m c L hL h5 (t.val - 1)]
    have e1 : (t.val - 1) / 36 = t.val / 36 := by omega
    have e2 : (t.val - 1) % 36 + 1 = t.val % 36 := by omega
    rw [e1, e2]

include hL h5 in
theorem saved' (t : Fin cfg0.N) (y : S1x1x4x256x512.Idx) : (outsAt0 m c t.val t.isLt).2.1 y
    = St (V m c main_arg1) (V m c main_arg2) L (4 * (t.val / 36) + (y 2).val) (t.val % 36) (y 3) (y 4) := by
  rw [← saved m c L hL h5 t (y 2) (y 3) (y 4)]
  refine congrArg (outsAt0 m c t.val t.isLt).2.1 (?_ : y = ix5 0 0 (y 2) (y 3) (y 4))
  funext a
  match a with
  | 0 => exact Fin.ext (by have := (y 0).isLt; change (y 0).val < 1 at this; show (y 0).val = 0; omega)
  | 1 => exact Fin.ext (by have := (y 1).isLt; change (y 1).val < 1 at this; show (y 1).val = 0; omega)
  | 2 => rfl
  | 3 => rfl
  | 4 => rfl

include hL h5 in
/-- The array of the saved states. -/
theorem states : (dat m c).arrAt 6 cfg0.N = fun y => St (V m c main_arg1) (V m c main_arg2) L (4 * (y 0).val + (y 2).val) (y 1).val (y 3) (y 4) := by
  refine (dat m c).arrAt_eq_of_covers 6 _ (by decide +kernel) fun t hf y => ?_
  have i0 : win0_6.index t = ![t.val / 36, t.val % 36, 0, 0, 0] := idx6 t
  have e3 : (win0_6.blk t).view.emb y 3 = y 3 := Fin.ext (by blk_simp [i0])
  have e4 : (win0_6.blk t).view.emb y 4 = y 4 := Fin.ext (by blk_simp [i0])
  blk_simp
  rw [e3, e4, i0, after0_6]
  refine (saved' m c L hL h5 t y).trans ?_
  simp only [Matrix.cons_val_zero, Matrix.cons_val_one, Matrix.cons_val, Nat.zero_mul, Nat.zero_add]

end

end Cert.KernelIdeal.R0

end
-- ==== Proof.KVal.lean ====
/- The results of the kernel's program in the plain formulas. -/
module

public import proofs.«01_k».proof.Proof.KRun
public import proofs.«01_k».proof.Proof.V7
public import proofs.«01_k».proof.Proof.W3

@[expose] public section

set_option maxRecDepth 16384
set_option maxHeartbeats 1000000

noncomputable section

namespace Cert.KernelIdeal.Run

open Idealize.ShloMosaic Idealize.ShloMosaic.TcCoe Idealize.ShloMosaic.Tactic
open Cert.KernelIdeal.Gen Cert.Chunk
open Idealize.ShloMosaic.Pipeline (afterRegion)

variable (m : (ℓ : Loc nD τ sig) → Buf (Elt Ideal) ℓ) (c : Dev nD)

theorem w1_v1 (h : Fin 8) (r : Fin 2304) (a : Fin 64) :
    (W1 m c main_v1 : S8x2304x64.Idx → EReal) (ix3 h r a) = xc (m ((c : Thread nD τ).loc main_arg3)) h.val 0 := by
  have e : (W1 m c main_v1 : S8x2304x64.Idx → EReal) = broadcastInDim S8x2304x64 ![0, 1, 2] bcast_S8x1x1_S8x2304x64_0_1_2
      (broadcastInDim S8x1x1 ![0] bcast_S8_S8x1x1_0 (m ((c : Thread nD τ).loc main_arg3) : S8.Idx → EReal)) := by
    unfold W1
    after_results
  rw [e]
  pointwise []
  unfold xc
  congr 2
  exact Fin.ext (by dsimp only; omega)

theorem w1_v5 (r : Fin 2304) (a : Fin 4096) :
    (W1 m c main_v5 : S2304x4096.Idx → EReal) (ix2 r a) = xc (m ((c : Thread nD τ).loc main_arg3)) (a.val / 512) 0 := by
  have e : (W1 m c main_v5 : S2304x4096.Idx → EReal) = broadcastInDim S2304x4096 ![0, 1] bcast_S1x4096_S2304x4096_0_1
      (broadcastInDim S1x4096 ![1] bcast_S4096_S1x4096_1 (shapeCast S4096
        (broadcastInDim S8x512 ![0] bcast_S8_S8x512_0 (m ((c : Thread nD τ).loc main_arg3) : S8.Idx → EReal)) shapeCasts_S8x512_S4096)) := by
    unfold W1
    after_results
    rfl
  rw [e]
  pointwise []
  unfold xc
  congr 2
  exact Fin.ext (by dsimp only; omega)

theorem w1_arg (r : Ref sig .tc) (h0 : r ∉ hostOps0_W) : W1 m c (Proc.devRef .tc r) = m ((c : Thread nD τ).loc r) :=
  (V1_of m c r h0).trans rfl

theorem w2_keep (r : Ref sig .tc) (h1 : ∀ w, Pipeline.arrRef spec0 w = r → (cfg0.win w).isOut = false) :
    W2 m c (Proc.devRef .tc r) = W1 m c (Proc.devRef .tc r) :=
  Pipeline.afterRegion_keeps (R0.dat (W1 m) c) (W1 m c) launch0.win.arr_inj (R0.A_eq (W1 m) c) r h1

theorem w2_arg (r : Ref sig .tc) (h0 : r ∉ hostOps0_W) (h1 : ∀ w, Pipeline.arrRef spec0 w = r → (cfg0.win w).isOut = false) :
    W2 m c (Proc.devRef .tc r) = m ((c : Thread nD τ).loc r) := (w2_keep m c r h1).trans (w1_arg m c r h0)

section
variable (hL : ∀ j : S8.Idx, @LE.le EReal _ (m ((c : Thread nD τ).loc main_arg3) j) 0)

include hL in
theorem w2_states (y : S2x36x4x256x512.Idx) : (W2 m c main_v6_1 : S2x36x4x256x512.Idx → EReal) y
    = St (m ((c : Thread nD τ).loc main_arg1)) (m ((c : Thread nD τ).loc main_arg2)) (m ((c : Thread nD τ).loc main_arg3)) (4 * (y 0).val + (y 2).val) (y 1).val (y 3) (y 4) := by
  have e : W2 m c main_v6_1 = (R0.dat (W1 m) c).arrAt 6 cfg0.N :=
    Pipeline.afterRegion_arr (R0.dat (W1 m) c) (W1 m c) launch0.win.arr_inj 6
  rw [e, R0.states (W1 m) c (m ((c : Thread nD τ).loc main_arg3)) hL (w1_v5 m c)]
  dsimp only [R0.V]
  rw [w1_arg m c main_arg1 (by decide), w1_arg m c main_arg2 (by decide)]

theorem w2_v1 (h : Fin 8) (r : Fin 2304) (a : Fin 64) :
    (W2 m c main_v1 : S8x2304x64.Idx → EReal) (ix3 h r a) = xc (m ((c : Thread nD τ).loc main_arg3)) h.val 0 := by
  rw [w2_keep m c main_v1 (by decide)]
  exact w1_v1 m c h r a

theorem w2_v5 (r : Fin 2304) (a : Fin 4096) :
    (W2 m c main_v5 : S2304x4096.Idx → EReal) (ix2 r a) = xc (m ((c : Thread nD τ).loc main_arg3)) (a.val / 512) 0 := by
  rw [w2_keep m c main_v5 (by decide)]
  exact w1_v5 m c r a

include hL in
theorem w2_h6 (y : S2x36x4x256x512.Idx) : R1.V (W2 m) c main_v6_1 y
    = St (R1.V (W2 m) c main_arg1) (R1.V (W2 m) c main_arg2) (m ((c : Thread nD τ).loc main_arg3)) (4 * (y 0).val + (y 2).val) (y 1).val (y 3) (y 4) := by
  dsimp only [R1.V]
  rw [w2_arg m c main_arg1 (by decide) (by decide), w2_arg m c main_arg2 (by decide) (by decide)]
  exact w2_states m c hL y

include hL in
theorem w3_dq : W3 m c main_v7_0 = ofQ (aq (m ((c : Thread nD τ).loc main_arg1)) (m ((c : Thread nD τ).loc main_arg2)) (m ((c : Thread nD τ).loc main_arg4)) (m ((c : Thread nD τ).loc main_arg3))) := by
  have e : W3 m c main_v7_0 = (R1.dat (W2 m) c).arrAt 7 cfg1.N :=
    Pipeline.afterRegion_arr (R1.dat (W2 m) c) (W2 m c) launch1.win.arr_inj 7
  rw [e, R1.dqArr (W2 m) c (m ((c : Thread nD τ).loc main_arg3)) hL (w2_v5 m c) (w2_v1 m c) (w2_h6 m c hL)]
  dsimp only [R1.V]
  rw [w2_arg m c main_arg1 (by decide) (by decide), w2_arg m c main_arg2 (by decide) (by decide), w2_arg m c main_arg4 (by decide) (by decide)]

include hL in
theorem w3_dk : W3 m c main_v7_1 = ofQ (ak (m ((c : Thread nD τ).loc main_arg0)) (m ((c : Thread nD τ).loc main_arg2)) (m ((c : Thread nD τ).loc main_arg4)) (m ((c : Thread nD τ).loc main_arg3))) := by
  have e : W3 m c main_v7_1 = (R1.dat (W2 m) c).arrAt 8 cfg1.N :=
    Pipeline.afterRegion_arr (R1.dat (W2 m) c) (W2 m c) launch1.win.arr_inj 8
  rw [e, R1.dkArr (W2 m) c (m ((c : Thread nD τ).loc main_arg3)) hL (w2_v5 m c) (w2_v1 m c)]
  dsimp only [R1.V]
  rw [w2_arg m c main_arg0 (by decide) (by decide), w2_arg m c main_arg2 (by decide) (by decide), w2_arg m c main_arg4 (by decide) (by decide)]

include hL in
theorem w3_dv : W3 m c main_v7_2 = ofV (av (m ((c : Thread nD τ).loc main_arg0)) (m ((c : Thread nD τ).loc main_arg1)) (m ((c : Thread nD τ).loc main_arg4)) (m ((c : Thread nD τ).loc main_arg3))) := by
  have e : W3 m c main_v7_2 = (R1.dat (W2 m) c).arrAt 9 cfg1.N :=
    Pipeline.afterRegion_arr (R1.dat (W2 m) c) (W2 m c) launch1.win.arr_inj 9
  rw [e, R1.dvArr (W2 m) c (m ((c : Thread nD τ).loc main_arg3)) hL (w2_v5 m c) (w2_v1 m c)]
  dsimp only [R1.V]
  rw [w2_arg m c main_arg0 (by decide) (by decide), w2_arg m c main_arg1 (by decide) (by decide), w2_arg m c main_arg4 (by decide) (by decide)]

end

end Cert.KernelIdeal.Run

end
-- ==== Proof.X1.lean ====
/- The reference's cumulative sum, and its sum over axes of size one, at an index. -/
module

public import proofs.«01_k».proof.Proof.Gen.ReferenceIdeal
public import Idealize.ShloMosaic.Lib.Pointwise
public import Idealize.ShloMosaic.Lib.WordCmp
public import proofs.«01_k».proof.Proof.V6

@[expose] public section

set_option maxRecDepth 16384
set_option maxHeartbeats 1000000

noncomputable section

namespace Cert.ReferenceIdeal.Val

open Idealize.ShloMosaic Idealize.ShloMosaic.TcCoe
open WordCmp Cert.ReferenceIdeal Cert.ReferenceIdeal.Gen Cert.Chunk

theorem foldl_sum {n : ℕ} (g : Fin n → EReal) (v : EReal) : (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, Fin.univ_def]
  rfl

/-- A window's index is its place along the tokens. -/
def wIdx : Fin 64 ≃ (⟨4, ![1, 64, 1, 1]⟩ : Shape).Idx where
  toFun w := ix4 0 w 0 0
  invFun y := y 1
  left_inv w := rfl
  right_inv y := by
    funext a
    match a with
    | 0 => exact Subsingleton.elim (α := Fin 1) _ _
    | 1 => rfl
    | 2 => exact Subsingleton.elim (α := Fin 1) _ _
    | 3 => exact Subsingleton.elim (α := Fin 1) _ _

/-- What a place of the window adds: the entry there, nothing where the place is before the first token. -/
def win (x : FVec Ideal S1x64x8x1 .f32) (t : Fin 64) (h : Fin 8) (y : (⟨4, ![1, 64, 1, 1]⟩ : Shape).Idx) : EReal :=
  if hin : ∀ a : Fin 4, (![0, 63, 0, 0] : Fin 4 → ℕ) a ≤ ((ix4 0 t h 0 : S1x64x8x1.Idx) a).val * (![1, 1, 1, 1] : Fin 4 → ℕ) a + (y a).val
      ∧ ((ix4 0 t h 0 : S1x64x8x1.Idx) a).val * (![1, 1, 1, 1] : Fin 4 → ℕ) a + (y a).val - (![0, 63, 0, 0] : Fin 4 → ℕ) a < S1x64x8x1.size a then
    x (fun a => ⟨((ix4 0 t h 0 : S1x64x8x1.Idx) a).val * (![1, 1, 1, 1] : Fin 4 → ℕ) a + (y a).val - (![0, 63, 0, 0] : Fin 4 → ℕ) a, (hin a).2⟩)
  else 0

theorem win_at (x : FVec Ideal S1x64x8x1 .f32) (t : Fin 64) (h : Fin 8) (w : Fin 64) :
    win x t h (ix4 0 w 0 0) = if w + (t + 1) ≤ t then x (ix4 0 (w + (t + 1)) h 0) else 0 := by
  unfold win
  have ht := t.isLt
  have hw := w.isLt
  by_cases hc : 63 ≤ t.val + w.val
  · have e : ((w + (t + 1)).val) = t.val + w.val - 63 := by
      simp only [Fin.val_add, Fin.val_one]
      omega
    have hle : w + (t + 1) ≤ t := by rw [Fin.le_def, e]; omega
    rw [dif_pos, if_pos hle]
    · refine congrArg x (funext fun a => Fin.ext ?_)
      match a with
      | 0 => rfl
      | 1 =>
        show t.val * 1 + w.val - 63 = _
        rw [mul_one]; exact e.symm
      | 2 => show h.val * 1 + 0 - 0 = h.val; omega
      | 3 => rfl
    · intro a
      match a with
      | 0 => exact ⟨Nat.zero_le _, Nat.zero_lt_one⟩
      | 1 =>
        show 63 ≤ t.val * 1 + w.val ∧ t.val * 1 + w.val - 63 < 64
        omega
      | 2 =>
        show 0 ≤ h.val * 1 + 0 ∧ h.val * 1 + 0 - 0 < 8
        omega
      | 3 => exact ⟨Nat.zero_le _, Nat.zero_lt_one⟩
  · have e : ((w + (t + 1)).val) = t.val + w.val + 1 := by
      simp only [Fin.val_add, Fin.val_one]
      omega
    have hle : ¬ w + (t + 1) ≤ t := by rw [Fin.le_def, e]; omega
    rw [dif_neg, if_neg hle]
    intro hin
    have h2 : 63 ≤ t.val * 1 + w.val := (hin 1).1
    omega

theorem cumsum (x : FVec Ideal S1x64x8x1 .f32) (v : FVec Ideal S_ .f32) (hv : ∀ i, v i = (0 : EReal)) (t : Fin 64) (h : Fin 8) :
    Host.reduceWindowAdd ![1, 64, 1, 1] ![1, 1, 1, 1] ![0, 63, 0, 0] ![0, 0, 0, 0] x v
      reduceWindows_S1x64x8x1_S1x64x8x1_w1s1p0_0_w64s1p63_0_w1s1p0_0_w1s1p0_0 h_S_ (ix4 0 t h 0)
    = cum (fun s => (x (ix4 0 s h 0) : EReal)) t := by
  unfold Host.reduceWindowAdd
  rw [Ideal.hostReduceWindowAdd_def, hv]
  unfold Ideal.hostReduceWindowAdd Host.reduceWindow
  dsimp only
  rw [foldl_sum, zero_add]
  trans ∑ n, win x t h ((Shape.rowMajor ⟨4, ![1, 64, 1, 1]⟩).symm n)
  · refine Finset.sum_congr rfl fun n _ => ?_
    unfold win
    split <;> rename_i h1 <;> split <;> rename_i h2
    · rfl
    · exact absurd h1 h2
    · exact absurd h2 h1
    · rfl
  unfold cum
  refine (Equiv.sum_comp (wIdx.trans (Shape.rowMajor ⟨4, ![1, 64, 1, 1]⟩)) fun n => win x t h ((Shape.rowMajor ⟨4, ![1, 64, 1, 1]⟩).symm n)).symm.trans ?_
  refine Eq.trans ?_ (Equiv.sum_comp (Equiv.addRight (t + 1)) fun s : Fin 64 => if s ≤ t then (x (ix4 0 s h 0) : EReal) else 0)
  refine Finset.sum_congr rfl fun w _ => ?_
  rw [Equiv.trans_apply, Equiv.symm_apply_apply, Equiv.coe_addRight]
  exact win_at x t h w

/-- A sum over two axes of size one is the entry. -/
theorem drop_unit (x : FVec Ideal S1x8x1x64x64 .f32) (h : Fin 8) (t s : Fin 64) :
    Ideal.hostReduceAdd reducesTo_S1x8x1x64x64_S8x64x64_d0_2 x 0 (ix3 h t s) = x (ix5 0 h 0 t s) := by
  unfold Ideal.hostReduceAdd
  rw [zero_add]
  refine (Finset.sum_eq_single (ix5 0 h 0 t s) (fun b hb hne => ?_) fun hb => ?_).trans rfl
  · refine absurd (funext fun a => ?_) hne
    have e := (Finset.mem_filter.mp hb).2
    match a with
    | 0 => exact Subsingleton.elim (α := Fin 1) _ _
    | 1 => exact Fin.ext (congrArg Fin.val (congrFun e 0))
    | 2 => exact Subsingleton.elim (α := Fin 1) _ _
    | 3 => exact Fin.ext (congrArg Fin.val (congrFun e 1))
    | 4 => exact Fin.ext (congrArg Fin.val (congrFun e 2))
  · have e : reducesTo_S1x8x1x64x64_S8x64x64_d0_2.drop (ix5 0 h 0 t s) = ix3 h t s := by
      funext a
      match a with
      | 0 => rfl
      | 1 => rfl
      | 2 => rfl
    rw [Finset.mem_filter] at hb
    exact absurd ⟨Finset.mem_univ _, e⟩ hb

end Cert.ReferenceIdeal.Val

end
-- ==== Proof.X2.lean ====
/- The reference's reads of a chunk and its writes of a chunk, at an index. -/
module

public import proofs.«01_k».proof.Proof.Gen.ReferenceIdeal
public import Idealize.ShloMosaic.Lib.Pointwise
public import Idealize.ShloMosaic.Lib.WordCmp
public import proofs.«01_k».proof.Proof.V6

@[expose] public section

set_option maxRecDepth 16384
set_option maxHeartbeats 1000000

noncomputable section

namespace Cert.ReferenceIdeal.Val

open Idealize.ShloMosaic Idealize.ShloMosaic.TcCoe
open WordCmp Cert.ReferenceIdeal Cert.ReferenceIdeal.Gen Cert.Chunk

/-! ### A chunk read, a chunk written -/

variable (w : BitVec 32) (n : Fin 36) (hw : w.toInt = n.val)

include hw in
theorem readQ (x : FVec Ideal S36x1x64x8x256 .f32) (i : Fin 5 → IVec S_ 32)
    (h0 : ∀ y, i 0 y = w) (hz : ∀ a : Fin 5, a ≠ 0 → ∀ y, i a y = 0#32) (s : Fin 64) (h : Fin 8) (j : Fin 256) :
    shapeCast S1x64x8x256 (Host.dynamicSlice S1x1x64x8x256 x (fun k => (i k (Shape.Idx.first h_S_)).toInt)
      sliceFits_S36x1x64x8x256_S1x1x64x8x256) shapeCasts_S1x1x64x8x256_S1x64x8x256 (ix4 0 s h j) = x (ix5 n 0 s h j) := by
  have hn := n.isLt
  rw [dynamicSlice_eq_extract S1x1x64x8x256 x (fun k => (i k (Shape.Idx.first h_S_)).toInt) sliceFits_S36x1x64x8x256_S1x1x64x8x256 ![n.val, 0, 0, 0, 0] ⟨rfl, by intro a; fin_cases a <;> simp <;> omega⟩]
  · pointwise []
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl

include hw in
theorem readV (x : FVec Ideal S36x1x64x8x1x512 .f32) (i : Fin 6 → IVec S_ 32)
    (h0 : ∀ y, i 0 y = w) (hz : ∀ a : Fin 6, a ≠ 0 → ∀ y, i a y = 0#32) (s : Fin 64) (h : Fin 8) (j : Fin 512) :
    shapeCast S1x64x8x1x512 (Host.dynamicSlice S1x1x64x8x1x512 x (fun k => (i k (Shape.Idx.first h_S_)).toInt)
      sliceFits_S36x1x64x8x1x512_S1x1x64x8x1x512) shapeCasts_S1x1x64x8x1x512_S1x64x8x1x512 (ix5 0 s h 0 j) = x (ix6 n 0 s h 0 j) := by
  have hn := n.isLt
  rw [dynamicSlice_eq_extract S1x1x64x8x1x512 x (fun k => (i k (Shape.Idx.first h_S_)).toInt) sliceFits_S36x1x64x8x1x512_S1x1x64x8x1x512 ![n.val, 0, 0, 0, 0, 0] ⟨rfl, by intro a; fin_cases a <;> simp <;> omega⟩]
  · pointwise []
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl
    | 5 => show (i 5 _).toInt = _; rw [hz 5 (by decide)]; rfl

include hw in
theorem readL (x : FVec Ideal S36x1x64x8x1 .f32) (i : Fin 5 → IVec S_ 32)
    (h0 : ∀ y, i 0 y = w) (hz : ∀ a : Fin 5, a ≠ 0 → ∀ y, i a y = 0#32) (s : Fin 64) (h : Fin 8) :
    shapeCast S1x64x8x1 (Host.dynamicSlice S1x1x64x8x1 x (fun k => (i k (Shape.Idx.first h_S_)).toInt)
      sliceFits_S36x1x64x8x1_S1x1x64x8x1) shapeCasts_S1x1x64x8x1_S1x64x8x1 (ix4 0 s h 0) = x (ix5 n 0 s h 0) := by
  have hn := n.isLt
  rw [dynamicSlice_eq_extract S1x1x64x8x1 x (fun k => (i k (Shape.Idx.first h_S_)).toInt) sliceFits_S36x1x64x8x1_S1x1x64x8x1 ![n.val, 0, 0, 0, 0] ⟨rfl, by intro a; fin_cases a <;> simp <;> omega⟩]
  · pointwise []
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl

include hw in
theorem readS (x : FVec Ideal S36x1x8x1x256x512 .f32) (i : Fin 6 → IVec S_ 32)
    (h0 : ∀ y, i 0 y = w) (hz : ∀ a : Fin 6, a ≠ 0 → ∀ y, i a y = 0#32) (h : Fin 8) (i₁ : Fin 256) (j : Fin 512) :
    shapeCast S1x8x1x256x512 (Host.dynamicSlice S1x1x8x1x256x512 x (fun k => (i k (Shape.Idx.first h_S_)).toInt)
      sliceFits_S36x1x8x1x256x512_S1x1x8x1x256x512) shapeCasts_S1x1x8x1x256x512_S1x8x1x256x512 (ix5 0 h 0 i₁ j) = x (ix6 n 0 h 0 i₁ j) := by
  have hn := n.isLt
  rw [dynamicSlice_eq_extract S1x1x8x1x256x512 x (fun k => (i k (Shape.Idx.first h_S_)).toInt) sliceFits_S36x1x8x1x256x512_S1x1x8x1x256x512 ![n.val, 0, 0, 0, 0, 0] ⟨rfl, by intro a; fin_cases a <;> simp <;> omega⟩]
  · pointwise []
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl
    | 5 => show (i 5 _).toInt = _; rw [hz 5 (by decide)]; rfl

include hw in
theorem writeQ (x : FVec Ideal S36x1x64x8x256 .f32) (u : FVec Ideal S1x64x8x256 .f32) (i : Fin 5 → IVec S_ 32)
    (h0 : ∀ y, i 0 y = w) (hz : ∀ a : Fin 5, a ≠ 0 → ∀ y, i a y = 0#32) (r : Fin 36) (s : Fin 64) (h : Fin 8) (j : Fin 256) :
    Host.dynamicUpdateSlice x (broadcastInDim S1x1x64x8x256 ![1, 2, 3, 4] bcast_S1x64x8x256_S1x1x64x8x256_1_2_3_4 u) (fun k => (i k (Shape.Idx.first h_S_)).toInt)
      updateFits_S36x1x64x8x256_S1x1x64x8x256 (ix5 r 0 s h j) = if r = n then u (ix4 0 s h j) else x (ix5 r 0 s h j) := by
  have hn := n.isLt
  rw [dynamicUpdateSlice_eq_update x _ (fun k => (i k (Shape.Idx.first h_S_)).toInt) updateFits_S36x1x64x8x256_S1x1x64x8x256 ![n.val, 0, 0, 0, 0] ⟨rfl, by intro a; fin_cases a <;> simp <;> omega⟩]
  · pointwise []
    by_cases hr : r = n
    · subst hr
      simp
    · rw [dif_neg fun hb => hr (Fin.ext (by omega)), if_neg hr]
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl

include hw in
theorem writeV (x : FVec Ideal S36x1x64x8x1x512 .f32) (u : FVec Ideal S1x64x8x1x512 .f32) (i : Fin 6 → IVec S_ 32)
    (h0 : ∀ y, i 0 y = w) (hz : ∀ a : Fin 6, a ≠ 0 → ∀ y, i a y = 0#32) (r : Fin 36) (s : Fin 64) (h : Fin 8) (j : Fin 512) :
    Host.dynamicUpdateSlice x (broadcastInDim S1x1x64x8x1x512 ![1, 2, 3, 4, 5] bcast_S1x64x8x1x512_S1x1x64x8x1x512_1_2_3_4_5 u) (fun k => (i k (Shape.Idx.first h_S_)).toInt)
      updateFits_S36x1x64x8x1x512_S1x1x64x8x1x512 (ix6 r 0 s h 0 j) = if r = n then u (ix5 0 s h 0 j) else x (ix6 r 0 s h 0 j) := by
  have hn := n.isLt
  rw [dynamicUpdateSlice_eq_update x _ (fun k => (i k (Shape.Idx.first h_S_)).toInt) updateFits_S36x1x64x8x1x512_S1x1x64x8x1x512 ![n.val, 0, 0, 0, 0, 0] ⟨rfl, by intro a; fin_cases a <;> simp <;> omega⟩]
  · pointwise []
    by_cases hr : r = n
    · subst hr
      simp
    · rw [dif_neg fun hb => hr (Fin.ext (by omega)), if_neg hr]
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl
    | 5 => show (i 5 _).toInt = _; rw [hz 5 (by decide)]; rfl

include hw in
theorem writeS (x : FVec Ideal S36x1x8x1x256x512 .f32) (u : FVec Ideal S1x8x1x256x512 .f32) (i : Fin 6 → IVec S_ 32)
    (h0 : ∀ y, i 0 y = w) (hz : ∀ a : Fin 6, a ≠ 0 → ∀ y, i a y = 0#32) (r : Fin 36) (h : Fin 8) (i₁ : Fin 256) (j : Fin 512) :
    Host.dynamicUpdateSlice x (broadcastInDim S1x1x8x1x256x512 ![1, 2, 3, 4, 5] bcast_S1x8x1x256x512_S1x1x8x1x256x512_1_2_3_4_5 u) (fun k => (i k (Shape.Idx.first h_S_)).toInt)
      updateFits_S36x1x8x1x256x512_S1x1x8x1x256x512 (ix6 r 0 h 0 i₁ j) = if r = n then u (ix5 0 h 0 i₁ j) else x (ix6 r 0 h 0 i₁ j) := by
  have hn := n.isLt
  rw [dynamicUpdateSlice_eq_update x _ (fun k => (i k (Shape.Idx.first h_S_)).toInt) updateFits_S36x1x8x1x256x512_S1x1x8x1x256x512 ![n.val, 0, 0, 0, 0, 0] ⟨rfl, by intro a; fin_cases a <;> simp <;> omega⟩]
  · pointwise []
    by_cases hr : r = n
    · subst hr
      simp
    · rw [dif_neg fun hb => hr (Fin.ext (by omega)), if_neg hr]
  · intro a
    match a with
    | 0 => show (i 0 _).toInt = _; rw [h0, hw]; rfl
    | 1 => show (i 1 _).toInt = _; rw [hz 1 (by decide)]; rfl
    | 2 => show (i 2 _).toInt = _; rw [hz 2 (by decide)]; rfl
    | 3 => show (i 3 _).toInt = _; rw [hz 3 (by decide)]; rfl
    | 4 => show (i 4 _).toInt = _; rw [hz 4 (by decide)]; rfl
    | 5 => show (i 5 _).toInt = _; rw [hz 5 (by decide)]; rfl

end Cert.ReferenceIdeal.Val

end
-- ==== Proof.X3.lean ====
/- Entries of the loops' arrays, by head. -/
module

public import proofs.«01_k».proof.Proof.RCtr
public import proofs.«01_k».proof.Proof.X1
public import proofs.«01_k».proof.Proof.X2
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

/-- An entry of a chunk of the queries or keys. -/
abbrev fQ (A : FVec Ideal S1x64x8x256 .f32) (h : Fin 8) (s : Fin 64) (i : Fin 256) : EReal := A (ix4 0 s h i)

/-- An entry of a chunk of the values. -/
abbrev fV (A : FVec Ideal S1x64x8x1x512 .f32) (h : Fin 8) (s : Fin 64) (j : Fin 512) : EReal := A (ix5 0 s h 0 j)

/-- An entry of a chunk of the decays. -/
abbrev fX (A : FVec Ideal S1x64x8x1 .f32) (h : Fin 8) (s : Fin 64) : EReal := A (ix4 0 s h 0)

/-- An entry of a state. -/
abbrev fS (A : FVec Ideal S1x8x1x256x512 .f32) (h : Fin 8) (i : Fin 256) (j : Fin 512) : EReal := A (ix5 0 h 0 i j)

/-- An entry of a square of two steps. -/
abbrev fE (A : FVec Ideal S1x8x1x64x64 .f32) (h : Fin 8) (t s : Fin 64) : EReal := A (ix5 0 h 0 t s)

end Cert.ReferenceIdeal.Val

end
-- ==== Proof.Y0.lean ====
/- The reference's forward loop, list by list: what a trip reads, adds up and writes. -/
module

public import proofs.«01_k».proof.Proof.RCtr
public import proofs.«01_k».proof.Proof.X1
public import proofs.«01_k».proof.Proof.X2
public import proofs.«01_k».proof.Proof.X3
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem f1_v51 (n : Fin 36) (hw : ∀ y, ((V main_v28_6 : IVec S_ 32) y).toInt = n.val) (s : Fin 64) (h : Fin 8) (j : Fin 256) :
    (after f1 V main_while0b_v51 : FVec Ideal S1x64x8x256 .f32) (ix4 0 s h j) = (V main_v28_1 : FVec Ideal S36x1x64x8x256 .f32) (ix5 n 0 s h j) := by
  after_results
  refine readQ ((V main_v28_6 : IVec S_ 32) (Shape.Idx.first h_S_)) n (hw _) (V main_v28_1 : FVec Ideal S36x1x64x8x256 .f32) _ ?_ ?_ s h j
  · intro y
    refine (?_ : (V main_v28_6 : IVec S_ 32) y = _)
    exact congrArg _ (Subsingleton.elim _ _)
  · intro a ha y
    match a, ha with
    | 1, _ => rfl
    | 2, _ => rfl
    | 3, _ => rfl
    | 4, _ => rfl

theorem f2_v52 (n : Fin 36) (hw : ∀ y, ((V main_v28_6 : IVec S_ 32) y).toInt = n.val) (s : Fin 64) (h : Fin 8) (j : Fin 512) :
    (after f2 V main_while0b_v52 : FVec Ideal S1x64x8x1x512 .f32) (ix5 0 s h 0 j) = (V main_v28_2 : FVec Ideal S36x1x64x8x1x512 .f32) (ix6 n 0 s h 0 j) := by
  after_results
  refine readV ((V main_v28_6 : IVec S_ 32) (Shape.Idx.first h_S_)) n (hw _) (V main_v28_2 : FVec Ideal S36x1x64x8x1x512 .f32) _ ?_ ?_ s h j
  · intro y
    refine (?_ : (V main_v28_6 : IVec S_ 32) y = _)
    exact congrArg _ (Subsingleton.elim _ _)
  · intro a ha y
    match a, ha with
    | 1, _ => rfl
    | 2, _ => rfl
    | 3, _ => rfl
    | 4, _ => rfl
    | 5, _ => rfl

theorem f3_v53 (n : Fin 36) (hw : ∀ y, ((V main_v28_6 : IVec S_ 32) y).toInt = n.val) (s : Fin 64) (h : Fin 8) :
    (after f3 V main_while0b_v53 : FVec Ideal S1x64x8x1 .f32) (ix4 0 s h 0) = (V main_v28_3 : FVec Ideal S36x1x64x8x1 .f32) (ix5 n 0 s h 0) := by
  after_results
  refine readL ((V main_v28_6 : IVec S_ 32) (Shape.Idx.first h_S_)) n (hw _) (V main_v28_3 : FVec Ideal S36x1x64x8x1 .f32) _ ?_ ?_ s h
  · intro y
    refine (?_ : (V main_v28_6 : IVec S_ 32) y = _)
    exact congrArg _ (Subsingleton.elim _ _)
  · intro a ha y
    match a, ha with
    | 1, _ => rfl
    | 2, _ => rfl
    | 3, _ => rfl
    | 4, _ => rfl

theorem f4_v54 (t : Fin 64) (h : Fin 8) :
    (after f4 V main_while0b_v54 : FVec Ideal S1x64x8x1 .f32) (ix4 0 t h 0) = cum (fun s => fX (V main_while0b_v53) h s) t := by
  after_results
  refine cumsum (V main_while0b_v53 : FVec Ideal S1x64x8x1 .f32) _ (fun i => ?_) t h
  refine Eq.trans (?_ : _ = broadcastInDim S_ ![] bcast_S_S_ (constant (F := Ideal) S_ .f32 0x00000000#32) i) ?_
  · rfl
  · pointwise []

theorem f7_v90 (h : Fin 8) (i : Fin 256) (j : Fin 512) : (after f7 V main_while0b_v90 : FVec Ideal S1x8x1x256x512 .f32) (ix5 0 h 0 i j)
    = Ideal.exp (fX (V main_while0b_v54) h 63) * fS (V main_v28_7) h i j
      + ∑ s, fQ (V main_while0b_v51) h s i * (fV (V main_while0b_v52) h s j
          * Ideal.exp (fX (V main_while0b_v54) h 63 - fX (V main_while0b_v54) h s)) := by
  after_results
  generalize V main_while0b_v54 = x
  generalize V main_while0b_v51 = k
  generalize V main_while0b_v52 = v
  generalize V main_v28_7 = S
  pointwise []
  simp only [fQ, fV, fX, fS, fE]
  refine congrArg _ (Finset.sum_congr rfl fun s _ => ?_)
  ac_rfl

theorem f9_v92 (n : Fin 36) (hw : ∀ y, ((V main_v28_6 : IVec S_ 32) y).toInt = n.val) (r : Fin 36) (h : Fin 8) (i : Fin 256) (j : Fin 512) :
    (after f9 V main_while0b_v92 : FVec Ideal S36x1x8x1x256x512 .f32) (ix6 r 0 h 0 i j) = if r = n then (V main_v28_7 : FVec Ideal S1x8x1x256x512 .f32) (ix5 0 h 0 i j) else (V main_v28_9 : FVec Ideal S36x1x8x1x256x512 .f32) (ix6 r 0 h 0 i j) := by
  after_results
  refine writeS ((V main_v28_6 : IVec S_ 32) (Shape.Idx.first h_S_)) n (hw _) (V main_v28_9 : FVec Ideal S36x1x8x1x256x512 .f32) (V main_v28_7 : FVec Ideal S1x8x1x256x512 .f32) _ ?_ ?_ r h i j
  · intro y
    refine (?_ : (V main_v28_6 : IVec S_ 32) y = _)
    exact congrArg _ (Subsingleton.elim _ _)
  · intro a ha y
    match a, ha with
    | 1, _ => rfl
    | 2, _ => rfl
    | 3, _ => rfl
    | 4, _ => rfl
    | 5, _ => rfl

theorem f10_7 : (after f10 V main_v28_7 : FVec Ideal S1x8x1x256x512 .f32) = V main_while0b_v90 := by
  after_results
  rfl

theorem f10_9 : (after f10 V main_v28_9 : FVec Ideal S36x1x8x1x256x512 .f32) = V main_while0b_v92 := by
  after_results
  rfl

end Cert.ReferenceIdeal.Val

end
-- ==== Proof.Z0.lean ====
/- What one trip of the reference's forward loop does to the carried state and to the stack of states. -/
module

public import proofs.«01_k».proof.Proof.RCtr
public import proofs.«01_k».proof.Proof.X1
public import proofs.«01_k».proof.Proof.X2
public import proofs.«01_k».proof.Proof.X3
public import proofs.«01_k».proof.Proof.Y0
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

/-- A chunk of the stacked queries or keys. -/
abbrev rQ (A : FVec Ideal S36x1x64x8x256 .f32) (n : Fin 36) (h : Fin 8) (s : Fin 64) (i : Fin 256) : EReal := A (ix5 n 0 s h i)

/-- A chunk of the stacked values. -/
abbrev rV (A : FVec Ideal S36x1x64x8x1x512 .f32) (n : Fin 36) (h : Fin 8) (s : Fin 64) (j : Fin 512) : EReal := A (ix6 n 0 s h 0 j)

/-- A chunk of the stacked decays. -/
abbrev rX (A : FVec Ideal S36x1x64x8x1 .f32) (n : Fin 36) (h : Fin 8) (s : Fin 64) : EReal := A (ix5 n 0 s h 0)

/-- A state of the stack. -/
abbrev rS (A : FVec Ideal S36x1x8x1x256x512 .f32) (n : Fin 36) (h : Fin 8) (i : Fin 256) (j : Fin 512) : EReal := A (ix6 n 0 h 0 i j)

theorem kf0 (r : Ref sig .tc) (h : r ∉ f0_W) (V : Valuation τ sig (Elt Ideal)) : after f0 V (Proc.devRef .tc r) = V (Proc.devRef .tc r) :=
  after_of_writes_sub f0 V f0_writes h

theorem kf1 (r : Ref sig .tc) (h : r ∉ f1_W) (V : Valuation τ sig (Elt Ideal)) : after f1 V (Proc.devRef .tc r) = V (Proc.devRef .tc r) :=
  after_of_writes_sub f1 V f1_writes h

theorem kf2 (r : Ref sig .tc) (h : r ∉ f2_W) (V : Valuation τ sig (Elt Ideal)) : after f2 V (Proc.devRef .tc r) = V (Proc.devRef .tc r) :=
  after_of_writes_sub f2 V f2_writes h

theorem kf3 (r : Ref sig .tc) (h : r ∉ f3_W) (V : Valuation τ sig (Elt Ideal)) : after f3 V (Proc.devRef .tc r) = V (Proc.devRef .tc r) :=
  after_of_writes_sub f3 V f3_writes h

theorem kf4 (r : Ref sig .tc) (h : r ∉ f4_W) (V : Valuation τ sig (Elt Ideal)) : after f4 V (Proc.devRef .tc r) = V (Proc.devRef .tc r) :=
  after_of_writes_sub f4 V f4_writes h

theorem kf5 (r : Ref sig .tc) (h : r ∉ f5_W) (V : Valuation τ sig (Elt Ideal)) : after f5 V (Proc.devRef .tc r) = V (Proc.devRef .tc r) :=
  after_of_writes_sub f5 V f5_writes h

theorem kf6 (r : Ref sig .tc) (h : r ∉ f6_W) (V : Valuation τ sig (Elt Ideal)) : after f6 V (Proc.devRef .tc r) = V (Proc.devRef .tc r) :=
  after_of_writes_sub f6 V f6_writes h

theorem kf7 (r : Ref sig .tc) (h : r ∉ f7_W) (V : Valuation τ sig (Elt Ideal)) : after f7 V (Proc.devRef .tc r) = V (Proc.devRef .tc r) :=
  after_of_writes_sub f7 V f7_writes h

theorem kf8 (r : Ref sig .tc) (h : r ∉ f8_W) (V : Valuation τ sig (Elt Ideal)) : after f8 V (Proc.devRef .tc r) = V (Proc.devRef .tc r) :=
  after_of_writes_sub f8 V f8_writes h

theorem kf9 (r : Ref sig .tc) (h : r ∉ f9_W) (V : Valuation τ sig (Elt Ideal)) : after f9 V (Proc.devRef .tc r) = V (Proc.devRef .tc r) :=
  after_of_writes_sub f9 V f9_writes h

theorem kf10 (r : Ref sig .tc) (h : r ∉ f10_W) (V : Valuation τ sig (Elt Ideal)) : after f10 V (Proc.devRef .tc r) = V (Proc.devRef .tc r) :=
  after_of_writes_sub f10 V f10_writes h

theorem e_v51 (n : Fin 36) (hw : ∀ y, ((V main_v28_6 : IVec S_ 32) y).toInt = n.val) (h : Fin 8) :
    fQ (after f1 V main_while0b_v51) h = rQ (V main_v28_1) n h := by
  funext s i
  exact f1_v51 V n hw s h i

theorem e_v52 (n : Fin 36) (hw : ∀ y, ((V main_v28_6 : IVec S_ 32) y).toInt = n.val) (h : Fin 8) :
    fV (after f2 V main_while0b_v52) h = rV (V main_v28_2) n h := by
  funext s j
  exact f2_v52 V n hw s h j

theorem e_v53 (n : Fin 36) (hw : ∀ y, ((V main_v28_6 : IVec S_ 32) y).toInt = n.val) (h : Fin 8) :
    fX (after f3 V main_while0b_v53) h = rX (V main_v28_3) n h := by
  funext s
  exact f3_v53 V n hw s h

theorem e_v54 (h : Fin 8) : fX (after f4 V main_while0b_v54) h = cum (fX (V main_while0b_v53) h) := by
  funext t
  exact f4_v54 V t h

theorem e_v90 (h : Fin 8) : fS (after f7 V main_while0b_v90) h = fun i j => Ideal.exp (fX (V main_while0b_v54) h 63) * fS (V main_v28_7) h i j
      + ∑ s, fQ (V main_while0b_v51) h s i * (fV (V main_while0b_v52) h s j * Ideal.exp (fX (V main_while0b_v54) h 63 - fX (V main_while0b_v54) h s)) := by
  funext i j
  exact f7_v90 V h i j

/-- The carried state takes one step. -/
theorem body0_S (n : Fin 36) (hw : ∀ y, ((V main_v28_6 : IVec S_ 32) y).toInt = n.val) (h : Fin 8) :
    fS (afterL body0L V main_v28_7) h
      = stepS (rX (V main_v28_3) n h) (rQ (V main_v28_1) n h) (rV (V main_v28_2) n h) (fS (V main_v28_7) h) := by
  refine (?_ : fS (after f10 (after f9 (after f8 (after f7 (after f6 (after f5 (after f4 (after f3 (after f2 (after f1 (after f0 V)))))))))) main_v28_7) h = _)
  rw [f10_7]
  rw [kf9 main_while0b_v90 (by decide), kf8 main_while0b_v90 (by decide)]
  rw [e_v90]
  rw [kf6 main_while0b_v54 (by decide), kf5 main_while0b_v54 (by decide)]
  rw [e_v54]
  rw [kf6 main_v28_7 (by decide), kf5 main_v28_7 (by decide), kf4 main_v28_7 (by decide), kf3 main_v28_7 (by decide), kf2 main_v28_7 (by decide), kf1 main_v28_7 (by decide), kf0 main_v28_7 (by decide)]
  rw [e_v53 _ n (by intro y; rw [kf2 main_v28_6 (by decide), kf1 main_v28_6 (by decide), kf0 main_v28_6 (by decide)]; exact hw y)]
  rw [kf2 main_v28_3 (by decide), kf1 main_v28_3 (by decide), kf0 main_v28_3 (by decide)]
  rw [kf6 main_while0b_v52 (by decide), kf5 main_while0b_v52 (by decide), kf4 main_while0b_v52 (by decide), kf3 main_while0b_v52 (by decide)]
  rw [e_v52 _ n (by intro y; rw [kf1 main_v28_6 (by decide), kf0 main_v28_6 (by decide)]; exact hw y)]
  rw [kf1 main_v28_2 (by decide), kf0 main_v28_2 (by decide)]
  rw [kf6 main_while0b_v51 (by decide), kf5 main_while0b_v51 (by decide), kf4 main_while0b_v51 (by decide), kf3 main_while0b_v51 (by decide), kf2 main_while0b_v51 (by decide)]
  rw [e_v51 _ n (by intro y; rw [kf0 main_v28_6 (by decide)]; exact hw y)]
  rw [kf0 main_v28_1 (by decide)]
  rfl

/-- The state a trip starts from is written at the trip's chunk. -/
theorem body0_stack (n : Fin 36) (hw : ∀ y, ((V main_v28_6 : IVec S_ 32) y).toInt = n.val) (r : Fin 36) (h : Fin 8) :
    rS (afterL body0L V main_v28_9) r h = if r = n then fS (V main_v28_7) h else rS (V main_v28_9) r h := by
  funext i j
  refine (?_ : rS (after f10 (after f9 (after f8 (after f7 (after f6 (after f5 (after f4 (after f3 (after f2 (after f1 (after f0 V)))))))))) main_v28_9) r h i j = _)
  rw [f10_9]
  refine (f9_v92 _ n (by intro y; rw [kf8 main_v28_6 (by decide), kf7 main_v28_6 (by decide), kf6 main_v28_6 (by decide), kf5 main_v28_6 (by decide), kf4 main_v28_6 (by decide), kf3 main_v28_6 (by decide), kf2 main_v28_6 (by decide), kf1 main_v28_6 (by decide), kf0 main_v28_6 (by decide)]; exact hw y) r h i j).trans ?_
  rw [kf8 main_v28_7 (by decide), kf7 main_v28_7 (by decide), kf6 main_v28_7 (by decide), kf5 main_v28_7 (by decide), kf4 main_v28_7 (by decide), kf3 main_v28_7 (by decide), kf2 main_v28_7 (by decide), kf1 main_v28_7 (by decide), kf0 main_v28_7 (by decide)]
  rw [kf8 main_v28_9 (by decide), kf7 main_v28_9 (by decide), kf6 main_v28_9 (by decide), kf5 main_v28_9 (by decide), kf4 main_v28_9 (by decide), kf3 main_v28_9 (by decide), kf2 main_v28_9 (by decide), kf1 main_v28_9 (by decide), kf0 main_v28_9 (by decide)]
  split <;> rfl

end Cert.ReferenceIdeal.Val

end
-- ==== Proof.Y1.lean ====
/- The reference's backward loop, list by list: what a trip reads, adds up and writes. -/
module

public import proofs.«01_k».proof.Proof.RCtr
public import proofs.«01_k».proof.Proof.X1
public import proofs.«01_k».proof.Proof.X2
public import proofs.«01_k».proof.Proof.X3
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem g0_v51 : (after g0 V main_while1b_v51 : IVec S_ 32) = fun y => 36#32 - (V main_v40_7 : IVec S_ 32) y - 1#32 := by
  after_results
  rfl

theorem g1_v52 (n : Fin 36) (hw : ∀ y, ((V main_while1b_v51 : IVec S_ 32) y).toInt = n.val) (s : Fin 64) (h : Fin 8) (j : Fin 512) :
    (after g1 V main_while1b_v52 : FVec Ideal S1x64x8x1x512 .f32) (ix5 0 s h 0 j) = (V main_v40_0 : FVec Ideal S36x1x64x8x1x512 .f32) (ix6 n 0 s h 0 j) := by
  after_results
  refine readV ((V main_while1b_v51 : IVec S_ 32) (Shape.Idx.first h_S_)) n (hw _) (V main_v40_0 : FVec Ideal S36x1x64x8x1x512 .f32) _ ?_ ?_ s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl
    | 5, _ => rfl

theorem g2_v53 (n : Fin 36) (hw : ∀ y, ((V main_while1b_v51 : IVec S_ 32) y).toInt = n.val) (h : Fin 8) (i : Fin 256) (j : Fin 512) :
    (after g2 V main_while1b_v53 : FVec Ideal S1x8x1x256x512 .f32) (ix5 0 h 0 i j) = (V main_v40_1 : FVec Ideal S36x1x8x1x256x512 .f32) (ix6 n 0 h 0 i j) := by
  after_results
  refine readS ((V main_while1b_v51 : IVec S_ 32) (Shape.Idx.first h_S_)) n (hw _) (V main_v40_1 : FVec Ideal S36x1x8x1x256x512 .f32) _ ?_ ?_ h i j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl
    | 5, _ => rfl

theorem g3_v54 (n : Fin 36) (hw : ∀ y, ((V main_while1b_v51 : IVec S_ 32) y).toInt = n.val) (s : Fin 64) (h : Fin 8) (j : Fin 256) :
    (after g3 V main_while1b_v54 : FVec Ideal S1x64x8x256 .f32) (ix4 0 s h j) = (V main_v40_2 : FVec Ideal S36x1x64x8x256 .f32) (ix5 n 0 s h j) := by
  after_results
  refine readQ ((V main_while1b_v51 : IVec S_ 32) (Shape.Idx.first h_S_)) n (hw _) (V main_v40_2 : FVec Ideal S36x1x64x8x256 .f32) _ ?_ ?_ s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl

theorem g4_v55 (n : Fin 36) (hw : ∀ y, ((V main_while1b_v51 : IVec S_ 32) y).toInt = n.val) (s : Fin 64) (h : Fin 8) (j : Fin 256) :
    (after g4 V main_while1b_v55 : FVec Ideal S1x64x8x256 .f32) (ix4 0 s h j) = (V main_v40_3 : FVec Ideal S36x1x64x8x256 .f32) (ix5 n 0 s h j) := by
  after_results
  refine readQ ((V main_while1b_v51 : IVec S_ 32) (Shape.Idx.first h_S_)) n (hw _) (V main_v40_3 : FVec Ideal S36x1x64x8x256 .f32) _ ?_ ?_ s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl

theorem g5_v56 (n : Fin 36) (hw : ∀ y, ((V main_while1b_v51 : IVec S_ 32) y).toInt = n.val) (s : Fin 64) (h : Fin 8) (j : Fin 512) :
    (after g5 V main_while1b_v56 : FVec Ideal S1x64x8x1x512 .f32) (ix5 0 s h 0 j) = (V main_v40_4 : FVec Ideal S36x1x64x8x1x512 .f32) (ix6 n 0 s h 0 j) := by
  after_results
  refine readV ((V main_while1b_v51 : IVec S_ 32) (Shape.Idx.first h_S_)) n (hw _) (V main_v40_4 : FVec Ideal S36x1x64x8x1x512 .f32) _ ?_ ?_ s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl
    | 5, _ => rfl

theorem g6_v57 (n : Fin 36) (hw : ∀ y, ((V main_while1b_v51 : IVec S_ 32) y).toInt = n.val) (s : Fin 64) (h : Fin 8) :
    (after g6 V main_while1b_v57 : FVec Ideal S1x64x8x1 .f32) (ix4 0 s h 0) = (V main_v40_5 : FVec Ideal S36x1x64x8x1 .f32) (ix5 n 0 s h 0) := by
  after_results
  refine readL ((V main_while1b_v51 : IVec S_ 32) (Shape.Idx.first h_S_)) n (hw _) (V main_v40_5 : FVec Ideal S36x1x64x8x1 .f32) _ ?_ ?_ s h
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl

theorem g7_v58 (t : Fin 64) (h : Fin 8) :
    (after g7 V main_while1b_v58 : FVec Ideal S1x64x8x1 .f32) (ix4 0 t h 0) = cum (fun s => fX (V main_while1b_v57) h s) t := by
  after_results
  refine cumsum (V main_while1b_v57 : FVec Ideal S1x64x8x1 .f32) _ (fun i => ?_) t h
  refine Eq.trans (?_ : _ = broadcastInDim S_ ![] bcast_S_S_ (constant (F := Ideal) S_ .f32 0x00000000#32) i) ?_
  · rfl
  · pointwise []

theorem g8_v64 (h : Fin 8) (t s : Fin 64) : (after g8 V main_while1b_v64 : FVec Ideal S1x8x1x64x64 .f32) (ix5 0 h 0 t s)
    = fX (V main_while1b_v58) h t - fX (V main_while1b_v58) h s := by
  after_results
  pointwise []

theorem g8_v66 (h : Fin 8) (t s : Fin 64) : (after g8 V main_while1b_v66 : FVec Ideal S1x8x1x64x64 .f32) (ix5 0 h 0 t s)
    = ∑ i, fQ (V main_while1b_v54) h t i * fQ (V main_while1b_v55) h s i := by
  after_results
  pointwise []

theorem g8_cst (y : S_.Idx) : (after g8 V main_while1b_cst_22 : FVec Ideal S_ .f32) y = (⊥ : EReal) := by
  after_results
  pointwise []
  simp [Ideal.ofBits, Ideal.ieee]

theorem g9_v67 (h : Fin 8) (t s : Fin 64) (hm : (V main_v40_6 : IVec S64x64 1) (ix2 t s) = BitVec.ofBool (decide (s ≤ t)))
    (hc : ∀ y, (V main_while1b_cst_22 : FVec Ideal S_ .f32) y = (⊥ : EReal)) : (after g9 V main_while1b_v67 : FVec Ideal S1x8x1x64x64 .f32) (ix5 0 h 0 t s)
    = if s ≤ t then fE (V main_while1b_v64) h t s else ⊥ := by
  refine Eq.trans (?_ : _ = select (broadcastInDim S1x8x1x64x64 ![3, 4] bcast_S64x64_S1x8x1x64x64_3_4 (V main_v40_6 : IVec S64x64 1))
    (V main_while1b_v64 : FVec Ideal S1x8x1x64x64 .f32) (broadcastInDim S1x8x1x64x64 ![] bcast_S_S1x8x1x64x64 (V main_while1b_cst_22 : FVec Ideal S_ .f32)) (ix5 0 h 0 t s)) ?_
  · after_results
    rfl
  · generalize (V main_v40_6 : IVec S64x64 1) = M at *
    generalize (V main_while1b_cst_22 : FVec Ideal S_ .f32) = e at *
    generalize (V main_while1b_v64 : FVec Ideal S1x8x1x64x64 .f32) = w
    pointwise []
    rw [hm, hc]
    by_cases hs : s ≤ t <;> simp [hs, Scalar.select]

end Cert.ReferenceIdeal.Val

end
-- ==== Proof.Y2.lean ====
/- The reference's backward loop: the four results of a trip's products. -/
module

public import proofs.«01_k».proof.Proof.RCtr
public import proofs.«01_k».proof.Proof.X1
public import proofs.«01_k».proof.Proof.X2
public import proofs.«01_k».proof.Proof.X3
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem g10_v99 (h : Fin 8) (i : Fin 256) (j : Fin 512) : (after g10 V main_while1b_v99 : FVec Ideal S1x8x1x256x512 .f32) (ix5 0 h 0 i j)
    = Ideal.exp (fX (V main_while1b_v58) h 63) * fS (V main_v40_8) h i j + ∑ t, (Ideal.exp (fX (V main_while1b_v58) h t) * fV (V main_while1b_v52) h t j) * fQ (V main_while1b_v54) h t i := by
  after_results
  generalize V main_while1b_v52 = dy
  generalize V main_while1b_v53 = S
  generalize V main_while1b_v54 = q
  generalize V main_while1b_v55 = k
  generalize V main_while1b_v56 = v
  generalize V main_while1b_v58 = x
  generalize V main_while1b_v67 = e
  generalize V main_while1b_v66 = w
  generalize V main_v40_8 = dS
  pointwise []
  simp only [fQ, fV, fX, fS, fE]
  refine congrArg _ (Finset.sum_congr rfl fun s _ => ?_)
  ac_rfl

theorem g10_v113 (t : Fin 64) (h : Fin 8) (i : Fin 256) : (after g10 V main_while1b_v113 : FVec Ideal S1x64x8x256 .f32) (ix4 0 t h i)
    = (∑ j, (Ideal.exp (fX (V main_while1b_v58) h t) * fV (V main_while1b_v52) h t j) * fS (V main_while1b_v53) h i j) + ∑ s, ((∑ j, fV (V main_while1b_v52) h t j * fV (V main_while1b_v56) h s j) * Ideal.exp (fE (V main_while1b_v67) h t s)) * fQ (V main_while1b_v55) h s i := by
  after_results
  generalize V main_while1b_v52 = dy
  generalize V main_while1b_v53 = S
  generalize V main_while1b_v54 = q
  generalize V main_while1b_v55 = k
  generalize V main_while1b_v56 = v
  generalize V main_while1b_v58 = x
  generalize V main_while1b_v67 = e
  generalize V main_while1b_v66 = w
  generalize V main_v40_8 = dS
  pointwise []
  simp only [Fin.sum_univ_one, drop_unit]
  pointwise []
  simp only [fQ, fV, fX, fS, fE]
  refine congr_arg₂ _ (Finset.sum_congr rfl fun s _ => ?_) (Finset.sum_congr rfl fun s _ => ?_)
  · ac_rfl
  · rfl

theorem g10_v110 (s : Fin 64) (h : Fin 8) (i : Fin 256) : (after g10 V main_while1b_v110 : FVec Ideal S1x64x8x256 .f32) (ix4 0 s h i)
    = (∑ j, fS (V main_v40_8) h i j * (fV (V main_while1b_v56) h s j * Ideal.exp (fX (V main_while1b_v58) h 63 - fX (V main_while1b_v58) h s))) + ∑ t, ((∑ j, fV (V main_while1b_v52) h t j * fV (V main_while1b_v56) h s j) * Ideal.exp (fE (V main_while1b_v67) h t s)) * fQ (V main_while1b_v54) h t i := by
  after_results
  generalize V main_while1b_v52 = dy
  generalize V main_while1b_v53 = S
  generalize V main_while1b_v54 = q
  generalize V main_while1b_v55 = k
  generalize V main_while1b_v56 = v
  generalize V main_while1b_v58 = x
  generalize V main_while1b_v67 = e
  generalize V main_while1b_v66 = w
  generalize V main_v40_8 = dS
  pointwise []
  simp only [Fin.sum_univ_one, drop_unit]
  pointwise []
  simp only [fQ, fV, fX, fS, fE]
  refine congr_arg₂ _ (Finset.sum_congr rfl fun s _ => ?_) (Finset.sum_congr rfl fun s _ => ?_)
  · ac_rfl
  · rfl

theorem g10_v104 (s : Fin 64) (h : Fin 8) (j : Fin 512) : (after g10 V main_while1b_v104 : FVec Ideal S1x64x8x1x512 .f32) (ix5 0 s h 0 j)
    = (∑ i, fS (V main_v40_8) h i j * fQ (V main_while1b_v55) h s i) * Ideal.exp (fX (V main_while1b_v58) h 63 - fX (V main_while1b_v58) h s) + ∑ t, fV (V main_while1b_v52) h t j * (fE (V main_while1b_v66) h t s * Ideal.exp (fE (V main_while1b_v67) h t s)) := by
  after_results
  generalize V main_while1b_v52 = dy
  generalize V main_while1b_v53 = S
  generalize V main_while1b_v54 = q
  generalize V main_while1b_v55 = k
  generalize V main_while1b_v56 = v
  generalize V main_while1b_v58 = x
  generalize V main_while1b_v67 = e
  generalize V main_while1b_v66 = w
  generalize V main_v40_8 = dS
  pointwise []
  simp only [fQ, fV, fX, fS, fE]
  refine congr_arg₂ _ ?_ (Finset.sum_congr rfl fun s _ => ?_)
  · ac_rfl
  · rfl

end Cert.ReferenceIdeal.Val

end
-- ==== Proof.Y3.lean ====
/- The reference's backward loop: the writes of a trip. -/
module

public import proofs.«01_k».proof.Proof.RCtr
public import proofs.«01_k».proof.Proof.X1
public import proofs.«01_k».proof.Proof.X2
public import proofs.«01_k».proof.Proof.X3
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem g11_v114 (n : Fin 36) (hw : ∀ y, ((V main_while1b_v51 : IVec S_ 32) y).toInt = n.val) (r : Fin 36) (s : Fin 64) (h : Fin 8) (j : Fin 256) :
    (after g11 V main_while1b_v114 : FVec Ideal S36x1x64x8x256 .f32) (ix5 r 0 s h j) = if r = n then (V main_while1b_v113 : FVec Ideal S1x64x8x256 .f32) (ix4 0 s h j) else (V main_v40_9 : FVec Ideal S36x1x64x8x256 .f32) (ix5 r 0 s h j) := by
  after_results
  refine writeQ ((V main_while1b_v51 : IVec S_ 32) (Shape.Idx.first h_S_)) n (hw _) (V main_v40_9 : FVec Ideal S36x1x64x8x256 .f32) (V main_while1b_v113 : FVec Ideal S1x64x8x256 .f32) _ ?_ ?_ r s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl

theorem g12_v115 (n : Fin 36) (hw : ∀ y, ((V main_while1b_v51 : IVec S_ 32) y).toInt = n.val) (r : Fin 36) (s : Fin 64) (h : Fin 8) (j : Fin 256) :
    (after g12 V main_while1b_v115 : FVec Ideal S36x1x64x8x256 .f32) (ix5 r 0 s h j) = if r = n then (V main_while1b_v110 : FVec Ideal S1x64x8x256 .f32) (ix4 0 s h j) else (V main_v40_10 : FVec Ideal S36x1x64x8x256 .f32) (ix5 r 0 s h j) := by
  after_results
  refine writeQ ((V main_while1b_v51 : IVec S_ 32) (Shape.Idx.first h_S_)) n (hw _) (V main_v40_10 : FVec Ideal S36x1x64x8x256 .f32) (V main_while1b_v110 : FVec Ideal S1x64x8x256 .f32) _ ?_ ?_ r s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl

theorem g13_v116 (n : Fin 36) (hw : ∀ y, ((V main_while1b_v51 : IVec S_ 32) y).toInt = n.val) (r : Fin 36) (s : Fin 64) (h : Fin 8) (j : Fin 512) :
    (after g13 V main_while1b_v116 : FVec Ideal S36x1x64x8x1x512 .f32) (ix6 r 0 s h 0 j) = if r = n then (V main_while1b_v104 : FVec Ideal S1x64x8x1x512 .f32) (ix5 0 s h 0 j) else (V main_v40_11 : FVec Ideal S36x1x64x8x1x512 .f32) (ix6 r 0 s h 0 j) := by
  after_results
  refine writeV ((V main_while1b_v51 : IVec S_ 32) (Shape.Idx.first h_S_)) n (hw _) (V main_v40_11 : FVec Ideal S36x1x64x8x1x512 .f32) (V main_while1b_v104 : FVec Ideal S1x64x8x1x512 .f32) _ ?_ ?_ r s h j
  · intro y
    refine (?_ : (V main_while1b_v51 : IVec S_ 32) y = _)
    exact congrArg _ (Subsingleton.elim _ _)
  · intro a ha y
    match a, ha with
    | 1, _ => rfl
    | 2, _ => rfl
    | 3, _ => rfl
    | 4, _ => rfl
    | 5, _ => rfl

theorem g14_8 : (after g14 V main_v40_8 : FVec Ideal S1x8x1x256x512 .f32) = V main_while1b_v99 := by
  after_results
  rfl

theorem g14_9 : (after g14 V main_v40_9 : FVec Ideal S36x1x64x8x256 .f32) = V main_while1b_v114 := by
  after_results
  rfl

theorem g14_10 : (after g14 V main_v40_10 : FVec Ideal S36x1x64x8x256 .f32) = V main_while1b_v115 := by
  after_results
  rfl

theorem g14_11 : (after g14 V main_v40_11 : FVec Ideal S36x1x64x8x1x512 .f32) = V main_while1b_v116 := by
  after_results
  rfl

end Cert.ReferenceIdeal.Val

end
-- ==== Proof.Z1.lean ====
/- The reference's backward loop: what a trip's products are made of. -/
module

public import proofs.«01_k».proof.Proof.RCtr
public import proofs.«01_k».proof.Proof.X1
public import proofs.«01_k».proof.Proof.X2
public import proofs.«01_k».proof.Proof.X3
public import proofs.«01_k».proof.Proof.Y1
public import proofs.«01_k».proof.Proof.Y2
public import proofs.«01_k».proof.Proof.Y3
public import proofs.«01_k».proof.Proof.Z0
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem kg0 (r : Ref sig .tc) (h : r ∉ g0_W) (V : Valuation τ sig (Elt Ideal)) : after g0 V (Proc.devRef .tc r) = V (Proc.devRef .tc r) :=
  after_of_writes_sub g0 V g0_writes h

theorem kg1 (r : Ref sig .tc) (h : r ∉ g1_W) (V : Valuation τ sig (Elt Ideal)) : after g1 V (Proc.devRef .tc r) = V (Proc.devRef .tc r) :=
  after_of_writes_sub g1 V g1_writes h

theorem kg2 (r : Ref sig .tc) (h : r ∉ g2_W) (V : Valuation τ sig (Elt Ideal)) : after g2 V (Proc.devRef .tc r) = V (Proc.devRef .tc r) :=
  after_of_writes_sub g2 V g2_writes h

theorem kg3 (r : Ref sig .tc) (h : r ∉ g3_W) (V : Valuation τ sig (Elt Ideal)) : after g3 V (Proc.devRef .tc r) = V (Proc.devRef .tc r) :=
  after_of_writes_sub g3 V g3_writes h

theorem kg4 (r : Ref sig .tc) (h : r ∉ g4_W) (V : Valuation τ sig (Elt Ideal)) : after g4 V (Proc.devRef .tc r) = V (Proc.devRef .tc r) :=
  after_of_writes_sub g4 V g4_writes h

theorem kg5 (r : Ref sig .tc) (h : r ∉ g5_W) (V : Valuation τ sig (Elt Ideal)) : after g5 V (Proc.devRef .tc r) = V (Proc.devRef .tc r) :=
  after_of_writes_sub g5 V g5_writes h

theorem kg6 (r : Ref sig .tc) (h : r ∉ g6_W) (V : Valuation τ sig (Elt Ideal)) : after g6 V (Proc.devRef .tc r) = V (Proc.devRef .tc r) :=
  after_of_writes_sub g6 V g6_writes h

theorem kg7 (r : Ref sig .tc) (h : r ∉ g7_W) (V : Valuation τ sig (Elt Ideal)) : after g7 V (Proc.devRef .tc r) = V (Proc.devRef .tc r) :=
  after_of_writes_sub g7 V g7_writes h

theorem kg8 (r : Ref sig .tc) (h : r ∉ g8_W) (V : Valuation τ sig (Elt Ideal)) : after g8 V (Proc.devRef .tc r) = V (Proc.devRef .tc r) :=
  after_of_writes_sub g8 V g8_writes h

theorem kg9 (r : Ref sig .tc) (h : r ∉ g9_W) (V : Valuation τ sig (Elt Ideal)) : after g9 V (Proc.devRef .tc r) = V (Proc.devRef .tc r) :=
  after_of_writes_sub g9 V g9_writes h

theorem kg10 (r : Ref sig .tc) (h : r ∉ g10_W) (V : Valuation τ sig (Elt Ideal)) : after g10 V (Proc.devRef .tc r) = V (Proc.devRef .tc r) :=
  after_of_writes_sub g10 V g10_writes h

theorem kg11 (r : Ref sig .tc) (h : r ∉ g11_W) (V : Valuation τ sig (Elt Ideal)) : after g11 V (Proc.devRef .tc r) = V (Proc.devRef .tc r) :=
  after_of_writes_sub g11 V g11_writes h

theorem kg12 (r : Ref sig .tc) (h : r ∉ g12_W) (V : Valuation τ sig (Elt Ideal)) : after g12 V (Proc.devRef .tc r) = V (Proc.devRef .tc r) :=
  after_of_writes_sub g12 V g12_writes h

theorem kg13 (r : Ref sig .tc) (h : r ∉ g13_W) (V : Valuation τ sig (Elt Ideal)) : after g13 V (Proc.devRef .tc r) = V (Proc.devRef .tc r) :=
  after_of_writes_sub g13 V g13_writes h

theorem kg14 (r : Ref sig .tc) (h : r ∉ g14_W) (V : Valuation τ sig (Elt Ideal)) : after g14 V (Proc.devRef .tc r) = V (Proc.devRef .tc r) :=
  after_of_writes_sub g14 V g14_writes h

theorem d_v52 (n : Fin 36) (hw : ∀ y, ((V main_while1b_v51 : IVec S_ 32) y).toInt = n.val) (h : Fin 8) :
    fV (after g1 V main_while1b_v52) h = rV (V main_v40_0) n h := by
  funext s j
  exact g1_v52 V n hw s h j

theorem d_v53 (n : Fin 36) (hw : ∀ y, ((V main_while1b_v51 : IVec S_ 32) y).toInt = n.val) (h : Fin 8) :
    fS (after g2 V main_while1b_v53) h = rS (V main_v40_1) n h := by
  funext i j
  exact g2_v53 V n hw h i j

theorem d_v54 (n : Fin 36) (hw : ∀ y, ((V main_while1b_v51 : IVec S_ 32) y).toInt = n.val) (h : Fin 8) :
    fQ (after g3 V main_while1b_v54) h = rQ (V main_v40_2) n h := by
  funext s i
  exact g3_v54 V n hw s h i

theorem d_v55 (n : Fin 36) (hw : ∀ y, ((V main_while1b_v51 : IVec S_ 32) y).toInt = n.val) (h : Fin 8) :
    fQ (after g4 V main_while1b_v55) h = rQ (V main_v40_3) n h := by
  funext s i
  exact g4_v55 V n hw s h i

theorem d_v56 (n : Fin 36) (hw : ∀ y, ((V main_while1b_v51 : IVec S_ 32) y).toInt = n.val) (h : Fin 8) :
    fV (after g5 V main_while1b_v56) h = rV (V main_v40_4) n h := by
  funext s j
  exact g5_v56 V n hw s h j

theorem d_v57 (n : Fin 36) (hw : ∀ y, ((V main_while1b_v51 : IVec S_ 32) y).toInt = n.val) (h : Fin 8) :
    fX (after g6 V main_while1b_v57) h = rX (V main_v40_5) n h := by
  funext s
  exact g6_v57 V n hw s h

/-- The exponent between two tokens, −∞ where the second is later. -/
def seg (x : Fin 64 → EReal) (t s : Fin 64) : EReal := if s ≤ t then cum x t - cum x s else ⊥

theorem exp_seg (x : Fin 64 → EReal) (t s : Fin 64) : Ideal.exp (seg x t s) = dec x t s := by
  unfold seg dec
  split
  · rfl
  · rfl

theorem d_v58 (h : Fin 8) : fX (after g7 V main_while1b_v58) h = cum (fX (V main_while1b_v57) h) := by
  funext t
  exact g7_v58 V t h

/-- The contents before a trip's products. -/
def Pre (V : Valuation τ sig (Elt Ideal)) : Valuation τ sig (Elt Ideal) := (after g9 (after g8 (after g7 (after g6 (after g5 (after g4 (after g3 (after g2 (after g1 (after g0 V))))))))))

theorem pre_ctr (y : S_.Idx) : (Pre V main_while1b_v51 : IVec S_ 32) y = 36#32 - (V main_v40_7 : IVec S_ 32) y - 1#32 := by
  unfold Pre
  rw [kg9 main_while1b_v51 (by decide), kg8 main_while1b_v51 (by decide), kg7 main_while1b_v51 (by decide), kg6 main_while1b_v51 (by decide), kg5 main_while1b_v51 (by decide), kg4 main_while1b_v51 (by decide), kg3 main_while1b_v51 (by decide), kg2 main_while1b_v51 (by decide), kg1 main_while1b_v51 (by decide)]
  rw [g0_v51]

theorem pre_keep (r : Ref sig .tc) (h : ∀ W ∈ [g0_W, g1_W, g2_W, g3_W, g4_W, g5_W, g6_W, g7_W, g8_W, g9_W], r ∉ W) : Pre V (Proc.devRef .tc r) = V (Proc.devRef .tc r) := by
  unfold Pre
  rw [kg9 r (h _ (by simp)), kg8 r (h _ (by simp)), kg7 r (h _ (by simp)), kg6 r (h _ (by simp)), kg5 r (h _ (by simp)),
    kg4 r (h _ (by simp)), kg3 r (h _ (by simp)), kg2 r (h _ (by simp)), kg1 r (h _ (by simp)), kg0 r (h _ (by simp))]

theorem p_v52 (n : Fin 36) (hw : ∀ y, (36#32 - (V main_v40_7 : IVec S_ 32) y - 1#32).toInt = n.val) (h : Fin 8) : fV (Pre V main_while1b_v52) h = rV (V main_v40_0) n h := by
  unfold Pre
  rw [kg9 main_while1b_v52 (by decide), kg8 main_while1b_v52 (by decide), kg7 main_while1b_v52 (by decide), kg6 main_while1b_v52 (by decide), kg5 main_while1b_v52 (by decide), kg4 main_while1b_v52 (by decide), kg3 main_while1b_v52 (by decide), kg2 main_while1b_v52 (by decide)]
  rw [d_v52 _ n (by intro y; rw [g0_v51]; exact hw y)]
  rw [kg0 main_v40_0 (by decide)]

theorem p_v53 (n : Fin 36) (hw : ∀ y, (36#32 - (V main_v40_7 : IVec S_ 32) y - 1#32).toInt = n.val) (h : Fin 8) : fS (Pre V main_while1b_v53) h = rS (V main_v40_1) n h := by
  unfold Pre
  rw [kg9 main_while1b_v53 (by decide), kg8 main_while1b_v53 (by decide), kg7 main_while1b_v53 (by decide), kg6 main_while1b_v53 (by decide), kg5 main_while1b_v53 (by decide), kg4 main_while1b_v53 (by decide), kg3 main_while1b_v53 (by decide)]
  rw [d_v53 _ n (by intro y; rw [kg1 main_while1b_v51 (by decide)]; rw [g0_v51]; exact hw y)]
  rw [kg1 main_v40_1 (by decide), kg0 main_v40_1 (by decide)]

theorem p_v54 (n : Fin 36) (hw : ∀ y, (36#32 - (V main_v40_7 : IVec S_ 32) y - 1#32).toInt = n.val) (h : Fin 8) : fQ (Pre V main_while1b_v54) h = rQ (V main_v40_2) n h := by
  unfold Pre
  rw [kg9 main_while1b_v54 (by decide), kg8 main_while1b_v54 (by decide), kg7 main_while1b_v54 (by decide), kg6 main_while1b_v54 (by decide), kg5 main_while1b_v54 (by decide), kg4 main_while1b_v54 (by decide)]
  rw [d_v54 _ n (by intro y; rw [kg2 main_while1b_v51 (by decide), kg1 main_while1b_v51 (by decide)]; rw [g0_v51]; exact hw y)]
  rw [kg2 main_v40_2 (by decide), kg1 main_v40_2 (by decide), kg0 main_v40_2 (by decide)]

theorem p_v55 (n : Fin 36) (hw : ∀ y, (36#32 - (V main_v40_7 : IVec S_ 32) y - 1#32).toInt = n.val) (h : Fin 8) : fQ (Pre V main_while1b_v55) h = rQ (V main_v40_3) n h := by
  unfold Pre
  rw [kg9 main_while1b_v55 (by decide), kg8 main_while1b_v55 (by decide), kg7 main_while1b_v55 (by decide), kg6 main_while1b_v55 (by decide), kg5 main_while1b_v55 (by decide)]
  rw [d_v55 _ n (by intro y; rw [kg3 main_while1b_v51 (by decide), kg2 main_while1b_v51 (by decide), kg1 main_while1b_v51 (by decide)]; rw [g0_v51]; exact hw y)]
  rw [kg3 main_v40_3 (by decide), kg2 main_v40_3 (by decide), kg1 main_v40_3 (by decide), kg0 main_v40_3 (by decide)]

theorem p_v56 (n : Fin 36) (hw : ∀ y, (36#32 - (V main_v40_7 : IVec S_ 32) y - 1#32).toInt = n.val) (h : Fin 8) : fV (Pre V main_while1b_v56) h = rV (V main_v40_4) n h := by
  unfold Pre
  rw [kg9 main_while1b_v56 (by decide), kg8 main_while1b_v56 (by decide), kg7 main_while1b_v56 (by decide), kg6 main_while1b_v56 (by decide)]
  rw [d_v56 _ n (by intro y; rw [kg4 main_while1b_v51 (by decide), kg3 main_while1b_v51 (by decide), kg2 main_while1b_v51 (by decide), kg1 main_while1b_v51 (by decide)]; rw [g0_v51]; exact hw y)]
  rw [kg4 main_v40_4 (by decide), kg3 main_v40_4 (by decide), kg2 main_v40_4 (by decide), kg1 main_v40_4 (by decide), kg0 main_v40_4 (by decide)]

theorem p_v58 (n : Fin 36) (hw : ∀ y, (36#32 - (V main_v40_7 : IVec S_ 32) y - 1#32).toInt = n.val) (h : Fin 8) : fX (Pre V main_while1b_v58) h = cum (rX (V main_v40_5) n h) := by
  unfold Pre
  rw [kg9 main_while1b_v58 (by decide), kg8 main_while1b_v58 (by decide)]
  rw [d_v58, d_v57 _ n (by intro y; rw [kg5 main_while1b_v51 (by decide), kg4 main_while1b_v51 (by decide), kg3 main_while1b_v51 (by decide), kg2 main_while1b_v51 (by decide), kg1 main_while1b_v51 (by decide)]; rw [g0_v51]; exact hw y)]
  rw [kg5 main_v40_5 (by decide), kg4 main_v40_5 (by decide), kg3 main_v40_5 (by decide), kg2 main_v40_5 (by decide), kg1 main_v40_5 (by decide), kg0 main_v40_5 (by decide)]

theorem p_v66 (n : Fin 36) (hw : ∀ y, (36#32 - (V main_v40_7 : IVec S_ 32) y - 1#32).toInt = n.val) (h : Fin 8) : fE (Pre V main_while1b_v66) h = fun t s => ∑ i, rQ (V main_v40_2) n h t i * rQ (V main_v40_3) n h s i := by
  funext t s
  unfold Pre
  rw [kg9 main_while1b_v66 (by decide)]
  refine (g8_v66 _ h t s).trans ?_
  rw [kg7 main_while1b_v54 (by decide), kg6 main_while1b_v54 (by decide), kg5 main_while1b_v54 (by decide), kg4 main_while1b_v54 (by decide)]
  rw [d_v54 _ n (by intro y; rw [kg2 main_while1b_v51 (by decide), kg1 main_while1b_v51 (by decide)]; rw [g0_v51]; exact hw y)]
  rw [kg2 main_v40_2 (by decide), kg1 main_v40_2 (by decide), kg0 main_v40_2 (by decide)]
  rw [kg7 main_while1b_v55 (by decide), kg6 main_while1b_v55 (by decide), kg5 main_while1b_v55 (by decide)]
  rw [d_v55 _ n (by intro y; rw [kg3 main_while1b_v51 (by decide), kg2 main_while1b_v51 (by decide), kg1 main_while1b_v51 (by decide)]; rw [g0_v51]; exact hw y)]
  rw [kg3 main_v40_3 (by decide), kg2 main_v40_3 (by decide), kg1 main_v40_3 (by decide), kg0 main_v40_3 (by decide)]

theorem p_v67 (n : Fin 36) (hw : ∀ y, (36#32 - (V main_v40_7 : IVec S_ 32) y - 1#32).toInt = n.val) (h : Fin 8) (hm : ∀ t s, (V main_v40_6 : IVec S64x64 1) (ix2 t s) = BitVec.ofBool (decide (s ≤ t))) :
    fE (Pre V main_while1b_v67) h = seg (rX (V main_v40_5) n h) := by
  funext t s
  unfold Pre
  refine (g9_v67 _ h t s ?_ ?_).trans ?_
  · rw [kg8 main_v40_6 (by decide), kg7 main_v40_6 (by decide), kg6 main_v40_6 (by decide), kg5 main_v40_6 (by decide), kg4 main_v40_6 (by decide), kg3 main_v40_6 (by decide), kg2 main_v40_6 (by decide), kg1 main_v40_6 (by decide), kg0 main_v40_6 (by decide)]
    exact hm t s
  · exact g8_cst _
  · refine (?_ : (if s ≤ t then fE _ h t s else ⊥) = seg _ t s)
    unfold seg
    refine congrArg (fun y => if s ≤ t then y else ⊥) ((g8_v64 _ h t s).trans ?_)
    rw [d_v58, d_v57 _ n (by intro y; rw [kg5 main_while1b_v51 (by decide), kg4 main_while1b_v51 (by decide), kg3 main_while1b_v51 (by decide), kg2 main_while1b_v51 (by decide), kg1 main_while1b_v51 (by decide)]; rw [g0_v51]; exact hw y)]
    rw [kg5 main_v40_5 (by decide), kg4 main_v40_5 (by decide), kg3 main_v40_5 (by decide), kg2 main_v40_5 (by decide), kg1 main_v40_5 (by decide), kg0 main_v40_5 (by decide)]

end Cert.ReferenceIdeal.Val

end
-- ==== Proof.Z2.lean ====
/- What one trip of the reference's backward loop does to the carried gradient and to the three stacks. -/
module

public import proofs.«01_k».proof.Proof.RCtr
public import proofs.«01_k».proof.Proof.X1
public import proofs.«01_k».proof.Proof.X2
public import proofs.«01_k».proof.Proof.X3
public import proofs.«01_k».proof.Proof.Y1
public import proofs.«01_k».proof.Proof.Y2
public import proofs.«01_k».proof.Proof.Y3
public import proofs.«01_k».proof.Proof.Z0
public import proofs.«01_k».proof.Proof.Z1
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem o_v99 (n : Fin 36) (hw : ∀ y, (36#32 - (V main_v40_7 : IVec S_ 32) y - 1#32).toInt = n.val) (h : Fin 8) : fS (after g10 (Pre V) main_while1b_v99) h = stepD (rX (V main_v40_5) n h) (rQ (V main_v40_2) n h) (rV (V main_v40_0) n h) (fS (V main_v40_8) h) := by
  funext i j
  refine (g10_v99 _ h i j).trans ?_
  rw [p_v58 V n hw, p_v52 V n hw, p_v54 V n hw, pre_keep V main_v40_8 (by decide)]
  rfl

theorem o_v113 (n : Fin 36) (hw : ∀ y, (36#32 - (V main_v40_7 : IVec S_ 32) y - 1#32).toInt = n.val) (hm : ∀ t s, (V main_v40_6 : IVec S64x64 1) (ix2 t s) = BitVec.ofBool (decide (s ≤ t))) (h : Fin 8) : fQ (after g10 (Pre V) main_while1b_v113) h = gq (rX (V main_v40_5) n h) (rQ (V main_v40_3) n h) (rV (V main_v40_4) n h) (rV (V main_v40_0) n h) (rS (V main_v40_1) n h) := by
  funext s i
  refine (g10_v113 _ s h i).trans ?_
  rw [p_v58 V n hw, p_v52 V n hw, p_v53 V n hw, p_v55 V n hw, p_v56 V n hw, p_v67 V n hw h hm]
  simp only [exp_seg]
  rfl

theorem o_v110 (n : Fin 36) (hw : ∀ y, (36#32 - (V main_v40_7 : IVec S_ 32) y - 1#32).toInt = n.val) (hm : ∀ t s, (V main_v40_6 : IVec S64x64 1) (ix2 t s) = BitVec.ofBool (decide (s ≤ t))) (h : Fin 8) : fQ (after g10 (Pre V) main_while1b_v110) h = gk (rX (V main_v40_5) n h) (rQ (V main_v40_2) n h) (rV (V main_v40_4) n h) (rV (V main_v40_0) n h) (fS (V main_v40_8) h) := by
  funext s i
  refine (g10_v110 _ s h i).trans ?_
  rw [p_v58 V n hw, p_v52 V n hw, p_v54 V n hw, p_v56 V n hw, p_v67 V n hw h hm, pre_keep V main_v40_8 (by decide)]
  simp only [exp_seg]
  rfl

theorem o_v104 (n : Fin 36) (hw : ∀ y, (36#32 - (V main_v40_7 : IVec S_ 32) y - 1#32).toInt = n.val) (hm : ∀ t s, (V main_v40_6 : IVec S64x64 1) (ix2 t s) = BitVec.ofBool (decide (s ≤ t))) (h : Fin 8) : fV (after g10 (Pre V) main_while1b_v104) h = gv (rX (V main_v40_5) n h) (rQ (V main_v40_2) n h) (rQ (V main_v40_3) n h) (rV (V main_v40_0) n h) (fS (V main_v40_8) h) := by
  funext s j
  refine (g10_v104 _ s h j).trans ?_
  rw [p_v58 V n hw, p_v52 V n hw, p_v55 V n hw, p_v66 V n hw, p_v67 V n hw h hm, pre_keep V main_v40_8 (by decide)]
  simp only [exp_seg]
  rfl

/-- The carried gradient takes one step. -/
theorem body1_D (n : Fin 36) (hw : ∀ y, (36#32 - (V main_v40_7 : IVec S_ 32) y - 1#32).toInt = n.val) (h : Fin 8) : fS (afterL body1L V main_v40_8) h = stepD (rX (V main_v40_5) n h) (rQ (V main_v40_2) n h) (rV (V main_v40_0) n h) (fS (V main_v40_8) h) := by
  refine (?_ : fS (after g14 (after g13 (after g12 (after g11 (after g10 (Pre V))))) main_v40_8) h = _)
  rw [g14_8]
  rw [kg13 main_while1b_v99 (by decide), kg12 main_while1b_v99 (by decide), kg11 main_while1b_v99 (by decide)]
  exact o_v99 V n hw h

/-- The gradient of the queries is written at the trip's chunk. -/
theorem body1_dq (n : Fin 36) (hw : ∀ y, (36#32 - (V main_v40_7 : IVec S_ 32) y - 1#32).toInt = n.val) (hm : ∀ t s, (V main_v40_6 : IVec S64x64 1) (ix2 t s) = BitVec.ofBool (decide (s ≤ t))) (r : Fin 36) (h : Fin 8) :
    rQ (afterL body1L V main_v40_9) r h = if r = n then gq (rX (V main_v40_5) n h) (rQ (V main_v40_3) n h) (rV (V main_v40_4) n h) (rV (V main_v40_0) n h) (rS (V main_v40_1) n h) else rQ (V main_v40_9) r h := by
  funext s i
  refine (?_ : rQ (after g14 (after g13 (after g12 (after g11 (after g10 (Pre V))))) main_v40_9) r h s i = _)
  rw [g14_9]
  rw [kg13 main_while1b_v114 (by decide), kg12 main_while1b_v114 (by decide)]
  refine (g11_v114 _ n (by intro y; rw [kg10 main_while1b_v51 (by decide)]; rw [pre_ctr]; exact hw y) r s h i).trans ?_
  rw [kg10 main_v40_9 (by decide)]
  rw [pre_keep V main_v40_9 (by decide)]
  split
  · exact congrFun (congrFun (o_v113 V n hw hm h) s) i
  · rfl

/-- The gradient of the keys is written at the trip's chunk. -/
theorem body1_dk (n : Fin 36) (hw : ∀ y, (36#32 - (V main_v40_7 : IVec S_ 32) y - 1#32).toInt = n.val) (hm : ∀ t s, (V main_v40_6 : IVec S64x64 1) (ix2 t s) = BitVec.ofBool (decide (s ≤ t))) (r : Fin 36) (h : Fin 8) :
    rQ (afterL body1L V main_v40_10) r h = if r = n then gk (rX (V main_v40_5) n h) (rQ (V main_v40_2) n h) (rV (V main_v40_4) n h) (rV (V main_v40_0) n h) (fS (V main_v40_8) h) else rQ (V main_v40_10) r h := by
  funext s i
  refine (?_ : rQ (after g14 (after g13 (after g12 (after g11 (after g10 (Pre V))))) main_v40_10) r h s i = _)
  rw [g14_10]
  rw [kg13 main_while1b_v115 (by decide)]
  refine (g12_v115 _ n (by intro y; rw [kg11 main_while1b_v51 (by decide), kg10 main_while1b_v51 (by decide)]; rw [pre_ctr]; exact hw y) r s h i).trans ?_
  rw [kg11 main_while1b_v110 (by decide)]
  rw [kg11 main_v40_10 (by decide), kg10 main_v40_10 (by decide)]
  rw [pre_keep V main_v40_10 (by decide)]
  split
  · exact congrFun (congrFun (o_v110 V n hw hm h) s) i
  · rfl

/-- The gradient of the values is written at the trip's chunk. -/
theorem body1_dv (n : Fin 36) (hw : ∀ y, (36#32 - (V main_v40_7 : IVec S_ 32) y - 1#32).toInt = n.val) (hm : ∀ t s, (V main_v40_6 : IVec S64x64 1) (ix2 t s) = BitVec.ofBool (decide (s ≤ t))) (r : Fin 36) (h : Fin 8) :
    rV (afterL body1L V main_v40_11) r h = if r = n then gv (rX (V main_v40_5) n h) (rQ (V main_v40_2) n h) (rQ (V main_v40_3) n h) (rV (V main_v40_0) n h) (fS (V main_v40_8) h) else rV (V main_v40_11) r h := by
  funext s j
  refine (?_ : rV (after g14 (after g13 (after g12 (after g11 (after g10 (Pre V))))) main_v40_11) r h s j = _)
  rw [g14_11]
  refine (g13_v116 _ n (by intro y; rw [kg12 main_while1b_v51 (by decide), kg11 main_while1b_v51 (by decide), kg10 main_while1b_v51 (by decide)]; rw [pre_ctr]; exact hw y) r s h j).trans ?_
  rw [kg12 main_while1b_v104 (by decide), kg11 main_while1b_v104 (by decide)]
  rw [kg12 main_v40_11 (by decide), kg11 main_v40_11 (by decide), kg10 main_v40_11 (by decide)]
  rw [pre_keep V main_v40_11 (by decide)]
  split
  · exact congrFun (congrFun (o_v104 V n hw hm h) s) j
  · rfl

end Cert.ReferenceIdeal.Val

end
-- ==== Proof.Z3.lean ====
/- The reference's stretches outside its loops: chunks at the loops' entries, and the results gathered from the stacks. -/
module

public import proofs.«01_k».proof.Proof.RCtr
public import proofs.«01_k».proof.Proof.X1
public import proofs.«01_k».proof.Proof.X2
public import proofs.«01_k».proof.Proof.X3
public import proofs.«01_k».proof.Proof.Z0
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (V : Valuation τ sig (Elt Ideal))

theorem a_v18 (n : Fin 36) (h : Fin 8) : rQ (after hA0 V main_v18) n h = qc (V main_arg0) h.val n.val := by
  funext s i
  unfold rQ
  after_results
  generalize V main_arg0 = x
  pointwise []
  refine congrArg₂ (fun a b => x (ix2 a b)) (Fin.ext ?_) (Fin.ext ?_)
  · refine (?_ : n.val * 64 + s.val = (64 * n.val + s.val) % 2304)
    omega
  · refine (?_ : h.val * 256 + i.val = (256 * h.val + i.val) % 2048)
    omega

theorem a_v20 (n : Fin 36) (h : Fin 8) : rQ (after hA0 V main_v20) n h = qc (V main_arg1) h.val n.val := by
  funext s i
  unfold rQ
  after_results
  generalize V main_arg1 = x
  pointwise []
  refine congrArg₂ (fun a b => x (ix2 a b)) (Fin.ext ?_) (Fin.ext ?_)
  · refine (?_ : n.val * 64 + s.val = (64 * n.val + s.val) % 2304)
    omega
  · refine (?_ : h.val * 256 + i.val = (256 * h.val + i.val) % 2048)
    omega

theorem a_v22 (n : Fin 36) (h : Fin 8) : rV (after hA0 V main_v22) n h = vc (V main_arg2) h.val n.val := by
  funext s j
  unfold rV
  after_results
  generalize V main_arg2 = x
  pointwise []
  refine congrArg₂ (fun a b => x (ix2 a b)) (Fin.ext ?_) (Fin.ext ?_)
  · refine (?_ : n.val * 64 + s.val = (64 * n.val + s.val) % 2304)
    omega
  · refine (?_ : h.val * 512 + j.val = (512 * h.val + j.val) % 4096)
    omega

theorem a_v35 (n : Fin 36) (h : Fin 8) : rV (after hB0 V main_v35) n h = vc (V main_arg4) h.val n.val := by
  funext s j
  unfold rV
  after_results
  generalize V main_arg4 = x
  pointwise []
  refine congrArg₂ (fun a b => x (ix2 a b)) (Fin.ext ?_) (Fin.ext ?_)
  · refine (?_ : n.val * 64 + s.val = (64 * n.val + s.val) % 2304)
    omega
  · refine (?_ : h.val * 512 + j.val = (512 * h.val + j.val) % 4096)
    omega

theorem a_v24 (n : Fin 36) (h : Fin 8) : rX (after hA0 V main_v24) n h = xc (V main_arg3) h.val := by
  funext s
  unfold rX
  after_results
  generalize V main_arg3 = x
  pointwise []
  refine congrArg (fun a => x (ix1 a)) (Fin.ext ?_)
  exact (Nat.mod_eq_of_lt h.isLt).symm

theorem a_v16 : (after hA0 V main_v16 : FVec Ideal S1x8x1x256x512 .f32) = fun _ => (0 : EReal) := by
  funext i
  after_results
  pointwise []

theorem a_v36 : (after hB0 V main_v36 : FVec Ideal S1x8x1x256x512 .f32) = fun _ => (0 : EReal) := by
  funext i
  after_results
  pointwise []

theorem sge_iota (t s : Fin 64) : IntOp.cmpi CmpIPredicate.sge (BitVec.ofNat 32 t.val) (BitVec.ofNat 32 s.val) = BitVec.ofBool (decide (s ≤ t)) := by
  have key : ∀ t s : Fin 64, IntOp.cmpi CmpIPredicate.sge (BitVec.ofNat 32 t.val) (BitVec.ofNat 32 s.val) = BitVec.ofBool (decide (s ≤ t)) := by
    decide +kernel
  exact key t s

theorem a_v10 (t s : Fin 64) : (after hA0 V main_v10 : IVec S64x64 1) (ix2 t s) = BitVec.ofBool (decide (s ≤ t)) := by
  after_results
  pointwise []
  exact sge_iota t s

theorem c_v49 (f : ℕ → ℕ → Fin 64 → Fin 256 → EReal) (hf : ∀ (n : Fin 36) (h : Fin 8), rQ (V main_v40_9) n h = f h.val n.val) :
    (after hC V main_v49 : FVec Ideal S2304x2048 .f32) = ofQ f := by
  funext j
  after_results
  generalize V main_v40_9 = x at *
  pointwise []
  have h0 : (j 0).val < 2304 := (j 0).isLt
  have h1 : (j 1).val < 2048 := (j 1).isLt
  exact congrFun (congrFun (hf ⟨(j 0).val / 64, by omega⟩ ⟨(j 1).val / 256, by omega⟩) ⟨(j 0).val % 64, by omega⟩) ⟨(j 1).val % 256, by omega⟩

theorem c_v48 (f : ℕ → ℕ → Fin 64 → Fin 256 → EReal) (hf : ∀ (n : Fin 36) (h : Fin 8), rQ (V main_v40_10) n h = f h.val n.val) :
    (after hC V main_v48 : FVec Ideal S2304x2048 .f32) = ofQ f := by
  funext j
  after_results
  generalize V main_v40_10 = x at *
  pointwise []
  have h0 : (j 0).val < 2304 := (j 0).isLt
  have h1 : (j 1).val < 2048 := (j 1).isLt
  exact congrFun (congrFun (hf ⟨(j 0).val / 64, by omega⟩ ⟨(j 1).val / 256, by omega⟩) ⟨(j 0).val % 64, by omega⟩) ⟨(j 1).val % 256, by omega⟩

theorem c_v47 (f : ℕ → ℕ → Fin 64 → Fin 512 → EReal) (hf : ∀ (n : Fin 36) (h : Fin 8), rV (V main_v40_11) n h = f h.val n.val) :
    (after hC V main_v47 : FVec Ideal S2304x4096 .f32) = ofV f := by
  funext j
  after_results
  generalize V main_v40_11 = x at *
  pointwise []
  have h0 : (j 0).val < 2304 := (j 0).isLt
  have h1 : (j 1).val < 4096 := (j 1).isLt
  exact congrFun (congrFun (hf ⟨(j 0).val / 64, by omega⟩ ⟨(j 1).val / 512, by omega⟩) ⟨(j 0).val % 64, by omega⟩) ⟨(j 1).val % 512, by omega⟩

theorem h3_1 : after hA3 V main_v28_1 = V main_v20 := by
  after_results
  rfl

theorem h3_2 : after hA3 V main_v28_2 = V main_v22 := by
  after_results
  rfl

theorem h3_3 : after hA3 V main_v28_3 = V main_v24 := by
  after_results
  rfl

theorem h3_7 : after hA3 V main_v28_7 = V main_v16 := by
  after_results
  rfl

theorem h1_0 : after hB1 V main_v40_0 = V main_v35 := by
  after_results
  rfl

theorem h1_1 : after hB1 V main_v40_1 = V main_v28_9 := by
  after_results
  rfl

theorem h1_2 : after hB1 V main_v40_2 = V main_v18 := by
  after_results
  rfl

theorem h1_3 : after hB1 V main_v40_3 = V main_v20 := by
  after_results
  rfl

theorem h1_4 : after hB1 V main_v40_4 = V main_v22 := by
  after_results
  rfl

theorem h1_5 : after hB1 V main_v40_5 = V main_v24 := by
  after_results
  rfl

theorem h1_6 : after hB1 V main_v40_6 = V main_v10 := by
  after_results
  rfl

theorem h1_8 : after hB1 V main_v40_8 = V main_v36 := by
  after_results
  rfl

end Cert.ReferenceIdeal.Val

end
-- ==== Proof.Z4.lean ====
/- The reference's two loops by induction on the trips, and its three results. -/
module

public import proofs.«01_k».proof.Proof.RCtr
public import proofs.«01_k».proof.Proof.X1
public import proofs.«01_k».proof.Proof.X2
public import proofs.«01_k».proof.Proof.RRun
public import proofs.«01_k».proof.Proof.X3
public import proofs.«01_k».proof.Proof.Z0
public import proofs.«01_k».proof.Proof.Z2
public import proofs.«01_k».proof.Proof.Z3
public import proofs.«01_k».proof.Proof.V6

@[expose] public section

set_option maxRecDepth 16384
set_option maxHeartbeats 2000000

noncomputable section

namespace Cert.ReferenceIdeal.Val

open Idealize.ShloMosaic Idealize.ShloMosaic.TcCoe Idealize.ShloMosaic.StableHlo
open Cert.ReferenceIdeal Cert.ReferenceIdeal.Gen Cert.Chunk Cert.ReferenceIdeal.Run

variable (m : (ℓ : Loc nD τ sig) → Buf (Elt Ideal) ℓ) (c : Dev nD)

theorem iv_toInt (k : ℕ) (hk : k < 36) : (Scf.iv 0#32 1#32 k).toInt = (k : ℤ) := by
  have key : ∀ k : Fin 36, (Scf.iv 0#32 1#32 k.val).toInt = (k.val : ℤ) := by decide +kernel
  exact key ⟨k, hk⟩

theorem iv_back (k : ℕ) (hk : k < 36) : (36#32 - Scf.iv 0#32 1#32 k - 1#32).toInt = ((35 - k : ℕ) : ℤ) := by
  have key : ∀ k : Fin 36, (36#32 - Scf.iv 0#32 1#32 k.val - 1#32).toInt = ((35 - k.val : ℕ) : ℤ) := by decide +kernel
  exact key ⟨k, hk⟩

theorem kc0 (r : Ref sig .tc) (h : r ∉ cond0_W) (V : Valuation τ sig (Elt Ideal)) : after cond0 V (Proc.devRef .tc r) = V (Proc.devRef .tc r) :=
  after_of_writes_sub cond0 V cond0_writes h

theorem kc1 (r : Ref sig .tc) (h : r ∉ cond1_W) (V : Valuation τ sig (Elt Ideal)) : after cond1 V (Proc.devRef .tc r) = V (Proc.devRef .tc r) :=
  after_of_writes_sub cond1 V cond1_writes h

/-! ### What the loops leave alone -/

theorem kT0 (r : Ref sig .tc) (h0 : r ∉ cond0_W) (h1 : r ∉ f0_W ++ f1_W ++ f2_W ++ f3_W ++ f4_W ++ f5_W ++ f6_W ++ f7_W ++ f8_W ++ f9_W ++ f10_W) (k : ℕ) :
    T0 m k c (Proc.devRef .tc r) = E0 m c (Proc.devRef .tc r) :=
  keepT c (kc0 r h0) (keep_body0 h1) k

theorem kT1 (r : Ref sig .tc) (h0 : r ∉ cond1_W) (h1 : r ∉ g0_W ++ g1_W ++ g2_W ++ g3_W ++ g4_W ++ g5_W ++ g6_W ++ g7_W ++ g8_W ++ g9_W ++ g10_W ++ g11_W ++ g12_W ++ g13_W ++ g14_W) (k : ℕ) :
    T1 m k c (Proc.devRef .tc r) = E1 m c (Proc.devRef .tc r) :=
  keepT c (kc1 r h0) (keep_body1 h1) k

theorem kE0 (r : Ref sig .tc) (h : r ∉ hA1_W ++ hA2_W ++ hA3_W) : E0 m c (Proc.devRef .tc r) = after hA0 (launchContents m c) (Proc.devRef .tc r) := by
  simp only [List.mem_append, not_or] at h
  refine (?_ : after hA3 (after hA2 (after hA1 (after hA0 (launchContents m c)))) _ = _)
  rw [after_of_writes_sub hA3 _ hA3_writes h.2, after_of_writes_sub hA2 _ hA2_writes h.1.2, after_of_writes_sub hA1 _ hA1_writes h.1.1]

theorem kE3 (r : Ref sig .tc) (h : r ∉ hA1_W ++ hA2_W) : after hA2 (after hA1 (after hA0 (launchContents m c))) (Proc.devRef .tc r) = after hA0 (launchContents m c) (Proc.devRef .tc r) := by
  simp only [List.mem_append, not_or] at h
  rw [after_of_writes_sub hA2 _ hA2_writes h.2, after_of_writes_sub hA1 _ hA1_writes h.1]

/-- What neither the first stretches after the chunking nor the first loop write. -/
theorem kX0 (r : Ref sig .tc) (hc : r ∉ cond0_W) (h : r ∉ hA1_W ++ hA2_W ++ hA3_W)
    (h1 : r ∉ f0_W ++ f1_W ++ f2_W ++ f3_W ++ f4_W ++ f5_W ++ f6_W ++ f7_W ++ f8_W ++ f9_W ++ f10_W) :
    X0 m c (Proc.devRef .tc r) = after hA0 (launchContents m c) (Proc.devRef .tc r) := by
  refine (kc0 r hc _).trans ?_
  rw [kT0 m c r hc h1, kE0 m c r h]

/-! ### The first loop -/

/-- The arguments, as arrays. -/
abbrev aQ : QArr := m ((c : Thread nD τ).loc main_arg0)
abbrev aK : QArr := m ((c : Thread nD τ).loc main_arg1)
abbrev aV : VArr := m ((c : Thread nD τ).loc main_arg2)
abbrev aL : LArr := m ((c : Thread nD τ).loc main_arg3)
abbrev aY : VArr := m ((c : Thread nD τ).loc main_arg4)

theorem t0_k (k : ℕ) (n : Fin 36) (h : Fin 8) : rQ (after cond0 (T0 m k c) main_v28_1) n h = qc (aK m c) h.val n.val := by
  rw [kc0 main_v28_1 (by decide), kT0 m c main_v28_1 (by decide) (by decide +kernel)]
  refine (?_ : rQ (after hA3 (after hA2 (after hA1 (after hA0 (launchContents m c)))) main_v28_1) n h = _)
  rw [h3_1, kE3 m c main_v20 (by decide), a_v20]

theorem t0_v (k : ℕ) (n : Fin 36) (h : Fin 8) : rV (after cond0 (T0 m k c) main_v28_2) n h = vc (aV m c) h.val n.val := by
  rw [kc0 main_v28_2 (by decide), kT0 m c main_v28_2 (by decide) (by decide +kernel)]
  refine (?_ : rV (after hA3 (after hA2 (after hA1 (after hA0 (launchContents m c)))) main_v28_2) n h = _)
  rw [h3_2, kE3 m c main_v22 (by decide), a_v22]

theorem t0_x (k : ℕ) (n : Fin 36) (h : Fin 8) : rX (after cond0 (T0 m k c) main_v28_3) n h = xc (aL m c) h.val := by
  rw [kc0 main_v28_3 (by decide), kT0 m c main_v28_3 (by decide) (by decide +kernel)]
  refine (?_ : rX (after hA3 (after hA2 (after hA1 (after hA0 (launchContents m c)))) main_v28_3) n h = _)
  rw [h3_3, kE3 m c main_v24 (by decide), a_v24]

theorem t0_ctr (k : ℕ) (hk : k < 36) (y : S_.Idx) : ((after cond0 (T0 m k c) main_v28_6 : IVec S_ 32) y).toInt = (⟨k, hk⟩ : Fin 36).val := by
  rw [kc0 main_v28_6 (by decide), ctr0 m c k]
  exact iv_toInt k hk

/-- Before trip `k` the carried state is the state before chunk `k`. -/
theorem t0_S (h : Fin 8) : ∀ k, k ≤ 36 → fS (T0 m k c main_v28_7) h = St (aK m c) (aV m c) (aL m c) h.val k
  | 0, _ => by
    refine (?_ : fS (after hA3 (after hA2 (after hA1 (after hA0 (launchContents m c)))) main_v28_7) h = _)
    rw [h3_7, kE3 m c main_v16 (by decide), a_v16]
    rfl
  | k + 1, hk => by
    refine (body0_S (after cond0 (T0 m k c)) ⟨k, hk⟩ (t0_ctr m c k hk) h).trans ?_
    rw [t0_x, t0_k, t0_v, kc0 main_v28_7 (by decide), t0_S h k (Nat.le_of_succ_le hk)]
    rfl

/-- Before trip `k` the stack holds the states of the chunks before `k`. -/
theorem t0_stack (h : Fin 8) (n : Fin 36) : ∀ k, k ≤ 36 → n.val < k → rS (T0 m k c main_v28_9) n h = St (aK m c) (aV m c) (aL m c) h.val n.val
  | 0, _, hn => absurd hn (Nat.not_lt_zero _)
  | k + 1, hk, hn => by
    refine (body0_stack (after cond0 (T0 m k c)) ⟨k, hk⟩ (t0_ctr m c k hk) n h).trans ?_
    rw [kc0 main_v28_7 (by decide), kc0 main_v28_9 (by decide)]
    by_cases e : n = ⟨k, hk⟩
    · rw [if_pos e, t0_S m c h k (Nat.le_of_succ_le hk), e]
    · rw [if_neg e]
      exact t0_stack h n k (Nat.le_of_succ_le hk) (Nat.lt_of_le_of_ne (Nat.le_of_lt_succ hn) fun e' => e (Fin.ext e'))

/-! ### The second loop -/

theorem t1_q (k : ℕ) (n : Fin 36) (h : Fin 8) : rQ (after cond1 (T1 m k c) main_v40_2) n h = qc (aQ m c) h.val n.val := by
  rw [kc1 main_v40_2 (by decide), kT1 m c main_v40_2 (by decide) (by decide +kernel)]
  refine (?_ : rQ (after hB1 (after hB0 (X0 m c)) main_v40_2) n h = _)
  rw [h1_2, after_of_writes_sub (r := main_v18) hB0 _ hB0_writes (by decide), kX0 m c main_v18 (by decide) (by decide) (by decide +kernel), a_v18]

theorem t1_k (k : ℕ) (n : Fin 36) (h : Fin 8) : rQ (after cond1 (T1 m k c) main_v40_3) n h = qc (aK m c) h.val n.val := by
  rw [kc1 main_v40_3 (by decide), kT1 m c main_v40_3 (by decide) (by decide +kernel)]
  refine (?_ : rQ (after hB1 (after hB0 (X0 m c)) main_v40_3) n h = _)
  rw [h1_3, after_of_writes_sub (r := main_v20) hB0 _ hB0_writes (by decide), kX0 m c main_v20 (by decide) (by decide) (by decide +kernel), a_v20]

theorem t1_v (k : ℕ) (n : Fin 36) (h : Fin 8) : rV (after cond1 (T1 m k c) main_v40_4) n h = vc (aV m c) h.val n.val := by
  rw [kc1 main_v40_4 (by decide), kT1 m c main_v40_4 (by decide) (by decide +kernel)]
  refine (?_ : rV (after hB1 (after hB0 (X0 m c)) main_v40_4) n h = _)
  rw [h1_4, after_of_writes_sub (r := main_v22) hB0 _ hB0_writes (by decide), kX0 m c main_v22 (by decide) (by decide) (by decide +kernel), a_v22]

theorem t1_x (k : ℕ) (n : Fin 36) (h : Fin 8) : rX (after cond1 (T1 m k c) main_v40_5) n h = xc (aL m c) h.val := by
  rw [kc1 main_v40_5 (by decide), kT1 m c main_v40_5 (by decide) (by decide +kernel)]
  refine (?_ : rX (after hB1 (after hB0 (X0 m c)) main_v40_5) n h = _)
  rw [h1_5, after_of_writes_sub (r := main_v24) hB0 _ hB0_writes (by decide), kX0 m c main_v24 (by decide) (by decide) (by decide +kernel), a_v24]

theorem x0_arg4 : X0 m c main_arg4 = m ((c : Thread nD τ).loc main_arg4) := by
  rw [kX0 m c main_arg4 (by decide) (by decide) (by decide +kernel), after_of_writes_sub (r := main_arg4) hA0 _ hA0_writes (by decide)]

theorem t1_dy (k : ℕ) (n : Fin 36) (h : Fin 8) : rV (after cond1 (T1 m k c) main_v40_0) n h = vc (aY m c) h.val n.val := by
  rw [kc1 main_v40_0 (by decide), kT1 m c main_v40_0 (by decide) (by decide +kernel)]
  refine (?_ : rV (after hB1 (after hB0 (X0 m c)) main_v40_0) n h = _)
  rw [h1_0, a_v35, x0_arg4]

theorem t1_S (k : ℕ) (n : Fin 36) (h : Fin 8) : rS (after cond1 (T1 m k c) main_v40_1) n h = St (aK m c) (aV m c) (aL m c) h.val n.val := by
  rw [kc1 main_v40_1 (by decide), kT1 m c main_v40_1 (by decide) (by decide +kernel)]
  refine (?_ : rS (after hB1 (after hB0 (after cond0 (T0 m 36 c))) main_v40_1) n h = _)
  rw [h1_1, after_of_writes_sub (r := main_v28_9) hB0 _ hB0_writes (by decide), kc0 main_v28_9 (by decide)]
  exact t0_stack m c h n 36 (le_refl _) n.isLt

theorem t1_mask (k : ℕ) (t s : Fin 64) : (after cond1 (T1 m k c) main_v40_6 : IVec S64x64 1) (ix2 t s) = BitVec.ofBool (decide (s ≤ t)) := by
  rw [kc1 main_v40_6 (by decide), kT1 m c main_v40_6 (by decide) (by decide +kernel)]
  refine (?_ : (after hB1 (after hB0 (X0 m c)) main_v40_6 : IVec S64x64 1) (ix2 t s) = _)
  rw [h1_6, after_of_writes_sub (r := main_v10) hB0 _ hB0_writes (by decide), kX0 m c main_v10 (by decide) (by decide) (by decide +kernel)]
  exact a_v10 _ t s

theorem t1_ctr (k : ℕ) (hk : 35 - k < 36) (hk' : k < 36) (y : S_.Idx) :
    (36#32 - (after cond1 (T1 m k c) main_v40_7 : IVec S_ 32) y - 1#32).toInt = (⟨35 - k, hk⟩ : Fin 36).val := by
  rw [kc1 main_v40_7 (by decide), ctr1 m c k]
  exact iv_back k hk'

theorem back_lt (k : ℕ) : 35 - k < 36 := Nat.lt_succ_of_le (Nat.sub_le _ _)

/-- Before trip `k` the carried gradient is the one `k` chunks from the end. -/
theorem t1_D (h : Fin 8) : ∀ k, k ≤ 36 → fS (T1 m k c main_v40_8) h = Dt (aQ m c) (aY m c) (aL m c) h.val k
  | 0, _ => by
    refine (?_ : fS (after hB1 (after hB0 (X0 m c)) main_v40_8) h = _)
    rw [h1_8, a_v36]
    rfl
  | k + 1, hk => by
    refine (body1_D (after cond1 (T1 m k c)) ⟨35 - k, back_lt k⟩ (t1_ctr m c k (back_lt k) hk) h).trans ?_
    rw [t1_x, t1_q, t1_dy, kc1 main_v40_8 (by decide), t1_D h k (Nat.le_of_succ_le hk)]
    rfl

/-- Before trip `k` the stack holds the gradients of the last `k` chunks. -/
theorem t1_dq (h : Fin 8) (n : Fin 36) : ∀ k, k ≤ 36 → 35 - n.val < k → rQ (T1 m k c main_v40_9) n h = aq (aK m c) (aV m c) (aY m c) (aL m c) h.val n.val
  | 0, _, hn => absurd hn (Nat.not_lt_zero _)
  | k + 1, hk, hn => by
    refine (body1_dq (after cond1 (T1 m k c)) ⟨35 - k, back_lt k⟩ (t1_ctr m c k (back_lt k) hk) (t1_mask m c k) n h).trans ?_
    by_cases e : n = ⟨35 - k, back_lt k⟩
    · rw [if_pos e, t1_x, t1_k, t1_v, t1_dy, t1_S, e]
      rfl
    · rw [if_neg e, kc1 main_v40_9 (by decide)]
      refine t1_dq h n k (Nat.le_of_succ_le hk) (Nat.lt_of_le_of_ne (Nat.le_of_lt_succ hn) fun e' => e (Fin.ext ?_))
      refine (?_ : n.val = 35 - k)
      omega

/-- Before trip `k` the stack holds the gradients of the last `k` chunks. -/
theorem t1_dk (h : Fin 8) (n : Fin 36) : ∀ k, k ≤ 36 → 35 - n.val < k → rQ (T1 m k c main_v40_10) n h = ak (aQ m c) (aV m c) (aY m c) (aL m c) h.val n.val
  | 0, _, hn => absurd hn (Nat.not_lt_zero _)
  | k + 1, hk, hn => by
    refine (body1_dk (after cond1 (T1 m k c)) ⟨35 - k, back_lt k⟩ (t1_ctr m c k (back_lt k) hk) (t1_mask m c k) n h).trans ?_
    by_cases e : n = ⟨35 - k, back_lt k⟩
    · rw [if_pos e, t1_x, t1_q, t1_v, t1_dy, kc1 main_v40_8 (by decide), t1_D m c h k (Nat.le_of_succ_le hk), e]
      refine (?_ : _ = ak (aQ m c) (aV m c) (aY m c) (aL m c) h.val (35 - k))
      unfold ak
      rw [show 35 - (35 - k) = k from Nat.sub_sub_self (Nat.le_of_lt_succ hk)]
    · rw [if_neg e, kc1 main_v40_10 (by decide)]
      refine t1_dk h n k (Nat.le_of_succ_le hk) (Nat.lt_of_le_of_ne (Nat.le_of_lt_succ hn) fun e' => e (Fin.ext ?_))
      refine (?_ : n.val = 35 - k)
      omega

/-- Before trip `k` the stack holds the gradients of the last `k` chunks. -/
theorem t1_dv (h : Fin 8) (n : Fin 36) : ∀ k, k ≤ 36 → 35 - n.val < k → rV (T1 m k c main_v40_11) n h = av (aQ m c) (aK m c) (aY m c) (aL m c) h.val n.val
  | 0, _, hn => absurd hn (Nat.not_lt_zero _)
  | k + 1, hk, hn => by
    refine (body1_dv (after cond1 (T1 m k c)) ⟨35 - k, back_lt k⟩ (t1_ctr m c k (back_lt k) hk) (t1_mask m c k) n h).trans ?_
    by_cases e : n = ⟨35 - k, back_lt k⟩
    · rw [if_pos e, t1_x, t1_q, t1_k, t1_dy, kc1 main_v40_8 (by decide), t1_D m c h k (Nat.le_of_succ_le hk), e]
      refine (?_ : _ = av (aQ m c) (aK m c) (aY m c) (aL m c) h.val (35 - k))
      unfold av
      rw [show 35 - (35 - k) = k from Nat.sub_sub_self (Nat.le_of_lt_succ hk)]
    · rw [if_neg e, kc1 main_v40_11 (by decide)]
      refine t1_dv h n k (Nat.le_of_succ_le hk) (Nat.lt_of_le_of_ne (Nat.le_of_lt_succ hn) fun e' => e (Fin.ext ?_))
      refine (?_ : n.val = 35 - k)
      omega

theorem fin_dq : Fin1 m c main_v49 = ofQ (aq (aK m c) (aV m c) (aY m c) (aL m c)) := by
  refine (?_ : after hC (X1 m c) main_v49 = _)
  refine c_v49 _ _ fun n h => ?_
  refine (?_ : rQ (after cond1 (T1 m 36 c) main_v40_9) n h = _)
  rw [kc1 main_v40_9 (by decide)]
  exact t1_dq m c h n 36 (le_refl _) (back_lt n.val)

theorem fin_dk : Fin1 m c main_v48 = ofQ (ak (aQ m c) (aV m c) (aY m c) (aL m c)) := by
  refine (?_ : after hC (X1 m c) main_v48 = _)
  refine c_v48 _ _ fun n h => ?_
  refine (?_ : rQ (after cond1 (T1 m 36 c) main_v40_10) n h = _)
  rw [kc1 main_v40_10 (by decide)]
  exact t1_dk m c h n 36 (le_refl _) (back_lt n.val)

theorem fin_dv : Fin1 m c main_v47 = ofV (av (aQ m c) (aK m c) (aY m c) (aL m c)) := by
  refine (?_ : after hC (X1 m c) main_v47 = _)
  refine c_v47 _ _ fun n h => ?_
  refine (?_ : rV (after cond1 (T1 m 36 c) main_v40_11) n h = _)
  rw [kc1 main_v40_11 (by decide)]
  exact t1_dv m c h n 36 (le_refl _) (back_lt n.val)

end Cert.ReferenceIdeal.Val

end
-- ==== Proof.Alg.lean ====
/- The kernel's three results and the reference's are the same arrays. -/
module

public import proofs.«01_k».proof.Defs
public import proofs.«01_k».proof.Proof.KVal
public import proofs.«01_k».proof.Proof.Z4
public import Idealize.ShloMosaic.Adequacy
public import Idealize.ShloMosaic.Init

@[expose] public section

set_option maxRecDepth 16384

noncomputable section

namespace Cert.Value

open Idealize.ShloMosaic Idealize.ShloMosaic.TcCoe Idealize.SL.Sem
open Cert.Chunk

/-- The side condition of the precondition's one broadcast. -/
instance preFacts : Cert.Pre_decaying.Facts where
  bcast_S_S8 := by decide

/-- A comparison with the zero constant that comes out true. -/
theorem nonpos_of_cmp (x : EReal) (h : Ideal.cmp .ole x (Ideal.ofBits .f32 0x00000000#32) = 1#1) : x ≤ 0 := by
  have z : Ideal.ofBits .f32 0x00000000#32 = (0 : EReal) := by simp [Ideal.ofBits, Ideal.ieee]
  rw [z] at h
  by_contra hx
  simp [Ideal.cmp, hx] at h

/-- Under the precondition every head's log decay is at most zero. -/
theorem decay_nonpos (m : (ℓ : Loc Cert.KernelIdeal.nD Cert.KernelIdeal.τ Cert.KernelIdeal.sig) → Buf (Elt Ideal) ℓ)
    (h : Cert.Pre_KernelIdeal_decaying m) (c : Dev Cert.KernelIdeal.nD) (j : Cert.KernelIdeal.S8.Idx) :
    @LE.le EReal _ (m ((c : Thread Cert.KernelIdeal.nD Cert.KernelIdeal.τ).loc Cert.KernelIdeal.main_arg3) j) 0 :=
  nonpos_of_cmp _ (congrFun (h c) j)

theorem algebraic : Cert.algebraic_KernelIdeal_ReferenceIdeal_pre_decaying := by
  intro m g m' g' hp ha
  refine ⟨fun c => ofQ (aq (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg4)) (m ((c : Thread Cert.KernelIdeal.nD Cert.KernelIdeal.τ).loc Cert.KernelIdeal.main_arg3))),
    fun c => ofQ (ak (m ((c : Thread Cert.KernelIdeal.nD Cert.KernelIdeal.τ).loc Cert.KernelIdeal.main_arg0)) (m ((c : Thread Cert.KernelIdeal.nD Cert.KernelIdeal.τ).loc Cert.KernelIdeal.main_arg2))
      (m ((c : Thread Cert.KernelIdeal.nD Cert.KernelIdeal.τ).loc Cert.KernelIdeal.main_arg4)) (m ((c : Thread Cert.KernelIdeal.nD Cert.KernelIdeal.τ).loc Cert.KernelIdeal.main_arg3))),
    fun c => ofV (av (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg4)) (m ((c : Thread Cert.KernelIdeal.nD Cert.KernelIdeal.τ).loc Cert.KernelIdeal.main_arg3))),
    (θ_run Cert.KernelIdeal.defs _ _).mono (fun r h c => ?_) (Cert.KernelIdeal.Run.run_main m g),
    (θ_run Cert.ReferenceIdeal.defs _ _).mono (fun r h c => ?_) (Cert.ReferenceIdeal.Run.run_main m' g')⟩
  · have hL := decay_nonpos m hp c
    exact ⟨(h.1 c _ (Cert.KernelIdeal.Run.mem_uc Cert.KernelIdeal.main_v7_0 (by decide))).trans (Cert.KernelIdeal.Run.w3_dq m c hL),
      (h.1 c _ (Cert.KernelIdeal.Run.mem_uc Cert.KernelIdeal.main_v7_1 (by decide))).trans (Cert.KernelIdeal.Run.w3_dk m c hL),
      (h.1 c _ (Cert.KernelIdeal.Run.mem_uc Cert.KernelIdeal.main_v7_2 (by decide))).trans (Cert.KernelIdeal.Run.w3_dv m c hL),
      (h.1 c _ (Cert.KernelIdeal.Run.mem_uc Cert.KernelIdeal.main_arg0 (by decide))).trans (Cert.KernelIdeal.Run.W3_arg m c Cert.KernelIdeal.main_arg0 (by decide) (by decide) (by decide)),
      (h.1 c _ (Cert.KernelIdeal.Run.mem_uc Cert.KernelIdeal.main_arg1 (by decide))).trans (Cert.KernelIdeal.Run.W3_arg m c Cert.KernelIdeal.main_arg1 (by decide) (by decide) (by decide)),
      (h.1 c _ (Cert.KernelIdeal.Run.mem_uc Cert.KernelIdeal.main_arg2 (by decide))).trans (Cert.KernelIdeal.Run.W3_arg m c Cert.KernelIdeal.main_arg2 (by decide) (by decide) (by decide)),
      (h.1 c _ (Cert.KernelIdeal.Run.mem_uc Cert.KernelIdeal.main_arg3 (by decide))).trans (Cert.KernelIdeal.Run.W3_arg m c Cert.KernelIdeal.main_arg3 (by decide) (by decide) (by decide)),
      (h.1 c _ (Cert.KernelIdeal.Run.mem_uc Cert.KernelIdeal.main_arg4 (by decide))).trans (Cert.KernelIdeal.Run.W3_arg m c Cert.KernelIdeal.main_arg4 (by decide) (by decide) (by decide))⟩
  · obtain ⟨e0, e1, e2, e3, e4⟩ := ha c
    refine ⟨(h.1 c _ (Cert.ReferenceIdeal.Run.mem_uc Cert.ReferenceIdeal.main_v49 (by decide))).trans ((Cert.ReferenceIdeal.Val.fin_dq m' c).trans ?_),
      (h.1 c _ (Cert.ReferenceIdeal.Run.mem_uc Cert.ReferenceIdeal.main_v48 (by decide))).trans ((Cert.ReferenceIdeal.Val.fin_dk m' c).trans ?_),
      (h.1 c _ (Cert.ReferenceIdeal.Run.mem_uc Cert.ReferenceIdeal.main_v47 (by decide))).trans ((Cert.ReferenceIdeal.Val.fin_dv m' c).trans ?_),
      (h.1 c _ (Cert.ReferenceIdeal.Run.mem_uc Cert.ReferenceIdeal.main_arg0 (by decide))).trans (Cert.ReferenceIdeal.Run.arg_keep m' c Cert.ReferenceIdeal.main_arg0 (by decide +kernel)),
      (h.1 c _ (Cert.ReferenceIdeal.Run.mem_uc Cert.ReferenceIdeal.main_arg1 (by decide))).trans (Cert.ReferenceIdeal.Run.arg_keep m' c Cert.ReferenceIdeal.main_arg1 (by decide +kernel)),
      (h.1 c _ (Cert.ReferenceIdeal.Run.mem_uc Cert.ReferenceIdeal.main_arg2 (by decide))).trans (Cert.ReferenceIdeal.Run.arg_keep m' c Cert.ReferenceIdeal.main_arg2 (by decide +kernel)),
      (h.1 c _ (Cert.ReferenceIdeal.Run.mem_uc Cert.ReferenceIdeal.main_arg3 (by decide))).trans (Cert.ReferenceIdeal.Run.arg_keep m' c Cert.ReferenceIdeal.main_arg3 (by decide +kernel)),
      (h.1 c _ (Cert.ReferenceIdeal.Run.mem_uc Cert.ReferenceIdeal.main_arg4 (by decide))).trans (Cert.ReferenceIdeal.Run.arg_keep m' c Cert.ReferenceIdeal.main_arg4 (by decide +kernel))⟩
    · dsimp only [Cert.ReferenceIdeal.Val.aK, Cert.ReferenceIdeal.Val.aV, Cert.ReferenceIdeal.Val.aY, Cert.ReferenceIdeal.Val.aL]
      rw [e1, e2, e3, e4]
    · dsimp only [Cert.ReferenceIdeal.Val.aQ, Cert.ReferenceIdeal.Val.aV, Cert.ReferenceIdeal.Val.aY, Cert.ReferenceIdeal.Val.aL]
      rw [e0, e2, e3, e4]
    · dsimp only [Cert.ReferenceIdeal.Val.aQ, Cert.ReferenceIdeal.Val.aK, Cert.ReferenceIdeal.Val.aY, Cert.ReferenceIdeal.Val.aL]
      rw [e0, e1, e3, e4]

end Cert.Value

end
-- ==== Proof.Same2.lean ====
/- The texts of kernel2, kernel3 and kernel4 at the two kinds of float values are one text each: the runs are one run. -/
module

public import proofs.«01_k».proof.Defs
public import proofs.«01_k».proof.Proof.Gen.Kernel2
public import proofs.«01_k».proof.Proof.Gen.Kernel3
public import proofs.«01_k».proof.Proof.Gen.Kernel4
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Reference2Ideal.Run
public import proofs.«01_k».proof.Proof.Gen.Reference3Ideal.Run
public import proofs.«01_k».proof.Proof.Gen.Reference4Ideal.Run
public import Idealize.ShloMosaic.Lib.Quiescent

@[expose] public section

set_option maxRecDepth 100000

noncomputable section

namespace Cert.Same2

open Idealize.ShloMosaic Idealize.SL.Sem

set_option backward.isDefEq.respectTransparency.types false
set_option maxHeartbeats 1000000

variable {F : FTy → Type} [FloatOps F]

theorem defs₀_eq2 : Cert.Kernel2.defs₀ (F := F) = Cert.Kernel2Ideal.defs₀ (F := F) := by
  unfold Cert.Kernel2.defs₀ Cert.Kernel2Ideal.defs₀
  refine congrArg Defs.onTc (funext fun i => funext fun x => ?_)
  match i, x with
  | 0, (t, s) => dsimp only; rfl
  | 1, (t, s) => dsimp only; rfl
  | 2, (t, s) => dsimp only; rfl
  | 3, (t, s) => dsimp only; rfl

theorem run_eq2 : θ_run (Cert.Kernel2.defs (F := F)) (onTc (τ := Cert.Kernel2.τ) Cert.Kernel2.main)
    = θ_run (Cert.Kernel2Ideal.defs (F := F)) (onTc (τ := Cert.Kernel2Ideal.τ) Cert.Kernel2Ideal.main) :=
  congr (congrArg θ_run (congrArg (Pipeline.defs _) defs₀_eq2))
    (congrArg (onTc (τ := Cert.Kernel2Ideal.τ)) (show Cert.Kernel2.main (F := F) = Cert.Kernel2Ideal.main (F := F) from rfl))

theorem defs₀_eq3 : Cert.Kernel3.defs₀ (F := F) = Cert.Kernel3Ideal.defs₀ (F := F) := by
  unfold Cert.Kernel3.defs₀ Cert.Kernel3Ideal.defs₀
  refine congrArg Defs.onTc (funext fun i => funext fun x => ?_)
  match i, x with
  | 0, (t, s) => dsimp only; rfl

theorem run_eq3 : θ_run (Cert.Kernel3.defs (F := F)) (onTc (τ := Cert.Kernel3.τ) Cert.Kernel3.main)
    = θ_run (Cert.Kernel3Ideal.defs (F := F)) (onTc (τ := Cert.Kernel3Ideal.τ) Cert.Kernel3Ideal.main) :=
  congr (congrArg θ_run (congrArg (Pipeline.defs _) defs₀_eq3))
    (congrArg (onTc (τ := Cert.Kernel3Ideal.τ)) (show Cert.Kernel3.main (F := F) = Cert.Kernel3Ideal.main (F := F) from rfl))

theorem defs₀_eq4 : Cert.Kernel4.defs₀ (F := F) = Cert.Kernel4Ideal.defs₀ (F := F) := by
  unfold Cert.Kernel4.defs₀ Cert.Kernel4Ideal.defs₀
  refine congrArg Defs.onTc (funext fun i => funext fun x => ?_)
  match i, x with
  | 0, (t, s) => dsimp only; rfl
  | 1, (t, s) => dsimp only; rfl
  | 2, (t, s) => dsimp only; rfl
  | 3, (t, s) => dsimp only; rfl
  | 4, (t, s) => dsimp only; rfl
  | 5, (t, s) => dsimp only; rfl
  | 6, (t, s) => dsimp only; rfl

theorem run_eq4 : θ_run (Cert.Kernel4.defs (F := F)) (onTc (τ := Cert.Kernel4.τ) Cert.Kernel4.main)
    = θ_run (Cert.Kernel4Ideal.defs (F := F)) (onTc (τ := Cert.Kernel4Ideal.τ) Cert.Kernel4Ideal.main) :=
  congr (congrArg θ_run (congrArg (Pipeline.defs _) defs₀_eq4))
    (congrArg (onTc (τ := Cert.Kernel4Ideal.τ)) (show Cert.Kernel4.main (F := F) = Cert.Kernel4Ideal.main (F := F) from rfl))

theorem kernel2 : Cert.quiescent_Kernel2 := fun m ρ _ => by
  rw [run_eq2]
  exact (θ_run (Cert.Kernel2Ideal.defs (F := Bits)) _ _).mono (fun _ h => h) (Cert.Kernel2Ideal.Gen.frame (F := Bits) m ρ)

theorem kernel3 : Cert.quiescent_Kernel3 := fun m ρ _ => by
  rw [run_eq3]
  exact (θ_run (Cert.Kernel3Ideal.defs (F := Bits)) _ _).mono (fun _ h => h) (Cert.Kernel3Ideal.Gen.frame (F := Bits) m ρ)

theorem reference2 : Cert.quiescent_Reference2Ideal := fun m ρ _ =>
  (θ_run _ _ _).mono (fun r h => ⟨fun c => (h c).2.2, sem_eq_zero_of_no_sems rfl r.2⟩) (Cert.Reference2Ideal.Value.run m ρ)

theorem reference3 : Cert.quiescent_Reference3Ideal := fun m ρ _ =>
  (θ_run _ _ _).mono (fun r h => ⟨fun c => (h c).2, sem_eq_zero_of_no_sems rfl r.2⟩) (Cert.Reference3Ideal.Value.run m ρ)

theorem kernel4 : Cert.quiescent_Kernel4 := fun m ρ _ => by
  rw [run_eq4]
  exact (θ_run (Cert.Kernel4Ideal.defs (F := Bits)) _ _).mono (fun _ h => h) (Cert.Kernel4Ideal.Gen.frame (F := Bits) m ρ)

theorem reference4 : Cert.quiescent_Reference4Ideal := fun m ρ _ =>
  (θ_run _ _ _).mono (fun r h => ⟨fun c => (h c).2.2.2.2.2.2.2, sem_eq_zero_of_no_sems rfl r.2⟩) (Cert.Reference4Ideal.Value.run m ρ)

end Cert.Same2

end
-- ==== Proof.Prods.lean ====
/- Matrices of extended reals and their three products, as the matrix kernels compute them. -/
module

public import Idealize.ShloMosaic.Lib.Pipeline.ValueKit
public import Idealize.ShloMosaic.Lib.Pointwise

@[expose] public section

noncomputable section

namespace Cert.Prods

open Idealize.ShloMosaic

/-- A matrix of extended reals. -/
abbrev Mat (m n : Nat) := (⟨2, ![m, n]⟩ : Shape).Idx → EReal

/-- The product of two matrices, -/
def nn {m l n : Nat} (A : Mat m l) (B : Mat l n) : Mat m n := fun i => ∑ k : Fin l, A (ix2 (i 0) k) * B (ix2 k (i 1))
/-- the product with the second one transposed, -/
def nt {m l n : Nat} (A : Mat m l) (B : Mat n l) : Mat m n := fun i => ∑ k : Fin l, A (ix2 (i 0) k) * B (ix2 (i 1) k)
/-- and the product with the first one transposed. -/
def tn {m l n : Nat} (A : Mat l m) (B : Mat l n) : Mat m n := fun i => ∑ k : Fin l, A (ix2 k (i 0)) * B (ix2 k (i 1))

/-- Products of equal rows and columns are equal, whatever the matrices that they are taken from. -/
theorem nn_congr {m l n m' n' : Nat} {A : Mat m l} {B : Mat l n} {A' : Mat m' l} {B' : Mat l n'} {i : (⟨2, ![m, n]⟩ : Shape).Idx} {j : (⟨2, ![m', n']⟩ : Shape).Idx}
    (ha : ∀ k, A (ix2 (i 0) k) = A' (ix2 (j 0) k)) (hb : ∀ k, B (ix2 k (i 1)) = B' (ix2 k (j 1))) : nn A B i = nn A' B' j :=
  Finset.sum_congr rfl fun k _ => congrArg₂ (fun p q : EReal => p * q) (ha k) (hb k)
theorem nt_congr {m l n m' n' : Nat} {A : Mat m l} {B : Mat n l} {A' : Mat m' l} {B' : Mat n' l} {i : (⟨2, ![m, n]⟩ : Shape).Idx} {j : (⟨2, ![m', n']⟩ : Shape).Idx}
    (ha : ∀ k, A (ix2 (i 0) k) = A' (ix2 (j 0) k)) (hb : ∀ k, B (ix2 (i 1) k) = B' (ix2 (j 1) k)) : nt A B i = nt A' B' j :=
  Finset.sum_congr rfl fun k _ => congrArg₂ (fun p q : EReal => p * q) (ha k) (hb k)
theorem tn_congr {m l n m' n' : Nat} {A : Mat l m} {B : Mat l n} {A' : Mat l m'} {B' : Mat l n'} {i : (⟨2, ![m, n]⟩ : Shape).Idx} {j : (⟨2, ![m', n']⟩ : Shape).Idx}
    (ha : ∀ k, A (ix2 k (i 0)) = A' (ix2 k (j 0))) (hb : ∀ k, B (ix2 k (i 1)) = B' (ix2 k (j 1))) : tn A B i = tn A' B' j :=
  Finset.sum_congr rfl fun k _ => congrArg₂ (fun p q : EReal => p * q) (ha k) (hb k)

theorem hz : (![0, 0] : Fin 2 → Nat) = fun _ => 0 := funext fun a => by fin_cases a <;> rfl

/-- An entry by natural-number coordinates, zero outside the matrix. -/
def get {m n : Nat} (A : Mat m n) (r k : Nat) : EReal := if h : r < m ∧ k < n then A (ix2 ⟨r, h.1⟩ ⟨k, h.2⟩) else 0

theorem get_ix2 {m n : Nat} (A : Mat m n) (i : (⟨2, ![m, n]⟩ : Shape).Idx) (r k : Nat) (h0 : (i 0).val = r) (h1 : (i 1).val = k) : get A r k = A i := by
  subst h0; subst h1
  exact (dif_pos ⟨(i 0).isLt, (i 1).isLt⟩).trans (congrArg A (eq_ix2 i).symm)

theorem nn_get {m l n : Nat} (A : Mat m l) (B : Mat l n) (i : (⟨2, ![m, n]⟩ : Shape).Idx) :
    nn A B i = ∑ k ∈ Finset.range l, get A (i 0).val k * get B k (i 1).val :=
  ((Finset.sum_range fun k => get A (i 0).val k * get B k (i 1).val).trans (Finset.sum_congr rfl fun k _ =>
    congrArg₂ (fun p q : EReal => p * q) (get_ix2 A (ix2 (i 0) k) _ _ rfl rfl) (get_ix2 B (ix2 k (i 1)) _ _ rfl rfl))).symm

theorem nt_get {m l n : Nat} (A : Mat m l) (B : Mat n l) (i : (⟨2, ![m, n]⟩ : Shape).Idx) :
    nt A B i = ∑ k ∈ Finset.range l, get A (i 0).val k * get B (i 1).val k :=
  ((Finset.sum_range fun k => get A (i 0).val k * get B (i 1).val k).trans (Finset.sum_congr rfl fun k _ =>
    congrArg₂ (fun p q : EReal => p * q) (get_ix2 A (ix2 (i 0) k) _ _ rfl rfl) (get_ix2 B (ix2 (i 1) k) _ _ rfl rfl))).symm

/-- A sum by blocks of length `n`. -/
theorem sum_blocks (n : Nat) (f : Nat → EReal) : ∀ q : Nat,
    ∑ s ∈ Finset.range q, ∑ k ∈ Finset.range n, f (s * n + k) = ∑ j ∈ Finset.range (q * n), f j
  | 0 => by simp
  | q + 1 => by rw [Finset.sum_range_succ, sum_blocks n f q, Nat.succ_mul, Finset.sum_range_add]

/-- What an accumulator that is reset at every `q`-th point holds. -/
theorem accum (q N : Nat) (hq : 0 < q) (v t : Nat → EReal) (h0 : ∀ n < N, n % q = 0 → v n = t n)
    (hs : ∀ n, n + 1 < N → (n + 1) % q ≠ 0 → v (n + 1) = v n + t (n + 1)) :
    ∀ n < N, v n = ∑ s ∈ Finset.range (n % q + 1), t (n / q * q + s) := by
  intro n
  induction n with
  | zero => intro h; simp [h0 0 h (Nat.zero_mod q)]
  | succ n ih =>
    intro h
    by_cases hz : (n + 1) % q = 0
    · rw [h0 _ h hz, hz]
      have := Nat.div_add_mod (n + 1) q
      rw [hz, Nat.mul_comm] at this
      simp only [Nat.zero_add, Finset.sum_range_one, Nat.add_zero] at this ⊢
      rw [this]
    · have e1 : (n + 1) % q = n % q + 1 := by
        have hl := Nat.mod_lt n hq
        rw [Nat.add_mod] at hz ⊢
        rcases Nat.lt_or_ge 1 q with h1 | h1
        · rw [Nat.mod_eq_of_lt h1] at hz ⊢
          rcases Nat.lt_or_ge (n % q + 1) q with h2 | h2
          · exact Nat.mod_eq_of_lt h2
          · have : n % q + 1 = q := by omega
            rw [this, Nat.mod_self] at hz; exact absurd rfl hz
        · have : q = 1 := by omega
          subst this; exact absurd (Nat.mod_one _) hz
      have e2 : (n + 1) / q = n / q := by
        have a := Nat.div_add_mod (n + 1) q
        have b := Nat.div_add_mod n q
        exact Nat.eq_of_mul_eq_mul_left hq (by omega)
      rw [hs n h hz, ih (by omega), e1, e2, Finset.sum_range_succ _ (n % q + 1)]
      congr 2
      have b := Nat.div_add_mod n q
      rw [Nat.mul_comm] at b
      omega

/-- What such an accumulator holds at the last point before it is reset, when every point adds one block of a sum. -/
theorem accum_last (q tk T : Nat) (hq : 0 < q) (v : Fin T → EReal) (P : Nat → Nat → EReal)
    (h0 : ∀ t : Fin T, t.val % q = 0 → v t = ∑ k : Fin tk, P (t.val / q) (t.val % q * tk + k.val))
    (hs : ∀ t s : Fin T, s.val + 1 = t.val → t.val % q ≠ 0 → v t = v s + ∑ k : Fin tk, P (t.val / q) (t.val % q * tk + k.val))
    (t : Fin T) (hl : t.val % q + 1 = q) : v t = ∑ k ∈ Finset.range (q * tk), P (t.val / q) k := by
  have e := accum q T hq (fun n => if hn : n < T then v ⟨n, hn⟩ else 0) (fun n => ∑ k : Fin tk, P (n / q) (n % q * tk + k.val))
    (fun n hn h => (dif_pos hn).trans (h0 ⟨n, hn⟩ h))
    (fun n hn h => by rw [dif_pos hn, dif_pos (Nat.lt_of_succ_lt hn)]; exact hs ⟨n + 1, hn⟩ ⟨n, Nat.lt_of_succ_lt hn⟩ rfl h) t.val t.isLt
  rw [dif_pos t.isLt] at e
  refine e.trans ?_
  rw [hl, ← sum_blocks tk _ q]
  refine Finset.sum_congr rfl fun s hs => ?_
  have hs' : s < q := Finset.mem_range.mp hs
  rw [show t.val / q * q + s = s + q * (t.val / q) from by rw [Nat.mul_comm, Nat.add_comm], Nat.add_mul_div_left _ _ hq, Nat.add_mul_mod_self_left,
    Nat.div_eq_of_lt hs', Nat.mod_eq_of_lt hs', Nat.zero_add, Finset.sum_range]

/-- A product whose contraction is cut in `q` blocks, summed in an accumulator for one block of the result at a time:
the rows of block `b` start at `r b`, its columns at `s b`. -/
theorem accum_nt {M N L : Nat} (q tm tn tk T : Nat) (r s : Nat → Nat) (hq : 0 < q) (hL : q * tk = L) (A : Mat M L) (B : Mat N L)
    (v : Fin T → Mat tm tn) (x : Fin T → Mat tm tk) (y : Fin T → Mat tn tk)
    (h0 : ∀ t : Fin T, t.val % q = 0 → ∀ i, v t i = nt (x t) (y t) i)
    (hs : ∀ t p : Fin T, p.val + 1 = t.val → t.val % q ≠ 0 → ∀ i, v t i = v p i + nt (x t) (y t) i)
    (hx : ∀ t a k, x t (ix2 a k) = get A (r (t.val / q) + a.val) (t.val % q * tk + k.val))
    (hy : ∀ t b k, y t (ix2 b k) = get B (s (t.val / q) + b.val) (t.val % q * tk + k.val))
    (t : Fin T) (hl : t.val % q + 1 = q) (i : (⟨2, ![tm, tn]⟩ : Shape).Idx) (j : (⟨2, ![M, N]⟩ : Shape).Idx)
    (hj0 : (j 0).val = r (t.val / q) + (i 0).val) (hj1 : (j 1).val = s (t.val / q) + (i 1).val) : v t i = nt A B j := by
  subst hL
  have hb : ∀ t : Fin T, nt (x t) (y t) i = ∑ k : Fin tk, get A (r (t.val / q) + (i 0).val) (t.val % q * tk + k.val) * get B (s (t.val / q) + (i 1).val) (t.val % q * tk + k.val) :=
    fun t => Finset.sum_congr rfl fun k _ => congrArg₂ (fun p q : EReal => p * q) (hx t _ k) (hy t _ k)
  rw [nt_get, hj0, hj1]
  exact accum_last q tk T hq (fun t => v t i) (fun b k => get A (r b + (i 0).val) k * get B (s b + (i 1).val) k)
    (fun t h => (h0 t h i).trans (hb t)) (fun t p e h => (hs t p e h i).trans (congrArg (v p i + ·) (hb t))) t hl

/-- The same when the second factor is not transposed. -/
theorem accum_nn {M N L : Nat} (q tm tn tk T : Nat) (r s : Nat → Nat) (hq : 0 < q) (hL : q * tk = L) (A : Mat M L) (B : Mat L N)
    (v : Fin T → Mat tm tn) (x : Fin T → Mat tm tk) (y : Fin T → Mat tk tn)
    (h0 : ∀ t : Fin T, t.val % q = 0 → ∀ i, v t i = nn (x t) (y t) i)
    (hs : ∀ t p : Fin T, p.val + 1 = t.val → t.val % q ≠ 0 → ∀ i, v t i = v p i + nn (x t) (y t) i)
    (hx : ∀ t a k, x t (ix2 a k) = get A (r (t.val / q) + a.val) (t.val % q * tk + k.val))
    (hy : ∀ t k b, y t (ix2 k b) = get B (t.val % q * tk + k.val) (s (t.val / q) + b.val))
    (t : Fin T) (hl : t.val % q + 1 = q) (i : (⟨2, ![tm, tn]⟩ : Shape).Idx) (j : (⟨2, ![M, N]⟩ : Shape).Idx)
    (hj0 : (j 0).val = r (t.val / q) + (i 0).val) (hj1 : (j 1).val = s (t.val / q) + (i 1).val) : v t i = nn A B j := by
  subst hL
  have hb : ∀ t : Fin T, nn (x t) (y t) i = ∑ k : Fin tk, get A (r (t.val / q) + (i 0).val) (t.val % q * tk + k.val) * get B (t.val % q * tk + k.val) (s (t.val / q) + (i 1).val) :=
    fun t => Finset.sum_congr rfl fun k _ => congrArg₂ (fun p q : EReal => p * q) (hx t _ k) (hy t k _)
  rw [nn_get, hj0, hj1]
  exact accum_last q tk T hq (fun t => v t i) (fun b k => get A (r b + (i 0).val) k * get B k (s b + (i 1).val))
    (fun t h => (h0 t h i).trans (hb t)) (fun t p e h => (hs t p e h i).trans (congrArg (v p i + ·) (hb t))) t hl

end Cert.Prods

end
-- ==== Proof.Mlp.lean ====
/- The four matrix products of kernel2: the array that each call leaves is the product of the two arrays it reads. -/
module

public import proofs.«01_k».proof.Proof.Gen.Kernel2Ideal.Frame
public import proofs.«01_k».proof.Proof.Prods

@[expose] public section

set_option maxRecDepth 16384

noncomputable section

namespace Cert.Kernel2Ideal.Val

open Idealize.ShloMosaic Idealize.ShloMosaic.TcCoe Idealize.ShloMosaic.Tactic Idealize.SL.Sem
open Cert.Kernel2Ideal.Gen Cert.Prods

variable (V : (c : Dev nD) → (b : Ref sig .tc) → Buf (Elt Ideal) ((c : Thread nD τ).loc b)) (c : Dev nD)

/-! ## The blocks' numbers -/

theorem i00 : ∀ t : Fin cfg0.N, win0_0.index t = ![t.val / 8, 0] := (by decide +kernel : ∀ t : Fin grid0.N, _)
theorem i01 : ∀ t : Fin cfg0.N, win0_1.index t = ![0, t.val % 8] := (by decide +kernel : ∀ t : Fin grid0.N, _)
theorem i02 : ∀ t : Fin cfg0.N, win0_2.index t = ![t.val / 8, t.val % 8] := (by decide +kernel : ∀ t : Fin grid0.N, _)
theorem i10 : ∀ t : Fin cfg1.N, win1_0.index t = ![t.val / 8, 0] := (by decide +kernel : ∀ t : Fin grid1.N, _)
theorem i11 : ∀ t : Fin cfg1.N, win1_1.index t = ![t.val % 8, 0] := (by decide +kernel : ∀ t : Fin grid1.N, _)
theorem i12 : ∀ t : Fin cfg1.N, win1_2.index t = ![t.val / 8, t.val % 8] := (by decide +kernel : ∀ t : Fin grid1.N, _)
theorem i20 : ∀ t : Fin cfg2.N, win2_0.index t = ![0, t.val / 16] := (by decide +kernel : ∀ t : Fin grid2.N, _)
theorem i21 : ∀ t : Fin cfg2.N, win2_1.index t = ![0, t.val % 16] := (by decide +kernel : ∀ t : Fin grid2.N, _)
theorem i22 : ∀ t : Fin cfg2.N, win2_2.index t = ![t.val / 16, t.val % 16] := (by decide +kernel : ∀ t : Fin grid2.N, _)
theorem i30 : ∀ t : Fin cfg3.N, win3_0.index t = ![0, t.val / 4] := (by decide +kernel : ∀ t : Fin grid3.N, _)
theorem i31 : ∀ t : Fin cfg3.N, win3_1.index t = ![0, t.val % 4] := (by decide +kernel : ∀ t : Fin grid3.N, _)
theorem i32 : ∀ t : Fin cfg3.N, win3_2.index t = ![t.val / 4, t.val % 4] := (by decide +kernel : ∀ t : Fin grid3.N, _)

/-! ## The blocks' products -/

theorem out0 (x : Vec Ideal S1152x2048 .f32) (y : Vec Ideal S2048x1024 .bf16) (i : S1152x1024.Idx) :
    out0_2 x y i = nn (m := 1152) (l := 2048) (n := 1024) x y i := by
  rw [eq_ix2 i]
  unfold out0_2 nn
  rw [View.canon_unit_zero hz]
  simp only [View.ld_unit_zero (S := S1152x2048) hz, View.ld_unit_zero (S := S2048x1024) hz]
  unfold_payloads
  pointwise []

theorem out1 (x : Vec Ideal S1152x2048 .f32) (y : Vec Ideal S1024x2048 .bf16) (i : S1152x1024.Idx) :
    out1_2 x y i = nt (m := 1152) (l := 2048) (n := 1024) x y i := by
  rw [eq_ix2 i]
  unfold out1_2 nt
  rw [View.canon_unit_zero hz]
  simp only [View.ld_unit_zero (S := S1152x2048) hz, View.ld_unit_zero (S := S1024x2048) hz]
  unfold_payloads
  pointwise []

theorem out2 (x : Vec Ideal S2304x1024 .f32) (y : Vec Ideal S2304x512 .f32) (i : S1024x512.Idx) :
    out2_2 x y i = tn (m := 1024) (l := 2304) (n := 512) x y i := by
  rw [eq_ix2 i]
  unfold out2_2 tn
  rw [View.canon_unit_zero hz]
  simp only [View.ld_unit_zero (S := S2304x1024) hz, View.ld_unit_zero (S := S2304x512) hz]
  unfold_payloads
  pointwise []

theorem out3 (x : Vec Ideal S2304x1024 .f32) (y : Vec Ideal S2304x512 .f32) (i : S1024x512.Idx) :
    out3_2 x y i = tn (m := 1024) (l := 2304) (n := 512) x y i := by
  rw [eq_ix2 i]
  unfold out3_2 tn
  rw [View.canon_unit_zero hz]
  simp only [View.ld_unit_zero (S := S2304x1024) hz, View.ld_unit_zero (S := S2304x512) hz]
  unfold_payloads
  pointwise []

/-! ## The arrays -/

/-- The first product of the forward pass, -/
theorem fin0 : (dat0 V c).arrAt 2 cfg0.N = nn (m := 2304) (l := 2048) (n := 8192) (V c main_arg0) (V c main_arg1) := by
  refine (dat0 V c).arrAt_eq_of_covers 2 _ (by decide +kernel) fun t hf (y : S1152x1024.Idx) => ?_
  blk_simp
  rw [after0_2]
  refine (out0 _ _ y).trans (nn_congr (fun k => congrArg (V c main_arg0 : Mat 2304 2048) ?_) fun k => congrArg (V c main_arg1 : Mat 2048 8192) ?_) <;>
    blk_ext [i00, i01, i02]

/-- the gradient of the activation, -/
theorem fin1 : (dat1 V c).arrAt 2 cfg1.N = nt (m := 2304) (l := 2048) (n := 8192) (V c main_arg3) (V c main_arg2) := by
  refine (dat1 V c).arrAt_eq_of_covers 2 _ (by decide +kernel) fun t hf (y : S1152x1024.Idx) => ?_
  blk_simp
  rw [after1_2]
  refine (out1 _ _ y).trans (nt_congr (fun k => congrArg (V c main_arg3 : Mat 2304 2048) ?_) fun k => congrArg (V c main_arg2 : Mat 8192 2048) ?_) <;>
    blk_ext [i10, i11, i12]

/-- the gradient of the first weight -/
theorem fin2 : (dat2 V c).arrAt 2 cfg2.N = tn (m := 2048) (l := 2304) (n := 8192) (V c main_arg0) (V c main_v11) := by
  refine (dat2 V c).arrAt_eq_of_covers 2 _ (by decide +kernel) fun t hf (y : S1024x512.Idx) => ?_
  blk_simp
  rw [after2_2]
  refine (out2 _ _ y).trans (tn_congr (fun k => congrArg (V c main_arg0 : Mat 2304 2048) ?_) fun k => congrArg (V c main_v11 : Mat 2304 8192) ?_) <;>
    blk_ext [i20, i21, i22]

/-- and of the second. -/
theorem fin3 : (dat3 V c).arrAt 2 cfg3.N = tn (m := 8192) (l := 2304) (n := 2048) (V c main_v5) (V c main_arg3) := by
  refine (dat3 V c).arrAt_eq_of_covers 2 _ (by decide +kernel) fun t hf (y : S1024x512.Idx) => ?_
  blk_simp
  rw [after3_2]
  refine (out3 _ _ y).trans (tn_congr (fun k => congrArg (V c main_v5 : Mat 2304 8192) ?_) fun k => congrArg (V c main_arg3 : Mat 2304 2048) ?_) <;>
    blk_ext [i30, i31, i32]

end Cert.Kernel2Ideal.Val

end
-- ==== Proof.Act.lean ====
/- The squared rectifier's value and its derivative's, as the host operations spell them. -/
module

public import proofs.«01_k».proof.Proof.Gen.Kernel2Ideal
public import proofs.«01_k».proof.Proof.Prods

@[expose] public section

noncomputable section

namespace Cert.Kernel2Ideal.Val

open Idealize.ShloMosaic Idealize.ShloMosaic.TcCoe
open Cert.Kernel2Ideal.Gen

/-- A rectifier's value at every entry, -/
def relu (u : FVec Ideal S2304x8192 .f32) : FVec Ideal S2304x8192 .f32 :=
  maximumf u (broadcastInDim S2304x8192 ![] bcast_S_S2304x8192 (constant (F := Ideal) S_ .f32 0x00000000#32))
/-- its square, -/
def act (u : FVec Ideal S2304x8192 .f32) : FVec Ideal S2304x8192 .f32 := mulf (relu u) (relu u)
/-- and the gradient `g` of the square led back to the rectifier's argument. -/
def dact (u g : FVec Ideal S2304x8192 .f32) : FVec Ideal S2304x8192 .f32 :=
  select (cmpf .ogt u (broadcastInDim S2304x8192 ![] bcast_S_S2304x8192 (constant (F := Ideal) S_ .f32 0x00000000#32)))
    (mulf g (mulf (broadcastInDim S2304x8192 ![] bcast_S_S2304x8192 (constant (F := Ideal) S_ .f32 0x40000000#32)) (relu u)))
    (broadcastInDim S2304x8192 ![] bcast_S_S2304x8192 (constant (F := Ideal) S_ .f32 0x00000000#32))

end Cert.Kernel2Ideal.Val

end
-- ==== Proof.Run2.lean ====
/- kernel2's run: its four calls and the host operations between them, the two weight gradients read at the end. -/
module

public import proofs.«01_k».proof.Proof.Mlp
public import proofs.«01_k».proof.Proof.Act
public import Idealize.ShloMosaic.Lib.StableHlo.Run

@[expose] public section

set_option maxRecDepth 16384

noncomputable section

namespace Cert.Kernel2Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Kernel2Ideal.Gen Cert.Prods

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends, every unscoped buffer then holding what the segments compute. -/
theorem run_main : θ_run defs (onTc (τ := τ) (main (F := Ideal))) ⟨m, fun _ => 0, ρ⟩ (fun r =>
    (∀ c : Dev nD, ∀ b ∈ Pipeline.ucRefs τ sig, r.2.mem ((c : Thread nD τ).1, b) = W7 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

variable (c : Dev nD)

/-- The first product, -/
abbrev u : Mat 2304 8192 := nn (m := 2304) (l := 2048) (n := 8192) (m ((c : Thread nD τ).loc main_arg0)) (m ((c : Thread nD τ).loc main_arg1))
/-- and the gradient of the activation. -/
abbrev g : Mat 2304 8192 := nt (m := 2304) (l := 2048) (n := 8192) (m ((c : Thread nD τ).loc main_arg3)) (m ((c : Thread nD τ).loc main_arg2))

theorem w1_v0 : W1 m ρ c main_v0 = u m c := (W1_arr m ρ c 2).trans (fin0 _ c)

theorem w2_v0 : W2 m ρ c main_v0 = u m c := (W2_of m ρ c main_v0 (by decide)).trans (w1_v0 m ρ c)

theorem w2_v1 : W2 m ρ c main_v1 = relu (u m c) := by
  rw [← w1_v0 m ρ c]
  show StableHlo.after hostOps1 (W1 m ρ c) main_v1 = _
  generalize W1 m ρ c = W
  simp only [hostOps1, TRef.binary, TRef.nullary, TRef.unary, TRef.toBuf, TRef.ofBuf, cast_eq]
  after_results
  rfl

theorem w3_v5 : W3 m ρ c main_v5 = act (u m c) := by
  unfold act
  rw [← w2_v1 m ρ c]
  show StableHlo.after hostOps1_1 (W2 m ρ c) main_v5 = _
  generalize W2 m ρ c = W
  after_results

theorem w3_v3 : W3 m ρ c main_v3 = cmpf (F := Ideal) (s := S2304x8192) (φ := .f32) .ogt (u m c) (broadcastInDim S2304x8192 ![] bcast_S_S2304x8192 (constant (F := Ideal) S_ .f32 0x00000000#32)) := by
  rw [← w2_v0 m ρ c]
  show StableHlo.after hostOps1_1 (W2 m ρ c) main_v3 = _
  generalize W2 m ρ c = W
  after_results

theorem w3_v7 : W3 m ρ c main_v7 = mulf (F := Ideal) (s := S2304x8192) (φ := .f32) (broadcastInDim S2304x8192 ![] bcast_S_S2304x8192 (constant (F := Ideal) S_ .f32 0x40000000#32)) (relu (u m c)) := by
  rw [← w2_v1 m ρ c]
  show StableHlo.after hostOps1_1 (W2 m ρ c) main_v7 = _
  generalize W2 m ρ c = W
  after_results

theorem w4_v8 : W4 m ρ c main_v8 = g m c := by
  refine (W4_arr m ρ c 2).trans ((fin1 _ c).trans ?_)
  rw [show V3 m ρ c main_arg3 = m ((c : Thread nD τ).loc main_arg3) from W3_args m ρ c main_arg3 (by decide),
    show V3 m ρ c main_arg2 = m ((c : Thread nD τ).loc main_arg2) from W3_args m ρ c main_arg2 (by decide)]

theorem w5_v11 : W5 m ρ c main_v11 = dact (u m c) (g m c) := by
  unfold dact
  rw [← w4_v8 m ρ c, ← w3_v7 m ρ c, ← w3_v3 m ρ c, ← W4_of m ρ c main_v3 (by decide), ← W4_of m ρ c main_v7 (by decide)]
  show StableHlo.after hostOps2 (W4 m ρ c) main_v11 = _
  generalize W4 m ρ c = W
  after_results

/-- The gradient of the first weight, -/
theorem w7_v12 : W7 m ρ c main_v12 = tn (m := 2048) (l := 2304) (n := 8192) (m ((c : Thread nD τ).loc main_arg0)) (dact (u m c) (g m c)) := by
  refine (W7_of m ρ c main_v12 (by decide)).trans ((W6_arr m ρ c 2).trans ((fin2 _ c).trans ?_))
  rw [show V5 m ρ c main_arg0 = m ((c : Thread nD τ).loc main_arg0) from W5_args m ρ c main_arg0 (by decide),
    show V5 m ρ c main_v11 = _ from w5_v11 m ρ c]

/-- and of the second. -/
theorem w7_v13 : W7 m ρ c main_v13 = tn (m := 8192) (l := 2304) (n := 2048) (act (u m c)) (m ((c : Thread nD τ).loc main_arg3)) := by
  refine (W7_arr m ρ c 2).trans ((fin3 _ c).trans ?_)
  rw [show V6 m ρ c main_arg3 = m ((c : Thread nD τ).loc main_arg3) from W6_args m ρ c main_arg3 (by decide),
    show V6 m ρ c main_v5 = act (u m c) from (W6_of m ρ c main_v5 (by decide)).trans ((W5_of m ρ c main_v5 (by decide)).trans
      ((W4_of m ρ c main_v5 (by decide)).trans (w3_v5 m ρ c)))]

end Cert.Kernel2Ideal.Val

end
-- ==== Proof.Alg2.lean ====
/- kernel2 and reference2 leave the same two weight gradients. -/
module

public import proofs.«01_k».proof.Defs
public import proofs.«01_k».proof.Proof.Run2
public import proofs.«01_k».proof.Proof.Gen.Reference2Ideal.Run

@[expose] public section

set_option maxRecDepth 16384

noncomputable section

namespace Cert.Value2

open Idealize.ShloMosaic Idealize.ShloMosaic.TcCoe Idealize.ShloMosaic.Tactic Idealize.SL.Sem
open Cert.Prods Cert.Kernel2Ideal.Val
open Cert.Reference2Ideal Cert.Reference2Ideal.Gen

theorem dot_u (a : FVec Ideal S2304x2048 .f32) (b : FVec Ideal S2048x8192 .bf16) :
    Host.dotGeneral (F := Ideal) dot_S2304x2048_S2048x8192_S2304x8192_1_0_0_1_n_n none a (extf .f32 b bitsLt_bf16_f32) = nn (m := 2304) (l := 2048) (n := 8192) a b := by
  refine funext fun (i : S2304x8192.Idx) => ?_
  rw [eq_ix2 i]
  unfold nn
  pointwise []

theorem dot_g (a : FVec Ideal S2304x2048 .f32) (b : FVec Ideal S8192x2048 .bf16) :
    Host.dotGeneral (F := Ideal) dot_S2304x2048_S8192x2048_S2304x8192_1_1_0_0_n_n none a (extf .f32 b bitsLt_bf16_f32) = nt (m := 2304) (l := 2048) (n := 8192) a b := by
  refine funext fun (i : S2304x8192.Idx) => ?_
  rw [eq_ix2 i]
  unfold nt
  pointwise []

theorem dot_w1 (a : FVec Ideal S2304x2048 .f32) (d : FVec Ideal S2304x8192 .f32) :
    truncf (F := Ideal) .bf16 (transpose S2048x8192 [1, 0] (Host.dotGeneral (F := Ideal) dot_S2304x8192_S2304x2048_S8192x2048_0_0_1_1_n_n none d a) transposes_S8192x2048_S2048x8192_1_0) bitsLt_bf16_f32
      = tn (m := 2048) (l := 2304) (n := 8192) a d := by
  refine funext fun (i : S2048x8192.Idx) => ?_
  rw [eq_ix2 i]
  unfold tn
  pointwise []
  exact Finset.sum_congr rfl fun k _ => mul_comm _ _

theorem dot_w2 (h : FVec Ideal S2304x8192 .f32) (d : FVec Ideal S2304x2048 .f32) :
    truncf (F := Ideal) .bf16 (transpose S8192x2048 [1, 0] (Host.dotGeneral (F := Ideal) dot_S2304x2048_S2304x8192_S2048x8192_0_0_1_1_n_n none d h) transposes_S2048x8192_S8192x2048_1_0) bitsLt_bf16_f32
      = tn (m := 8192) (l := 2304) (n := 2048) h d := by
  refine funext fun (i : S8192x2048.Idx) => ?_
  rw [eq_ix2 i]
  unfold tn
  pointwise []
  exact Finset.sum_congr rfl fun k _ => mul_comm _ _

theorem algebraic : Cert.algebraic_Kernel2Ideal_Reference2Ideal := by
  intro m ρ m' ρ' _ ha
  refine ⟨fun c => Cert.Kernel2Ideal.Gen.W7 m ρ c Cert.Kernel2Ideal.main_v12, fun c => Cert.Kernel2Ideal.Gen.W7 m ρ c Cert.Kernel2Ideal.main_v13,
    (θ_run Cert.Kernel2Ideal.defs _ _).mono (fun r h c => ?_) (Cert.Kernel2Ideal.Val.run_main m ρ),
    (θ_run Cert.Reference2Ideal.defs _ _).mono (fun r h c => ?_) (Cert.Reference2Ideal.Value.run m' ρ')⟩
  · have hk : ∀ a ∈ Cert.Kernel2Ideal.Gen.argRefs, ¬ (Proc.devRef .tc a : DevRef Cert.Kernel2Ideal.τ Cert.Kernel2Ideal.sig).isScoped →
        r.2.mem ((c.tc : Thread Cert.Kernel2Ideal.nD Cert.Kernel2Ideal.τ).loc a) = m ((c.tc : Thread Cert.Kernel2Ideal.nD Cert.Kernel2Ideal.τ).loc a) :=
      fun a ha hs => (h c _ (Cert.Kernel2Ideal.Gen.mem_uc a hs)).trans (Cert.Kernel2Ideal.Gen.W7_args m ρ c a ha)
    exact ⟨h c _ (Cert.Kernel2Ideal.Gen.mem_uc Cert.Kernel2Ideal.main_v12 (by decide)),
      h c _ (Cert.Kernel2Ideal.Gen.mem_uc Cert.Kernel2Ideal.main_v13 (by decide)),
      hk _ (by decide) (by decide), hk _ (by decide) (by decide), hk _ (by decide) (by decide), hk _ (by decide) (by decide)⟩
  · obtain ⟨e0, e1, e2, e3⟩ := ha c
    obtain ⟨r0, r1, k0, k1, k2, k3⟩ := h c
    refine ⟨r0.trans ?_, r1.trans ?_, k0, k1, k2, k3⟩
    · show _ = Cert.Kernel2Ideal.Gen.W7 m ρ c Cert.Kernel2Ideal.main_v12
      rw [w7_v12 m ρ c, dot_u, dot_g, dot_w1, e0, e1, e2, e3]
      rfl
    · show _ = Cert.Kernel2Ideal.Gen.W7 m ρ c Cert.Kernel2Ideal.main_v13
      rw [w7_v13 m ρ c, dot_u, dot_w2, e0, e1, e3]
      rfl

end Cert.Value2

end
-- ==== Proof.M3.lean ====
/- The matrix product of kernel3: eight blocks of the contraction, summed in an accumulator. -/
module

public import proofs.«01_k».proof.Proof.Gen.Kernel3Ideal.Frame
public import proofs.«01_k».proof.Proof.Prods
public import Idealize.ShloMosaic.Lib.Pipeline.ReadBack

@[expose] public section

set_option maxRecDepth 16384
set_option maxHeartbeats 1000000

noncomputable section

namespace Cert.Kernel3Ideal.Val

open Idealize.ShloMosaic Idealize.ShloMosaic.TcCoe Idealize.ShloMosaic.Tactic Idealize.SL.Sem
open Cert.Kernel3Ideal.Gen Cert.Prods

variable (m : (ℓ : Loc nD τ sig) → Buf (Elt Ideal) ℓ) (c : Dev nD)

theorem acc_A (t : Fin cfg0.N) (h0 : t.val % 8 = 0) :
    (outsAt0 m c t.val t.isLt).2 = k0_pay2 (iblk m c 0 t) (iblk m c 1 t) (k0_pay1 (F := Ideal)) := by
  rw [outsAt0_A m c t h0 (by omega)]
  frame_out

theorem acc_S (t : Fin cfg0.N) (h0 : ¬t.val % 8 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    frame_out
    simp only [read_unread_whole]
  · rw [outsAt0_B m c t h0 h1]
    frame_out
    simp only [read_unread_whole]

theorem out_C (t : Fin cfg0.N) (h1 : t.val % 8 = 7) :
    (outsAt0 m c t.val t.isLt).1 = (outsAt0 m c t.val t.isLt).2 := by
  rw [acc_S m c t (by omega), outsAt0_C m c t (by omega) h1]
  frame_out
  simp only [read_unread_whole]

theorem pay1 (i : S768x2048.Idx) : (k0_pay1 (F := Ideal)) i = (0 : EReal) := by
  rw [eq_ix2 i]
  unfold_payloads
  pointwise []

theorem pay2 (x : Vec Ideal S768x1024 .f32) (y : Vec Ideal S2048x1024 .bf16) (z : Vec Ideal S768x2048 .f32) (i : S768x2048.Idx) :
    k0_pay2 x y z i = (z i : EReal) + nt (m := 768) (l := 1024) (n := 2048) x y i := by
  rw [eq_ix2 i]
  unfold nt
  unfold_payloads
  pointwise []

theorem idx : ∀ t : Fin cfg0.N, win0_0.index t = ![t.val / 8, t.val % 8] ∧ win0_1.index t = ![0, t.val % 8] ∧ win0_2.index t = ![t.val / 8, 0] :=
  (by decide +kernel : ∀ t : Fin grid0.N, _)

/-- The left factor, -/
abbrev A : Mat 2304 8192 := m ((c : Thread nD τ).loc main_arg0)
/-- and the right one, transposed. -/
abbrev B : Mat 2048 8192 := m ((c : Thread nD τ).loc main_arg1)

/-- The array that the call leaves is the product. -/
theorem fin : (dats m 0 c).arrAt 2 cfg0.N = nt (A m c) (B m c) := by
  refine (dats m 0 c).arrAt_eq_of_covers 2 _ (by decide +kernel) fun t hf (y : S768x2048.Idx) => ?_
  have h7 : t.val % 8 = 7 := (flush0_2 t).mp hf
  show (cfg0.win 2).cut (grid0.coords t) ((dats m 0 c).after 2 t) y = nt (A m c) (B m c) (((cfg0.win 2).blk t).view.emb y)
  rw [after0_2, out_C m c t h7]
  refine accum_nt 8 768 2048 1024 cfg0.N (fun b => 768 * b) (fun _ => 0) (by decide) (by decide) (A m c) (B m c) (fun t => (outsAt0 m c t.val t.isLt).2) (fun t => iblk m c 0 t) (fun t => iblk m c 1 t)
    (fun t h i => ?_) (fun t s e h i => ?_) (fun t a k => (get_ix2 (A m c) (((cfg0.win 0).blk t).view.emb (ix2 a k : S768x1024.Idx)) _ _ ?_ ?_).symm)
    (fun t b k => (get_ix2 (B m c) (((cfg0.win 1).blk t).view.emb (ix2 b k : S2048x1024.Idx)) _ _ ?_ ?_).symm) t (by omega) y _ ?_ ?_
  · exact (congrFun (acc_A m c t h) i).trans ((pay2 _ _ _ i).trans ((congrArg (· + nt (iblk m c 0 t) (iblk m c 1 t) i) (pay1 i)).trans (zero_add _)))
  · obtain rfl : s = ⟨t.val - 1, Nat.lt_of_le_of_lt (Nat.sub_le _ _) t.isLt⟩ := Fin.ext (by show s.val = t.val - 1; omega)
    exact (congrFun (acc_S m c t h) i).trans (pay2 _ _ _ i)
  · show win0_0.index t 0 * 768 + 1 * a.val = _; rw [(idx t).1]; show t.val / 8 * 768 + 1 * a.val = 768 * (t.val / 8) + a.val; omega
  · show win0_0.index t 1 * 1024 + 1 * k.val = _; rw [(idx t).1]; show t.val % 8 * 1024 + 1 * k.val = _; omega
  · show win0_1.index t 0 * 2048 + 1 * b.val = _; rw [(idx t).2.1]; show 0 * 2048 + 1 * b.val = 0 + b.val; omega
  · show win0_1.index t 1 * 1024 + 1 * k.val = _; rw [(idx t).2.1]; show t.val % 8 * 1024 + 1 * k.val = _; omega
  · show win0_2.index t 0 * 768 + 1 * (y 0).val = _; rw [(idx t).2.2]; show t.val / 8 * 768 + 1 * (y 0).val = 768 * (t.val / 8) + (y 0).val; omega
  · show win0_2.index t 1 * 2048 + 1 * (y 1).val = _; rw [(idx t).2.2]; show 0 * 2048 + 1 * (y 1).val = 0 + (y 1).val; omega

end Cert.Kernel3Ideal.Val

end
-- ==== Proof.Alg3.lean ====
/- kernel3 and reference3 leave the same gradient of the perceptron's argument. -/
module

public import proofs.«01_k».proof.Defs
public import proofs.«01_k».proof.Proof.M3
public import proofs.«01_k».proof.Proof.Gen.Kernel3Ideal.Value
public import proofs.«01_k».proof.Proof.Gen.Reference3Ideal.Run

@[expose] public section

set_option maxRecDepth 16384

noncomputable section

namespace Cert.Value3

open Idealize.ShloMosaic Idealize.ShloMosaic.TcCoe Idealize.ShloMosaic.Tactic Idealize.SL.Sem
open Cert.Prods
open Cert.Reference3Ideal Cert.Reference3Ideal.Gen

theorem dot (a : FVec Ideal S2304x8192 .f32) (b : FVec Ideal S2048x8192 .bf16) :
    Host.dotGeneral (F := Ideal) dot_S2304x8192_S2048x8192_S2304x2048_1_1_0_0_n_n none a (extf .f32 b bitsLt_bf16_f32) = nt (m := 2304) (l := 8192) (n := 2048) a b := by
  refine funext fun (i : S2304x2048.Idx) => ?_
  rw [eq_ix2 i]
  unfold nt
  pointwise []

theorem algebraic : Cert.algebraic_Kernel3Ideal_Reference3Ideal := by
  intro m ρ m' ρ' _ ha
  refine ⟨fun c => Cert.Kernel3Ideal.Value.G2 m c, Cert.Kernel3Ideal.Value.run m ρ,
    (θ_run Cert.Reference3Ideal.defs _ _).mono (fun r h c => ?_) (Cert.Reference3Ideal.Value.run m' ρ')⟩
  obtain ⟨e0, e1⟩ := ha c
  obtain ⟨r0, k0, k1⟩ := h c
  refine ⟨r0.trans ?_, k0, k1⟩
  show _ = Cert.Kernel3Ideal.Value.G2 m c
  rw [← Cert.Kernel3Ideal.Value.final2 m c, Cert.Kernel3Ideal.Val.fin m c, dot, e0, e1]

end Cert.Value3

end
-- ==== Proof.Proj.lean ====
/- The seven matrix products of kernel4: the array that each call leaves is the product of the two arrays it reads. -/
module

public import proofs.«01_k».proof.Proof.Gen.Kernel4Ideal.Frame
public import proofs.«01_k».proof.Proof.Prods

@[expose] public section

set_option maxRecDepth 16384

noncomputable section

namespace Cert.Kernel4Ideal.Val

open Idealize.ShloMosaic Idealize.ShloMosaic.TcCoe Idealize.ShloMosaic.Tactic Idealize.SL.Sem
open Cert.Kernel4Ideal.Gen Cert.Prods

variable (V : (c : Dev nD) → (b : Ref sig .tc) → Buf (Elt Ideal) ((c : Thread nD τ).loc b)) (c : Dev nD)

/-! ## The narrow input projection -/

theorem idx0 : ∀ t : Fin cfg0.N, win0_0.index t = ![t.val / 10, 0] ∧ win0_1.index t = ![0, t.val % 10] ∧ win0_2.index t = ![t.val / 10, t.val % 10] :=
  (by decide +kernel : ∀ t : Fin grid0.N, _)

theorem out0 (x : Vec Ideal S1152x2048 .f32) (y : Vec Ideal S2048x1024 .bf16) (i : S1152x1024.Idx) :
    out0_2 x y i = nn (m := 1152) (l := 2048) (n := 1024) x y i := by
  rw [eq_ix2 i]
  unfold out0_2 nn
  rw [View.canon_unit_zero hz]
  simp only [View.ld_unit_zero (S := S1152x2048) hz, View.ld_unit_zero (S := S2048x1024) hz]
  unfold_payloads
  pointwise []

theorem fin0 : (dat0 V c).arrAt 2 cfg0.N = nn (m := 2304) (l := 2048) (n := 10240) (V c main_arg0) (V c main_arg2) := by
  refine (dat0 V c).arrAt_eq_of_covers 2 _ (by decide +kernel) fun t hf (y : S1152x1024.Idx) => ?_
  obtain ⟨h0, h1, h2⟩ := idx0 t
  blk_simp
  rw [after0_2]
  refine (out0 _ _ y).trans (nn_congr (fun k => congrArg (V c main_arg0 : Mat 2304 2048) ?_) fun k => congrArg (V c main_arg2 : Mat 2048 10240) ?_) <;>
    blk_ext [h0, h1, h2]

/-! ## Its weight's gradient -/

theorem idx1 : ∀ t : Fin cfg1.N, win1_0.index t = ![0, t.val / 20] ∧ win1_1.index t = ![0, t.val % 20] ∧ win1_2.index t = ![t.val / 20, t.val % 20] :=
  (by decide +kernel : ∀ t : Fin grid1.N, _)

theorem out1 (x : Vec Ideal S2304x1024 .f32) (y : Vec Ideal S2304x512 .f32) (i : S1024x512.Idx) :
    out1_2 x y i = tn (m := 1024) (l := 2304) (n := 512) x y i := by
  rw [eq_ix2 i]
  unfold out1_2 tn
  rw [View.canon_unit_zero hz]
  simp only [View.ld_unit_zero (S := S2304x1024) hz, View.ld_unit_zero (S := S2304x512) hz]
  unfold_payloads
  pointwise []

theorem fin1 : (dat1 V c).arrAt 2 cfg1.N = tn (m := 2048) (l := 2304) (n := 10240) (V c main_arg0) (V c main_arg5) := by
  refine (dat1 V c).arrAt_eq_of_covers 2 _ (by decide +kernel) fun t hf (y : S1024x512.Idx) => ?_
  obtain ⟨h0, h1, h2⟩ := idx1 t
  blk_simp
  rw [after1_2]
  refine (out1 _ _ y).trans (tn_congr (fun k => congrArg (V c main_arg0 : Mat 2304 2048) ?_) fun k => congrArg (V c main_arg5 : Mat 2304 10240) ?_) <;>
    blk_ext [h0, h1, h2]

/-! ## The wide input projection -/

theorem idx2 : ∀ t : Fin cfg2.N, win2_0.index t = ![t.val / 12, 0] ∧ win2_1.index t = ![0, t.val % 12] ∧ win2_2.index t = ![t.val / 12, t.val % 12] :=
  (by decide +kernel : ∀ t : Fin grid2.N, _)

/-- The body is the narrow projection's. -/
theorem out2_eq : @out2_2 Ideal _ = out0_2 := by
  unfold out2_2 out0_2
  rw [show @k2_pay1 Ideal _ = k0_pay1 from rfl]

theorem fin2 : (dat2 V c).arrAt 2 cfg2.N = nn (m := 2304) (l := 2048) (n := 12288) (V c main_arg0) (V c main_arg3) := by
  refine (dat2 V c).arrAt_eq_of_covers 2 _ (by decide +kernel) fun t hf (y : S1152x1024.Idx) => ?_
  obtain ⟨h0, h1, h2⟩ := idx2 t
  blk_simp
  rw [after2_2, out2_eq]
  refine (out0 _ _ y).trans (nn_congr (fun k => congrArg (V c main_arg0 : Mat 2304 2048) ?_) fun k => congrArg (V c main_arg3 : Mat 2048 12288) ?_) <;>
    blk_ext [h0, h1, h2]

/-! ## Its weight's gradient -/

theorem idx3 : ∀ t : Fin cfg3.N, win3_0.index t = ![0, t.val / 24] ∧ win3_1.index t = ![0, t.val % 24] ∧ win3_2.index t = ![t.val / 24, t.val % 24] :=
  (by decide +kernel : ∀ t : Fin grid3.N, _)

/-- The body is the narrow gradient's. -/
theorem out3_eq : @out3_2 Ideal _ = out1_2 := by
  unfold out3_2 out1_2
  rw [show @k3_pay1 Ideal _ = k1_pay1 from rfl]

theorem fin3 : (dat3 V c).arrAt 2 cfg3.N = tn (m := 2048) (l := 2304) (n := 12288) (V c main_arg0) (V c main_arg6) := by
  refine (dat3 V c).arrAt_eq_of_covers 2 _ (by decide +kernel) fun t hf (y : S1024x512.Idx) => ?_
  obtain ⟨h0, h1, h2⟩ := idx3 t
  blk_simp
  rw [after3_2, out3_eq]
  refine (out1 _ _ y).trans (tn_congr (fun k => congrArg (V c main_arg0 : Mat 2304 2048) ?_) fun k => congrArg (V c main_arg6 : Mat 2304 12288) ?_) <;>
    blk_ext [h0, h1, h2]

/-! ## The output projection -/

theorem idx4 : ∀ t : Fin cfg4.N, win4_0.index t = ![t.val / 4, 0] ∧ win4_1.index t = ![0, t.val % 4] ∧ win4_2.index t = ![t.val / 4, t.val % 4] :=
  (by decide +kernel : ∀ t : Fin grid4.N, _)

theorem out4 (x : Vec Ideal S768x4096 .f32) (y : Vec Ideal S4096x512 .bf16) (i : S768x512.Idx) :
    out4_2 x y i = nn (m := 768) (l := 4096) (n := 512) x y i := by
  rw [eq_ix2 i]
  unfold out4_2 nn
  rw [View.canon_unit_zero hz]
  simp only [View.ld_unit_zero (S := S768x4096) hz, View.ld_unit_zero (S := S4096x512) hz]
  unfold_payloads
  pointwise []

theorem fin4 : (dat4 V c).arrAt 2 cfg4.N = nn (m := 2304) (l := 4096) (n := 2048) (V c main_arg1) (V c main_arg4) := by
  refine (dat4 V c).arrAt_eq_of_covers 2 _ (by decide +kernel) fun t hf (y : S768x512.Idx) => ?_
  obtain ⟨h0, h1, h2⟩ := idx4 t
  blk_simp
  rw [after4_2]
  refine (out4 _ _ y).trans (nn_congr (fun k => congrArg (V c main_arg1 : Mat 2304 4096) ?_) fun k => congrArg (V c main_arg4 : Mat 4096 2048) ?_) <;>
    blk_ext [h0, h1, h2]

/-! ## Its argument's gradient -/

theorem idx5 : ∀ t : Fin cfg5.N, win5_0.index t = ![t.val / 4, 0] ∧ win5_1.index t = ![t.val % 4, 0] ∧ win5_2.index t = ![t.val / 4, t.val % 4] :=
  (by decide +kernel : ∀ t : Fin grid5.N, _)

theorem out5 (x : Vec Ideal S1152x2048 .f32) (y : Vec Ideal S1024x2048 .bf16) (i : S1152x1024.Idx) :
    out5_2 x y i = nt (m := 1152) (l := 2048) (n := 1024) x y i := by
  rw [eq_ix2 i]
  unfold out5_2 nt
  rw [View.canon_unit_zero hz]
  simp only [View.ld_unit_zero (S := S1152x2048) hz, View.ld_unit_zero (S := S1024x2048) hz]
  unfold_payloads
  pointwise []

theorem fin5 : (dat5 V c).arrAt 2 cfg5.N = nt (m := 2304) (l := 2048) (n := 4096) (V c main_arg7) (V c main_arg4) := by
  refine (dat5 V c).arrAt_eq_of_covers 2 _ (by decide +kernel) fun t hf (y : S1152x1024.Idx) => ?_
  obtain ⟨h0, h1, h2⟩ := idx5 t
  blk_simp
  rw [after5_2]
  refine (out5 _ _ y).trans (nt_congr (fun k => congrArg (V c main_arg7 : Mat 2304 2048) ?_) fun k => congrArg (V c main_arg4 : Mat 4096 2048) ?_) <;>
    blk_ext [h0, h1, h2]

/-! ## Its weight's gradient -/

theorem idx6 : ∀ t : Fin cfg6.N, win6_0.index t = ![0, t.val / 4] ∧ win6_1.index t = ![0, t.val % 4] ∧ win6_2.index t = ![t.val / 4, t.val % 4] :=
  (by decide +kernel : ∀ t : Fin grid6.N, _)

/-- The body is the input projections' again. -/
theorem out6_eq : @out6_2 Ideal _ = out1_2 := by
  unfold out6_2 out1_2
  rw [show @k6_pay1 Ideal _ = k1_pay1 from rfl]

theorem fin6 : (dat6 V c).arrAt 2 cfg6.N = tn (m := 4096) (l := 2304) (n := 2048) (V c main_arg1) (V c main_arg7) := by
  refine (dat6 V c).arrAt_eq_of_covers 2 _ (by decide +kernel) fun t hf (y : S1024x512.Idx) => ?_
  obtain ⟨h0, h1, h2⟩ := idx6 t
  blk_simp
  rw [after6_2, out6_eq]
  refine (out1 _ _ y).trans (tn_congr (fun k => congrArg (V c main_arg1 : Mat 2304 4096) ?_) fun k => congrArg (V c main_arg7 : Mat 2304 2048) ?_) <;>
    blk_ext [h0, h1, h2]

end Cert.Kernel4Ideal.Val

end
-- ==== Proof.Run4.lean ====
/- kernel4's run: its seven calls one after the other, their results read at the end. -/
module

public import proofs.«01_k».proof.Proof.Proj
public import Idealize.ShloMosaic.Lib.StableHlo.Run

@[expose] public section

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Kernel4Ideal.Gen Cert.Prods

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends, every unscoped buffer then holding what the segments compute. -/
theorem run_main : θ_run defs (onTc (τ := τ) (main (F := Ideal))) ⟨m, fun _ => 0, ρ⟩ (fun r =>
    (∀ c : Dev nD, ∀ b ∈ Pipeline.ucRefs τ sig, r.2.mem ((c : Thread nD τ).1, b) = W7 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

variable (c : Dev nD)

/-- What the seven calls leave. -/
theorem w_v0 : W7 m ρ c main_v0 = nn (m := 2304) (l := 2048) (n := 10240) (m ((c : Thread nD τ).loc main_arg0)) (m ((c : Thread nD τ).loc main_arg2)) :=
  (W7_of m ρ c main_v0 (by decide)).trans ((W6_of m ρ c main_v0 (by decide)).trans ((W5_of m ρ c main_v0 (by decide)).trans
    ((W4_of m ρ c main_v0 (by decide)).trans ((W3_of m ρ c main_v0 (by decide)).trans ((W2_of m ρ c main_v0 (by decide)).trans
      ((W1_arr m ρ c 2).trans (fin0 _ c)))))))
theorem w_v1 : W7 m ρ c main_v1 = tn (m := 2048) (l := 2304) (n := 10240) (m ((c : Thread nD τ).loc main_arg0)) (m ((c : Thread nD τ).loc main_arg5)) :=
  (W7_of m ρ c main_v1 (by decide)).trans ((W6_of m ρ c main_v1 (by decide)).trans ((W5_of m ρ c main_v1 (by decide)).trans
    ((W4_of m ρ c main_v1 (by decide)).trans ((W3_of m ρ c main_v1 (by decide)).trans ((W2_arr m ρ c 2).trans ((fin1 _ c).trans
      (congrArg₂ (tn (m := 2048) (l := 2304) (n := 10240)) (W1_args m ρ c main_arg0 (by decide)) (W1_args m ρ c main_arg5 (by decide)))))))))
theorem w_v2 : W7 m ρ c main_v2 = nn (m := 2304) (l := 2048) (n := 12288) (m ((c : Thread nD τ).loc main_arg0)) (m ((c : Thread nD τ).loc main_arg3)) :=
  (W7_of m ρ c main_v2 (by decide)).trans ((W6_of m ρ c main_v2 (by decide)).trans ((W5_of m ρ c main_v2 (by decide)).trans
    ((W4_of m ρ c main_v2 (by decide)).trans ((W3_arr m ρ c 2).trans ((fin2 _ c).trans
      (congrArg₂ (nn (m := 2304) (l := 2048) (n := 12288)) (W2_args m ρ c main_arg0 (by decide)) (W2_args m ρ c main_arg3 (by decide))))))))
theorem w_v3 : W7 m ρ c main_v3 = tn (m := 2048) (l := 2304) (n := 12288) (m ((c : Thread nD τ).loc main_arg0)) (m ((c : Thread nD τ).loc main_arg6)) :=
  (W7_of m ρ c main_v3 (by decide)).trans ((W6_of m ρ c main_v3 (by decide)).trans ((W5_of m ρ c main_v3 (by decide)).trans
    ((W4_arr m ρ c 2).trans ((fin3 _ c).trans
      (congrArg₂ (tn (m := 2048) (l := 2304) (n := 12288)) (W3_args m ρ c main_arg0 (by decide)) (W3_args m ρ c main_arg6 (by decide)))))))
theorem w_v4 : W7 m ρ c main_v4 = nn (m := 2304) (l := 4096) (n := 2048) (m ((c : Thread nD τ).loc main_arg1)) (m ((c : Thread nD τ).loc main_arg4)) :=
  (W7_of m ρ c main_v4 (by decide)).trans ((W6_of m ρ c main_v4 (by decide)).trans ((W5_arr m ρ c 2).trans ((fin4 _ c).trans
    (congrArg₂ (nn (m := 2304) (l := 4096) (n := 2048)) (W4_args m ρ c main_arg1 (by decide)) (W4_args m ρ c main_arg4 (by decide))))))
theorem w_v5 : W7 m ρ c main_v5 = nt (m := 2304) (l := 2048) (n := 4096) (m ((c : Thread nD τ).loc main_arg7)) (m ((c : Thread nD τ).loc main_arg4)) :=
  (W7_of m ρ c main_v5 (by decide)).trans ((W6_arr m ρ c 2).trans ((fin5 _ c).trans
    (congrArg₂ (nt (m := 2304) (l := 2048) (n := 4096)) (W5_args m ρ c main_arg7 (by decide)) (W5_args m ρ c main_arg4 (by decide)))))
theorem w_v6 : W7 m ρ c main_v6 = tn (m := 4096) (l := 2304) (n := 2048) (m ((c : Thread nD τ).loc main_arg1)) (m ((c : Thread nD τ).loc main_arg7)) :=
  (W7_arr m ρ c 2).trans ((fin6 _ c).trans
    (congrArg₂ (tn (m := 4096) (l := 2304) (n := 2048)) (W6_args m ρ c main_arg1 (by decide)) (W6_args m ρ c main_arg7 (by decide))))

end Cert.Kernel4Ideal.Val

end
-- ==== Proof.Alg4.lean ====
/- kernel4 and reference4 leave the same projections and gradients. -/
module

public import proofs.«01_k».proof.Defs
public import proofs.«01_k».proof.Proof.Run4
public import proofs.«01_k».proof.Proof.Gen.Reference4Ideal.Run

@[expose] public section

set_option maxRecDepth 16384

noncomputable section

namespace Cert.Value4

open Idealize.ShloMosaic Idealize.ShloMosaic.TcCoe Idealize.ShloMosaic.Tactic Idealize.SL.Sem
open Cert.Prods Cert.Kernel4Ideal.Val
open Cert.Reference4Ideal Cert.Reference4Ideal.Gen

/-! ## The reference's products -/

theorem dot_a (a : FVec Ideal S2304x2048 .f32) (b : FVec Ideal S2048x10240 .bf16) :
    Host.dotGeneral (F := Ideal) dot_S2304x2048_S2048x10240_S2304x10240_1_0_0_1_n_n none a (extf .f32 b bitsLt_bf16_f32) = nn (m := 2304) (l := 2048) (n := 10240) a b := by
  refine funext fun (i : S2304x10240.Idx) => ?_
  rw [eq_ix2 i]
  unfold nn
  pointwise []

theorem dot_b (a : FVec Ideal S2304x2048 .f32) (b : FVec Ideal S2048x12288 .bf16) :
    Host.dotGeneral (F := Ideal) dot_S2304x2048_S2048x12288_S2304x12288_1_0_0_1_n_n none a (extf .f32 b bitsLt_bf16_f32) = nn (m := 2304) (l := 2048) (n := 12288) a b := by
  refine funext fun (i : S2304x12288.Idx) => ?_
  rw [eq_ix2 i]
  unfold nn
  pointwise []

theorem dot_o (a : FVec Ideal S2304x4096 .f32) (b : FVec Ideal S4096x2048 .bf16) :
    Host.dotGeneral (F := Ideal) dot_S2304x4096_S4096x2048_S2304x2048_1_0_0_1_n_n none a (extf .f32 b bitsLt_bf16_f32) = nn (m := 2304) (l := 4096) (n := 2048) a b := by
  refine funext fun (i : S2304x2048.Idx) => ?_
  rw [eq_ix2 i]
  unfold nn
  pointwise []

theorem dot_y (a : FVec Ideal S2304x2048 .f32) (b : FVec Ideal S4096x2048 .bf16) :
    Host.dotGeneral (F := Ideal) dot_S2304x2048_S4096x2048_S2304x4096_1_1_0_0_n_n none a (extf .f32 b bitsLt_bf16_f32) = nt (m := 2304) (l := 2048) (n := 4096) a b := by
  refine funext fun (i : S2304x4096.Idx) => ?_
  rw [eq_ix2 i]
  unfold nt
  pointwise []

theorem dot_wa (a : FVec Ideal S2304x2048 .f32) (d : FVec Ideal S2304x10240 .f32) :
    truncf (F := Ideal) .bf16 (transpose S2048x10240 [1, 0] (Host.dotGeneral (F := Ideal) dot_S2304x10240_S2304x2048_S10240x2048_0_0_1_1_n_n none d a) transposes_S10240x2048_S2048x10240_1_0) bitsLt_bf16_f32
      = tn (m := 2048) (l := 2304) (n := 10240) a d := by
  refine funext fun (i : S2048x10240.Idx) => ?_
  rw [eq_ix2 i]
  unfold tn
  pointwise []
  exact Finset.sum_congr rfl fun k _ => mul_comm _ _

theorem dot_wb (a : FVec Ideal S2304x2048 .f32) (d : FVec Ideal S2304x12288 .f32) :
    truncf (F := Ideal) .bf16 (transpose S2048x12288 [1, 0] (Host.dotGeneral (F := Ideal) dot_S2304x12288_S2304x2048_S12288x2048_0_0_1_1_n_n none d a) transposes_S12288x2048_S2048x12288_1_0) bitsLt_bf16_f32
      = tn (m := 2048) (l := 2304) (n := 12288) a d := by
  refine funext fun (i : S2048x12288.Idx) => ?_
  rw [eq_ix2 i]
  unfold tn
  pointwise []
  exact Finset.sum_congr rfl fun k _ => mul_comm _ _

theorem dot_wo (a : FVec Ideal S2304x4096 .f32) (d : FVec Ideal S2304x2048 .f32) :
    truncf (F := Ideal) .bf16 (transpose S4096x2048 [1, 0] (Host.dotGeneral (F := Ideal) dot_S2304x2048_S2304x4096_S2048x4096_0_0_1_1_n_n none d a) transposes_S2048x4096_S4096x2048_1_0) bitsLt_bf16_f32
      = tn (m := 4096) (l := 2304) (n := 2048) a d := by
  refine funext fun (i : S4096x2048.Idx) => ?_
  rw [eq_ix2 i]
  unfold tn
  pointwise []
  exact Finset.sum_congr rfl fun k _ => mul_comm _ _

/-! ## The claim -/

theorem algebraic : Cert.algebraic_Kernel4Ideal_Reference4Ideal := by
  intro m ρ m' ρ' _ ha
  refine ⟨fun c => Cert.Kernel4Ideal.Gen.W7 m ρ c Cert.Kernel4Ideal.main_v0, fun c => Cert.Kernel4Ideal.Gen.W7 m ρ c Cert.Kernel4Ideal.main_v1,
    fun c => Cert.Kernel4Ideal.Gen.W7 m ρ c Cert.Kernel4Ideal.main_v2, fun c => Cert.Kernel4Ideal.Gen.W7 m ρ c Cert.Kernel4Ideal.main_v3,
    fun c => Cert.Kernel4Ideal.Gen.W7 m ρ c Cert.Kernel4Ideal.main_v4, fun c => Cert.Kernel4Ideal.Gen.W7 m ρ c Cert.Kernel4Ideal.main_v5,
    fun c => Cert.Kernel4Ideal.Gen.W7 m ρ c Cert.Kernel4Ideal.main_v6,
    (θ_run Cert.Kernel4Ideal.defs _ _).mono (fun r h c => ?_) (Cert.Kernel4Ideal.Val.run_main m ρ),
    (θ_run Cert.Reference4Ideal.defs _ _).mono (fun r h c => ?_) (Cert.Reference4Ideal.Value.run m' ρ')⟩
  · have hr : ∀ b : Ref Cert.Kernel4Ideal.sig .tc, ¬ (Proc.devRef .tc b : DevRef Cert.Kernel4Ideal.τ Cert.Kernel4Ideal.sig).isScoped →
        r.2.mem ((c.tc : Thread Cert.Kernel4Ideal.nD Cert.Kernel4Ideal.τ).loc b) = Cert.Kernel4Ideal.Gen.W7 m ρ c b :=
      fun b hs => h c _ (Cert.Kernel4Ideal.Gen.mem_uc b hs)
    have hk : ∀ a ∈ Cert.Kernel4Ideal.Gen.argRefs, ¬ (Proc.devRef .tc a : DevRef Cert.Kernel4Ideal.τ Cert.Kernel4Ideal.sig).isScoped →
        r.2.mem ((c.tc : Thread Cert.Kernel4Ideal.nD Cert.Kernel4Ideal.τ).loc a) = m ((c.tc : Thread Cert.Kernel4Ideal.nD Cert.Kernel4Ideal.τ).loc a) :=
      fun a ha hs => (hr a hs).trans (Cert.Kernel4Ideal.Gen.W7_args m ρ c a ha)
    exact ⟨hr _ (by decide), hr _ (by decide), hr _ (by decide), hr _ (by decide), hr _ (by decide), hr _ (by decide), hr _ (by decide),
      hk _ (by decide) (by decide), hk _ (by decide) (by decide), hk _ (by decide) (by decide), hk _ (by decide) (by decide),
      hk _ (by decide) (by decide), hk _ (by decide) (by decide), hk _ (by decide) (by decide), hk _ (by decide) (by decide)⟩
  · obtain ⟨e0, e1, e2, e3, e4, e5, e6, e7⟩ := ha c
    obtain ⟨r0, r1, r2, r3, r4, r5, r6, k⟩ := h c
    rw [dot_a, e0, e2] at r0
    rw [dot_wa, e0, e5] at r1
    rw [dot_b, e0, e3] at r2
    rw [dot_wb, e0, e6] at r3
    rw [dot_o, e1, e4] at r4
    rw [dot_y, e7, e4] at r5
    rw [dot_wo, e1, e7] at r6
    exact ⟨r0.trans (w_v0 m ρ c).symm, r1.trans (w_v1 m ρ c).symm, r2.trans (w_v2 m ρ c).symm, r3.trans (w_v3 m ρ c).symm,
      r4.trans (w_v4 m ρ c).symm, r5.trans (w_v5 m ρ c).symm, r6.trans (w_v6 m ρ c).symm, k⟩

end Cert.Value4

end
-- ==== Proof.Same5.lean ====
/- The texts of kernel5, kernel6 and kernel7 at the two kinds of float values are one text each: the runs are one run. -/
module

public import proofs.«01_k».proof.Defs
public import proofs.«01_k».proof.Proof.Gen.Kernel5
public import proofs.«01_k».proof.Proof.Gen.Kernel6
public import proofs.«01_k».proof.Proof.Gen.Kernel7
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Reference5Ideal.Run
public import proofs.«01_k».proof.Proof.Gen.Reference6Ideal.Run
public import proofs.«01_k».proof.Proof.Gen.Reference7Ideal.Run
public import Idealize.ShloMosaic.Lib.Quiescent

@[expose] public section

set_option maxRecDepth 100000

noncomputable section

namespace Cert.Same5

open Idealize.ShloMosaic Idealize.SL.Sem

set_option backward.isDefEq.respectTransparency.types false
set_option maxHeartbeats 1000000

variable {F : FTy → Type} [FloatOps F]

theorem defs₀_eq5 : Cert.Kernel5.defs₀ (F := F) = Cert.Kernel5Ideal.defs₀ (F := F) := by
  unfold Cert.Kernel5.defs₀ Cert.Kernel5Ideal.defs₀
  refine congrArg Defs.onTc (funext fun i => funext fun x => ?_)
  match i, x with
  | 0, (t, s) => dsimp only; rfl

theorem run_eq5 : θ_run (Cert.Kernel5.defs (F := F)) (onTc (τ := Cert.Kernel5.τ) Cert.Kernel5.main)
    = θ_run (Cert.Kernel5Ideal.defs (F := F)) (onTc (τ := Cert.Kernel5Ideal.τ) Cert.Kernel5Ideal.main) :=
  congr (congrArg θ_run (congrArg (Pipeline.defs _) defs₀_eq5))
    (congrArg (onTc (τ := Cert.Kernel5Ideal.τ)) (show Cert.Kernel5.main (F := F) = Cert.Kernel5Ideal.main (F := F) from rfl))

theorem kernel5 : Cert.quiescent_Kernel5 := fun m ρ _ => by
  rw [run_eq5]
  exact (θ_run (Cert.Kernel5Ideal.defs (F := Bits)) _ _).mono (fun _ h => h) (Cert.Kernel5Ideal.Gen.frame (F := Bits) m ρ)

theorem reference5 : Cert.quiescent_Reference5Ideal := fun m ρ _ =>
  (θ_run _ _ _).mono (fun r h => ⟨fun c => (h c).2, sem_eq_zero_of_no_sems rfl r.2⟩) (Cert.Reference5Ideal.Value.run m ρ)

theorem defs₀_eq6 : Cert.Kernel6.defs₀ (F := F) = Cert.Kernel6Ideal.defs₀ (F := F) := by
  unfold Cert.Kernel6.defs₀ Cert.Kernel6Ideal.defs₀
  refine congrArg Defs.onTc (funext fun i => funext fun x => ?_)
  match i, x with
  | 0, (t, s) => dsimp only; rfl

theorem run_eq6 : θ_run (Cert.Kernel6.defs (F := F)) (onTc (τ := Cert.Kernel6.τ) Cert.Kernel6.main)
    = θ_run (Cert.Kernel6Ideal.defs (F := F)) (onTc (τ := Cert.Kernel6Ideal.τ) Cert.Kernel6Ideal.main) :=
  congr (congrArg θ_run (congrArg (Pipeline.defs _) defs₀_eq6))
    (congrArg (onTc (τ := Cert.Kernel6Ideal.τ)) (show Cert.Kernel6.main (F := F) = Cert.Kernel6Ideal.main (F := F) from rfl))

theorem kernel6 : Cert.quiescent_Kernel6 := fun m ρ _ => by
  rw [run_eq6]
  exact (θ_run (Cert.Kernel6Ideal.defs (F := Bits)) _ _).mono (fun _ h => h) (Cert.Kernel6Ideal.Gen.frame (F := Bits) m ρ)

theorem reference6 : Cert.quiescent_Reference6Ideal := fun m ρ _ =>
  (θ_run _ _ _).mono (fun r h => ⟨fun c => (h c).2, sem_eq_zero_of_no_sems rfl r.2⟩) (Cert.Reference6Ideal.Value.run m ρ)

theorem defs₀_eq7 : Cert.Kernel7.defs₀ (F := F) = Cert.Kernel7Ideal.defs₀ (F := F) := by
  unfold Cert.Kernel7.defs₀ Cert.Kernel7Ideal.defs₀
  refine congrArg Defs.onTc (funext fun i => funext fun x => ?_)
  match i, x with
  | 0, (t, s) => dsimp only; rfl

theorem run_eq7 : θ_run (Cert.Kernel7.defs (F := F)) (onTc (τ := Cert.Kernel7.τ) Cert.Kernel7.main)
    = θ_run (Cert.Kernel7Ideal.defs (F := F)) (onTc (τ := Cert.Kernel7Ideal.τ) Cert.Kernel7Ideal.main) :=
  congr (congrArg θ_run (congrArg (Pipeline.defs _) defs₀_eq7))
    (congrArg (onTc (τ := Cert.Kernel7Ideal.τ)) (show Cert.Kernel7.main (F := F) = Cert.Kernel7Ideal.main (F := F) from rfl))

theorem kernel7 : Cert.quiescent_Kernel7 := fun m ρ _ => by
  rw [run_eq7]
  exact (θ_run (Cert.Kernel7Ideal.defs (F := Bits)) _ _).mono (fun _ h => h) (Cert.Kernel7Ideal.Gen.frame (F := Bits) m ρ)

theorem reference7 : Cert.quiescent_Reference7Ideal := fun m ρ _ =>
  (θ_run _ _ _).mono (fun r h => ⟨fun c => (h c).2, sem_eq_zero_of_no_sems rfl r.2⟩) (Cert.Reference7Ideal.Value.run m ρ)

end Cert.Same5

end
-- ==== Proof.M5.lean ====
/- The matrix product of kernel5: ten blocks of the contraction, summed in an accumulator; reference5 leaves the same. -/
module

public import proofs.«01_k».proof.Defs
public import proofs.«01_k».proof.Proof.Gen.Kernel5Ideal.Value
public import proofs.«01_k».proof.Proof.Gen.Reference5Ideal.Run
public import proofs.«01_k».proof.Proof.M3
public import Idealize.ShloMosaic.Lib.Pipeline.ReadBack

@[expose] public section

set_option maxRecDepth 16384
set_option maxHeartbeats 1000000

noncomputable section

namespace Cert.Kernel5Ideal.Val

open Idealize.ShloMosaic Idealize.ShloMosaic.TcCoe Idealize.ShloMosaic.Tactic Idealize.SL.Sem
open Cert.Kernel5Ideal.Gen Cert.Prods

variable (m : (ℓ : Loc nD τ sig) → Buf (Elt Ideal) ℓ) (c : Dev nD)

theorem acc_A (t : Fin cfg0.N) (h0 : t.val % 10 = 0) :
    (outsAt0 m c t.val t.isLt).2 = k0_pay2 (iblk m c 0 t) (iblk m c 1 t) (k0_pay1 (F := Ideal)) := by
  rw [outsAt0_A m c t h0 (by omega)]
  frame_out

theorem acc_S (t : Fin cfg0.N) (h0 : ¬t.val % 10 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 10 = 9
  · rw [outsAt0_C m c t h0 h1]
    frame_out
    simp only [read_unread_whole]
  · rw [outsAt0_B m c t h0 h1]
    frame_out
    simp only [read_unread_whole]

theorem out_C (t : Fin cfg0.N) (h1 : t.val % 10 = 9) :
    (outsAt0 m c t.val t.isLt).1 = (outsAt0 m c t.val t.isLt).2 := by
  rw [acc_S m c t (by omega), outsAt0_C m c t (by omega) h1]
  frame_out
  simp only [read_unread_whole]

theorem pay1 : (k0_pay1 (F := Ideal)) = Cert.Kernel3Ideal.Gen.k0_pay1 := rfl

theorem pay2 : @k0_pay2 Ideal _ = @Cert.Kernel3Ideal.Gen.k0_pay2 Ideal _ := rfl

theorem idx : ∀ t : Fin cfg0.N, win0_0.index t = ![t.val / 10, t.val % 10] ∧ win0_1.index t = ![0, t.val % 10] ∧ win0_2.index t = ![t.val / 10, 0] :=
  (by decide +kernel : ∀ t : Fin grid0.N, _)

/-- The left factor, -/
abbrev A : Mat 2304 10240 := m ((c : Thread nD τ).loc main_arg0)
/-- and the right one, transposed. -/
abbrev B : Mat 2048 10240 := m ((c : Thread nD τ).loc main_arg1)

/-- The array that the call leaves is the product. -/
theorem fin : (dats m 0 c).arrAt 2 cfg0.N = nt (A m c) (B m c) := by
  refine (dats m 0 c).arrAt_eq_of_covers 2 _ (by decide +kernel) fun t hf (y : S768x2048.Idx) => ?_
  have hl : t.val % 10 = 9 := (flush0_2 t).mp hf
  show (cfg0.win 2).cut (grid0.coords t) ((dats m 0 c).after 2 t) y = nt (A m c) (B m c) (((cfg0.win 2).blk t).view.emb y)
  rw [after0_2, out_C m c t hl]
  refine accum_nt 10 768 2048 1024 cfg0.N (fun b => 768 * b) (fun _ => 0) (by decide) (by decide) (A m c) (B m c) (fun t => (outsAt0 m c t.val t.isLt).2) (fun t => iblk m c 0 t) (fun t => iblk m c 1 t)
    (fun t h i => ?_) (fun t s e h i => ?_) (fun t a k => (get_ix2 (A m c) (((cfg0.win 0).blk t).view.emb (ix2 a k : S768x1024.Idx)) _ _ ?_ ?_).symm)
    (fun t b k => (get_ix2 (B m c) (((cfg0.win 1).blk t).view.emb (ix2 b k : S2048x1024.Idx)) _ _ ?_ ?_).symm) t (by omega) y _ ?_ ?_
  · exact (congrFun (acc_A m c t h) i).trans (((congrFun (congrFun (congrFun (congrFun pay2 _) _) _) i).trans (Cert.Kernel3Ideal.Val.pay2 _ _ _ i)).trans ((congrArg (· + nt (iblk m c 0 t) (iblk m c 1 t) i) ((congrFun pay1 i).trans (Cert.Kernel3Ideal.Val.pay1 i))).trans (zero_add _)))
  · obtain rfl : s = ⟨t.val - 1, Nat.lt_of_le_of_lt (Nat.sub_le _ _) t.isLt⟩ := Fin.ext (by show s.val = t.val - 1; omega)
    exact (congrFun (acc_S m c t h) i).trans ((congrFun (congrFun (congrFun (congrFun pay2 _) _) _) i).trans (Cert.Kernel3Ideal.Val.pay2 _ _ _ i))
  · show win0_0.index t 0 * 768 + 1 * a.val = _; rw [(idx t).1]; show t.val / 10 * 768 + 1 * a.val = 768 * (t.val / 10) + a.val; omega
  · show win0_0.index t 1 * 1024 + 1 * k.val = _; rw [(idx t).1]; show t.val % 10 * 1024 + 1 * k.val = _; omega
  · show win0_1.index t 0 * 2048 + 1 * b.val = _; rw [(idx t).2.1]; show 0 * 2048 + 1 * b.val = 0 + b.val; omega
  · show win0_1.index t 1 * 1024 + 1 * k.val = _; rw [(idx t).2.1]; show t.val % 10 * 1024 + 1 * k.val = _; omega
  · show win0_2.index t 0 * 768 + 1 * (y 0).val = _; rw [(idx t).2.2]; show t.val / 10 * 768 + 1 * (y 0).val = 768 * (t.val / 10) + (y 0).val; omega
  · show win0_2.index t 1 * 2048 + 1 * (y 1).val = _; rw [(idx t).2.2]; show 0 * 2048 + 1 * (y 1).val = 0 + (y 1).val; omega

end Cert.Kernel5Ideal.Val

namespace Cert.Value5

open Idealize.ShloMosaic Idealize.ShloMosaic.TcCoe Idealize.ShloMosaic.Tactic Idealize.SL.Sem
open Cert.Prods
open Cert.Reference5Ideal Cert.Reference5Ideal.Gen

theorem dot (a : FVec Ideal S2304x10240 .f32) (b : FVec Ideal S2048x10240 .bf16) :
    Host.dotGeneral (F := Ideal) dot_S2304x10240_S2048x10240_S2304x2048_1_1_0_0_n_n none a (extf .f32 b bitsLt_bf16_f32) = nt (m := 2304) (l := 10240) (n := 2048) a b := by
  refine funext fun (i : S2304x2048.Idx) => ?_
  rw [eq_ix2 i]
  unfold nt
  pointwise []

theorem algebraic : Cert.algebraic_Kernel5Ideal_Reference5Ideal := by
  intro m ρ m' ρ' _ ha
  refine ⟨fun c => Cert.Kernel5Ideal.Value.G2 m c, Cert.Kernel5Ideal.Value.run m ρ,
    (θ_run Cert.Reference5Ideal.defs _ _).mono (fun r h c => ?_) (Cert.Reference5Ideal.Value.run m' ρ')⟩
  obtain ⟨e0, e1⟩ := ha c
  obtain ⟨r0, k0, k1⟩ := h c
  refine ⟨r0.trans ?_, k0, k1⟩
  show _ = Cert.Kernel5Ideal.Value.G2 m c
  rw [← Cert.Kernel5Ideal.Value.final2 m c, Cert.Kernel5Ideal.Val.fin m c, dot, e0, e1]

end Cert.Value5

end
-- ==== Proof.M6.lean ====
/- The matrix product of kernel6: twelve blocks of the contraction, summed in an accumulator; reference6 leaves the same. -/
module

public import proofs.«01_k».proof.Defs
public import proofs.«01_k».proof.Proof.Gen.Kernel6Ideal.Value
public import proofs.«01_k».proof.Proof.Gen.Reference6Ideal.Run
public import proofs.«01_k».proof.Proof.M3
public import Idealize.ShloMosaic.Lib.Pipeline.ReadBack

@[expose] public section

set_option maxRecDepth 16384
set_option maxHeartbeats 1000000

noncomputable section

namespace Cert.Kernel6Ideal.Val

open Idealize.ShloMosaic Idealize.ShloMosaic.TcCoe Idealize.ShloMosaic.Tactic Idealize.SL.Sem
open Cert.Kernel6Ideal.Gen Cert.Prods

variable (m : (ℓ : Loc nD τ sig) → Buf (Elt Ideal) ℓ) (c : Dev nD)

theorem acc_A (t : Fin cfg0.N) (h0 : t.val % 12 = 0) :
    (outsAt0 m c t.val t.isLt).2 = k0_pay2 (iblk m c 0 t) (iblk m c 1 t) (k0_pay1 (F := Ideal)) := by
  rw [outsAt0_A m c t h0 (by omega)]
  frame_out

theorem acc_S (t : Fin cfg0.N) (h0 : ¬t.val % 12 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 12 = 11
  · rw [outsAt0_C m c t h0 h1]
    frame_out
    simp only [read_unread_whole]
  · rw [outsAt0_B m c t h0 h1]
    frame_out
    simp only [read_unread_whole]

theorem out_C (t : Fin cfg0.N) (h1 : t.val % 12 = 11) :
    (outsAt0 m c t.val t.isLt).1 = (outsAt0 m c t.val t.isLt).2 := by
  rw [acc_S m c t (by omega), outsAt0_C m c t (by omega) h1]
  frame_out
  simp only [read_unread_whole]

theorem pay1 : (k0_pay1 (F := Ideal)) = Cert.Kernel3Ideal.Gen.k0_pay1 := rfl

theorem pay2 : @k0_pay2 Ideal _ = @Cert.Kernel3Ideal.Gen.k0_pay2 Ideal _ := rfl

theorem idx : ∀ t : Fin cfg0.N, win0_0.index t = ![t.val / 12, t.val % 12] ∧ win0_1.index t = ![0, t.val % 12] ∧ win0_2.index t = ![t.val / 12, 0] :=
  (by decide +kernel : ∀ t : Fin grid0.N, _)

/-- The left factor, -/
abbrev A : Mat 2304 12288 := m ((c : Thread nD τ).loc main_arg0)
/-- and the right one, transposed. -/
abbrev B : Mat 2048 12288 := m ((c : Thread nD τ).loc main_arg1)

/-- The array that the call leaves is the product. -/
theorem fin : (dats m 0 c).arrAt 2 cfg0.N = nt (A m c) (B m c) := by
  refine (dats m 0 c).arrAt_eq_of_covers 2 _ (by decide +kernel) fun t hf (y : S768x2048.Idx) => ?_
  have hl : t.val % 12 = 11 := (flush0_2 t).mp hf
  show (cfg0.win 2).cut (grid0.coords t) ((dats m 0 c).after 2 t) y = nt (A m c) (B m c) (((cfg0.win 2).blk t).view.emb y)
  rw [after0_2, out_C m c t hl]
  refine accum_nt 12 768 2048 1024 cfg0.N (fun b => 768 * b) (fun _ => 0) (by decide) (by decide) (A m c) (B m c) (fun t => (outsAt0 m c t.val t.isLt).2) (fun t => iblk m c 0 t) (fun t => iblk m c 1 t)
    (fun t h i => ?_) (fun t s e h i => ?_) (fun t a k => (get_ix2 (A m c) (((cfg0.win 0).blk t).view.emb (ix2 a k : S768x1024.Idx)) _ _ ?_ ?_).symm)
    (fun t b k => (get_ix2 (B m c) (((cfg0.win 1).blk t).view.emb (ix2 b k : S2048x1024.Idx)) _ _ ?_ ?_).symm) t (by omega) y _ ?_ ?_
  · exact (congrFun (acc_A m c t h) i).trans (((congrFun (congrFun (congrFun (congrFun pay2 _) _) _) i).trans (Cert.Kernel3Ideal.Val.pay2 _ _ _ i)).trans ((congrArg (· + nt (iblk m c 0 t) (iblk m c 1 t) i) ((congrFun pay1 i).trans (Cert.Kernel3Ideal.Val.pay1 i))).trans (zero_add _)))
  · obtain rfl : s = ⟨t.val - 1, Nat.lt_of_le_of_lt (Nat.sub_le _ _) t.isLt⟩ := Fin.ext (by show s.val = t.val - 1; omega)
    exact (congrFun (acc_S m c t h) i).trans ((congrFun (congrFun (congrFun (congrFun pay2 _) _) _) i).trans (Cert.Kernel3Ideal.Val.pay2 _ _ _ i))
  · show win0_0.index t 0 * 768 + 1 * a.val = _; rw [(idx t).1]; show t.val / 12 * 768 + 1 * a.val = 768 * (t.val / 12) + a.val; omega
  · show win0_0.index t 1 * 1024 + 1 * k.val = _; rw [(idx t).1]; show t.val % 12 * 1024 + 1 * k.val = _; omega
  · show win0_1.index t 0 * 2048 + 1 * b.val = _; rw [(idx t).2.1]; show 0 * 2048 + 1 * b.val = 0 + b.val; omega
  · show win0_1.index t 1 * 1024 + 1 * k.val = _; rw [(idx t).2.1]; show t.val % 12 * 1024 + 1 * k.val = _; omega
  · show win0_2.index t 0 * 768 + 1 * (y 0).val = _; rw [(idx t).2.2]; show t.val / 12 * 768 + 1 * (y 0).val = 768 * (t.val / 12) + (y 0).val; omega
  · show win0_2.index t 1 * 2048 + 1 * (y 1).val = _; rw [(idx t).2.2]; show 0 * 2048 + 1 * (y 1).val = 0 + (y 1).val; omega

end Cert.Kernel6Ideal.Val

namespace Cert.Value6

open Idealize.ShloMosaic Idealize.ShloMosaic.TcCoe Idealize.ShloMosaic.Tactic Idealize.SL.Sem
open Cert.Prods
open Cert.Reference6Ideal Cert.Reference6Ideal.Gen

theorem dot (a : FVec Ideal S2304x12288 .f32) (b : FVec Ideal S2048x12288 .bf16) :
    Host.dotGeneral (F := Ideal) dot_S2304x12288_S2048x12288_S2304x2048_1_1_0_0_n_n none a (extf .f32 b bitsLt_bf16_f32) = nt (m := 2304) (l := 12288) (n := 2048) a b := by
  refine funext fun (i : S2304x2048.Idx) => ?_
  rw [eq_ix2 i]
  unfold nt
  pointwise []

theorem algebraic : Cert.algebraic_Kernel6Ideal_Reference6Ideal := by
  intro m ρ m' ρ' _ ha
  refine ⟨fun c => Cert.Kernel6Ideal.Value.G2 m c, Cert.Kernel6Ideal.Value.run m ρ,
    (θ_run Cert.Reference6Ideal.defs _ _).mono (fun r h c => ?_) (Cert.Reference6Ideal.Value.run m' ρ')⟩
  obtain ⟨e0, e1⟩ := ha c
  obtain ⟨r0, k0, k1⟩ := h c
  refine ⟨r0.trans ?_, k0, k1⟩
  show _ = Cert.Kernel6Ideal.Value.G2 m c
  rw [← Cert.Kernel6Ideal.Value.final2 m c, Cert.Kernel6Ideal.Val.fin m c, dot, e0, e1]

end Cert.Value6

end
-- ==== Proof.M7.lean ====
/- The matrix product of kernel7: eight blocks of the contraction, summed in an accumulator; reference7 leaves the same. -/
module

public import proofs.«01_k».proof.Defs
public import proofs.«01_k».proof.Proof.Gen.Kernel7Ideal.Value
public import proofs.«01_k».proof.Proof.Gen.Reference7Ideal.Run
public import proofs.«01_k».proof.Proof.M3
public import Idealize.ShloMosaic.Lib.Pipeline.ReadBack

@[expose] public section

set_option maxRecDepth 16384
set_option maxHeartbeats 1000000

noncomputable section

namespace Cert.Kernel7Ideal.Val

open Idealize.ShloMosaic Idealize.ShloMosaic.TcCoe Idealize.ShloMosaic.Tactic Idealize.SL.Sem
open Cert.Kernel7Ideal.Gen Cert.Prods

variable (m : (ℓ : Loc nD τ sig) → Buf (Elt Ideal) ℓ) (c : Dev nD)

theorem acc_A (t : Fin cfg0.N) (h0 : t.val % 8 = 0) :
    (outsAt0 m c t.val t.isLt).2 = k0_pay2 (iblk m c 0 t) (iblk m c 1 t) (k0_pay1 (F := Ideal)) := by
  rw [outsAt0_A m c t h0 (by omega)]
  frame_out

theorem acc_S (t : Fin cfg0.N) (h0 : ¬t.val % 8 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    frame_out
    simp only [read_unread_whole]
  · rw [outsAt0_B m c t h0 h1]
    frame_out
    simp only [read_unread_whole]

theorem out_C (t : Fin cfg0.N) (h1 : t.val % 8 = 7) :
    (outsAt0 m c t.val t.isLt).1 = (outsAt0 m c t.val t.isLt).2 := by
  rw [acc_S m c t (by omega), outsAt0_C m c t (by omega) h1]
  frame_out
  simp only [read_unread_whole]

theorem pay1 : (k0_pay1 (F := Ideal)) = Cert.Kernel3Ideal.Gen.k0_pay1 := rfl

theorem pay2 (x : Vec Ideal S768x1024 .f32) (y : Vec Ideal S1024x2048 .bf16) (z : Vec Ideal S768x2048 .f32) (i : S768x2048.Idx) :
    k0_pay2 x y z i = (z i : EReal) + nn (m := 768) (l := 1024) (n := 2048) x y i := by
  rw [eq_ix2 i]
  unfold nn
  unfold_payloads
  pointwise []

theorem idx : ∀ t : Fin cfg0.N, win0_0.index t = ![t.val / 8, t.val % 8] ∧ win0_1.index t = ![t.val % 8, 0] ∧ win0_2.index t = ![t.val / 8, 0] :=
  (by decide +kernel : ∀ t : Fin grid0.N, _)

/-- The left factor, -/
abbrev A : Mat 2304 8192 := m ((c : Thread nD τ).loc main_arg0)
/-- and the right one. -/
abbrev B : Mat 8192 2048 := m ((c : Thread nD τ).loc main_arg1)

/-- The array that the call leaves is the product. -/
theorem fin : (dats m 0 c).arrAt 2 cfg0.N = nn (A m c) (B m c) := by
  refine (dats m 0 c).arrAt_eq_of_covers 2 _ (by decide +kernel) fun t hf (y : S768x2048.Idx) => ?_
  have h7 : t.val % 8 = 7 := (flush0_2 t).mp hf
  show (cfg0.win 2).cut (grid0.coords t) ((dats m 0 c).after 2 t) y = nn (A m c) (B m c) (((cfg0.win 2).blk t).view.emb y)
  rw [after0_2, out_C m c t h7]
  refine accum_nn 8 768 2048 1024 cfg0.N (fun b => 768 * b) (fun _ => 0) (by decide) (by decide) (A m c) (B m c) (fun t => (outsAt0 m c t.val t.isLt).2) (fun t => iblk m c 0 t) (fun t => iblk m c 1 t)
    (fun t h i => ?_) (fun t s e h i => ?_) (fun t a k => (get_ix2 (A m c) (((cfg0.win 0).blk t).view.emb (ix2 a k : S768x1024.Idx)) _ _ ?_ ?_).symm)
    (fun t k b => (get_ix2 (B m c) (((cfg0.win 1).blk t).view.emb (ix2 k b : S1024x2048.Idx)) _ _ ?_ ?_).symm) t (by omega) y _ ?_ ?_
  · exact (congrFun (acc_A m c t h) i).trans ((pay2 _ _ _ i).trans ((congrArg (· + nn (iblk m c 0 t) (iblk m c 1 t) i) ((congrFun pay1 i).trans (Cert.Kernel3Ideal.Val.pay1 i))).trans (zero_add _)))
  · obtain rfl : s = ⟨t.val - 1, Nat.lt_of_le_of_lt (Nat.sub_le _ _) t.isLt⟩ := Fin.ext (by show s.val = t.val - 1; omega)
    exact (congrFun (acc_S m c t h) i).trans (pay2 _ _ _ i)
  · show win0_0.index t 0 * 768 + 1 * a.val = _; rw [(idx t).1]; show t.val / 8 * 768 + 1 * a.val = 768 * (t.val / 8) + a.val; omega
  · show win0_0.index t 1 * 1024 + 1 * k.val = _; rw [(idx t).1]; show t.val % 8 * 1024 + 1 * k.val = _; omega
  · show win0_1.index t 0 * 1024 + 1 * k.val = _; rw [(idx t).2.1]; show t.val % 8 * 1024 + 1 * k.val = _; omega
  · show win0_1.index t 1 * 2048 + 1 * b.val = _; rw [(idx t).2.1]; show 0 * 2048 + 1 * b.val = 0 + b.val; omega
  · show win0_2.index t 0 * 768 + 1 * (y 0).val = _; rw [(idx t).2.2]; show t.val / 8 * 768 + 1 * (y 0).val = 768 * (t.val / 8) + (y 0).val; omega
  · show win0_2.index t 1 * 2048 + 1 * (y 1).val = _; rw [(idx t).2.2]; show 0 * 2048 + 1 * (y 1).val = 0 + (y 1).val; omega

end Cert.Kernel7Ideal.Val

namespace Cert.Value7

open Idealize.ShloMosaic Idealize.ShloMosaic.TcCoe Idealize.ShloMosaic.Tactic Idealize.SL.Sem
open Cert.Prods
open Cert.Reference7Ideal Cert.Reference7Ideal.Gen

theorem dot (a : FVec Ideal S2304x8192 .f32) (b : FVec Ideal S8192x2048 .bf16) :
    Host.dotGeneral (F := Ideal) dot_S2304x8192_S8192x2048_S2304x2048_1_0_0_1_n_n none a (extf .f32 b bitsLt_bf16_f32) = nn (m := 2304) (l := 8192) (n := 2048) a b := by
  refine funext fun (i : S2304x2048.Idx) => ?_
  rw [eq_ix2 i]
  unfold nn
  pointwise []

theorem algebraic : Cert.algebraic_Kernel7Ideal_Reference7Ideal := by
  intro m ρ m' ρ' _ ha
  refine ⟨fun c => Cert.Kernel7Ideal.Value.G2 m c, Cert.Kernel7Ideal.Value.run m ρ,
    (θ_run Cert.Reference7Ideal.defs _ _).mono (fun r h c => ?_) (Cert.Reference7Ideal.Value.run m' ρ')⟩
  obtain ⟨e0, e1⟩ := ha c
  obtain ⟨r0, k0, k1⟩ := h c
  refine ⟨r0.trans ?_, k0, k1⟩
  show _ = Cert.Kernel7Ideal.Value.G2 m c
  rw [← Cert.Kernel7Ideal.Value.final2 m c, Cert.Kernel7Ideal.Val.fin m c, dot, e0, e1]

end Cert.Value7

end
-- ==== Proof.Same8.lean ====
/- kernel8's text at the two kinds of float values is one text: the runs are one run. -/
module

public import proofs.«01_k».proof.Defs
public import proofs.«01_k».proof.Proof.Gen.Kernel8
public import proofs.«01_k».proof.Proof.Gen.Kernel8Ideal.Frame
public import proofs.«01_k».proof.Proof.Gen.Reference8Ideal.Run
public import Idealize.ShloMosaic.Lib.Quiescent

@[expose] public section

set_option maxRecDepth 100000

noncomputable section

namespace Cert.Same8

open Idealize.ShloMosaic Idealize.SL.Sem

set_option backward.isDefEq.respectTransparency.types false
set_option maxHeartbeats 1000000

variable {F : FTy → Type} [FloatOps F]

theorem defs₀_eq8 : Cert.Kernel8.defs₀ (F := F) = Cert.Kernel8Ideal.defs₀ (F := F) := by
  unfold Cert.Kernel8.defs₀ Cert.Kernel8Ideal.defs₀
  refine congrArg Defs.onTc (funext fun i => funext fun x => ?_)
  match i, x with
  | 0, (t, s) => dsimp only; rfl
  | 1, (t, s) => dsimp only; rfl
  | 2, (t, s) => dsimp only; rfl
  | 3, (t, s) => dsimp only; rfl
  | 4, (t, s) => dsimp only; rfl
  | 5, (t, s) => dsimp only; rfl
  | 6, (t, s) => dsimp only; rfl

theorem run_eq8 : θ_run (Cert.Kernel8.defs (F := F)) (onTc (τ := Cert.Kernel8.τ) Cert.Kernel8.main)
    = θ_run (Cert.Kernel8Ideal.defs (F := F)) (onTc (τ := Cert.Kernel8Ideal.τ) Cert.Kernel8Ideal.main) :=
  congr (congrArg θ_run (congrArg (Pipeline.defs _) defs₀_eq8))
    (congrArg (onTc (τ := Cert.Kernel8Ideal.τ)) (show Cert.Kernel8.main (F := F) = Cert.Kernel8Ideal.main (F := F) from rfl))

theorem kernel8 : Cert.quiescent_Kernel8 := fun m ρ _ => by
  rw [run_eq8]
  exact (θ_run (Cert.Kernel8Ideal.defs (F := Bits)) _ _).mono (fun _ h => h) (Cert.Kernel8Ideal.Gen.frame (F := Bits) m ρ)

theorem reference8 : Cert.quiescent_Reference8Ideal := fun m ρ _ =>
  (θ_run _ _ _).mono (fun r h => ⟨fun c => (h c).2.2.2.2.2.2.2, sem_eq_zero_of_no_sems rfl r.2⟩) (Cert.Reference8Ideal.Value.run m ρ)

end Cert.Same8

end
-- ==== Proof.Proj8.lean ====
/- The seven matrix products of kernel8: the array that each call leaves is the product of the two arrays it reads. -/
module

public import proofs.«01_k».proof.Proof.Gen.Kernel8Ideal.Frame
public import proofs.«01_k».proof.Proof.Prods

@[expose] public section

set_option maxRecDepth 16384

noncomputable section

namespace Cert.Kernel8Ideal.Val

open Idealize.ShloMosaic Idealize.ShloMosaic.TcCoe Idealize.ShloMosaic.Tactic Idealize.SL.Sem
open Cert.Kernel8Ideal.Gen Cert.Prods

variable (V : (c : Dev nD) → (b : Ref sig .tc) → Buf (Elt Ideal) ((c : Thread nD τ).loc b)) (c : Dev nD)

/-! ## The first product of the MLP -/

theorem idx0 : ∀ t : Fin cfg0.N, win0_0.index t = ![t.val / 8, 0] ∧ win0_1.index t = ![0, t.val % 8] ∧ win0_2.index t = ![t.val / 8, t.val % 8] :=
  (by decide +kernel : ∀ t : Fin grid0.N, _)

theorem out0 (x : Vec Ideal S1024x2048 .f32) (y : Vec Ideal S2048x1024 .bf16) (i : S1024x1024.Idx) :
    out0_2 x y i = nn (m := 1024) (l := 2048) (n := 1024) x y i := by
  rw [eq_ix2 i]
  unfold out0_2 nn
  rw [View.canon_unit_zero hz]
  simp only [View.ld_unit_zero (S := S1024x2048) hz, View.ld_unit_zero (S := S2048x1024) hz]
  unfold_payloads
  pointwise []

theorem fin0 : (dat0 V c).arrAt 2 cfg0.N = nn (m := 2048) (l := 2048) (n := 8192) (V c main_arg0) (V c main_arg3) := by
  refine (dat0 V c).arrAt_eq_of_covers 2 _ (by decide +kernel) fun t hf (y : S1024x1024.Idx) => ?_
  obtain ⟨h0, h1, h2⟩ := idx0 t
  blk_simp
  rw [after0_2]
  refine (out0 _ _ y).trans (nn_congr (fun k => congrArg (V c main_arg0 : Mat 2048 2048) ?_) fun k => congrArg (V c main_arg3 : Mat 2048 8192) ?_) <;>
    blk_ext [h0, h1, h2]

/-! ## Its weight's gradient -/

theorem idx1 : ∀ t : Fin cfg1.N, win1_0.index t = ![0, t.val / 64] ∧ win1_1.index t = ![0, t.val % 64] ∧ win1_2.index t = ![t.val / 64, t.val % 64] :=
  (by decide +kernel : ∀ t : Fin grid1.N, _)

theorem out1 (x : Vec Ideal S2048x2048 .f32) (y : Vec Ideal S2048x128 .f32) (i : S2048x128.Idx) :
    out1_2 x y i = tn (m := 2048) (l := 2048) (n := 128) x y i := by
  rw [eq_ix2 i]
  unfold out1_2 tn
  rw [View.canon_unit_zero hz]
  simp only [View.ld_unit_zero (S := S2048x2048) hz, View.ld_unit_zero (S := S2048x128) hz]
  unfold_payloads
  pointwise []

theorem fin1 : (dat1 V c).arrAt 2 cfg1.N = tn (m := 2048) (l := 2048) (n := 8192) (V c main_arg0) (V c main_arg6) := by
  refine (dat1 V c).arrAt_eq_of_covers 2 _ (by decide +kernel) fun t hf (y : S2048x128.Idx) => ?_
  obtain ⟨h0, h1, h2⟩ := idx1 t
  blk_simp
  rw [after1_2]
  refine (out1 _ _ y).trans (tn_congr (fun k => congrArg (V c main_arg0 : Mat 2048 2048) ?_) fun k => congrArg (V c main_arg6 : Mat 2048 8192) ?_) <;>
    blk_ext [h0, h1, h2]

/-! ## The gradient of the activation -/

theorem idx2 : ∀ t : Fin cfg2.N, win2_0.index t = ![t.val / 8, 0] ∧ win2_1.index t = ![t.val % 8, 0] ∧ win2_2.index t = ![t.val / 8, t.val % 8] :=
  (by decide +kernel : ∀ t : Fin grid2.N, _)

theorem out2 (x : Vec Ideal S1024x2048 .f32) (y : Vec Ideal S1024x2048 .bf16) (i : S1024x1024.Idx) :
    out2_2 x y i = nt (m := 1024) (l := 2048) (n := 1024) x y i := by
  rw [eq_ix2 i]
  unfold out2_2 nt
  rw [View.canon_unit_zero hz]
  simp only [View.ld_unit_zero (S := S1024x2048) hz]
  unfold_payloads
  pointwise []

theorem fin2 : (dat2 V c).arrAt 2 cfg2.N = nt (m := 2048) (l := 2048) (n := 8192) (V c main_arg7) (V c main_arg4) := by
  refine (dat2 V c).arrAt_eq_of_covers 2 _ (by decide +kernel) fun t hf (y : S1024x1024.Idx) => ?_
  obtain ⟨h0, h1, h2⟩ := idx2 t
  blk_simp
  rw [after2_2]
  refine (out2 _ _ y).trans (nt_congr (fun k => congrArg (V c main_arg7 : Mat 2048 2048) ?_) fun k => congrArg (V c main_arg4 : Mat 8192 2048) ?_) <;>
    blk_ext [h0, h1, h2]

/-! ## The second weight's gradient -/

theorem idx3 : ∀ t : Fin cfg3.N, win3_0.index t = ![0, t.val / 16] ∧ win3_1.index t = ![0, t.val % 16] ∧ win3_2.index t = ![t.val / 16, t.val % 16] :=
  (by decide +kernel : ∀ t : Fin grid3.N, _)

/-- The body is the first weight's gradient's. -/
theorem out3_eq : @out3_2 Ideal _ = out1_2 := by
  unfold out3_2 out1_2
  rw [show @k3_pay1 Ideal _ = k1_pay1 from rfl]

theorem fin3 : (dat3 V c).arrAt 2 cfg3.N = tn (m := 8192) (l := 2048) (n := 2048) (V c main_arg1) (V c main_arg7) := by
  refine (dat3 V c).arrAt_eq_of_covers 2 _ (by decide +kernel) fun t hf (y : S2048x128.Idx) => ?_
  obtain ⟨h0, h1, h2⟩ := idx3 t
  blk_simp
  rw [after3_2, out3_eq]
  refine (out1 _ _ y).trans (tn_congr (fun k => congrArg (V c main_arg1 : Mat 2048 8192) ?_) fun k => congrArg (V c main_arg7 : Mat 2048 2048) ?_) <;>
    blk_ext [h0, h1, h2]

/-! ## The output projection -/

theorem idx4 : ∀ t : Fin cfg4.N, win4_0.index t = ![t.val / 16, 0] ∧ win4_1.index t = ![0, t.val % 16] ∧ win4_2.index t = ![t.val / 16, t.val % 16] :=
  (by decide +kernel : ∀ t : Fin grid4.N, _)

theorem out4 (x : Vec Ideal S1024x4096 .f32) (y : Vec Ideal S4096x128 .bf16) (i : S1024x128.Idx) :
    out4_2 x y i = nn (m := 1024) (l := 4096) (n := 128) x y i := by
  rw [eq_ix2 i]
  unfold out4_2 nn
  rw [View.canon_unit_zero hz]
  simp only [View.ld_unit_zero (S := S1024x4096) hz, View.ld_unit_zero (S := S4096x128) hz]
  unfold_payloads
  pointwise []

theorem fin4 : (dat4 V c).arrAt 2 cfg4.N = nn (m := 2048) (l := 4096) (n := 2048) (V c main_arg2) (V c main_arg5) := by
  refine (dat4 V c).arrAt_eq_of_covers 2 _ (by decide +kernel) fun t hf (y : S1024x128.Idx) => ?_
  obtain ⟨h0, h1, h2⟩ := idx4 t
  blk_simp
  rw [after4_2]
  refine (out4 _ _ y).trans (nn_congr (fun k => congrArg (V c main_arg2 : Mat 2048 4096) ?_) fun k => congrArg (V c main_arg5 : Mat 4096 2048) ?_) <;>
    blk_ext [h0, h1, h2]

/-! ## Its argument's gradient -/

theorem idx5 : ∀ t : Fin cfg5.N, win5_0.index t = ![t.val / 4, 0] ∧ win5_1.index t = ![t.val % 4, 0] ∧ win5_2.index t = ![t.val / 4, t.val % 4] :=
  (by decide +kernel : ∀ t : Fin grid5.N, _)

/-- The body is the activation's gradient's. -/
theorem out5_eq : @out5_2 Ideal _ = out2_2 := by
  unfold out5_2 out2_2
  rw [show @k5_pay1 Ideal _ = k2_pay1 from rfl]

theorem fin5 : (dat5 V c).arrAt 2 cfg5.N = nt (m := 2048) (l := 2048) (n := 4096) (V c main_arg8) (V c main_arg5) := by
  refine (dat5 V c).arrAt_eq_of_covers 2 _ (by decide +kernel) fun t hf (y : S1024x1024.Idx) => ?_
  obtain ⟨h0, h1, h2⟩ := idx5 t
  blk_simp
  rw [after5_2, out5_eq]
  refine (out2 _ _ y).trans (nt_congr (fun k => congrArg (V c main_arg8 : Mat 2048 2048) ?_) fun k => congrArg (V c main_arg5 : Mat 4096 2048) ?_) <;>
    blk_ext [h0, h1, h2]

/-! ## Its weight's gradient -/

theorem idx6 : ∀ t : Fin cfg6.N, win6_0.index t = ![0, t.val / 16] ∧ win6_1.index t = ![0, t.val % 16] ∧ win6_2.index t = ![t.val / 16, t.val % 16] :=
  (by decide +kernel : ∀ t : Fin grid6.N, _)

/-- The body is the first weight's gradient's again. -/
theorem out6_eq : @out6_2 Ideal _ = out1_2 := by
  unfold out6_2 out1_2
  rw [show @k6_pay1 Ideal _ = k1_pay1 from rfl]

theorem fin6 : (dat6 V c).arrAt 2 cfg6.N = tn (m := 4096) (l := 2048) (n := 2048) (V c main_arg2) (V c main_arg8) := by
  refine (dat6 V c).arrAt_eq_of_covers 2 _ (by decide +kernel) fun t hf (y : S2048x128.Idx) => ?_
  obtain ⟨h0, h1, h2⟩ := idx6 t
  blk_simp
  rw [after6_2, out6_eq]
  refine (out1 _ _ y).trans (tn_congr (fun k => congrArg (V c main_arg2 : Mat 2048 4096) ?_) fun k => congrArg (V c main_arg8 : Mat 2048 2048) ?_) <;>
    blk_ext [h0, h1, h2]

end Cert.Kernel8Ideal.Val

end
-- ==== Proof.Run8.lean ====
/- kernel8's run: its seven calls one after the other, their results read at the end. -/
module

public import proofs.«01_k».proof.Proof.Proj8
public import Idealize.ShloMosaic.Lib.StableHlo.Run

@[expose] public section

set_option maxRecDepth 16384

noncomputable section

namespace Cert.Kernel8Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Kernel8Ideal.Gen Cert.Prods

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends, every unscoped buffer then holding what the segments compute. -/
theorem run_main : θ_run defs (onTc (τ := τ) (main (F := Ideal))) ⟨m, fun _ => 0, ρ⟩ (fun r =>
    (∀ c : Dev nD, ∀ b ∈ Pipeline.ucRefs τ sig, r.2.mem ((c : Thread nD τ).1, b) = W7 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

variable (c : Dev nD)

/-- What the seven calls leave. -/
theorem w_v0 : W7 m ρ c main_v0 = nn (m := 2048) (l := 2048) (n := 8192) (m ((c : Thread nD τ).loc main_arg0)) (m ((c : Thread nD τ).loc main_arg3)) :=
  (W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans (fin0 _ c)))))))
theorem w_v1 : W7 m ρ c main_v1 = tn (m := 2048) (l := 2048) (n := 8192) (m ((c : Thread nD τ).loc main_arg0)) (m ((c : Thread nD τ).loc main_arg6)) :=
  (W7_of m ρ c main_v1 (by decide)).trans ((W6_of m ρ c main_v1 (by decide)).trans ((W5_of m ρ c main_v1 (by decide)).trans ((W4_of m ρ c main_v1 (by decide)).trans ((W3_of m ρ c main_v1 (by decide)).trans ((W2_arr m ρ c 2).trans ((fin1 _ c).trans
    (congrArg₂ (tn (m := 2048) (l := 2048) (n := 8192)) (W1_args m ρ c main_arg0 (by decide)) (W1_args m ρ c main_arg6 (by decide)))))))))
theorem w_v2 : W7 m ρ c main_v2 = nt (m := 2048) (l := 2048) (n := 8192) (m ((c : Thread nD τ).loc main_arg7)) (m ((c : Thread nD τ).loc main_arg4)) :=
  (W7_of m ρ c main_v2 (by decide)).trans ((W6_of m ρ c main_v2 (by decide)).trans ((W5_of m ρ c main_v2 (by decide)).trans ((W4_of m ρ c main_v2 (by decide)).trans ((W3_arr m ρ c 2).trans ((fin2 _ c).trans
    (congrArg₂ (nt (m := 2048) (l := 2048) (n := 8192)) (W2_args m ρ c main_arg7 (by decide)) (W2_args m ρ c main_arg4 (by decide))))))))
theorem w_v3 : W7 m ρ c main_v3 = tn (m := 8192) (l := 2048) (n := 2048) (m ((c : Thread nD τ).loc main_arg1)) (m ((c : Thread nD τ).loc main_arg7)) :=
  (W7_of m ρ c main_v3 (by decide)).trans ((W6_of m ρ c main_v3 (by decide)).trans ((W5_of m ρ c main_v3 (by decide)).trans ((W4_arr m ρ c 2).trans ((fin3 _ c).trans
    (congrArg₂ (tn (m := 8192) (l := 2048) (n := 2048)) (W3_args m ρ c main_arg1 (by decide)) (W3_args m ρ c main_arg7 (by decide)))))))
theorem w_v4 : W7 m ρ c main_v4 = nn (m := 2048) (l := 4096) (n := 2048) (m ((c : Thread nD τ).loc main_arg2)) (m ((c : Thread nD τ).loc main_arg5)) :=
  (W7_of m ρ c main_v4 (by decide)).trans ((W6_of m ρ c main_v4 (by decide)).trans ((W5_arr m ρ c 2).trans ((fin4 _ c).trans
    (congrArg₂ (nn (m := 2048) (l := 4096) (n := 2048)) (W4_args m ρ c main_arg2 (by decide)) (W4_args m ρ c main_arg5 (by decide))))))
theorem w_v5 : W7 m ρ c main_v5 = nt (m := 2048) (l := 2048) (n := 4096) (m ((c : Thread nD τ).loc main_arg8)) (m ((c : Thread nD τ).loc main_arg5)) :=
  (W7_of m ρ c main_v5 (by decide)).trans ((W6_arr m ρ c 2).trans ((fin5 _ c).trans
    (congrArg₂ (nt (m := 2048) (l := 2048) (n := 4096)) (W5_args m ρ c main_arg8 (by decide)) (W5_args m ρ c main_arg5 (by decide)))))
theorem w_v6 : W7 m ρ c main_v6 = tn (m := 4096) (l := 2048) (n := 2048) (m ((c : Thread nD τ).loc main_arg2)) (m ((c : Thread nD τ).loc main_arg8)) :=
  (W7_arr m ρ c 2).trans ((fin6 _ c).trans
    (congrArg₂ (tn (m := 4096) (l := 2048) (n := 2048)) (W6_args m ρ c main_arg2 (by decide)) (W6_args m ρ c main_arg8 (by decide))))

end Cert.Kernel8Ideal.Val

end
-- ==== Proof.Alg8.lean ====
/- kernel8 and reference8 leave the same products and gradients. -/
module

public import proofs.«01_k».proof.Defs
public import proofs.«01_k».proof.Proof.Run8
public import proofs.«01_k».proof.Proof.Gen.Reference8Ideal.Run

@[expose] public section

set_option maxRecDepth 16384

noncomputable section

namespace Cert.Value8

open Idealize.ShloMosaic Idealize.ShloMosaic.TcCoe Idealize.ShloMosaic.Tactic Idealize.SL.Sem
open Cert.Prods Cert.Kernel8Ideal.Val
open Cert.Reference8Ideal Cert.Reference8Ideal.Gen

/-! ## The reference's products -/

theorem dot_u (a : FVec Ideal S2048x2048 .f32) (b : FVec Ideal S2048x8192 .bf16) :
    Host.dotGeneral (F := Ideal) dot_S2048x2048_S2048x8192_S2048x8192_1_0_0_1_n_n none a (extf .f32 b bitsLt_bf16_f32) = nn (m := 2048) (l := 2048) (n := 8192) a b := by
  refine funext fun (i : S2048x8192.Idx) => ?_
  rw [eq_ix2 i]
  unfold nn
  pointwise []

theorem dot_w1 (a : FVec Ideal S2048x2048 .f32) (d : FVec Ideal S2048x8192 .f32) :
    truncf (F := Ideal) .bf16 (transpose S2048x8192 [1, 0] (Host.dotGeneral (F := Ideal) dot_S2048x8192_S2048x2048_S8192x2048_0_0_1_1_n_n none d a) transposes_S8192x2048_S2048x8192_1_0) bitsLt_bf16_f32
      = tn (m := 2048) (l := 2048) (n := 8192) a d := by
  refine funext fun (i : S2048x8192.Idx) => ?_
  rw [eq_ix2 i]
  unfold tn
  pointwise []
  exact Finset.sum_congr rfl fun k _ => mul_comm _ _

theorem dot_g (a : FVec Ideal S2048x2048 .f32) (b : FVec Ideal S8192x2048 .bf16) :
    Host.dotGeneral (F := Ideal) dot_S2048x2048_S8192x2048_S2048x8192_1_1_0_0_n_n none a (extf .f32 b bitsLt_bf16_f32) = nt (m := 2048) (l := 2048) (n := 8192) a b := by
  refine funext fun (i : S2048x8192.Idx) => ?_
  rw [eq_ix2 i]
  unfold nt
  pointwise []

theorem dot_w2 (a : FVec Ideal S2048x8192 .f32) (d : FVec Ideal S2048x2048 .f32) :
    truncf (F := Ideal) .bf16 (transpose S8192x2048 [1, 0] (Host.dotGeneral (F := Ideal) dot_S2048x2048_S2048x8192_S2048x8192_0_0_1_1_n_n none d a) transposes_S2048x8192_S8192x2048_1_0) bitsLt_bf16_f32
      = tn (m := 8192) (l := 2048) (n := 2048) a d := by
  refine funext fun (i : S8192x2048.Idx) => ?_
  rw [eq_ix2 i]
  unfold tn
  pointwise []
  exact Finset.sum_congr rfl fun k _ => mul_comm _ _

theorem dot_o (a : FVec Ideal S2048x4096 .f32) (b : FVec Ideal S4096x2048 .bf16) :
    Host.dotGeneral (F := Ideal) dot_S2048x4096_S4096x2048_S2048x2048_1_0_0_1_n_n none a (extf .f32 b bitsLt_bf16_f32) = nn (m := 2048) (l := 4096) (n := 2048) a b := by
  refine funext fun (i : S2048x2048.Idx) => ?_
  rw [eq_ix2 i]
  unfold nn
  pointwise []

theorem dot_y (a : FVec Ideal S2048x2048 .f32) (b : FVec Ideal S4096x2048 .bf16) :
    Host.dotGeneral (F := Ideal) dot_S2048x2048_S4096x2048_S2048x4096_1_1_0_0_n_n none a (extf .f32 b bitsLt_bf16_f32) = nt (m := 2048) (l := 2048) (n := 4096) a b := by
  refine funext fun (i : S2048x4096.Idx) => ?_
  rw [eq_ix2 i]
  unfold nt
  pointwise []

theorem dot_wo (a : FVec Ideal S2048x4096 .f32) (d : FVec Ideal S2048x2048 .f32) :
    truncf (F := Ideal) .bf16 (transpose S4096x2048 [1, 0] (Host.dotGeneral (F := Ideal) dot_S2048x2048_S2048x4096_S2048x4096_0_0_1_1_n_n none d a) transposes_S2048x4096_S4096x2048_1_0) bitsLt_bf16_f32
      = tn (m := 4096) (l := 2048) (n := 2048) a d := by
  refine funext fun (i : S4096x2048.Idx) => ?_
  rw [eq_ix2 i]
  unfold tn
  pointwise []
  exact Finset.sum_congr rfl fun k _ => mul_comm _ _

/-! ## The claim -/

theorem algebraic : Cert.algebraic_Kernel8Ideal_Reference8Ideal := by
  intro m ρ m' ρ' _ ha
  refine ⟨fun c => Cert.Kernel8Ideal.Gen.W7 m ρ c Cert.Kernel8Ideal.main_v0, fun c => Cert.Kernel8Ideal.Gen.W7 m ρ c Cert.Kernel8Ideal.main_v1,
    fun c => Cert.Kernel8Ideal.Gen.W7 m ρ c Cert.Kernel8Ideal.main_v2, fun c => Cert.Kernel8Ideal.Gen.W7 m ρ c Cert.Kernel8Ideal.main_v3,
    fun c => Cert.Kernel8Ideal.Gen.W7 m ρ c Cert.Kernel8Ideal.main_v4, fun c => Cert.Kernel8Ideal.Gen.W7 m ρ c Cert.Kernel8Ideal.main_v5,
    fun c => Cert.Kernel8Ideal.Gen.W7 m ρ c Cert.Kernel8Ideal.main_v6,
    (θ_run Cert.Kernel8Ideal.defs _ _).mono (fun r h c => ?_) (Cert.Kernel8Ideal.Val.run_main m ρ),
    (θ_run Cert.Reference8Ideal.defs _ _).mono (fun r h c => ?_) (Cert.Reference8Ideal.Value.run m' ρ')⟩
  · have hr : ∀ b : Ref Cert.Kernel8Ideal.sig .tc, ¬ (Proc.devRef .tc b : DevRef Cert.Kernel8Ideal.τ Cert.Kernel8Ideal.sig).isScoped →
        r.2.mem ((c.tc : Thread Cert.Kernel8Ideal.nD Cert.Kernel8Ideal.τ).loc b) = Cert.Kernel8Ideal.Gen.W7 m ρ c b :=
      fun b hs => h c _ (Cert.Kernel8Ideal.Gen.mem_uc b hs)
    have hk : ∀ a ∈ Cert.Kernel8Ideal.Gen.argRefs, ¬ (Proc.devRef .tc a : DevRef Cert.Kernel8Ideal.τ Cert.Kernel8Ideal.sig).isScoped →
        r.2.mem ((c.tc : Thread Cert.Kernel8Ideal.nD Cert.Kernel8Ideal.τ).loc a) = m ((c.tc : Thread Cert.Kernel8Ideal.nD Cert.Kernel8Ideal.τ).loc a) :=
      fun a ha hs => (hr a hs).trans (Cert.Kernel8Ideal.Gen.W7_args m ρ c a ha)
    exact ⟨hr _ (by decide), hr _ (by decide), hr _ (by decide), hr _ (by decide), hr _ (by decide), hr _ (by decide), hr _ (by decide),
      hk _ (by decide) (by decide), hk _ (by decide) (by decide), hk _ (by decide) (by decide), hk _ (by decide) (by decide),
      hk _ (by decide) (by decide), hk _ (by decide) (by decide), hk _ (by decide) (by decide), hk _ (by decide) (by decide), hk _ (by decide) (by decide)⟩
  · obtain ⟨e0, e1, e2, e3, e4, e5, e6, e7, e8⟩ := ha c
    obtain ⟨r0, r1, r2, r3, r4, r5, r6, k⟩ := h c
    rw [dot_u, e0, e3] at r0
    rw [dot_w1, e0, e6] at r1
    rw [dot_g, e7, e4] at r2
    rw [dot_w2, e1, e7] at r3
    rw [dot_o, e2, e5] at r4
    rw [dot_y, e8, e5] at r5
    rw [dot_wo, e2, e8] at r6
    exact ⟨r0.trans (w_v0 m ρ c).symm, r1.trans (w_v1 m ρ c).symm, r2.trans (w_v2 m ρ c).symm, r3.trans (w_v3 m ρ c).symm,
      r4.trans (w_v4 m ρ c).symm, r5.trans (w_v5 m ρ c).symm, r6.trans (w_v6 m ρ c).symm, k⟩

end Cert.Value8

end
-- ==== Proof.Same9.lean ====
/- The texts of kernel9, kernel10 and kernel11 at the two kinds of float values are one text each: the runs are one run. -/
module

public import proofs.«01_k».proof.Defs
public import proofs.«01_k».proof.Proof.Gen.Kernel9
public import proofs.«01_k».proof.Proof.Gen.Kernel10
public import proofs.«01_k».proof.Proof.Gen.Kernel11
public import proofs.«01_k».proof.Proof.Gen.Kernel9Ideal.Frame
public import proofs.«01_k».proof.Proof.Gen.Kernel10Ideal.Frame
public import proofs.«01_k».proof.Proof.Gen.Kernel11Ideal.Frame
public import proofs.«01_k».proof.Proof.Gen.Reference9Ideal.Run
public import proofs.«01_k».proof.Proof.Gen.Reference10Ideal.Run
public import proofs.«01_k».proof.Proof.Gen.Reference11Ideal.Run
public import Idealize.ShloMosaic.Lib.Quiescent

@[expose] public section

set_option maxRecDepth 100000

noncomputable section

namespace Cert.Same9

open Idealize.ShloMosaic Idealize.SL.Sem

set_option backward.isDefEq.respectTransparency.types false
set_option maxHeartbeats 1000000

variable {F : FTy → Type} [FloatOps F]

theorem defs₀_eq9 : Cert.Kernel9.defs₀ (F := F) = Cert.Kernel9Ideal.defs₀ (F := F) := by
  unfold Cert.Kernel9.defs₀ Cert.Kernel9Ideal.defs₀
  refine congrArg Defs.onTc (funext fun i => funext fun x => ?_)
  match i, x with
  | 0, (t, s) => dsimp only; rfl

theorem run_eq9 : θ_run (Cert.Kernel9.defs (F := F)) (onTc (τ := Cert.Kernel9.τ) Cert.Kernel9.main)
    = θ_run (Cert.Kernel9Ideal.defs (F := F)) (onTc (τ := Cert.Kernel9Ideal.τ) Cert.Kernel9Ideal.main) :=
  congr (congrArg θ_run (congrArg (Pipeline.defs _) defs₀_eq9))
    (congrArg (onTc (τ := Cert.Kernel9Ideal.τ)) (show Cert.Kernel9.main (F := F) = Cert.Kernel9Ideal.main (F := F) from rfl))

theorem kernel9 : Cert.quiescent_Kernel9 := fun m ρ _ => by
  rw [run_eq9]
  exact (θ_run (Cert.Kernel9Ideal.defs (F := Bits)) _ _).mono (fun _ h => h) (Cert.Kernel9Ideal.Gen.frame (F := Bits) m ρ)

theorem reference9 : Cert.quiescent_Reference9Ideal := fun m ρ _ =>
  (θ_run _ _ _).mono (fun r h => ⟨fun c => (h c).2, sem_eq_zero_of_no_sems rfl r.2⟩) (Cert.Reference9Ideal.Value.run m ρ)

theorem defs₀_eq10 : Cert.Kernel10.defs₀ (F := F) = Cert.Kernel10Ideal.defs₀ (F := F) := by
  unfold Cert.Kernel10.defs₀ Cert.Kernel10Ideal.defs₀
  refine congrArg Defs.onTc (funext fun i => funext fun x => ?_)
  match i, x with
  | 0, (t, s) => dsimp only; rfl

theorem run_eq10 : θ_run (Cert.Kernel10.defs (F := F)) (onTc (τ := Cert.Kernel10.τ) Cert.Kernel10.main)
    = θ_run (Cert.Kernel10Ideal.defs (F := F)) (onTc (τ := Cert.Kernel10Ideal.τ) Cert.Kernel10Ideal.main) :=
  congr (congrArg θ_run (congrArg (Pipeline.defs _) defs₀_eq10))
    (congrArg (onTc (τ := Cert.Kernel10Ideal.τ)) (show Cert.Kernel10.main (F := F) = Cert.Kernel10Ideal.main (F := F) from rfl))

theorem kernel10 : Cert.quiescent_Kernel10 := fun m ρ _ => by
  rw [run_eq10]
  exact (θ_run (Cert.Kernel10Ideal.defs (F := Bits)) _ _).mono (fun _ h => h) (Cert.Kernel10Ideal.Gen.frame (F := Bits) m ρ)

theorem reference10 : Cert.quiescent_Reference10Ideal := fun m ρ _ =>
  (θ_run _ _ _).mono (fun r h => ⟨fun c => (h c).2, sem_eq_zero_of_no_sems rfl r.2⟩) (Cert.Reference10Ideal.Value.run m ρ)

theorem defs₀_eq11 : Cert.Kernel11.defs₀ (F := F) = Cert.Kernel11Ideal.defs₀ (F := F) := by
  unfold Cert.Kernel11.defs₀ Cert.Kernel11Ideal.defs₀
  refine congrArg Defs.onTc (funext fun i => funext fun x => ?_)
  match i, x with
  | 0, (t, s) => dsimp only; rfl
  | 1, (t, s) => dsimp only; rfl
  | 2, (t, s) => dsimp only; rfl

theorem run_eq11 : θ_run (Cert.Kernel11.defs (F := F)) (onTc (τ := Cert.Kernel11.τ) Cert.Kernel11.main)
    = θ_run (Cert.Kernel11Ideal.defs (F := F)) (onTc (τ := Cert.Kernel11Ideal.τ) Cert.Kernel11Ideal.main) :=
  congr (congrArg θ_run (congrArg (Pipeline.defs _) defs₀_eq11))
    (congrArg (onTc (τ := Cert.Kernel11Ideal.τ)) (show Cert.Kernel11.main (F := F) = Cert.Kernel11Ideal.main (F := F) from rfl))

theorem kernel11 : Cert.quiescent_Kernel11 := fun m ρ _ => by
  rw [run_eq11]
  exact (θ_run (Cert.Kernel11Ideal.defs (F := Bits)) _ _).mono (fun _ h => h) (Cert.Kernel11Ideal.Gen.frame (F := Bits) m ρ)

theorem reference11 : Cert.quiescent_Reference11Ideal := fun m ρ _ =>
  (θ_run _ _ _).mono (fun r h => ⟨fun c => (h c).2.2.2, sem_eq_zero_of_no_sems rfl r.2⟩) (Cert.Reference11Ideal.Value.run m ρ)

end Cert.Same9

end
-- ==== Proof.M9.lean ====
/- The matrix product of kernel9: four blocks of the contraction, summed in an accumulator; reference9 leaves the same. -/
module

public import proofs.«01_k».proof.Defs
public import proofs.«01_k».proof.Proof.Gen.Kernel9Ideal.Value
public import proofs.«01_k».proof.Proof.Gen.Reference9Ideal.Run
public import proofs.«01_k».proof.Proof.Prods
public import Idealize.ShloMosaic.Lib.Pipeline.ReadBack

@[expose] public section

set_option maxRecDepth 16384
set_option maxHeartbeats 1000000

noncomputable section

namespace Cert.Kernel9Ideal.Val

open Idealize.ShloMosaic Idealize.ShloMosaic.TcCoe Idealize.ShloMosaic.Tactic Idealize.SL.Sem
open Cert.Kernel9Ideal.Gen Cert.Prods

variable (m : (ℓ : Loc nD τ sig) → Buf (Elt Ideal) ℓ) (c : Dev nD)

theorem acc_A (t : Fin cfg0.N) (h0 : t.val % 4 = 0) :
    (outsAt0 m c t.val t.isLt).2 = k0_pay2 (iblk m c 0 t) (iblk m c 1 t) (k0_pay1 (F := Ideal)) := by
  rw [outsAt0_A m c t h0 (by omega)]
  frame_out

theorem acc_S (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 4 = 3
  · rw [outsAt0_C m c t h0 h1]
    frame_out
    simp only [read_unread_whole]
  · rw [outsAt0_B m c t h0 h1]
    frame_out
    simp only [read_unread_whole]

theorem out_C (t : Fin cfg0.N) (h1 : t.val % 4 = 3) :
    (outsAt0 m c t.val t.isLt).1 = (outsAt0 m c t.val t.isLt).2 := by
  rw [acc_S m c t (by omega), outsAt0_C m c t (by omega) h1]
  frame_out
  simp only [read_unread_whole]

theorem pay1 (i : S1024x1024.Idx) : (k0_pay1 (F := Ideal)) i = (0 : EReal) := by
  rw [eq_ix2 i]
  unfold_payloads
  pointwise []

theorem pay2 (x : Vec Ideal S1024x2048 .f32) (y : Vec Ideal S1024x2048 .bf16) (z : Vec Ideal S1024x1024 .f32) (i : S1024x1024.Idx) :
    k0_pay2 x y z i = (z i : EReal) + nt (m := 1024) (l := 2048) (n := 1024) x y i := by
  rw [eq_ix2 i]
  unfold nt
  unfold_payloads
  pointwise []

theorem idx : ∀ t : Fin cfg0.N, win0_0.index t = ![t.val / 4 / 2, t.val % 4] ∧ win0_1.index t = ![t.val / 4 % 2, t.val % 4] ∧ win0_2.index t = ![t.val / 4 / 2, t.val / 4 % 2] :=
  (by decide +kernel : ∀ t : Fin grid0.N, _)

/-- The left factor, -/
abbrev A : Mat 2048 8192 := m ((c : Thread nD τ).loc main_arg0)
/-- and the right one, transposed. -/
abbrev B : Mat 2048 8192 := m ((c : Thread nD τ).loc main_arg1)

/-- The array that the call leaves is the product. -/
theorem fin : (dats m 0 c).arrAt 2 cfg0.N = nt (A m c) (B m c) := by
  refine (dats m 0 c).arrAt_eq_of_covers 2 _ (by decide +kernel) fun t hf (y : S1024x1024.Idx) => ?_
  have hl : t.val % 4 = 3 := (flush0_2 t).mp hf
  show (cfg0.win 2).cut (grid0.coords t) ((dats m 0 c).after 2 t) y = nt (A m c) (B m c) (((cfg0.win 2).blk t).view.emb y)
  rw [after0_2, out_C m c t hl]
  refine accum_nt 4 1024 1024 2048 cfg0.N (fun b => 1024 * (b / 2)) (fun b => 1024 * (b % 2)) (by decide) (by decide) (A m c) (B m c) (fun t => (outsAt0 m c t.val t.isLt).2) (fun t => iblk m c 0 t) (fun t => iblk m c 1 t)
    (fun t h i => ?_) (fun t s e h i => ?_) (fun t a k => (get_ix2 (A m c) (((cfg0.win 0).blk t).view.emb (ix2 a k : S1024x2048.Idx)) _ _ ?_ ?_).symm)
    (fun t b k => (get_ix2 (B m c) (((cfg0.win 1).blk t).view.emb (ix2 b k : S1024x2048.Idx)) _ _ ?_ ?_).symm) t (by omega) y _ ?_ ?_
  · exact (congrFun (acc_A m c t h) i).trans ((pay2 _ _ _ i).trans ((congrArg (· + nt (iblk m c 0 t) (iblk m c 1 t) i) (pay1 i)).trans (zero_add _)))
  · obtain rfl : s = ⟨t.val - 1, Nat.lt_of_le_of_lt (Nat.sub_le _ _) t.isLt⟩ := Fin.ext (by show s.val = t.val - 1; omega)
    exact (congrFun (acc_S m c t h) i).trans (pay2 _ _ _ i)
  · show win0_0.index t 0 * 1024 + 1 * a.val = _; rw [(idx t).1]; show t.val / 4 / 2 * 1024 + 1 * a.val = 1024 * (t.val / 4 / 2) + a.val; omega
  · show win0_0.index t 1 * 2048 + 1 * k.val = _; rw [(idx t).1]; show t.val % 4 * 2048 + 1 * k.val = _; omega
  · show win0_1.index t 0 * 1024 + 1 * b.val = _; rw [(idx t).2.1]; show t.val / 4 % 2 * 1024 + 1 * b.val = 1024 * (t.val / 4 % 2) + b.val; omega
  · show win0_1.index t 1 * 2048 + 1 * k.val = _; rw [(idx t).2.1]; show t.val % 4 * 2048 + 1 * k.val = _; omega
  · show win0_2.index t 0 * 1024 + 1 * (y 0).val = _; rw [(idx t).2.2]; show t.val / 4 / 2 * 1024 + 1 * (y 0).val = 1024 * (t.val / 4 / 2) + (y 0).val; omega
  · show win0_2.index t 1 * 1024 + 1 * (y 1).val = _; rw [(idx t).2.2]; show t.val / 4 % 2 * 1024 + 1 * (y 1).val = 1024 * (t.val / 4 % 2) + (y 1).val; omega

end Cert.Kernel9Ideal.Val

namespace Cert.Value9

open Idealize.ShloMosaic Idealize.ShloMosaic.TcCoe Idealize.ShloMosaic.Tactic Idealize.SL.Sem
open Cert.Prods
open Cert.Reference9Ideal Cert.Reference9Ideal.Gen

theorem dot (a : FVec Ideal S2048x8192 .f32) (b : FVec Ideal S2048x8192 .bf16) :
    Host.dotGeneral (F := Ideal) dot_S2048x8192_S2048x8192_S2048x2048_1_1_0_0_n_n none a (extf .f32 b bitsLt_bf16_f32) = nt (m := 2048) (l := 8192) (n := 2048) a b := by
  refine funext fun (i : S2048x2048.Idx) => ?_
  rw [eq_ix2 i]
  unfold nt
  pointwise []

theorem algebraic : Cert.algebraic_Kernel9Ideal_Reference9Ideal := by
  intro m ρ m' ρ' _ ha
  refine ⟨fun c => Cert.Kernel9Ideal.Value.G2 m c, Cert.Kernel9Ideal.Value.run m ρ,
    (θ_run Cert.Reference9Ideal.defs _ _).mono (fun r h c => ?_) (Cert.Reference9Ideal.Value.run m' ρ')⟩
  obtain ⟨e0, e1⟩ := ha c
  obtain ⟨r0, k0, k1⟩ := h c
  refine ⟨r0.trans ?_, k0, k1⟩
  show _ = Cert.Kernel9Ideal.Value.G2 m c
  rw [← Cert.Kernel9Ideal.Value.final2 m c, Cert.Kernel9Ideal.Val.fin m c, dot, e0, e1]

end Cert.Value9

end
-- ==== Proof.M10.lean ====
/- The matrix product of kernel10: four blocks of the contraction, summed in an accumulator; reference10 leaves the same. -/
module

public import proofs.«01_k».proof.Defs
public import proofs.«01_k».proof.Proof.Gen.Kernel10Ideal.Value
public import proofs.«01_k».proof.Proof.Gen.Reference10Ideal.Run
public import proofs.«01_k».proof.Proof.M9
public import Idealize.ShloMosaic.Lib.Pipeline.ReadBack

@[expose] public section

set_option maxRecDepth 16384
set_option maxHeartbeats 1000000

noncomputable section

namespace Cert.Kernel10Ideal.Val

open Idealize.ShloMosaic Idealize.ShloMosaic.TcCoe Idealize.ShloMosaic.Tactic Idealize.SL.Sem
open Cert.Kernel10Ideal.Gen Cert.Prods

variable (m : (ℓ : Loc nD τ sig) → Buf (Elt Ideal) ℓ) (c : Dev nD)

theorem acc_A (t : Fin cfg0.N) (h0 : t.val % 4 = 0) :
    (outsAt0 m c t.val t.isLt).2 = k0_pay2 (iblk m c 0 t) (iblk m c 1 t) (k0_pay1 (F := Ideal)) := by
  rw [outsAt0_A m c t h0 (by omega)]
  frame_out

theorem acc_S (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 4 = 3
  · rw [outsAt0_C m c t h0 h1]
    frame_out
    simp only [read_unread_whole]
  · rw [outsAt0_B m c t h0 h1]
    frame_out
    simp only [read_unread_whole]

theorem out_C (t : Fin cfg0.N) (h1 : t.val % 4 = 3) :
    (outsAt0 m c t.val t.isLt).1 = (outsAt0 m c t.val t.isLt).2 := by
  rw [acc_S m c t (by omega), outsAt0_C m c t (by omega) h1]
  frame_out
  simp only [read_unread_whole]

theorem pay1 : (k0_pay1 (F := Ideal)) = Cert.Kernel9Ideal.Gen.k0_pay1 := rfl

theorem pay2 (x : Vec Ideal S1024x2048 .f32) (y : Vec Ideal S2048x1024 .bf16) (z : Vec Ideal S1024x1024 .f32) (i : S1024x1024.Idx) :
    k0_pay2 x y z i = (z i : EReal) + nn (m := 1024) (l := 2048) (n := 1024) x y i := by
  rw [eq_ix2 i]
  unfold nn
  unfold_payloads
  pointwise []

theorem idx : ∀ t : Fin cfg0.N, win0_0.index t = ![t.val / 4 / 2, t.val % 4] ∧ win0_1.index t = ![t.val % 4, t.val / 4 % 2] ∧ win0_2.index t = ![t.val / 4 / 2, t.val / 4 % 2] :=
  (by decide +kernel : ∀ t : Fin grid0.N, _)

/-- The left factor, -/
abbrev A : Mat 2048 8192 := m ((c : Thread nD τ).loc main_arg0)
/-- and the right one. -/
abbrev B : Mat 8192 2048 := m ((c : Thread nD τ).loc main_arg1)

/-- The array that the call leaves is the product. -/
theorem fin : (dats m 0 c).arrAt 2 cfg0.N = nn (A m c) (B m c) := by
  refine (dats m 0 c).arrAt_eq_of_covers 2 _ (by decide +kernel) fun t hf (y : S1024x1024.Idx) => ?_
  have hl : t.val % 4 = 3 := (flush0_2 t).mp hf
  show (cfg0.win 2).cut (grid0.coords t) ((dats m 0 c).after 2 t) y = nn (A m c) (B m c) (((cfg0.win 2).blk t).view.emb y)
  rw [after0_2, out_C m c t hl]
  refine accum_nn 4 1024 1024 2048 cfg0.N (fun b => 1024 * (b / 2)) (fun b => 1024 * (b % 2)) (by decide) (by decide) (A m c) (B m c) (fun t => (outsAt0 m c t.val t.isLt).2) (fun t => iblk m c 0 t) (fun t => iblk m c 1 t)
    (fun t h i => ?_) (fun t s e h i => ?_) (fun t a k => (get_ix2 (A m c) (((cfg0.win 0).blk t).view.emb (ix2 a k : S1024x2048.Idx)) _ _ ?_ ?_).symm)
    (fun t k b => (get_ix2 (B m c) (((cfg0.win 1).blk t).view.emb (ix2 k b : S2048x1024.Idx)) _ _ ?_ ?_).symm) t (by omega) y _ ?_ ?_
  · exact (congrFun (acc_A m c t h) i).trans ((pay2 _ _ _ i).trans ((congrArg (· + nn (iblk m c 0 t) (iblk m c 1 t) i) ((congrFun pay1 i).trans (Cert.Kernel9Ideal.Val.pay1 i))).trans (zero_add _)))
  · obtain rfl : s = ⟨t.val - 1, Nat.lt_of_le_of_lt (Nat.sub_le _ _) t.isLt⟩ := Fin.ext (by show s.val = t.val - 1; omega)
    exact (congrFun (acc_S m c t h) i).trans (pay2 _ _ _ i)
  · show win0_0.index t 0 * 1024 + 1 * a.val = _; rw [(idx t).1]; show t.val / 4 / 2 * 1024 + 1 * a.val = 1024 * (t.val / 4 / 2) + a.val; omega
  · show win0_0.index t 1 * 2048 + 1 * k.val = _; rw [(idx t).1]; show t.val % 4 * 2048 + 1 * k.val = _; omega
  · show win0_1.index t 0 * 2048 + 1 * k.val = _; rw [(idx t).2.1]; show t.val % 4 * 2048 + 1 * k.val = _; omega
  · show win0_1.index t 1 * 1024 + 1 * b.val = _; rw [(idx t).2.1]; show t.val / 4 % 2 * 1024 + 1 * b.val = 1024 * (t.val / 4 % 2) + b.val; omega
  · show win0_2.index t 0 * 1024 + 1 * (y 0).val = _; rw [(idx t).2.2]; show t.val / 4 / 2 * 1024 + 1 * (y 0).val = 1024 * (t.val / 4 / 2) + (y 0).val; omega
  · show win0_2.index t 1 * 1024 + 1 * (y 1).val = _; rw [(idx t).2.2]; show t.val / 4 % 2 * 1024 + 1 * (y 1).val = 1024 * (t.val / 4 % 2) + (y 1).val; omega

end Cert.Kernel10Ideal.Val

namespace Cert.Value10

open Idealize.ShloMosaic Idealize.ShloMosaic.TcCoe Idealize.ShloMosaic.Tactic Idealize.SL.Sem
open Cert.Prods
open Cert.Reference10Ideal Cert.Reference10Ideal.Gen

theorem dot (a : FVec Ideal S2048x8192 .f32) (b : FVec Ideal S8192x2048 .bf16) :
    Host.dotGeneral (F := Ideal) dot_S2048x8192_S8192x2048_S2048x2048_1_0_0_1_n_n none a (extf .f32 b bitsLt_bf16_f32) = nn (m := 2048) (l := 8192) (n := 2048) a b := by
  refine funext fun (i : S2048x2048.Idx) => ?_
  rw [eq_ix2 i]
  unfold nn
  pointwise []

theorem algebraic : Cert.algebraic_Kernel10Ideal_Reference10Ideal := by
  intro m ρ m' ρ' _ ha
  refine ⟨fun c => Cert.Kernel10Ideal.Value.G2 m c, Cert.Kernel10Ideal.Value.run m ρ,
    (θ_run Cert.Reference10Ideal.defs _ _).mono (fun r h c => ?_) (Cert.Reference10Ideal.Value.run m' ρ')⟩
  obtain ⟨e0, e1⟩ := ha c
  obtain ⟨r0, k0, k1⟩ := h c
  refine ⟨r0.trans ?_, k0, k1⟩
  show _ = Cert.Kernel10Ideal.Value.G2 m c
  rw [← Cert.Kernel10Ideal.Value.final2 m c, Cert.Kernel10Ideal.Val.fin m c, dot, e0, e1]

end Cert.Value10

end
-- ==== Proof.Proj11.lean ====
/- The three matrix products of kernel11: the array that each call leaves is the product of the two arrays it reads. -/
module

public import proofs.«01_k».proof.Proof.Gen.Kernel11Ideal.Frame
public import proofs.«01_k».proof.Proof.Prods

@[expose] public section

set_option maxRecDepth 16384

noncomputable section

namespace Cert.Kernel11Ideal.Val

open Idealize.ShloMosaic Idealize.ShloMosaic.TcCoe Idealize.ShloMosaic.Tactic Idealize.SL.Sem
open Cert.Kernel11Ideal.Gen Cert.Prods

variable (V : (c : Dev nD) → (b : Ref sig .tc) → Buf (Elt Ideal) ((c : Thread nD τ).loc b)) (c : Dev nD)

/-! ## The output projection -/

theorem idx0 : ∀ t : Fin cfg0.N, win0_0.index t = ![t.val / 2, 0] ∧ win0_1.index t = ![0, t.val % 2] ∧ win0_2.index t = ![t.val / 2, t.val % 2] :=
  (by decide +kernel : ∀ t : Fin grid0.N, _)

theorem out0 (x : Vec Ideal S1152x2048 .f32) (y : Vec Ideal S2048x1024 .bf16) (i : S1152x1024.Idx) :
    out0_2 x y i = nn (m := 1152) (l := 2048) (n := 1024) x y i := by
  rw [eq_ix2 i]
  unfold out0_2 nn
  rw [View.canon_unit_zero hz]
  simp only [View.ld_unit_zero (S := S1152x2048) hz, View.ld_unit_zero (S := S2048x1024) hz]
  unfold_payloads
  pointwise []

theorem fin0 : (dat0 V c).arrAt 2 cfg0.N = nn (m := 2304) (l := 2048) (n := 2048) (V c main_arg0) (V c main_arg1) := by
  refine (dat0 V c).arrAt_eq_of_covers 2 _ (by decide +kernel) fun t hf (y : S1152x1024.Idx) => ?_
  obtain ⟨h0, h1, h2⟩ := idx0 t
  blk_simp
  rw [after0_2]
  refine (out0 _ _ y).trans (nn_congr (fun k => congrArg (V c main_arg0 : Mat 2304 2048) ?_) fun k => congrArg (V c main_arg1 : Mat 2048 2048) ?_) <;>
    blk_ext [h0, h1, h2]

/-! ## Its argument's gradient -/

theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

theorem out1 (x : Vec Ideal S1152x2048 .f32) (y : Vec Ideal S1024x2048 .bf16) (i : S1152x1024.Idx) :
    out1_2 x y i = nt (m := 1152) (l := 2048) (n := 1024) x y i := by
  rw [eq_ix2 i]
  unfold out1_2 nt
  rw [View.canon_unit_zero hz]
  simp only [View.ld_unit_zero (S := S1152x2048) hz, View.ld_unit_zero (S := S1024x2048) hz]
  unfold_payloads
  pointwise []

theorem fin1 : (dat1 V c).arrAt 2 cfg1.N = nt (m := 2304) (l := 2048) (n := 2048) (V c main_arg2) (V c main_arg1) := by
  refine (dat1 V c).arrAt_eq_of_covers 2 _ (by decide +kernel) fun t hf (y : S1152x1024.Idx) => ?_
  obtain ⟨h0, h1, h2⟩ := idx1 t
  blk_simp
  rw [after1_2]
  refine (out1 _ _ y).trans (nt_congr (fun k => congrArg (V c main_arg2 : Mat 2304 2048) ?_) fun k => congrArg (V c main_arg1 : Mat 2048 2048) ?_) <;>
    blk_ext [h0, h1, h2]

/-! ## Its weight's gradient -/

theorem idx2 : ∀ t : Fin cfg2.N, win2_0.index t = ![0, t.val / 4] ∧ win2_1.index t = ![0, t.val % 4] ∧ win2_2.index t = ![t.val / 4, t.val % 4] :=
  (by decide +kernel : ∀ t : Fin grid2.N, _)

theorem out2 (x : Vec Ideal S2304x1024 .f32) (y : Vec Ideal S2304x512 .f32) (i : S1024x512.Idx) :
    out2_2 x y i = tn (m := 1024) (l := 2304) (n := 512) x y i := by
  rw [eq_ix2 i]
  unfold out2_2 tn
  rw [View.canon_unit_zero hz]
  simp only [View.ld_unit_zero (S := S2304x1024) hz, View.ld_unit_zero (S := S2304x512) hz]
  unfold_payloads
  pointwise []

theorem fin2 : (dat2 V c).arrAt 2 cfg2.N = tn (m := 2048) (l := 2304) (n := 2048) (V c main_arg0) (V c main_arg2) := by
  refine (dat2 V c).arrAt_eq_of_covers 2 _ (by decide +kernel) fun t hf (y : S1024x512.Idx) => ?_
  obtain ⟨h0, h1, h2⟩ := idx2 t
  blk_simp
  rw [after2_2]
  refine (out2 _ _ y).trans (tn_congr (fun k => congrArg (V c main_arg0 : Mat 2304 2048) ?_) fun k => congrArg (V c main_arg2 : Mat 2304 2048) ?_) <;>
    blk_ext [h0, h1, h2]

end Cert.Kernel11Ideal.Val

end
-- ==== Proof.Run11.lean ====
/- kernel11's run: its three calls one after the other, their results read at the end. -/
module

public import proofs.«01_k».proof.Proof.Proj11
public import Idealize.ShloMosaic.Lib.StableHlo.Run

@[expose] public section

set_option maxRecDepth 16384

noncomputable section

namespace Cert.Kernel11Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Kernel11Ideal.Gen Cert.Prods

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends, every unscoped buffer then holding what the segments compute. -/
theorem run_main : θ_run defs (onTc (τ := τ) (main (F := Ideal))) ⟨m, fun _ => 0, ρ⟩ (fun r =>
    (∀ c : Dev nD, ∀ b ∈ Pipeline.ucRefs τ sig, r.2.mem ((c : Thread nD τ).1, b) = W3 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

variable (c : Dev nD)

/-- What the three calls leave. -/
theorem w_v0 : W3 m ρ c main_v0 = nn (m := 2304) (l := 2048) (n := 2048) (m ((c : Thread nD τ).loc main_arg0)) (m ((c : Thread nD τ).loc main_arg1)) :=
  (W3_of m ρ c main_v0 (by decide)).trans ((W2_of m ρ c main_v0 (by decide)).trans ((W1_arr m ρ c 2).trans (fin0 _ c)))
theorem w_v1 : W3 m ρ c main_v1 = nt (m := 2304) (l := 2048) (n := 2048) (m ((c : Thread nD τ).loc main_arg2)) (m ((c : Thread nD τ).loc main_arg1)) :=
  (W3_of m ρ c main_v1 (by decide)).trans ((W2_arr m ρ c 2).trans ((fin1 _ c).trans
    (congrArg₂ (nt (m := 2304) (l := 2048) (n := 2048)) (W1_args m ρ c main_arg2 (by decide)) (W1_args m ρ c main_arg1 (by decide)))))
theorem w_v2 : W3 m ρ c main_v2 = tn (m := 2048) (l := 2304) (n := 2048) (m ((c : Thread nD τ).loc main_arg0)) (m ((c : Thread nD τ).loc main_arg2)) :=
  (W3_arr m ρ c 2).trans ((fin2 _ c).trans
    (congrArg₂ (tn (m := 2048) (l := 2304) (n := 2048)) (W2_args m ρ c main_arg0 (by decide)) (W2_args m ρ c main_arg2 (by decide))))

end Cert.Kernel11Ideal.Val

end
-- ==== Proof.Alg11.lean ====
/- kernel11 and reference11 leave the same projection and gradients. -/
module

public import proofs.«01_k».proof.Defs
public import proofs.«01_k».proof.Proof.Run11
public import proofs.«01_k».proof.Proof.Gen.Reference11Ideal.Run

@[expose] public section

set_option maxRecDepth 16384

noncomputable section

namespace Cert.Value11

open Idealize.ShloMosaic Idealize.ShloMosaic.TcCoe Idealize.ShloMosaic.Tactic Idealize.SL.Sem
open Cert.Prods Cert.Kernel11Ideal.Val
open Cert.Reference11Ideal Cert.Reference11Ideal.Gen

/-! ## The reference's products -/

theorem dot_o (a : FVec Ideal S2304x2048 .f32) (b : FVec Ideal S2048x2048 .bf16) :
    Host.dotGeneral (F := Ideal) dot_S2304x2048_S2048x2048_S2304x2048_1_0_0_1_n_n none a (extf .f32 b bitsLt_bf16_f32) = nn (m := 2304) (l := 2048) (n := 2048) a b := by
  refine funext fun (i : S2304x2048.Idx) => ?_
  rw [eq_ix2 i]
  unfold nn
  pointwise []

theorem dot_y (a : FVec Ideal S2304x2048 .f32) (b : FVec Ideal S2048x2048 .bf16) :
    Host.dotGeneral (F := Ideal) dot_S2304x2048_S2048x2048_S2304x2048_1_1_0_0_n_n none a (extf .f32 b bitsLt_bf16_f32) = nt (m := 2304) (l := 2048) (n := 2048) a b := by
  refine funext fun (i : S2304x2048.Idx) => ?_
  rw [eq_ix2 i]
  unfold nt
  pointwise []

theorem dot_wo (a : FVec Ideal S2304x2048 .f32) (d : FVec Ideal S2304x2048 .f32) :
    truncf (F := Ideal) .bf16 (transpose S2048x2048 [1, 0] (Host.dotGeneral (F := Ideal) dot_S2304x2048_S2304x2048_S2048x2048_0_0_1_1_n_n none d a) transposes_S2048x2048_S2048x2048_1_0) bitsLt_bf16_f32
      = tn (m := 2048) (l := 2304) (n := 2048) a d := by
  refine funext fun (i : S2048x2048.Idx) => ?_
  rw [eq_ix2 i]
  unfold tn
  pointwise []
  exact Finset.sum_congr rfl fun k _ => mul_comm _ _

/-! ## The claim -/

theorem algebraic : Cert.algebraic_Kernel11Ideal_Reference11Ideal := by
  intro m ρ m' ρ' _ ha
  refine ⟨fun c => Cert.Kernel11Ideal.Gen.W3 m ρ c Cert.Kernel11Ideal.main_v0, fun c => Cert.Kernel11Ideal.Gen.W3 m ρ c Cert.Kernel11Ideal.main_v1, fun c => Cert.Kernel11Ideal.Gen.W3 m ρ c Cert.Kernel11Ideal.main_v2,
    (θ_run Cert.Kernel11Ideal.defs _ _).mono (fun r h c => ?_) (Cert.Kernel11Ideal.Val.run_main m ρ),
    (θ_run Cert.Reference11Ideal.defs _ _).mono (fun r h c => ?_) (Cert.Reference11Ideal.Value.run m' ρ')⟩
  · have hr : ∀ b : Ref Cert.Kernel11Ideal.sig .tc, ¬ (Proc.devRef .tc b : DevRef Cert.Kernel11Ideal.τ Cert.Kernel11Ideal.sig).isScoped →
        r.2.mem ((c.tc : Thread Cert.Kernel11Ideal.nD Cert.Kernel11Ideal.τ).loc b) = Cert.Kernel11Ideal.Gen.W3 m ρ c b :=
      fun b hs => h c _ (Cert.Kernel11Ideal.Gen.mem_uc b hs)
    have hk : ∀ a ∈ Cert.Kernel11Ideal.Gen.argRefs, ¬ (Proc.devRef .tc a : DevRef Cert.Kernel11Ideal.τ Cert.Kernel11Ideal.sig).isScoped →
        r.2.mem ((c.tc : Thread Cert.Kernel11Ideal.nD Cert.Kernel11Ideal.τ).loc a) = m ((c.tc : Thread Cert.Kernel11Ideal.nD Cert.Kernel11Ideal.τ).loc a) :=
      fun a ha hs => (hr a hs).trans (Cert.Kernel11Ideal.Gen.W3_args m ρ c a ha)
    exact ⟨hr _ (by decide), hr _ (by decide), hr _ (by decide), hk _ (by decide) (by decide), hk _ (by decide) (by decide), hk _ (by decide) (by decide)⟩
  · obtain ⟨e0, e1, e2⟩ := ha c
    obtain ⟨r0, r1, r2, k⟩ := h c
    rw [dot_o, e0, e1] at r0
    rw [dot_y, e2, e1] at r1
    rw [dot_wo, e0, e2] at r2
    exact ⟨r0.trans (w_v0 m ρ c).symm, r1.trans (w_v1 m ρ c).symm, r2.trans (w_v2 m ρ c).symm, k⟩

end Cert.Value11

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel3
public import proofs.«01_k».proof.Proof.Gen.Kernel4
public import proofs.«01_k».proof.Proof.Gen.Kernel2Ideal.Frame
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal.Run
public import proofs.«01_k».proof.Proof.Gen.Kernel4Ideal.Frame
public import proofs.«01_k».proof.Proof.Gen.Reference4Ideal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.KRun
public import proofs.«01_k».proof.Proof.Same
public import proofs.«01_k».proof.Proof.RRun
public import proofs.«01_k».proof.Proof.Alg
public import proofs.«01_k».proof.Proof.Same2
public import proofs.«01_k».proof.Proof.Alg2
public import proofs.«01_k».proof.Proof.Alg3
public import proofs.«01_k».proof.Proof.Alg4
public import proofs.«01_k».proof.Proof.Same5
public import proofs.«01_k».proof.Proof.M5
public import proofs.«01_k».proof.Proof.M6
public import proofs.«01_k».proof.Proof.M7
public import proofs.«01_k».proof.Proof.Same8
public import proofs.«01_k».proof.Proof.Alg8
public import proofs.«01_k».proof.Proof.Same9
public import proofs.«01_k».proof.Proof.M9
public import proofs.«01_k».proof.Proof.M10
public import proofs.«01_k».proof.Proof.Alg11
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Value.preFacts,
  fun m ρ _ => Cert.Same.frame (F := Bits) m ρ,
  fun m ρ _ => Cert.KernelIdeal.Run.frame m ρ,
  fun m ρ _ => Cert.KernelIdeal.Run.frame m ρ,
  fun m ρ _ => Cert.ReferenceIdeal.Run.frame m ρ,
  fun m ρ _ => Cert.ReferenceIdeal.Run.frame m ρ,
  Cert.Same2.kernel2, fun m ρ _ => Cert.Kernel2Ideal.Gen.frame m ρ, Cert.Same2.reference2,
  Cert.Same2.kernel3, fun m ρ _ => Cert.Kernel3Ideal.Gen.frame m ρ, Cert.Same2.reference3,
  Cert.Same2.kernel4, fun m ρ _ => Cert.Kernel4Ideal.Gen.frame m ρ, Cert.Same2.reference4,
  Cert.Same5.kernel5, fun m ρ _ => Cert.Kernel5Ideal.Gen.frame m ρ, Cert.Same5.reference5,
  Cert.Same5.kernel6, fun m ρ _ => Cert.Kernel6Ideal.Gen.frame m ρ, Cert.Same5.reference6,
  Cert.Same5.kernel7, fun m ρ _ => Cert.Kernel7Ideal.Gen.frame m ρ, Cert.Same5.reference7,
  Cert.Same8.kernel8, fun m ρ _ => Cert.Kernel8Ideal.Gen.frame m ρ, Cert.Same8.reference8,
  Cert.Same9.kernel9, fun m ρ _ => Cert.Kernel9Ideal.Gen.frame m ρ, Cert.Same9.reference9,
  Cert.Same9.kernel10, fun m ρ _ => Cert.Kernel10Ideal.Gen.frame m ρ, Cert.Same9.reference10,
  Cert.Same9.kernel11, fun m ρ _ => Cert.Kernel11Ideal.Gen.frame m ρ, Cert.Same9.reference11,
  trivial, Cert.Value.algebraic, trivial, Cert.Value2.algebraic, trivial, Cert.Value3.algebraic, trivial, Cert.Value4.algebraic,
  trivial, Cert.Value5.algebraic, trivial, Cert.Value6.algebraic, trivial, Cert.Value7.algebraic,
  trivial, Cert.Value8.algebraic, trivial, Cert.Value9.algebraic, trivial, Cert.Value10.algebraic, trivial, Cert.Value11.algebraic⟩

end Cert.Proof

end
